-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v124_0)) (v1 : (c : Dev Cert.KernelIdeal.nD) → Buf (Elt Ideal) ((c.tc : Thread Cert.KernelIdeal.nD Cert.KernelIdeal.τ).loc Cert.KernelIdeal.main_v124_1)) (v2 : (c : Dev Cert.KernelIdeal.nD) → Buf (Elt Ideal) ((c.tc : Thread Cert.KernelIdeal.nD Cert.KernelIdeal.τ).loc Cert.KernelIdeal.main_v124_2)) (v3 : (c : Dev Cert.KernelIdeal.nD) → Buf (Elt Ideal) ((c.tc : Thread Cert.KernelIdeal.nD Cert.KernelIdeal.τ).loc Cert.KernelIdeal.main_v124_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124_0) = v0 c
          ∧ r.2.mem ((c.tc : Thread Cert.KernelIdeal.nD Cert.KernelIdeal.τ).loc Cert.KernelIdeal.main_v124_1) = v1 c
          ∧ r.2.mem ((c.tc : Thread Cert.KernelIdeal.nD Cert.KernelIdeal.τ).loc Cert.KernelIdeal.main_v124_2) = v2 c
          ∧ r.2.mem ((c.tc : Thread Cert.KernelIdeal.nD Cert.KernelIdeal.τ).loc Cert.KernelIdeal.main_v124_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v490) = v0 c
          ∧ r.2.mem ((c.tc : Thread Cert.ReferenceIdeal.nD Cert.ReferenceIdeal.τ).loc Cert.ReferenceIdeal.main_v492) = v1 c
          ∧ r.2.mem ((c.tc : Thread Cert.ReferenceIdeal.nD Cert.ReferenceIdeal.τ).loc Cert.ReferenceIdeal.main_v494) = v2 c
          ∧ r.2.mem ((c.tc : Thread Cert.ReferenceIdeal.nD Cert.ReferenceIdeal.τ).loc Cert.ReferenceIdeal.main_v496) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v50) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v6) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hAda : Cert.Ada.Facts) (hAdaIdeal : Cert.AdaIdeal.Facts) (hAdaReferenceIdeal : Cert.AdaReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Ada_AdaIdeal
    ∧ algebraic_AdaIdeal_AdaReferenceIdeal (hAdaIdeal := hAdaIdeal) (hAdaReferenceIdeal := hAdaReferenceIdeal)
-- ==== Kernel.lean ====
abbrev S4x8192x1024 : Shape := ⟨3, ![4, 8192, 1024]⟩
abbrev S4x6x1024 : Shape := ⟨3, ![4, 6, 1024]⟩
abbrev S1x1024 : Shape := ⟨2, ![1, 1024]⟩
abbrev S1x1024x3592 : Shape := ⟨3, ![1, 1024, 3592]⟩
abbrev S1x4x1536 : Shape := ⟨3, ![1, 4, 1536]⟩
abbrev S1x4 : Shape := ⟨2, ![1, 4]⟩
abbrev S1x128 : Shape := ⟨2, ![1, 128]⟩
abbrev S1x3x512 : Shape := ⟨3, ![1, 3, 512]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x3592 : Shape := ⟨2, ![1024, 3592]⟩
abbrev S4x1536 : Shape := ⟨2, ![4, 1536]⟩
abbrev S4 : Shape := ⟨1, ![4]⟩
abbrev S128 : Shape := ⟨1, ![128]⟩
abbrev S3x512 : Shape := ⟨2, ![3, 512]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S1 : Shape := ⟨1, ![1]⟩
abbrev S2 : Shape := ⟨1, ![2]⟩
abbrev S128x128 : Shape := ⟨2, ![128, 128]⟩
abbrev S1x128x128 : Shape := ⟨3, ![1, 128, 128]⟩
abbrev S6x128x128 : Shape := ⟨3, ![6, 128, 128]⟩
abbrev S4x128x1024 : Shape := ⟨3, ![4, 128, 1024]⟩
abbrev S16x2816 : Shape := ⟨2, ![16, 2816]⟩
abbrev S176x1024 : Shape := ⟨2, ![176, 1024]⟩
abbrev S12x136x512 : Shape := ⟨3, ![12, 136, 512]⟩
abbrev S4x136x512 : Shape := ⟨3, ![4, 136, 512]⟩
abbrev S512x512 : Shape := ⟨2, ![512, 512]⟩
abbrev S512x1024 : Shape := ⟨2, ![512, 1024]⟩
abbrev S1024x1536 : Shape := ⟨2, ![1024, 1536]⟩
abbrev S1024x128 : Shape := ⟨2, ![1024, 128]⟩
abbrev S16x128x128 : Shape := ⟨3, ![16, 128, 128]⟩
abbrev S12x8x512 : Shape := ⟨3, ![12, 8, 512]⟩
abbrev S4x8x512 : Shape := ⟨3, ![4, 8, 512]⟩
abbrev S1x128x1024 : Shape := ⟨3, ![1, 128, 1024]⟩
abbrev S128x1024 : Shape := ⟨2, ![128, 1024]⟩
abbrev S128x1 : Shape := ⟨2, ![128, 1]⟩
abbrev S1x1x1024 : Shape := ⟨3, ![1, 1, 1024]⟩
abbrev S1024x512 : Shape := ⟨2, ![1024, 512]⟩
abbrev S128x512 : Shape := ⟨2, ![128, 512]⟩
abbrev S1x128x512 : Shape := ⟨3, ![1, 128, 512]⟩
abbrev S512x128 : Shape := ⟨2, ![512, 128]⟩
abbrev S1x136x512 : Shape := ⟨3, ![1, 136, 512]⟩
abbrev S136x512 : Shape := ⟨2, ![136, 512]⟩
abbrev S1x512 : Shape := ⟨2, ![1, 512]⟩
abbrev S8x512 : Shape := ⟨2, ![8, 512]⟩
abbrev S1x8x512 : Shape := ⟨3, ![1, 8, 512]⟩
abbrev S64x128 : Shape := ⟨2, ![64, 128]⟩
abbrev S128x256 : Shape := ⟨2, ![128, 256]⟩
abbrev S1x1 : Shape := ⟨2, ![1, 1]⟩

abbrev nBuf : Space → Nat
  | .hbm => 681
  | .vmem => 37
  | .smem => 0
  | _ => 0

abbrev hbmTy0_0 (i : Nat) : BufTy := match i % 128 with
  | 0 => ⟨S4x8192x1024, .f32⟩
  | 1 => ⟨S4x6x1024, .f32⟩
  | 2 => ⟨S1x1024, .f32⟩
  | 3 => ⟨S1x1024x3592, .f32⟩
  | 4 => ⟨S1x4x1536, .f32⟩
  | 5 => ⟨S1x4, .f32⟩
  | 6 => ⟨S1x4, .f32⟩
  | 7 => ⟨S1x128, .f32⟩
  | 8 => ⟨S1x3x512, .f32⟩
  | 9 => ⟨S1x1024x1024, .f32⟩
  | 10 => ⟨S1x1024x2816, .f32⟩
  | 11 => ⟨S1x1024x2816, .f32⟩
  | 12 => ⟨S1x2816x1024, .f32⟩
  | 13 => ⟨S1024, .f32⟩
  | 14 => ⟨S1024x3592, .f32⟩
  | 15 => ⟨S4x1536, .f32⟩
  | 16 => ⟨S4, .f32⟩
  | 17 => ⟨S4, .f32⟩
  | 18 => ⟨S128, .f32⟩
  | 19 => ⟨S3x512, .f32⟩
  | 20 => ⟨S1024x1024, .f32⟩
  | 21 => ⟨S1024x2816, .f32⟩
  | 22 => ⟨S1024x2816, .f32⟩
  | 23 => ⟨S2816x1024, .f32⟩
  | 24 => ⟨S_, .f32⟩
  | 25 => ⟨S1x128, .f32⟩
  | 26 => ⟨S_, .i32⟩
  | 27 => ⟨S1, .i32⟩
  | 28 => ⟨S_, .i32⟩
  | 29 => ⟨S1, .i32⟩
  | 30 => ⟨S2, .i32⟩
  | 31 => ⟨S1x128, .f32⟩
  | 32 => ⟨S_, .f32⟩
  | 33 => ⟨S1x128, .f32⟩
  | 34 => ⟨S_, .i32⟩
  | 35 => ⟨S1, .i32⟩
  | 36 => ⟨S_, .i32⟩
  | 37 => ⟨S1, .i32⟩
  | 38 => ⟨S2, .i32⟩
  | 39 => ⟨S1x128, .f32⟩
  | 40 => ⟨S128x128, .i32⟩
  | 41 => ⟨S128x128, .i32⟩
  | 42 => ⟨S_, .i32⟩
  | 43 => ⟨S_, .i32⟩
  | 44 => ⟨S128x128, .i32⟩
  | 45 => ⟨S128x128, .i32⟩
  | 46 => ⟨S128x128, .i32⟩
  | 47 => ⟨S_, .i32⟩
  | 48 => ⟨S128x128, .i32⟩
  | 49 => ⟨S128x128, .i1⟩
  | 50 => ⟨S128x128, .i32⟩
  | 51 => ⟨S128x128, .i32⟩
  | 52 => ⟨S_, .i32⟩
  | 53 => ⟨S128x128, .i32⟩
  | 54 => ⟨S128x128, .i1⟩
  | 55 => ⟨S128x128, .i1⟩
  | 56 => ⟨S_, .i32⟩
  | 57 => ⟨S128x128, .i32⟩
  | 58 => ⟨S128x128, .i32⟩
  | 59 => ⟨S128x128, .i32⟩
  | 60 => ⟨S_, .i32⟩
  | 61 => ⟨S_, .i32⟩
  | 62 => ⟨S128x128, .i32⟩
  | 63 => ⟨S128x128, .i32⟩
  | 64 => ⟨S128x128, .i32⟩
  | 65 => ⟨S_, .i32⟩
  | 66 => ⟨S128x128, .i32⟩
  | 67 => ⟨S128x128, .i1⟩
  | 68 => ⟨S128x128, .i32⟩
  | 69 => ⟨S128x128, .i32⟩
  | 70 => ⟨S_, .i32⟩
  | 71 => ⟨S128x128, .i32⟩
  | 72 => ⟨S128x128, .i1⟩
  | 73 => ⟨S128x128, .i1⟩
  | 74 => ⟨S_, .i32⟩
  | 75 => ⟨S128x128, .i32⟩
  | 76 => ⟨S128x128, .i32⟩
  | 77 => ⟨S128x128, .i32⟩
  | 78 => ⟨S128x128, .i1⟩
  | 79 => ⟨S128x128, .i1⟩
  | 80 => ⟨S128x128, .i1⟩
  | 81 => ⟨S_, .f32⟩
  | 82 => ⟨S_, .f32⟩
  | 83 => ⟨S128x128, .f32⟩
  | 84 => ⟨S128x128, .f32⟩
  | 85 => ⟨S128x128, .f32⟩
  | 86 => ⟨S128x128, .f32⟩
  | 87 => ⟨S128x128, .i1⟩
  | 88 => ⟨S_, .f32⟩
  | 89 => ⟨S_, .f32⟩
  | 90 => ⟨S128x128, .f32⟩
  | 91 => ⟨S128x128, .f32⟩
  | 92 => ⟨S128x128, .f32⟩
  | 93 => ⟨S128x128, .f32⟩
  | 94 => ⟨S_, .i32⟩
  | 95 => ⟨S_, .i32⟩
  | 96 => ⟨S128x128, .i32⟩
  | 97 => ⟨S128x128, .i32⟩
  | 98 => ⟨S128x128, .i32⟩
  | 99 => ⟨S_, .i32⟩
  | 100 => ⟨S128x128, .i32⟩
  | 101 => ⟨S128x128, .i1⟩
  | 102 => ⟨S128x128, .i32⟩
  | 103 => ⟨S128x128, .i32⟩
  | 104 => ⟨S_, .i32⟩
  | 105 => ⟨S128x128, .i32⟩
  | 106 => ⟨S128x128, .i1⟩
  | 107 => ⟨S128x128, .i1⟩
  | 108 => ⟨S_, .i32⟩
  | 109 => ⟨S128x128, .i32⟩
  | 110 => ⟨S128x128, .i32⟩
  | 111 => ⟨S128x128, .i32⟩
  | 112 => ⟨S_, .i32⟩
  | 113 => ⟨S_, .i32⟩
  | 114 => ⟨S128x128, .i32⟩
  | 115 => ⟨S128x128, .i32⟩
  | 116 => ⟨S128x128, .i32⟩
  | 117 => ⟨S_, .i32⟩
  | 118 => ⟨S128x128, .i32⟩
  | 119 => ⟨S128x128, .i1⟩
  | 120 => ⟨S128x128, .i32⟩
  | 121 => ⟨S128x128, .i32⟩
  | 122 => ⟨S_, .i32⟩
  | 123 => ⟨S128x128, .i32⟩
  | 124 => ⟨S128x128, .i1⟩
  | 125 => ⟨S128x128, .i1⟩
  | 126 => ⟨S_, .i32⟩
  | 127 => ⟨S128x128, .i32⟩
  | _ => ⟨S4x8192x1024, .f32⟩

abbrev hbmTy0_1 (i : Nat) : BufTy := match i % 128 with
  | 0 => ⟨S128x128, .i32⟩
  | 1 => ⟨S128x128, .i32⟩
  | 2 => ⟨S128x128, .i1⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S128x128, .i32⟩
  | 10 => ⟨S128x128, .i32⟩
  | 11 => ⟨S_, .i32⟩
  | 12 => ⟨S128x128, .i32⟩
  | 13 => ⟨S128x128, .i1⟩
  | 14 => ⟨S_, .i32⟩
  | 15 => ⟨S128x128, .i32⟩
  | 16 => ⟨S128x128, .i1⟩
  | 17 => ⟨S_, .i32⟩
  | 18 => ⟨S_, .i1⟩
  | 19 => ⟨S128x128, .i1⟩
  | 20 => ⟨S128x128, .i1⟩
  | 21 => ⟨S128x128, .i1⟩
  | 22 => ⟨S128x128, .i32⟩
  | 23 => ⟨S128x128, .i32⟩
  | 24 => ⟨S128x128, .i32⟩
  | 25 => ⟨S_, .i32⟩
  | 26 => ⟨S128x128, .i32⟩
  | 27 => ⟨S128x128, .i1⟩
  | 28 => ⟨S128x128, .i1⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S128x128, .i32⟩
  | 36 => ⟨S128x128, .i32⟩
  | 37 => ⟨S_, .i32⟩
  | 38 => ⟨S128x128, .i32⟩
  | 39 => ⟨S128x128, .i1⟩
  | 40 => ⟨S_, .i32⟩
  | 41 => ⟨S128x128, .i32⟩
  | 42 => ⟨S128x128, .i1⟩
  | 43 => ⟨S_, .i32⟩
  | 44 => ⟨S_, .i1⟩
  | 45 => ⟨S128x128, .i1⟩
  | 46 => ⟨S128x128, .i1⟩
  | 47 => ⟨S128x128, .i1⟩
  | 48 => ⟨S128x128, .i32⟩
  | 49 => ⟨S128x128, .i32⟩
  | 50 => ⟨S128x128, .i32⟩
  | 51 => ⟨S_, .i32⟩
  | 52 => ⟨S128x128, .i32⟩
  | 53 => ⟨S128x128, .i1⟩
  | 54 => ⟨S128x128, .i1⟩
  | 55 => ⟨S_, .f32⟩
  | 56 => ⟨S_, .f32⟩
  | 57 => ⟨S128x128, .f32⟩
  | 58 => ⟨S128x128, .f32⟩
  | 59 => ⟨S128x128, .f32⟩
  | 60 => ⟨S128x128, .f32⟩
  | 61 => ⟨S_, .i32⟩
  | 62 => ⟨S_, .i32⟩
  | 63 => ⟨S128x128, .i32⟩
  | 64 => ⟨S128x128, .i32⟩
  | 65 => ⟨S128x128, .i32⟩
  | 66 => ⟨S_, .i32⟩
  | 67 => ⟨S128x128, .i32⟩
  | 68 => ⟨S128x128, .i1⟩
  | 69 => ⟨S128x128, .i32⟩
  | 70 => ⟨S128x128, .i32⟩
  | 71 => ⟨S_, .i32⟩
  | 72 => ⟨S128x128, .i32⟩
  | 73 => ⟨S128x128, .i1⟩
  | 74 => ⟨S128x128, .i1⟩
  | 75 => ⟨S_, .i32⟩
  | 76 => ⟨S128x128, .i32⟩
  | 77 => ⟨S128x128, .i32⟩
  | 78 => ⟨S128x128, .i32⟩
  | 79 => ⟨S_, .i32⟩
  | 80 => ⟨S_, .i32⟩
  | 81 => ⟨S128x128, .i32⟩
  | 82 => ⟨S128x128, .i32⟩
  | 83 => ⟨S128x128, .i32⟩
  | 84 => ⟨S_, .i32⟩
  | 85 => ⟨S128x128, .i32⟩
  | 86 => ⟨S128x128, .i1⟩
  | 87 => ⟨S128x128, .i32⟩
  | 88 => ⟨S128x128, .i32⟩
  | 89 => ⟨S_, .i32⟩
  | 90 => ⟨S128x128, .i32⟩
  | 91 => ⟨S128x128, .i1⟩
  | 92 => ⟨S128x128, .i1⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S128x128, .i32⟩
  | 105 => ⟨S128x128, .i32⟩
  | 106 => ⟨S_, .i32⟩
  | 107 => ⟨S128x128, .i32⟩
  | 108 => ⟨S128x128, .i1⟩
  | 109 => ⟨S_, .i32⟩
  | 110 => ⟨S128x128, .i32⟩
  | 111 => ⟨S128x128, .i1⟩
  | 112 => ⟨S_, .i32⟩
  | 113 => ⟨S_, .i1⟩
  | 114 => ⟨S128x128, .i1⟩
  | 115 => ⟨S128x128, .i1⟩
  | 116 => ⟨S128x128, .i1⟩
  | 117 => ⟨S128x128, .i32⟩
  | 118 => ⟨S128x128, .i32⟩
  | 119 => ⟨S128x128, .i32⟩
  | 120 => ⟨S_, .i32⟩
  | 121 => ⟨S128x128, .i32⟩
  | 122 => ⟨S128x128, .i1⟩
  | 123 => ⟨S128x128, .i1⟩
  | 124 => ⟨S_, .i32⟩
  | 125 => ⟨S_, .i32⟩
  | 126 => ⟨S_, .i32⟩
  | 127 => ⟨S_, .i1⟩
  | _ => ⟨S4x8192x1024, .f32⟩

abbrev hbmTy0_2 (i : Nat) : BufTy := match i % 128 with
  | 0 => ⟨S_, .i32⟩
  | 1 => ⟨S_, .i32⟩
  | 2 => ⟨S128x128, .i32⟩
  | 3 => ⟨S128x128, .i32⟩
  | 4 => ⟨S_, .i32⟩
  | 5 => ⟨S128x128, .i32⟩
  | 6 => ⟨S128x128, .i1⟩
  | 7 => ⟨S_, .i32⟩
  | 8 => ⟨S128x128, .i32⟩
  | 9 => ⟨S128x128, .i1⟩
  | 10 => ⟨S_, .i32⟩
  | 11 => ⟨S_, .i1⟩
  | 12 => ⟨S128x128, .i1⟩
  | 13 => ⟨S128x128, .i1⟩
  | 14 => ⟨S128x128, .i1⟩
  | 15 => ⟨S128x128, .i32⟩
  | 16 => ⟨S128x128, .i32⟩
  | 17 => ⟨S128x128, .i32⟩
  | 18 => ⟨S_, .i32⟩
  | 19 => ⟨S128x128, .i32⟩
  | 20 => ⟨S128x128, .i1⟩
  | 21 => ⟨S128x128, .i1⟩
  | 22 => ⟨S_, .f32⟩
  | 23 => ⟨S_, .f32⟩
  | 24 => ⟨S128x128, .f32⟩
  | 25 => ⟨S128x128, .f32⟩
  | 26 => ⟨S128x128, .f32⟩
  | 27 => ⟨S128x128, .f32⟩
  | 28 => ⟨S_, .i32⟩
  | 29 => ⟨S_, .i32⟩
  | 30 => ⟨S128x128, .i32⟩
  | 31 => ⟨S128x128, .i32⟩
  | 32 => ⟨S128x128, .i32⟩
  | 33 => ⟨S_, .i32⟩
  | 34 => ⟨S128x128, .i32⟩
  | 35 => ⟨S128x128, .i1⟩
  | 36 => ⟨S128x128, .i32⟩
  | 37 => ⟨S128x128, .i32⟩
  | 38 => ⟨S_, .i32⟩
  | 39 => ⟨S128x128, .i32⟩
  | 40 => ⟨S128x128, .i1⟩
  | 41 => ⟨S128x128, .i1⟩
  | 42 => ⟨S_, .i32⟩
  | 43 => ⟨S128x128, .i32⟩
  | 44 => ⟨S128x128, .i32⟩
  | 45 => ⟨S128x128, .i32⟩
  | 46 => ⟨S_, .i32⟩
  | 47 => ⟨S_, .i32⟩
  | 48 => ⟨S128x128, .i32⟩
  | 49 => ⟨S128x128, .i32⟩
  | 50 => ⟨S128x128, .i32⟩
  | 51 => ⟨S_, .i32⟩
  | 52 => ⟨S128x128, .i32⟩
  | 53 => ⟨S128x128, .i1⟩
  | 54 => ⟨S128x128, .i32⟩
  | 55 => ⟨S128x128, .i32⟩
  | 56 => ⟨S_, .i32⟩
  | 57 => ⟨S128x128, .i32⟩
  | 58 => ⟨S128x128, .i1⟩
  | 59 => ⟨S128x128, .i1⟩
  | 60 => ⟨S_, .i32⟩
  | 61 => ⟨S128x128, .i32⟩
  | 62 => ⟨S128x128, .i32⟩
  | 63 => ⟨S128x128, .i32⟩
  | 64 => ⟨S128x128, .i1⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S128x128, .i32⟩
  | 72 => ⟨S128x128, .i32⟩
  | 73 => ⟨S_, .i32⟩
  | 74 => ⟨S128x128, .i32⟩
  | 75 => ⟨S128x128, .i1⟩
  | 76 => ⟨S_, .i32⟩
  | 77 => ⟨S128x128, .i32⟩
  | 78 => ⟨S128x128, .i1⟩
  | 79 => ⟨S_, .i32⟩
  | 80 => ⟨S_, .i1⟩
  | 81 => ⟨S128x128, .i1⟩
  | 82 => ⟨S128x128, .i1⟩
  | 83 => ⟨S128x128, .i1⟩
  | 84 => ⟨S128x128, .i32⟩
  | 85 => ⟨S128x128, .i32⟩
  | 86 => ⟨S128x128, .i32⟩
  | 87 => ⟨S_, .i32⟩
  | 88 => ⟨S128x128, .i32⟩
  | 89 => ⟨S128x128, .i1⟩
  | 90 => ⟨S128x128, .i1⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S128x128, .i32⟩
  | 98 => ⟨S128x128, .i32⟩
  | 99 => ⟨S_, .i32⟩
  | 100 => ⟨S128x128, .i32⟩
  | 101 => ⟨S128x128, .i1⟩
  | 102 => ⟨S_, .i32⟩
  | 103 => ⟨S128x128, .i32⟩
  | 104 => ⟨S128x128, .i1⟩
  | 105 => ⟨S_, .i32⟩
  | 106 => ⟨S_, .i1⟩
  | 107 => ⟨S128x128, .i1⟩
  | 108 => ⟨S128x128, .i1⟩
  | 109 => ⟨S128x128, .i1⟩
  | 110 => ⟨S128x128, .i32⟩
  | 111 => ⟨S128x128, .i32⟩
  | 112 => ⟨S128x128, .i32⟩
  | 113 => ⟨S_, .i32⟩
  | 114 => ⟨S128x128, .i32⟩
  | 115 => ⟨S128x128, .i1⟩
  | 116 => ⟨S128x128, .i1⟩
  | 117 => ⟨S_, .f32⟩
  | 118 => ⟨S_, .f32⟩
  | 119 => ⟨S128x128, .f32⟩
  | 120 => ⟨S128x128, .f32⟩
  | 121 => ⟨S128x128, .f32⟩
  | 122 => ⟨S128x128, .f32⟩
  | 123 => ⟨S_, .i32⟩
  | 124 => ⟨S_, .i32⟩
  | 125 => ⟨S128x128, .i32⟩
  | 126 => ⟨S128x128, .i32⟩
  | 127 => ⟨S128x128, .i32⟩
  | _ => ⟨S4x8192x1024, .f32⟩

abbrev hbmTy0_3 (i : Nat) : BufTy := match i % 128 with
  | 0 => ⟨S_, .i32⟩
  | 1 => ⟨S128x128, .i32⟩
  | 2 => ⟨S128x128, .i1⟩
  | 3 => ⟨S128x128, .i32⟩
  | 4 => ⟨S128x128, .i32⟩
  | 5 => ⟨S_, .i32⟩
  | 6 => ⟨S128x128, .i32⟩
  | 7 => ⟨S128x128, .i1⟩
  | 8 => ⟨S128x128, .i1⟩
  | 9 => ⟨S_, .i32⟩
  | 10 => ⟨S128x128, .i32⟩
  | 11 => ⟨S128x128, .i32⟩
  | 12 => ⟨S128x128, .i32⟩
  | 13 => ⟨S_, .i32⟩
  | 14 => ⟨S_, .i32⟩
  | 15 => ⟨S128x128, .i32⟩
  | 16 => ⟨S128x128, .i32⟩
  | 17 => ⟨S128x128, .i32⟩
  | 18 => ⟨S_, .i32⟩
  | 19 => ⟨S128x128, .i32⟩
  | 20 => ⟨S128x128, .i1⟩
  | 21 => ⟨S128x128, .i32⟩
  | 22 => ⟨S128x128, .i32⟩
  | 23 => ⟨S_, .i32⟩
  | 24 => ⟨S128x128, .i32⟩
  | 25 => ⟨S128x128, .i1⟩
  | 26 => ⟨S128x128, .i1⟩
  | 27 => ⟨S_, .i32⟩
  | 28 => ⟨S128x128, .i32⟩
  | 29 => ⟨S128x128, .i32⟩
  | 30 => ⟨S128x128, .i32⟩
  | 31 => ⟨S128x128, .i1⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S128x128, .i32⟩
  | 39 => ⟨S128x128, .i32⟩
  | 40 => ⟨S_, .i32⟩
  | 41 => ⟨S128x128, .i32⟩
  | 42 => ⟨S128x128, .i1⟩
  | 43 => ⟨S_, .i32⟩
  | 44 => ⟨S128x128, .i32⟩
  | 45 => ⟨S128x128, .i1⟩
  | 46 => ⟨S_, .i32⟩
  | 47 => ⟨S_, .i1⟩
  | 48 => ⟨S128x128, .i1⟩
  | 49 => ⟨S128x128, .i1⟩
  | 50 => ⟨S128x128, .i1⟩
  | 51 => ⟨S128x128, .i32⟩
  | 52 => ⟨S128x128, .i32⟩
  | 53 => ⟨S128x128, .i32⟩
  | 54 => ⟨S_, .i32⟩
  | 55 => ⟨S128x128, .i32⟩
  | 56 => ⟨S128x128, .i1⟩
  | 57 => ⟨S128x128, .i1⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S128x128, .i32⟩
  | 65 => ⟨S128x128, .i32⟩
  | 66 => ⟨S_, .i32⟩
  | 67 => ⟨S128x128, .i32⟩
  | 68 => ⟨S128x128, .i1⟩
  | 69 => ⟨S_, .i32⟩
  | 70 => ⟨S128x128, .i32⟩
  | 71 => ⟨S128x128, .i1⟩
  | 72 => ⟨S_, .i32⟩
  | 73 => ⟨S_, .i1⟩
  | 74 => ⟨S128x128, .i1⟩
  | 75 => ⟨S128x128, .i1⟩
  | 76 => ⟨S128x128, .i1⟩
  | 77 => ⟨S128x128, .i32⟩
  | 78 => ⟨S128x128, .i32⟩
  | 79 => ⟨S128x128, .i32⟩
  | 80 => ⟨S_, .i32⟩
  | 81 => ⟨S128x128, .i32⟩
  | 82 => ⟨S128x128, .i1⟩
  | 83 => ⟨S128x128, .i1⟩
  | 84 => ⟨S_, .f32⟩
  | 85 => ⟨S_, .f32⟩
  | 86 => ⟨S128x128, .f32⟩
  | 87 => ⟨S128x128, .f32⟩
  | 88 => ⟨S128x128, .f32⟩
  | 89 => ⟨S128x128, .f32⟩
  | 90 => ⟨S_, .i32⟩
  | 91 => ⟨S_, .i32⟩
  | 92 => ⟨S128x128, .i32⟩
  | 93 => ⟨S128x128, .i32⟩
  | 94 => ⟨S128x128, .i32⟩
  | 95 => ⟨S_, .i32⟩
  | 96 => ⟨S128x128, .i32⟩
  | 97 => ⟨S128x128, .i1⟩
  | 98 => ⟨S128x128, .i32⟩
  | 99 => ⟨S128x128, .i32⟩
  | 100 => ⟨S_, .i32⟩
  | 101 => ⟨S128x128, .i32⟩
  | 102 => ⟨S128x128, .i1⟩
  | 103 => ⟨S128x128, .i1⟩
  | 104 => ⟨S_, .i32⟩
  | 105 => ⟨S128x128, .i32⟩
  | 106 => ⟨S128x128, .i32⟩
  | 107 => ⟨S128x128, .i32⟩
  | 108 => ⟨S_, .i32⟩
  | 109 => ⟨S_, .i32⟩
  | 110 => ⟨S128x128, .i32⟩
  | 111 => ⟨S128x128, .i32⟩
  | 112 => ⟨S128x128, .i32⟩
  | 113 => ⟨S_, .i32⟩
  | 114 => ⟨S128x128, .i32⟩
  | 115 => ⟨S128x128, .i1⟩
  | 116 => ⟨S128x128, .i32⟩
  | 117 => ⟨S128x128, .i32⟩
  | 118 => ⟨S_, .i32⟩
  | 119 => ⟨S128x128, .i32⟩
  | 120 => ⟨S128x128, .i1⟩
  | 121 => ⟨S128x128, .i1⟩
  | 122 => ⟨S_, .i32⟩
  | 123 => ⟨S128x128, .i32⟩
  | 124 => ⟨S128x128, .i32⟩
  | 125 => ⟨S128x128, .i32⟩
  | 126 => ⟨S128x128, .i1⟩
  | 127 => ⟨S_, .i32⟩
  | _ => ⟨S4x8192x1024, .f32⟩

abbrev hbmTy0_4 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S128x128, .i32⟩
  | 6 => ⟨S128x128, .i32⟩
  | 7 => ⟨S_, .i32⟩
  | 8 => ⟨S128x128, .i32⟩
  | 9 => ⟨S128x128, .i1⟩
  | 10 => ⟨S_, .i32⟩
  | 11 => ⟨S128x128, .i32⟩
  | 12 => ⟨S128x128, .i1⟩
  | 13 => ⟨S_, .i32⟩
  | 14 => ⟨S_, .i1⟩
  | 15 => ⟨S128x128, .i1⟩
  | 16 => ⟨S128x128, .i1⟩
  | 17 => ⟨S128x128, .i1⟩
  | 18 => ⟨S128x128, .i32⟩
  | 19 => ⟨S128x128, .i32⟩
  | 20 => ⟨S128x128, .i32⟩
  | 21 => ⟨S_, .i32⟩
  | 22 => ⟨S128x128, .i32⟩
  | 23 => ⟨S128x128, .i1⟩
  | 24 => ⟨S128x128, .i1⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S128x128, .i32⟩
  | 32 => ⟨S128x128, .i32⟩
  | 33 => ⟨S_, .i32⟩
  | 34 => ⟨S128x128, .i32⟩
  | 35 => ⟨S128x128, .i1⟩
  | 36 => ⟨S_, .i32⟩
  | 37 => ⟨S128x128, .i32⟩
  | 38 => ⟨S128x128, .i1⟩
  | 39 => ⟨S_, .i32⟩
  | 40 => ⟨S_, .i1⟩
  | 41 => ⟨S128x128, .i1⟩
  | 42 => ⟨S128x128, .i1⟩
  | 43 => ⟨S128x128, .i1⟩
  | 44 => ⟨S128x128, .i32⟩
  | 45 => ⟨S128x128, .i32⟩
  | 46 => ⟨S128x128, .i32⟩
  | 47 => ⟨S_, .i32⟩
  | 48 => ⟨S128x128, .i32⟩
  | 49 => ⟨S128x128, .i1⟩
  | 50 => ⟨S128x128, .i1⟩
  | 51 => ⟨S_, .f32⟩
  | 52 => ⟨S_, .f32⟩
  | 53 => ⟨S128x128, .f32⟩
  | 54 => ⟨S128x128, .f32⟩
  | 55 => ⟨S128x128, .f32⟩
  | 56 => ⟨S128x128, .f32⟩
  | 57 => ⟨S_, .i32⟩
  | 58 => ⟨S_, .i32⟩
  | 59 => ⟨S128x128, .i32⟩
  | 60 => ⟨S128x128, .i32⟩
  | 61 => ⟨S128x128, .i32⟩
  | 62 => ⟨S_, .i32⟩
  | 63 => ⟨S128x128, .i32⟩
  | 64 => ⟨S128x128, .i1⟩
  | 65 => ⟨S128x128, .i32⟩
  | 66 => ⟨S128x128, .i32⟩
  | 67 => ⟨S_, .i32⟩
  | 68 => ⟨S128x128, .i32⟩
  | 69 => ⟨S128x128, .i1⟩
  | 70 => ⟨S128x128, .i1⟩
  | 71 => ⟨S_, .i32⟩
  | 72 => ⟨S128x128, .i32⟩
  | 73 => ⟨S128x128, .i32⟩
  | 74 => ⟨S128x128, .i32⟩
  | 75 => ⟨S_, .i32⟩
  | 76 => ⟨S_, .i32⟩
  | 77 => ⟨S128x128, .i32⟩
  | 78 => ⟨S128x128, .i32⟩
  | 79 => ⟨S128x128, .i32⟩
  | 80 => ⟨S_, .i32⟩
  | 81 => ⟨S128x128, .i32⟩
  | 82 => ⟨S128x128, .i1⟩
  | 83 => ⟨S128x128, .i32⟩
  | 84 => ⟨S128x128, .i32⟩
  | 85 => ⟨S_, .i32⟩
  | 86 => ⟨S128x128, .i32⟩
  | 87 => ⟨S128x128, .i1⟩
  | 88 => ⟨S128x128, .i1⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S128x128, .i32⟩
  | 101 => ⟨S128x128, .i32⟩
  | 102 => ⟨S_, .i32⟩
  | 103 => ⟨S128x128, .i32⟩
  | 104 => ⟨S128x128, .i1⟩
  | 105 => ⟨S_, .i32⟩
  | 106 => ⟨S128x128, .i32⟩
  | 107 => ⟨S128x128, .i1⟩
  | 108 => ⟨S_, .i32⟩
  | 109 => ⟨S_, .i1⟩
  | 110 => ⟨S128x128, .i1⟩
  | 111 => ⟨S128x128, .i1⟩
  | 112 => ⟨S128x128, .i1⟩
  | 113 => ⟨S128x128, .i32⟩
  | 114 => ⟨S128x128, .i32⟩
  | 115 => ⟨S128x128, .i32⟩
  | 116 => ⟨S_, .i32⟩
  | 117 => ⟨S128x128, .i32⟩
  | 118 => ⟨S128x128, .i1⟩
  | 119 => ⟨S128x128, .i1⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S128x128, .i32⟩
  | 127 => ⟨S128x128, .i32⟩
  | _ => ⟨S4x8192x1024, .f32⟩

abbrev hbmTy0_5 (i : Nat) : BufTy := match i % 128 with
  | 0 => ⟨S_, .i32⟩
  | 1 => ⟨S128x128, .i32⟩
  | 2 => ⟨S128x128, .i1⟩
  | 3 => ⟨S_, .i32⟩
  | 4 => ⟨S128x128, .i32⟩
  | 5 => ⟨S128x128, .i1⟩
  | 6 => ⟨S_, .i32⟩
  | 7 => ⟨S_, .i1⟩
  | 8 => ⟨S128x128, .i1⟩
  | 9 => ⟨S128x128, .i1⟩
  | 10 => ⟨S128x128, .i1⟩
  | 11 => ⟨S128x128, .i32⟩
  | 12 => ⟨S128x128, .i32⟩
  | 13 => ⟨S128x128, .i32⟩
  | 14 => ⟨S_, .i32⟩
  | 15 => ⟨S128x128, .i32⟩
  | 16 => ⟨S128x128, .i1⟩
  | 17 => ⟨S128x128, .i1⟩
  | 18 => ⟨S_, .f32⟩
  | 19 => ⟨S_, .f32⟩
  | 20 => ⟨S128x128, .f32⟩
  | 21 => ⟨S128x128, .f32⟩
  | 22 => ⟨S128x128, .f32⟩
  | 23 => ⟨S128x128, .f32⟩
  | 24 => ⟨S1x128x128, .f32⟩
  | 25 => ⟨S1x128x128, .f32⟩
  | 26 => ⟨S1x128x128, .f32⟩
  | 27 => ⟨S1x128x128, .f32⟩
  | 28 => ⟨S1x128x128, .f32⟩
  | 29 => ⟨S1x128x128, .f32⟩
  | 30 => ⟨S6x128x128, .f32⟩
  | 31 => ⟨S1x1024, .f32⟩
  | 32 => ⟨S1024x3592, .bf16⟩
  | 33 => ⟨S1x128, .f32⟩
  | 34 => ⟨S1024x1024, .bf16⟩
  | 35 => ⟨S128x128, .bf16⟩
  | 36 => ⟨S6x128x128, .bf16⟩
  | 37 => ⟨S4x8192x1024, .f32⟩
  | 38 => ⟨S1024x2816, .bf16⟩
  | 39 => ⟨S1024x2816, .bf16⟩
  | 40 => ⟨S2816x1024, .bf16⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x8192x1024, .f32⟩

abbrev bufTy : (tb : Table) → Fin (tcTables nBuf tb) → BufTy
  | .hbm, ⟨i, _⟩ => hbmTy i
  | .local _ .vmem, ⟨0, _⟩ => ⟨S4x128x1024, .f32⟩
  | .local _ .vmem, ⟨1, _⟩ => ⟨S4x128x1024, .f32⟩
  | .local _ .vmem, ⟨2, _⟩ => ⟨S4x6x1024, .f32⟩
  | .local _ .vmem, ⟨3, _⟩ => ⟨S1x1024, .f32⟩
  | .local _ .vmem, ⟨4, _⟩ => ⟨S1024x3592, .bf16⟩
  | .local _ .vmem, ⟨5, _⟩ => ⟨S4x1536, .f32⟩
  | .local _ .vmem, ⟨6, _⟩ => ⟨S3x512, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1024x1024, .bf16⟩
  | .local _ .vmem, ⟨11, _⟩ => ⟨S128x128, .f32⟩
  | .local _ .vmem, ⟨12, _⟩ => ⟨S128x128, .f32⟩
  | .local _ .vmem, ⟨13, _⟩ => ⟨S128x128, .bf16⟩
  | .local _ .vmem, ⟨14, _⟩ => ⟨S6x128x128, .bf16⟩
  | .local _ .vmem, ⟨15, _⟩ => ⟨S16x2816, .f32⟩
  | .local _ .vmem, ⟨16, _⟩ => ⟨S16x2816, .f32⟩
  | .local _ .vmem, ⟨17, _⟩ => ⟨S16x2816, .f32⟩
  | .local _ .vmem, ⟨18, _⟩ => ⟨S16x2816, .f32⟩
  | .local _ .vmem, ⟨19, _⟩ => ⟨S176x1024, .f32⟩
  | .local _ .vmem, ⟨20, _⟩ => ⟨S176x1024, .f32⟩
  | .local _ .vmem, ⟨21, _⟩ => ⟨S4x128x1024, .f32⟩
  | .local _ .vmem, ⟨22, _⟩ => ⟨S4x128x1024, .f32⟩
  | .local _ .vmem, ⟨23, _⟩ => ⟨S16x2816, .bf16⟩
  | .local _ .vmem, ⟨24, _⟩ => ⟨S16x2816, .bf16⟩
  | .local _ .vmem, ⟨25, _⟩ => ⟨S16x2816, .bf16⟩
  | .local _ .vmem, ⟨26, _⟩ => ⟨S16x2816, .bf16⟩
  | .local _ .vmem, ⟨27, _⟩ => ⟨S176x1024, .bf16⟩
  | .local _ .vmem, ⟨28, _⟩ => ⟨S176x1024, .bf16⟩
  | .local _ .vmem, ⟨29, _⟩ => ⟨S12x136x512, .f32⟩
  | .local _ .vmem, ⟨30, _⟩ => ⟨S4x136x512, .f32⟩
  | .local _ .vmem, ⟨31, _⟩ => ⟨S512x512, .f32⟩
  | .local _ .vmem, ⟨32, _⟩ => ⟨S512x512, .f32⟩
  | .local _ .vmem, ⟨33, _⟩ => ⟨S512x1024, .bf16⟩
  | .local _ .vmem, ⟨34, _⟩ => ⟨S1024x1536, .bf16⟩
  | .local _ .vmem, ⟨35, _⟩ => ⟨S1024x128, .bf16⟩
  | .local _ .vmem, ⟨36, _⟩ => ⟨S16x128x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_c : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_0 : Ref sig .tc := ⟨.hbm, 56, rfl⟩
abbrev main_call0_v12 : Ref sig .tc := ⟨.hbm, 57, rfl⟩
abbrev main_call0_v13 : Ref sig .tc := ⟨.hbm, 58, rfl⟩
abbrev main_v23 : Ref sig .tc := ⟨.hbm, 59, rfl⟩
abbrev main_c_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_c : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_0 : Ref sig .tc := ⟨.hbm, 74, rfl⟩
abbrev main_call1_v12 : Ref sig .tc := ⟨.hbm, 75, rfl⟩
abbrev main_call1_v13 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_6 : Ref sig .tc := ⟨.hbm, 81, rfl⟩
abbrev main_cst_7 : Ref sig .tc := ⟨.hbm, 82, rfl⟩
abbrev main_call2_v0 : Ref sig .tc := ⟨.hbm, 83, rfl⟩
abbrev main_call2_v1 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_cst_8 : Ref sig .tc := ⟨.hbm, 88, rfl⟩
abbrev main_cst_9 : Ref sig .tc := ⟨.hbm, 89, rfl⟩
abbrev main_call3_v0 : Ref sig .tc := ⟨.hbm, 90, rfl⟩
abbrev main_call3_v1 : Ref sig .tc := ⟨.hbm, 91, rfl⟩
abbrev main_v31 : Ref sig .tc := ⟨.hbm, 92, rfl⟩
abbrev main_v32 : Ref sig .tc := ⟨.hbm, 93, rfl⟩
abbrev main_c_10 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_v6 : Ref sig .tc := ⟨.hbm, 101, rfl⟩
abbrev main_call4_v7 : Ref sig .tc := ⟨.hbm, 102, rfl⟩
abbrev main_call4_v8 : Ref sig .tc := ⟨.hbm, 103, rfl⟩
abbrev main_call4_c : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_c_0 : Ref sig .tc := ⟨.hbm, 108, rfl⟩
abbrev main_call4_v12 : Ref sig .tc := ⟨.hbm, 109, rfl⟩
abbrev main_call4_v13 : Ref sig .tc := ⟨.hbm, 110, rfl⟩
abbrev main_v33 : Ref sig .tc := ⟨.hbm, 111, rfl⟩
abbrev main_c_11 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_call5_v5 : Ref sig .tc := ⟨.hbm, 118, rfl⟩
abbrev main_call5_v6 : Ref sig .tc := ⟨.hbm, 119, rfl⟩
abbrev main_call5_v7 : Ref sig .tc := ⟨.hbm, 120, rfl⟩
abbrev main_call5_v8 : Ref sig .tc := ⟨.hbm, 121, rfl⟩
abbrev main_call5_c : Ref sig .tc := ⟨.hbm, 122, rfl⟩
abbrev main_call5_v9 : Ref sig .tc := ⟨.hbm, 123, rfl⟩
abbrev main_call5_v10 : Ref sig .tc := ⟨.hbm, 124, rfl⟩
abbrev main_call5_v11 : Ref sig .tc := ⟨.hbm, 125, rfl⟩
abbrev main_call5_c_0 : Ref sig .tc := ⟨.hbm, 126, rfl⟩
abbrev main_call5_v12 : Ref sig .tc := ⟨.hbm, 127, rfl⟩
abbrev main_call5_v13 : Ref sig .tc := ⟨.hbm, 128, rfl⟩
abbrev main_v34 : Ref sig .tc := ⟨.hbm, 129, rfl⟩
abbrev main_v35 : Ref sig .tc := ⟨.hbm, 130, rfl⟩
abbrev main_c_12 : Ref sig .tc := ⟨.hbm, 131, rfl⟩
abbrev main_call6_v0 : Ref sig .tc := ⟨.hbm, 132, rfl⟩
abbrev main_call6_c : Ref sig .tc := ⟨.hbm, 133, rfl⟩
abbrev main_call6_v1 : Ref sig .tc := ⟨.hbm, 134, rfl⟩
abbrev main_call6_c_0 : Ref sig .tc := ⟨.hbm, 135, rfl⟩
abbrev main_call6_v2 : Ref sig .tc := ⟨.hbm, 136, rfl⟩
abbrev main_call6_v3 : Ref sig .tc := ⟨.hbm, 137, rfl⟩
abbrev main_call6_v4 : Ref sig .tc := ⟨.hbm, 138, rfl⟩
abbrev main_call6_c_1 : Ref sig .tc := ⟨.hbm, 139, rfl⟩
abbrev main_call6_v5 : Ref sig .tc := ⟨.hbm, 140, rfl⟩
abbrev main_call6_v6 : Ref sig .tc := ⟨.hbm, 141, rfl⟩
abbrev main_call6_c_2 : Ref sig .tc := ⟨.hbm, 142, rfl⟩
abbrev main_call6_v7 : Ref sig .tc := ⟨.hbm, 143, rfl⟩
abbrev main_call6_v8 : Ref sig .tc := ⟨.hbm, 144, rfl⟩
abbrev main_call6_c_3 : Ref sig .tc := ⟨.hbm, 145, rfl⟩
abbrev main_call6_v9 : Ref sig .tc := ⟨.hbm, 146, rfl⟩
abbrev main_call6_v10 : Ref sig .tc := ⟨.hbm, 147, rfl⟩
abbrev main_call6_v11 : Ref sig .tc := ⟨.hbm, 148, rfl⟩
abbrev main_call6_v12 : Ref sig .tc := ⟨.hbm, 149, rfl⟩
abbrev main_call6_v13 : Ref sig .tc := ⟨.hbm, 150, rfl⟩
abbrev main_call6_v14 : Ref sig .tc := ⟨.hbm, 151, rfl⟩
abbrev main_v36 : Ref sig .tc := ⟨.hbm, 152, rfl⟩
abbrev main_c_13 : Ref sig .tc := ⟨.hbm, 153, rfl⟩
abbrev main_v37 : Ref sig .tc := ⟨.hbm, 154, rfl⟩
abbrev main_v38 : Ref sig .tc := ⟨.hbm, 155, rfl⟩
abbrev main_v39 : Ref sig .tc := ⟨.hbm, 156, rfl⟩
abbrev main_c_14 : Ref sig .tc := ⟨.hbm, 157, rfl⟩
abbrev main_call7_v0 : Ref sig .tc := ⟨.hbm, 158, rfl⟩
abbrev main_call7_c : Ref sig .tc := ⟨.hbm, 159, rfl⟩
abbrev main_call7_v1 : Ref sig .tc := ⟨.hbm, 160, rfl⟩
abbrev main_call7_c_0 : Ref sig .tc := ⟨.hbm, 161, rfl⟩
abbrev main_call7_v2 : Ref sig .tc := ⟨.hbm, 162, rfl⟩
abbrev main_call7_v3 : Ref sig .tc := ⟨.hbm, 163, rfl⟩
abbrev main_call7_v4 : Ref sig .tc := ⟨.hbm, 164, rfl⟩
abbrev main_call7_c_1 : Ref sig .tc := ⟨.hbm, 165, rfl⟩
abbrev main_call7_v5 : Ref sig .tc := ⟨.hbm, 166, rfl⟩
abbrev main_call7_v6 : Ref sig .tc := ⟨.hbm, 167, rfl⟩
abbrev main_call7_c_2 : Ref sig .tc := ⟨.hbm, 168, rfl⟩
abbrev main_call7_v7 : Ref sig .tc := ⟨.hbm, 169, rfl⟩
abbrev main_call7_v8 : Ref sig .tc := ⟨.hbm, 170, rfl⟩
abbrev main_call7_c_3 : Ref sig .tc := ⟨.hbm, 171, rfl⟩
abbrev main_call7_v9 : Ref sig .tc := ⟨.hbm, 172, rfl⟩
abbrev main_call7_v10 : Ref sig .tc := ⟨.hbm, 173, rfl⟩
abbrev main_call7_v11 : Ref sig .tc := ⟨.hbm, 174, rfl⟩
abbrev main_call7_v12 : Ref sig .tc := ⟨.hbm, 175, rfl⟩
abbrev main_call7_v13 : Ref sig .tc := ⟨.hbm, 176, rfl⟩
abbrev main_call7_v14 : Ref sig .tc := ⟨.hbm, 177, rfl⟩
abbrev main_v40 : Ref sig .tc := ⟨.hbm, 178, rfl⟩
abbrev main_c_15 : Ref sig .tc := ⟨.hbm, 179, rfl⟩
abbrev main_v41 : Ref sig .tc := ⟨.hbm, 180, rfl⟩
abbrev main_v42 : Ref sig .tc := ⟨.hbm, 181, rfl⟩
abbrev main_v43 : Ref sig .tc := ⟨.hbm, 182, rfl⟩
abbrev main_cst_16 : Ref sig .tc := ⟨.hbm, 183, rfl⟩
abbrev main_cst_17 : Ref sig .tc := ⟨.hbm, 184, rfl⟩
abbrev main_call8_v0 : Ref sig .tc := ⟨.hbm, 185, rfl⟩
abbrev main_call8_v1 : Ref sig .tc := ⟨.hbm, 186, rfl⟩
abbrev main_v44 : Ref sig .tc := ⟨.hbm, 187, rfl⟩
abbrev main_v45 : Ref sig .tc := ⟨.hbm, 188, rfl⟩
abbrev main_c_18 : Ref sig .tc := ⟨.hbm, 189, rfl⟩
abbrev main_call9_v0 : Ref sig .tc := ⟨.hbm, 190, rfl⟩
abbrev main_call9_v1 : Ref sig .tc := ⟨.hbm, 191, rfl⟩
abbrev main_call9_v2 : Ref sig .tc := ⟨.hbm, 192, rfl⟩
abbrev main_call9_v3 : Ref sig .tc := ⟨.hbm, 193, rfl⟩
abbrev main_call9_v4 : Ref sig .tc := ⟨.hbm, 194, rfl⟩
abbrev main_call9_v5 : Ref sig .tc := ⟨.hbm, 195, rfl⟩
abbrev main_call9_v6 : Ref sig .tc := ⟨.hbm, 196, rfl⟩
abbrev main_call9_v7 : Ref sig .tc := ⟨.hbm, 197, rfl⟩
abbrev main_call9_v8 : Ref sig .tc := ⟨.hbm, 198, rfl⟩
abbrev main_call9_c : Ref sig .tc := ⟨.hbm, 199, rfl⟩
abbrev main_call9_v9 : Ref sig .tc := ⟨.hbm, 200, rfl⟩
abbrev main_call9_v10 : Ref sig .tc := ⟨.hbm, 201, rfl⟩
abbrev main_call9_v11 : Ref sig .tc := ⟨.hbm, 202, rfl⟩
abbrev main_call9_c_0 : Ref sig .tc := ⟨.hbm, 203, rfl⟩
abbrev main_call9_v12 : Ref sig .tc := ⟨.hbm, 204, rfl⟩
abbrev main_call9_v13 : Ref sig .tc := ⟨.hbm, 205, rfl⟩
abbrev main_v46 : Ref sig .tc := ⟨.hbm, 206, rfl⟩
abbrev main_c_19 : Ref sig .tc := ⟨.hbm, 207, rfl⟩
abbrev main_call10_v0 : Ref sig .tc := ⟨.hbm, 208, rfl⟩
abbrev main_call10_v1 : Ref sig .tc := ⟨.hbm, 209, rfl⟩
abbrev main_call10_v2 : Ref sig .tc := ⟨.hbm, 210, rfl⟩
abbrev main_call10_v3 : Ref sig .tc := ⟨.hbm, 211, rfl⟩
abbrev main_call10_v4 : Ref sig .tc := ⟨.hbm, 212, rfl⟩
abbrev main_call10_v5 : Ref sig .tc := ⟨.hbm, 213, rfl⟩
abbrev main_call10_v6 : Ref sig .tc := ⟨.hbm, 214, rfl⟩
abbrev main_call10_v7 : Ref sig .tc := ⟨.hbm, 215, rfl⟩
abbrev main_call10_v8 : Ref sig .tc := ⟨.hbm, 216, rfl⟩
abbrev main_call10_c : Ref sig .tc := ⟨.hbm, 217, rfl⟩
abbrev main_call10_v9 : Ref sig .tc := ⟨.hbm, 218, rfl⟩
abbrev main_call10_v10 : Ref sig .tc := ⟨.hbm, 219, rfl⟩
abbrev main_call10_v11 : Ref sig .tc := ⟨.hbm, 220, rfl⟩
abbrev main_call10_c_0 : Ref sig .tc := ⟨.hbm, 221, rfl⟩
abbrev main_call10_v12 : Ref sig .tc := ⟨.hbm, 222, rfl⟩
abbrev main_call10_v13 : Ref sig .tc := ⟨.hbm, 223, rfl⟩
abbrev main_v47 : Ref sig .tc := ⟨.hbm, 224, rfl⟩
abbrev main_v48 : Ref sig .tc := ⟨.hbm, 225, rfl⟩
abbrev main_c_20 : Ref sig .tc := ⟨.hbm, 226, rfl⟩
abbrev main_call11_v0 : Ref sig .tc := ⟨.hbm, 227, rfl⟩
abbrev main_call11_c : Ref sig .tc := ⟨.hbm, 228, rfl⟩
abbrev main_call11_v1 : Ref sig .tc := ⟨.hbm, 229, rfl⟩
abbrev main_call11_c_0 : Ref sig .tc := ⟨.hbm, 230, rfl⟩
abbrev main_call11_v2 : Ref sig .tc := ⟨.hbm, 231, rfl⟩
abbrev main_call11_v3 : Ref sig .tc := ⟨.hbm, 232, rfl⟩
abbrev main_call11_v4 : Ref sig .tc := ⟨.hbm, 233, rfl⟩
abbrev main_call11_c_1 : Ref sig .tc := ⟨.hbm, 234, rfl⟩
abbrev main_call11_v5 : Ref sig .tc := ⟨.hbm, 235, rfl⟩
abbrev main_call11_v6 : Ref sig .tc := ⟨.hbm, 236, rfl⟩
abbrev main_call11_c_2 : Ref sig .tc := ⟨.hbm, 237, rfl⟩
abbrev main_call11_v7 : Ref sig .tc := ⟨.hbm, 238, rfl⟩
abbrev main_call11_v8 : Ref sig .tc := ⟨.hbm, 239, rfl⟩
abbrev main_call11_c_3 : Ref sig .tc := ⟨.hbm, 240, rfl⟩
abbrev main_call11_v9 : Ref sig .tc := ⟨.hbm, 241, rfl⟩
abbrev main_call11_v10 : Ref sig .tc := ⟨.hbm, 242, rfl⟩
abbrev main_call11_v11 : Ref sig .tc := ⟨.hbm, 243, rfl⟩
abbrev main_call11_v12 : Ref sig .tc := ⟨.hbm, 244, rfl⟩
abbrev main_call11_v13 : Ref sig .tc := ⟨.hbm, 245, rfl⟩
abbrev main_call11_v14 : Ref sig .tc := ⟨.hbm, 246, rfl⟩
abbrev main_v49 : Ref sig .tc := ⟨.hbm, 247, rfl⟩
abbrev main_c_21 : Ref sig .tc := ⟨.hbm, 248, rfl⟩
abbrev main_v50 : Ref sig .tc := ⟨.hbm, 249, rfl⟩
abbrev main_v51 : Ref sig .tc := ⟨.hbm, 250, rfl⟩
abbrev main_v52 : Ref sig .tc := ⟨.hbm, 251, rfl⟩
abbrev main_c_22 : Ref sig .tc := ⟨.hbm, 252, rfl⟩
abbrev main_call12_v0 : Ref sig .tc := ⟨.hbm, 253, rfl⟩
abbrev main_call12_c : Ref sig .tc := ⟨.hbm, 254, rfl⟩
abbrev main_call12_v1 : Ref sig .tc := ⟨.hbm, 255, rfl⟩
abbrev main_call12_c_0 : Ref sig .tc := ⟨.hbm, 256, rfl⟩
abbrev main_call12_v2 : Ref sig .tc := ⟨.hbm, 257, rfl⟩
abbrev main_call12_v3 : Ref sig .tc := ⟨.hbm, 258, rfl⟩
abbrev main_call12_v4 : Ref sig .tc := ⟨.hbm, 259, rfl⟩
abbrev main_call12_c_1 : Ref sig .tc := ⟨.hbm, 260, rfl⟩
abbrev main_call12_v5 : Ref sig .tc := ⟨.hbm, 261, rfl⟩
abbrev main_call12_v6 : Ref sig .tc := ⟨.hbm, 262, rfl⟩
abbrev main_call12_c_2 : Ref sig .tc := ⟨.hbm, 263, rfl⟩
abbrev main_call12_v7 : Ref sig .tc := ⟨.hbm, 264, rfl⟩
abbrev main_call12_v8 : Ref sig .tc := ⟨.hbm, 265, rfl⟩
abbrev main_call12_c_3 : Ref sig .tc := ⟨.hbm, 266, rfl⟩
abbrev main_call12_v9 : Ref sig .tc := ⟨.hbm, 267, rfl⟩
abbrev main_call12_v10 : Ref sig .tc := ⟨.hbm, 268, rfl⟩
abbrev main_call12_v11 : Ref sig .tc := ⟨.hbm, 269, rfl⟩
abbrev main_call12_v12 : Ref sig .tc := ⟨.hbm, 270, rfl⟩
abbrev main_call12_v13 : Ref sig .tc := ⟨.hbm, 271, rfl⟩
abbrev main_call12_v14 : Ref sig .tc := ⟨.hbm, 272, rfl⟩
abbrev main_v53 : Ref sig .tc := ⟨.hbm, 273, rfl⟩
abbrev main_c_23 : Ref sig .tc := ⟨.hbm, 274, rfl⟩
abbrev main_v54 : Ref sig .tc := ⟨.hbm, 275, rfl⟩
abbrev main_v55 : Ref sig .tc := ⟨.hbm, 276, rfl⟩
abbrev main_v56 : Ref sig .tc := ⟨.hbm, 277, rfl⟩
abbrev main_cst_24 : Ref sig .tc := ⟨.hbm, 278, rfl⟩
abbrev main_cst_25 : Ref sig .tc := ⟨.hbm, 279, rfl⟩
abbrev main_call13_v0 : Ref sig .tc := ⟨.hbm, 280, rfl⟩
abbrev main_call13_v1 : Ref sig .tc := ⟨.hbm, 281, rfl⟩
abbrev main_v57 : Ref sig .tc := ⟨.hbm, 282, rfl⟩
abbrev main_v58 : Ref sig .tc := ⟨.hbm, 283, rfl⟩
abbrev main_c_26 : Ref sig .tc := ⟨.hbm, 284, rfl⟩
abbrev main_call14_v0 : Ref sig .tc := ⟨.hbm, 285, rfl⟩
abbrev main_call14_v1 : Ref sig .tc := ⟨.hbm, 286, rfl⟩
abbrev main_call14_v2 : Ref sig .tc := ⟨.hbm, 287, rfl⟩
abbrev main_call14_v3 : Ref sig .tc := ⟨.hbm, 288, rfl⟩
abbrev main_call14_v4 : Ref sig .tc := ⟨.hbm, 289, rfl⟩
abbrev main_call14_v5 : Ref sig .tc := ⟨.hbm, 290, rfl⟩
abbrev main_call14_v6 : Ref sig .tc := ⟨.hbm, 291, rfl⟩
abbrev main_call14_v7 : Ref sig .tc := ⟨.hbm, 292, rfl⟩
abbrev main_call14_v8 : Ref sig .tc := ⟨.hbm, 293, rfl⟩
abbrev main_call14_c : Ref sig .tc := ⟨.hbm, 294, rfl⟩
abbrev main_call14_v9 : Ref sig .tc := ⟨.hbm, 295, rfl⟩
abbrev main_call14_v10 : Ref sig .tc := ⟨.hbm, 296, rfl⟩
abbrev main_call14_v11 : Ref sig .tc := ⟨.hbm, 297, rfl⟩
abbrev main_call14_c_0 : Ref sig .tc := ⟨.hbm, 298, rfl⟩
abbrev main_call14_v12 : Ref sig .tc := ⟨.hbm, 299, rfl⟩
abbrev main_call14_v13 : Ref sig .tc := ⟨.hbm, 300, rfl⟩
abbrev main_v59 : Ref sig .tc := ⟨.hbm, 301, rfl⟩
abbrev main_c_27 : Ref sig .tc := ⟨.hbm, 302, rfl⟩
abbrev main_call15_v0 : Ref sig .tc := ⟨.hbm, 303, rfl⟩
abbrev main_call15_v1 : Ref sig .tc := ⟨.hbm, 304, rfl⟩
abbrev main_call15_v2 : Ref sig .tc := ⟨.hbm, 305, rfl⟩
abbrev main_call15_v3 : Ref sig .tc := ⟨.hbm, 306, rfl⟩
abbrev main_call15_v4 : Ref sig .tc := ⟨.hbm, 307, rfl⟩
abbrev main_call15_v5 : Ref sig .tc := ⟨.hbm, 308, rfl⟩
abbrev main_call15_v6 : Ref sig .tc := ⟨.hbm, 309, rfl⟩
abbrev main_call15_v7 : Ref sig .tc := ⟨.hbm, 310, rfl⟩
abbrev main_call15_v8 : Ref sig .tc := ⟨.hbm, 311, rfl⟩
abbrev main_call15_c : Ref sig .tc := ⟨.hbm, 312, rfl⟩
abbrev main_call15_v9 : Ref sig .tc := ⟨.hbm, 313, rfl⟩
abbrev main_call15_v10 : Ref sig .tc := ⟨.hbm, 314, rfl⟩
abbrev main_call15_v11 : Ref sig .tc := ⟨.hbm, 315, rfl⟩
abbrev main_call15_c_0 : Ref sig .tc := ⟨.hbm, 316, rfl⟩
abbrev main_call15_v12 : Ref sig .tc := ⟨.hbm, 317, rfl⟩
abbrev main_call15_v13 : Ref sig .tc := ⟨.hbm, 318, rfl⟩
abbrev main_v60 : Ref sig .tc := ⟨.hbm, 319, rfl⟩
abbrev main_v61 : Ref sig .tc := ⟨.hbm, 320, rfl⟩
abbrev main_c_28 : Ref sig .tc := ⟨.hbm, 321, rfl⟩
abbrev main_call16_v0 : Ref sig .tc := ⟨.hbm, 322, rfl⟩
abbrev main_call16_c : Ref sig .tc := ⟨.hbm, 323, rfl⟩
abbrev main_call16_v1 : Ref sig .tc := ⟨.hbm, 324, rfl⟩
abbrev main_call16_c_0 : Ref sig .tc := ⟨.hbm, 325, rfl⟩
abbrev main_call16_v2 : Ref sig .tc := ⟨.hbm, 326, rfl⟩
abbrev main_call16_v3 : Ref sig .tc := ⟨.hbm, 327, rfl⟩
abbrev main_call16_v4 : Ref sig .tc := ⟨.hbm, 328, rfl⟩
abbrev main_call16_c_1 : Ref sig .tc := ⟨.hbm, 329, rfl⟩
abbrev main_call16_v5 : Ref sig .tc := ⟨.hbm, 330, rfl⟩
abbrev main_call16_v6 : Ref sig .tc := ⟨.hbm, 331, rfl⟩
abbrev main_call16_c_2 : Ref sig .tc := ⟨.hbm, 332, rfl⟩
abbrev main_call16_v7 : Ref sig .tc := ⟨.hbm, 333, rfl⟩
abbrev main_call16_v8 : Ref sig .tc := ⟨.hbm, 334, rfl⟩
abbrev main_call16_c_3 : Ref sig .tc := ⟨.hbm, 335, rfl⟩
abbrev main_call16_v9 : Ref sig .tc := ⟨.hbm, 336, rfl⟩
abbrev main_call16_v10 : Ref sig .tc := ⟨.hbm, 337, rfl⟩
abbrev main_call16_v11 : Ref sig .tc := ⟨.hbm, 338, rfl⟩
abbrev main_call16_v12 : Ref sig .tc := ⟨.hbm, 339, rfl⟩
abbrev main_call16_v13 : Ref sig .tc := ⟨.hbm, 340, rfl⟩
abbrev main_call16_v14 : Ref sig .tc := ⟨.hbm, 341, rfl⟩
abbrev main_v62 : Ref sig .tc := ⟨.hbm, 342, rfl⟩
abbrev main_c_29 : Ref sig .tc := ⟨.hbm, 343, rfl⟩
abbrev main_v63 : Ref sig .tc := ⟨.hbm, 344, rfl⟩
abbrev main_v64 : Ref sig .tc := ⟨.hbm, 345, rfl⟩
abbrev main_v65 : Ref sig .tc := ⟨.hbm, 346, rfl⟩
abbrev main_c_30 : Ref sig .tc := ⟨.hbm, 347, rfl⟩
abbrev main_call17_v0 : Ref sig .tc := ⟨.hbm, 348, rfl⟩
abbrev main_call17_c : Ref sig .tc := ⟨.hbm, 349, rfl⟩
abbrev main_call17_v1 : Ref sig .tc := ⟨.hbm, 350, rfl⟩
abbrev main_call17_c_0 : Ref sig .tc := ⟨.hbm, 351, rfl⟩
abbrev main_call17_v2 : Ref sig .tc := ⟨.hbm, 352, rfl⟩
abbrev main_call17_v3 : Ref sig .tc := ⟨.hbm, 353, rfl⟩
abbrev main_call17_v4 : Ref sig .tc := ⟨.hbm, 354, rfl⟩
abbrev main_call17_c_1 : Ref sig .tc := ⟨.hbm, 355, rfl⟩
abbrev main_call17_v5 : Ref sig .tc := ⟨.hbm, 356, rfl⟩
abbrev main_call17_v6 : Ref sig .tc := ⟨.hbm, 357, rfl⟩
abbrev main_call17_c_2 : Ref sig .tc := ⟨.hbm, 358, rfl⟩
abbrev main_call17_v7 : Ref sig .tc := ⟨.hbm, 359, rfl⟩
abbrev main_call17_v8 : Ref sig .tc := ⟨.hbm, 360, rfl⟩
abbrev main_call17_c_3 : Ref sig .tc := ⟨.hbm, 361, rfl⟩
abbrev main_call17_v9 : Ref sig .tc := ⟨.hbm, 362, rfl⟩
abbrev main_call17_v10 : Ref sig .tc := ⟨.hbm, 363, rfl⟩
abbrev main_call17_v11 : Ref sig .tc := ⟨.hbm, 364, rfl⟩
abbrev main_call17_v12 : Ref sig .tc := ⟨.hbm, 365, rfl⟩
abbrev main_call17_v13 : Ref sig .tc := ⟨.hbm, 366, rfl⟩
abbrev main_call17_v14 : Ref sig .tc := ⟨.hbm, 367, rfl⟩
abbrev main_v66 : Ref sig .tc := ⟨.hbm, 368, rfl⟩
abbrev main_c_31 : Ref sig .tc := ⟨.hbm, 369, rfl⟩
abbrev main_v67 : Ref sig .tc := ⟨.hbm, 370, rfl⟩
abbrev main_v68 : Ref sig .tc := ⟨.hbm, 371, rfl⟩
abbrev main_v69 : Ref sig .tc := ⟨.hbm, 372, rfl⟩
abbrev main_cst_32 : Ref sig .tc := ⟨.hbm, 373, rfl⟩
abbrev main_cst_33 : Ref sig .tc := ⟨.hbm, 374, rfl⟩
abbrev main_call18_v0 : Ref sig .tc := ⟨.hbm, 375, rfl⟩
abbrev main_call18_v1 : Ref sig .tc := ⟨.hbm, 376, rfl⟩
abbrev main_v70 : Ref sig .tc := ⟨.hbm, 377, rfl⟩
abbrev main_v71 : Ref sig .tc := ⟨.hbm, 378, rfl⟩
abbrev main_c_34 : Ref sig .tc := ⟨.hbm, 379, rfl⟩
abbrev main_call19_v0 : Ref sig .tc := ⟨.hbm, 380, rfl⟩
abbrev main_call19_v1 : Ref sig .tc := ⟨.hbm, 381, rfl⟩
abbrev main_call19_v2 : Ref sig .tc := ⟨.hbm, 382, rfl⟩
abbrev main_call19_v3 : Ref sig .tc := ⟨.hbm, 383, rfl⟩
abbrev main_call19_v4 : Ref sig .tc := ⟨.hbm, 384, rfl⟩
abbrev main_call19_v5 : Ref sig .tc := ⟨.hbm, 385, rfl⟩
abbrev main_call19_v6 : Ref sig .tc := ⟨.hbm, 386, rfl⟩
abbrev main_call19_v7 : Ref sig .tc := ⟨.hbm, 387, rfl⟩
abbrev main_call19_v8 : Ref sig .tc := ⟨.hbm, 388, rfl⟩
abbrev main_call19_c : Ref sig .tc := ⟨.hbm, 389, rfl⟩
abbrev main_call19_v9 : Ref sig .tc := ⟨.hbm, 390, rfl⟩
abbrev main_call19_v10 : Ref sig .tc := ⟨.hbm, 391, rfl⟩
abbrev main_call19_v11 : Ref sig .tc := ⟨.hbm, 392, rfl⟩
abbrev main_call19_c_0 : Ref sig .tc := ⟨.hbm, 393, rfl⟩
abbrev main_call19_v12 : Ref sig .tc := ⟨.hbm, 394, rfl⟩
abbrev main_call19_v13 : Ref sig .tc := ⟨.hbm, 395, rfl⟩
abbrev main_v72 : Ref sig .tc := ⟨.hbm, 396, rfl⟩
abbrev main_c_35 : Ref sig .tc := ⟨.hbm, 397, rfl⟩
abbrev main_call20_v0 : Ref sig .tc := ⟨.hbm, 398, rfl⟩
abbrev main_call20_v1 : Ref sig .tc := ⟨.hbm, 399, rfl⟩
abbrev main_call20_v2 : Ref sig .tc := ⟨.hbm, 400, rfl⟩
abbrev main_call20_v3 : Ref sig .tc := ⟨.hbm, 401, rfl⟩
abbrev main_call20_v4 : Ref sig .tc := ⟨.hbm, 402, rfl⟩
abbrev main_call20_v5 : Ref sig .tc := ⟨.hbm, 403, rfl⟩
abbrev main_call20_v6 : Ref sig .tc := ⟨.hbm, 404, rfl⟩
abbrev main_call20_v7 : Ref sig .tc := ⟨.hbm, 405, rfl⟩
abbrev main_call20_v8 : Ref sig .tc := ⟨.hbm, 406, rfl⟩
abbrev main_call20_c : Ref sig .tc := ⟨.hbm, 407, rfl⟩
abbrev main_call20_v9 : Ref sig .tc := ⟨.hbm, 408, rfl⟩
abbrev main_call20_v10 : Ref sig .tc := ⟨.hbm, 409, rfl⟩
abbrev main_call20_v11 : Ref sig .tc := ⟨.hbm, 410, rfl⟩
abbrev main_call20_c_0 : Ref sig .tc := ⟨.hbm, 411, rfl⟩
abbrev main_call20_v12 : Ref sig .tc := ⟨.hbm, 412, rfl⟩
abbrev main_call20_v13 : Ref sig .tc := ⟨.hbm, 413, rfl⟩
abbrev main_v73 : Ref sig .tc := ⟨.hbm, 414, rfl⟩
abbrev main_v74 : Ref sig .tc := ⟨.hbm, 415, rfl⟩
abbrev main_c_36 : Ref sig .tc := ⟨.hbm, 416, rfl⟩
abbrev main_call21_v0 : Ref sig .tc := ⟨.hbm, 417, rfl⟩
abbrev main_call21_c : Ref sig .tc := ⟨.hbm, 418, rfl⟩
abbrev main_call21_v1 : Ref sig .tc := ⟨.hbm, 419, rfl⟩
abbrev main_call21_c_0 : Ref sig .tc := ⟨.hbm, 420, rfl⟩
abbrev main_call21_v2 : Ref sig .tc := ⟨.hbm, 421, rfl⟩
abbrev main_call21_v3 : Ref sig .tc := ⟨.hbm, 422, rfl⟩
abbrev main_call21_v4 : Ref sig .tc := ⟨.hbm, 423, rfl⟩
abbrev main_call21_c_1 : Ref sig .tc := ⟨.hbm, 424, rfl⟩
abbrev main_call21_v5 : Ref sig .tc := ⟨.hbm, 425, rfl⟩
abbrev main_call21_v6 : Ref sig .tc := ⟨.hbm, 426, rfl⟩
abbrev main_call21_c_2 : Ref sig .tc := ⟨.hbm, 427, rfl⟩
abbrev main_call21_v7 : Ref sig .tc := ⟨.hbm, 428, rfl⟩
abbrev main_call21_v8 : Ref sig .tc := ⟨.hbm, 429, rfl⟩
abbrev main_call21_c_3 : Ref sig .tc := ⟨.hbm, 430, rfl⟩
abbrev main_call21_v9 : Ref sig .tc := ⟨.hbm, 431, rfl⟩
abbrev main_call21_v10 : Ref sig .tc := ⟨.hbm, 432, rfl⟩
abbrev main_call21_v11 : Ref sig .tc := ⟨.hbm, 433, rfl⟩
abbrev main_call21_v12 : Ref sig .tc := ⟨.hbm, 434, rfl⟩
abbrev main_call21_v13 : Ref sig .tc := ⟨.hbm, 435, rfl⟩
abbrev main_call21_v14 : Ref sig .tc := ⟨.hbm, 436, rfl⟩
abbrev main_v75 : Ref sig .tc := ⟨.hbm, 437, rfl⟩
abbrev main_c_37 : Ref sig .tc := ⟨.hbm, 438, rfl⟩
abbrev main_v76 : Ref sig .tc := ⟨.hbm, 439, rfl⟩
abbrev main_v77 : Ref sig .tc := ⟨.hbm, 440, rfl⟩
abbrev main_v78 : Ref sig .tc := ⟨.hbm, 441, rfl⟩
abbrev main_c_38 : Ref sig .tc := ⟨.hbm, 442, rfl⟩
abbrev main_call22_v0 : Ref sig .tc := ⟨.hbm, 443, rfl⟩
abbrev main_call22_c : Ref sig .tc := ⟨.hbm, 444, rfl⟩
abbrev main_call22_v1 : Ref sig .tc := ⟨.hbm, 445, rfl⟩
abbrev main_call22_c_0 : Ref sig .tc := ⟨.hbm, 446, rfl⟩
abbrev main_call22_v2 : Ref sig .tc := ⟨.hbm, 447, rfl⟩
abbrev main_call22_v3 : Ref sig .tc := ⟨.hbm, 448, rfl⟩
abbrev main_call22_v4 : Ref sig .tc := ⟨.hbm, 449, rfl⟩
abbrev main_call22_c_1 : Ref sig .tc := ⟨.hbm, 450, rfl⟩
abbrev main_call22_v5 : Ref sig .tc := ⟨.hbm, 451, rfl⟩
abbrev main_call22_v6 : Ref sig .tc := ⟨.hbm, 452, rfl⟩
abbrev main_call22_c_2 : Ref sig .tc := ⟨.hbm, 453, rfl⟩
abbrev main_call22_v7 : Ref sig .tc := ⟨.hbm, 454, rfl⟩
abbrev main_call22_v8 : Ref sig .tc := ⟨.hbm, 455, rfl⟩
abbrev main_call22_c_3 : Ref sig .tc := ⟨.hbm, 456, rfl⟩
abbrev main_call22_v9 : Ref sig .tc := ⟨.hbm, 457, rfl⟩
abbrev main_call22_v10 : Ref sig .tc := ⟨.hbm, 458, rfl⟩
abbrev main_call22_v11 : Ref sig .tc := ⟨.hbm, 459, rfl⟩
abbrev main_call22_v12 : Ref sig .tc := ⟨.hbm, 460, rfl⟩
abbrev main_call22_v13 : Ref sig .tc := ⟨.hbm, 461, rfl⟩
abbrev main_call22_v14 : Ref sig .tc := ⟨.hbm, 462, rfl⟩
abbrev main_v79 : Ref sig .tc := ⟨.hbm, 463, rfl⟩
abbrev main_c_39 : Ref sig .tc := ⟨.hbm, 464, rfl⟩
abbrev main_v80 : Ref sig .tc := ⟨.hbm, 465, rfl⟩
abbrev main_v81 : Ref sig .tc := ⟨.hbm, 466, rfl⟩
abbrev main_v82 : Ref sig .tc := ⟨.hbm, 467, rfl⟩
abbrev main_cst_40 : Ref sig .tc := ⟨.hbm, 468, rfl⟩
abbrev main_cst_41 : Ref sig .tc := ⟨.hbm, 469, rfl⟩
abbrev main_call23_v0 : Ref sig .tc := ⟨.hbm, 470, rfl⟩
abbrev main_call23_v1 : Ref sig .tc := ⟨.hbm, 471, rfl⟩
abbrev main_v83 : Ref sig .tc := ⟨.hbm, 472, rfl⟩
abbrev main_v84 : Ref sig .tc := ⟨.hbm, 473, rfl⟩
abbrev main_c_42 : Ref sig .tc := ⟨.hbm, 474, rfl⟩
abbrev main_call24_v0 : Ref sig .tc := ⟨.hbm, 475, rfl⟩
abbrev main_call24_v1 : Ref sig .tc := ⟨.hbm, 476, rfl⟩
abbrev main_call24_v2 : Ref sig .tc := ⟨.hbm, 477, rfl⟩
abbrev main_call24_v3 : Ref sig .tc := ⟨.hbm, 478, rfl⟩
abbrev main_call24_v4 : Ref sig .tc := ⟨.hbm, 479, rfl⟩
abbrev main_call24_v5 : Ref sig .tc := ⟨.hbm, 480, rfl⟩
abbrev main_call24_v6 : Ref sig .tc := ⟨.hbm, 481, rfl⟩
abbrev main_call24_v7 : Ref sig .tc := ⟨.hbm, 482, rfl⟩
abbrev main_call24_v8 : Ref sig .tc := ⟨.hbm, 483, rfl⟩
abbrev main_call24_c : Ref sig .tc := ⟨.hbm, 484, rfl⟩
abbrev main_call24_v9 : Ref sig .tc := ⟨.hbm, 485, rfl⟩
abbrev main_call24_v10 : Ref sig .tc := ⟨.hbm, 486, rfl⟩
abbrev main_call24_v11 : Ref sig .tc := ⟨.hbm, 487, rfl⟩
abbrev main_call24_c_0 : Ref sig .tc := ⟨.hbm, 488, rfl⟩
abbrev main_call24_v12 : Ref sig .tc := ⟨.hbm, 489, rfl⟩
abbrev main_call24_v13 : Ref sig .tc := ⟨.hbm, 490, rfl⟩
abbrev main_v85 : Ref sig .tc := ⟨.hbm, 491, rfl⟩
abbrev main_c_43 : Ref sig .tc := ⟨.hbm, 492, rfl⟩
abbrev main_call25_v0 : Ref sig .tc := ⟨.hbm, 493, rfl⟩
abbrev main_call25_v1 : Ref sig .tc := ⟨.hbm, 494, rfl⟩
abbrev main_call25_v2 : Ref sig .tc := ⟨.hbm, 495, rfl⟩
abbrev main_call25_v3 : Ref sig .tc := ⟨.hbm, 496, rfl⟩
abbrev main_call25_v4 : Ref sig .tc := ⟨.hbm, 497, rfl⟩
abbrev main_call25_v5 : Ref sig .tc := ⟨.hbm, 498, rfl⟩
abbrev main_call25_v6 : Ref sig .tc := ⟨.hbm, 499, rfl⟩
abbrev main_call25_v7 : Ref sig .tc := ⟨.hbm, 500, rfl⟩
abbrev main_call25_v8 : Ref sig .tc := ⟨.hbm, 501, rfl⟩
abbrev main_call25_c : Ref sig .tc := ⟨.hbm, 502, rfl⟩
abbrev main_call25_v9 : Ref sig .tc := ⟨.hbm, 503, rfl⟩
abbrev main_call25_v10 : Ref sig .tc := ⟨.hbm, 504, rfl⟩
abbrev main_call25_v11 : Ref sig .tc := ⟨.hbm, 505, rfl⟩
abbrev main_call25_c_0 : Ref sig .tc := ⟨.hbm, 506, rfl⟩
abbrev main_call25_v12 : Ref sig .tc := ⟨.hbm, 507, rfl⟩
abbrev main_call25_v13 : Ref sig .tc := ⟨.hbm, 508, rfl⟩
abbrev main_v86 : Ref sig .tc := ⟨.hbm, 509, rfl⟩
abbrev main_v87 : Ref sig .tc := ⟨.hbm, 510, rfl⟩
abbrev main_c_44 : Ref sig .tc := ⟨.hbm, 511, rfl⟩
abbrev main_call26_v0 : Ref sig .tc := ⟨.hbm, 512, rfl⟩
abbrev main_call26_c : Ref sig .tc := ⟨.hbm, 513, rfl⟩
abbrev main_call26_v1 : Ref sig .tc := ⟨.hbm, 514, rfl⟩
abbrev main_call26_c_0 : Ref sig .tc := ⟨.hbm, 515, rfl⟩
abbrev main_call26_v2 : Ref sig .tc := ⟨.hbm, 516, rfl⟩
abbrev main_call26_v3 : Ref sig .tc := ⟨.hbm, 517, rfl⟩
abbrev main_call26_v4 : Ref sig .tc := ⟨.hbm, 518, rfl⟩
abbrev main_call26_c_1 : Ref sig .tc := ⟨.hbm, 519, rfl⟩
abbrev main_call26_v5 : Ref sig .tc := ⟨.hbm, 520, rfl⟩
abbrev main_call26_v6 : Ref sig .tc := ⟨.hbm, 521, rfl⟩
abbrev main_call26_c_2 : Ref sig .tc := ⟨.hbm, 522, rfl⟩
abbrev main_call26_v7 : Ref sig .tc := ⟨.hbm, 523, rfl⟩
abbrev main_call26_v8 : Ref sig .tc := ⟨.hbm, 524, rfl⟩
abbrev main_call26_c_3 : Ref sig .tc := ⟨.hbm, 525, rfl⟩
abbrev main_call26_v9 : Ref sig .tc := ⟨.hbm, 526, rfl⟩
abbrev main_call26_v10 : Ref sig .tc := ⟨.hbm, 527, rfl⟩
abbrev main_call26_v11 : Ref sig .tc := ⟨.hbm, 528, rfl⟩
abbrev main_call26_v12 : Ref sig .tc := ⟨.hbm, 529, rfl⟩
abbrev main_call26_v13 : Ref sig .tc := ⟨.hbm, 530, rfl⟩
abbrev main_call26_v14 : Ref sig .tc := ⟨.hbm, 531, rfl⟩
abbrev main_v88 : Ref sig .tc := ⟨.hbm, 532, rfl⟩
abbrev main_c_45 : Ref sig .tc := ⟨.hbm, 533, rfl⟩
abbrev main_v89 : Ref sig .tc := ⟨.hbm, 534, rfl⟩
abbrev main_v90 : Ref sig .tc := ⟨.hbm, 535, rfl⟩
abbrev main_v91 : Ref sig .tc := ⟨.hbm, 536, rfl⟩
abbrev main_c_46 : Ref sig .tc := ⟨.hbm, 537, rfl⟩
abbrev main_call27_v0 : Ref sig .tc := ⟨.hbm, 538, rfl⟩
abbrev main_call27_c : Ref sig .tc := ⟨.hbm, 539, rfl⟩
abbrev main_call27_v1 : Ref sig .tc := ⟨.hbm, 540, rfl⟩
abbrev main_call27_c_0 : Ref sig .tc := ⟨.hbm, 541, rfl⟩
abbrev main_call27_v2 : Ref sig .tc := ⟨.hbm, 542, rfl⟩
abbrev main_call27_v3 : Ref sig .tc := ⟨.hbm, 543, rfl⟩
abbrev main_call27_v4 : Ref sig .tc := ⟨.hbm, 544, rfl⟩
abbrev main_call27_c_1 : Ref sig .tc := ⟨.hbm, 545, rfl⟩
abbrev main_call27_v5 : Ref sig .tc := ⟨.hbm, 546, rfl⟩
abbrev main_call27_v6 : Ref sig .tc := ⟨.hbm, 547, rfl⟩
abbrev main_call27_c_2 : Ref sig .tc := ⟨.hbm, 548, rfl⟩
abbrev main_call27_v7 : Ref sig .tc := ⟨.hbm, 549, rfl⟩
abbrev main_call27_v8 : Ref sig .tc := ⟨.hbm, 550, rfl⟩
abbrev main_call27_c_3 : Ref sig .tc := ⟨.hbm, 551, rfl⟩
abbrev main_call27_v9 : Ref sig .tc := ⟨.hbm, 552, rfl⟩
abbrev main_call27_v10 : Ref sig .tc := ⟨.hbm, 553, rfl⟩
abbrev main_call27_v11 : Ref sig .tc := ⟨.hbm, 554, rfl⟩
abbrev main_call27_v12 : Ref sig .tc := ⟨.hbm, 555, rfl⟩
abbrev main_call27_v13 : Ref sig .tc := ⟨.hbm, 556, rfl⟩
abbrev main_call27_v14 : Ref sig .tc := ⟨.hbm, 557, rfl⟩
abbrev main_v92 : Ref sig .tc := ⟨.hbm, 558, rfl⟩
abbrev main_c_47 : Ref sig .tc := ⟨.hbm, 559, rfl⟩
abbrev main_v93 : Ref sig .tc := ⟨.hbm, 560, rfl⟩
abbrev main_v94 : Ref sig .tc := ⟨.hbm, 561, rfl⟩
abbrev main_v95 : Ref sig .tc := ⟨.hbm, 562, rfl⟩
abbrev main_cst_48 : Ref sig .tc := ⟨.hbm, 563, rfl⟩
abbrev main_cst_49 : Ref sig .tc := ⟨.hbm, 564, rfl⟩
abbrev main_call28_v0 : Ref sig .tc := ⟨.hbm, 565, rfl⟩
abbrev main_call28_v1 : Ref sig .tc := ⟨.hbm, 566, rfl⟩
abbrev main_v96 : Ref sig .tc := ⟨.hbm, 567, rfl⟩
abbrev main_v97 : Ref sig .tc := ⟨.hbm, 568, rfl⟩
abbrev main_c_50 : Ref sig .tc := ⟨.hbm, 569, rfl⟩
abbrev main_call29_v0 : Ref sig .tc := ⟨.hbm, 570, rfl⟩
abbrev main_call29_v1 : Ref sig .tc := ⟨.hbm, 571, rfl⟩
abbrev main_call29_v2 : Ref sig .tc := ⟨.hbm, 572, rfl⟩
abbrev main_call29_v3 : Ref sig .tc := ⟨.hbm, 573, rfl⟩
abbrev main_call29_v4 : Ref sig .tc := ⟨.hbm, 574, rfl⟩
abbrev main_call29_v5 : Ref sig .tc := ⟨.hbm, 575, rfl⟩
abbrev main_call29_v6 : Ref sig .tc := ⟨.hbm, 576, rfl⟩
abbrev main_call29_v7 : Ref sig .tc := ⟨.hbm, 577, rfl⟩
abbrev main_call29_v8 : Ref sig .tc := ⟨.hbm, 578, rfl⟩
abbrev main_call29_c : Ref sig .tc := ⟨.hbm, 579, rfl⟩
abbrev main_call29_v9 : Ref sig .tc := ⟨.hbm, 580, rfl⟩
abbrev main_call29_v10 : Ref sig .tc := ⟨.hbm, 581, rfl⟩
abbrev main_call29_v11 : Ref sig .tc := ⟨.hbm, 582, rfl⟩
abbrev main_call29_c_0 : Ref sig .tc := ⟨.hbm, 583, rfl⟩
abbrev main_call29_v12 : Ref sig .tc := ⟨.hbm, 584, rfl⟩
abbrev main_call29_v13 : Ref sig .tc := ⟨.hbm, 585, rfl⟩
abbrev main_v98 : Ref sig .tc := ⟨.hbm, 586, rfl⟩
abbrev main_c_51 : Ref sig .tc := ⟨.hbm, 587, rfl⟩
abbrev main_call30_v0 : Ref sig .tc := ⟨.hbm, 588, rfl⟩
abbrev main_call30_v1 : Ref sig .tc := ⟨.hbm, 589, rfl⟩
abbrev main_call30_v2 : Ref sig .tc := ⟨.hbm, 590, rfl⟩
abbrev main_call30_v3 : Ref sig .tc := ⟨.hbm, 591, rfl⟩
abbrev main_call30_v4 : Ref sig .tc := ⟨.hbm, 592, rfl⟩
abbrev main_call30_v5 : Ref sig .tc := ⟨.hbm, 593, rfl⟩
abbrev main_call30_v6 : Ref sig .tc := ⟨.hbm, 594, rfl⟩
abbrev main_call30_v7 : Ref sig .tc := ⟨.hbm, 595, rfl⟩
abbrev main_call30_v8 : Ref sig .tc := ⟨.hbm, 596, rfl⟩
abbrev main_call30_c : Ref sig .tc := ⟨.hbm, 597, rfl⟩
abbrev main_call30_v9 : Ref sig .tc := ⟨.hbm, 598, rfl⟩
abbrev main_call30_v10 : Ref sig .tc := ⟨.hbm, 599, rfl⟩
abbrev main_call30_v11 : Ref sig .tc := ⟨.hbm, 600, rfl⟩
abbrev main_call30_c_0 : Ref sig .tc := ⟨.hbm, 601, rfl⟩
abbrev main_call30_v12 : Ref sig .tc := ⟨.hbm, 602, rfl⟩
abbrev main_call30_v13 : Ref sig .tc := ⟨.hbm, 603, rfl⟩
abbrev main_v99 : Ref sig .tc := ⟨.hbm, 604, rfl⟩
abbrev main_v100 : Ref sig .tc := ⟨.hbm, 605, rfl⟩
abbrev main_c_52 : Ref sig .tc := ⟨.hbm, 606, rfl⟩
abbrev main_call31_v0 : Ref sig .tc := ⟨.hbm, 607, rfl⟩
abbrev main_call31_c : Ref sig .tc := ⟨.hbm, 608, rfl⟩
abbrev main_call31_v1 : Ref sig .tc := ⟨.hbm, 609, rfl⟩
abbrev main_call31_c_0 : Ref sig .tc := ⟨.hbm, 610, rfl⟩
abbrev main_call31_v2 : Ref sig .tc := ⟨.hbm, 611, rfl⟩
abbrev main_call31_v3 : Ref sig .tc := ⟨.hbm, 612, rfl⟩
abbrev main_call31_v4 : Ref sig .tc := ⟨.hbm, 613, rfl⟩
abbrev main_call31_c_1 : Ref sig .tc := ⟨.hbm, 614, rfl⟩
abbrev main_call31_v5 : Ref sig .tc := ⟨.hbm, 615, rfl⟩
abbrev main_call31_v6 : Ref sig .tc := ⟨.hbm, 616, rfl⟩
abbrev main_call31_c_2 : Ref sig .tc := ⟨.hbm, 617, rfl⟩
abbrev main_call31_v7 : Ref sig .tc := ⟨.hbm, 618, rfl⟩
abbrev main_call31_v8 : Ref sig .tc := ⟨.hbm, 619, rfl⟩
abbrev main_call31_c_3 : Ref sig .tc := ⟨.hbm, 620, rfl⟩
abbrev main_call31_v9 : Ref sig .tc := ⟨.hbm, 621, rfl⟩
abbrev main_call31_v10 : Ref sig .tc := ⟨.hbm, 622, rfl⟩
abbrev main_call31_v11 : Ref sig .tc := ⟨.hbm, 623, rfl⟩
abbrev main_call31_v12 : Ref sig .tc := ⟨.hbm, 624, rfl⟩
abbrev main_call31_v13 : Ref sig .tc := ⟨.hbm, 625, rfl⟩
abbrev main_call31_v14 : Ref sig .tc := ⟨.hbm, 626, rfl⟩
abbrev main_v101 : Ref sig .tc := ⟨.hbm, 627, rfl⟩
abbrev main_c_53 : Ref sig .tc := ⟨.hbm, 628, rfl⟩
abbrev main_v102 : Ref sig .tc := ⟨.hbm, 629, rfl⟩
abbrev main_v103 : Ref sig .tc := ⟨.hbm, 630, rfl⟩
abbrev main_v104 : Ref sig .tc := ⟨.hbm, 631, rfl⟩
abbrev main_c_54 : Ref sig .tc := ⟨.hbm, 632, rfl⟩
abbrev main_call32_v0 : Ref sig .tc := ⟨.hbm, 633, rfl⟩
abbrev main_call32_c : Ref sig .tc := ⟨.hbm, 634, rfl⟩
abbrev main_call32_v1 : Ref sig .tc := ⟨.hbm, 635, rfl⟩
abbrev main_call32_c_0 : Ref sig .tc := ⟨.hbm, 636, rfl⟩
abbrev main_call32_v2 : Ref sig .tc := ⟨.hbm, 637, rfl⟩
abbrev main_call32_v3 : Ref sig .tc := ⟨.hbm, 638, rfl⟩
abbrev main_call32_v4 : Ref sig .tc := ⟨.hbm, 639, rfl⟩
abbrev main_call32_c_1 : Ref sig .tc := ⟨.hbm, 640, rfl⟩
abbrev main_call32_v5 : Ref sig .tc := ⟨.hbm, 641, rfl⟩
abbrev main_call32_v6 : Ref sig .tc := ⟨.hbm, 642, rfl⟩
abbrev main_call32_c_2 : Ref sig .tc := ⟨.hbm, 643, rfl⟩
abbrev main_call32_v7 : Ref sig .tc := ⟨.hbm, 644, rfl⟩
abbrev main_call32_v8 : Ref sig .tc := ⟨.hbm, 645, rfl⟩
abbrev main_call32_c_3 : Ref sig .tc := ⟨.hbm, 646, rfl⟩
abbrev main_call32_v9 : Ref sig .tc := ⟨.hbm, 647, rfl⟩
abbrev main_call32_v10 : Ref sig .tc := ⟨.hbm, 648, rfl⟩
abbrev main_call32_v11 : Ref sig .tc := ⟨.hbm, 649, rfl⟩
abbrev main_call32_v12 : Ref sig .tc := ⟨.hbm, 650, rfl⟩
abbrev main_call32_v13 : Ref sig .tc := ⟨.hbm, 651, rfl⟩
abbrev main_call32_v14 : Ref sig .tc := ⟨.hbm, 652, rfl⟩
abbrev main_v105 : Ref sig .tc := ⟨.hbm, 653, rfl⟩
abbrev main_c_55 : Ref sig .tc := ⟨.hbm, 654, rfl⟩
abbrev main_v106 : Ref sig .tc := ⟨.hbm, 655, rfl⟩
abbrev main_v107 : Ref sig .tc := ⟨.hbm, 656, rfl⟩
abbrev main_v108 : Ref sig .tc := ⟨.hbm, 657, rfl⟩
abbrev main_cst_56 : Ref sig .tc := ⟨.hbm, 658, rfl⟩
abbrev main_cst_57 : Ref sig .tc := ⟨.hbm, 659, rfl⟩
abbrev main_call33_v0 : Ref sig .tc := ⟨.hbm, 660, rfl⟩
abbrev main_call33_v1 : Ref sig .tc := ⟨.hbm, 661, rfl⟩
abbrev main_v109 : Ref sig .tc := ⟨.hbm, 662, rfl⟩
abbrev main_v110 : Ref sig .tc := ⟨.hbm, 663, rfl⟩
abbrev main_v111 : Ref sig .tc := ⟨.hbm, 664, rfl⟩
abbrev main_v112 : Ref sig .tc := ⟨.hbm, 665, rfl⟩
abbrev main_v113 : Ref sig .tc := ⟨.hbm, 666, rfl⟩
abbrev main_v114 : Ref sig .tc := ⟨.hbm, 667, rfl⟩
abbrev main_v115 : Ref sig .tc := ⟨.hbm, 668, rfl⟩
abbrev main_v116 : Ref sig .tc := ⟨.hbm, 669, rfl⟩
abbrev main_v117 : Ref sig .tc := ⟨.hbm, 670, rfl⟩
abbrev main_v118 : Ref sig .tc := ⟨.hbm, 671, rfl⟩
abbrev main_v119 : Ref sig .tc := ⟨.hbm, 672, rfl⟩
abbrev main_v120 : Ref sig .tc := ⟨.hbm, 673, rfl⟩
abbrev main_v121 : Ref sig .tc := ⟨.hbm, 674, rfl⟩
abbrev main_v122 : Ref sig .tc := ⟨.hbm, 675, rfl⟩
abbrev main_v123 : Ref sig .tc := ⟨.hbm, 676, rfl⟩
abbrev main_v124_0 : Ref sig .tc := ⟨.hbm, 677, rfl⟩
abbrev main_v124_1 : Ref sig .tc := ⟨.hbm, 678, rfl⟩
abbrev main_v124_2 : Ref sig .tc := ⟨.hbm, 679, rfl⟩
abbrev main_v124_3 : Ref sig .tc := ⟨.hbm, 680, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3592 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S16x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x2816 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S176x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4x8192x1024 : Shape := ⟨3, ![4, 8192, 1024]⟩
abbrev S4x6x1024 : Shape := ⟨3, ![4, 6, 1024]⟩
abbrev S1x1024 : Shape := ⟨2, ![1, 1024]⟩
abbrev S1x1024x3592 : Shape := ⟨3, ![1, 1024, 3592]⟩
abbrev S1x4x1536 : Shape := ⟨3, ![1, 4, 1536]⟩
abbrev S1x4 : Shape := ⟨2, ![1, 4]⟩
abbrev S1x128 : Shape := ⟨2, ![1, 128]⟩
abbrev S1x3x512 : Shape := ⟨3, ![1, 3, 512]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S4x1x1024 : Shape := ⟨3, ![4, 1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x1536 : Shape := ⟨3, ![1, 1024, 1536]⟩
abbrev S1024x1536 : Shape := ⟨2, ![1024, 1536]⟩
abbrev S4x8192x1536 : Shape := ⟨3, ![4, 8192, 1536]⟩
abbrev S4x1536 : Shape := ⟨2, ![4, 1536]⟩
abbrev S4x8195x1536 : Shape := ⟨3, ![4, 8195, 1536]⟩
abbrev S1x1536 : Shape := ⟨2, ![1, 1536]⟩
abbrev S1536 : Shape := ⟨1, ![1536]⟩
abbrev S1x1x1536 : Shape := ⟨3, ![1, 1, 1536]⟩
abbrev S4x8192x512 : Shape := ⟨3, ![4, 8192, 512]⟩
abbrev S4x8192x4x128 : Shape := ⟨4, ![4, 8192, 4, 128]⟩
abbrev S4 : Shape := ⟨1, ![4]⟩
abbrev S1x1024x4 : Shape := ⟨3, ![1, 1024, 4]⟩
abbrev S1024x4 : Shape := ⟨2, ![1024, 4]⟩
abbrev S4x8192x4 : Shape := ⟨3, ![4, 8192, 4]⟩
abbrev S1x1x4 : Shape := ⟨3, ![1, 1, 4]⟩
abbrev S4x8192x4x1 : Shape := ⟨4, ![4, 8192, 4, 1]⟩
abbrev S4x128x64x4x128 : Shape := ⟨5, ![4, 128, 64, 4, 128]⟩
abbrev S4x4x128x64x128 : Shape := ⟨5, ![4, 4, 128, 64, 128]⟩
abbrev S4x128x64x4 : Shape := ⟨4, ![4, 128, 64, 4]⟩
abbrev S4x4x128x64 : Shape := ⟨4, ![4, 4, 128, 64]⟩
abbrev S4x4x128x64x1 : Shape := ⟨5, ![4, 4, 128, 64, 1]⟩
abbrev S64x64 : Shape := ⟨2, ![64, 64]⟩
abbrev S4x4x128x1x64 : Shape := ⟨5, ![4, 4, 128, 1, 64]⟩
abbrev S4x4x128x64x64 : Shape := ⟨5, ![4, 4, 128, 64, 64]⟩
abbrev S4x4x128x1 : Shape := ⟨4, ![4, 4, 128, 1]⟩
abbrev S4x4x128 : Shape := ⟨3, ![4, 4, 128]⟩
abbrev S128x4x4x64x128 : Shape := ⟨5, ![128, 4, 4, 64, 128]⟩
abbrev S128x4x4x64x64 : Shape := ⟨5, ![128, 4, 4, 64, 64]⟩
abbrev S128x4x4 : Shape := ⟨3, ![128, 4, 4]⟩
abbrev S4x4x128x128 : Shape := ⟨4, ![4, 4, 128, 128]⟩
abbrev S1x4x4x64x128 : Shape := ⟨5, ![1, 4, 4, 64, 128]⟩
abbrev S4x4x64x128 : Shape := ⟨4, ![4, 4, 64, 128]⟩
abbrev S1x4x4x64x64 : Shape := ⟨5, ![1, 4, 4, 64, 64]⟩
abbrev S4x4x64x64 : Shape := ⟨4, ![4, 4, 64, 64]⟩
abbrev S1x4x4 : Shape := ⟨3, ![1, 4, 4]⟩
abbrev S4x4 : Shape := ⟨2, ![4, 4]⟩
abbrev S4x4x1x1 : Shape := ⟨4, ![4, 4, 1, 1]⟩
abbrev S128 : Shape := ⟨1, ![128]⟩
abbrev S1x1x1x128 : Shape := ⟨4, ![1, 1, 1, 128]⟩
abbrev S1x1024x512 : Shape := ⟨3, ![1, 1024, 512]⟩
abbrev S1024x512 : Shape := ⟨2, ![1024, 512]⟩
abbrev S3x512 : Shape := ⟨2, ![3, 512]⟩
abbrev S4x8194x512 : Shape := ⟨3, ![4, 8194, 512]⟩
abbrev S1x512 : Shape := ⟨2, ![1, 512]⟩
abbrev S512 : Shape := ⟨1, ![512]⟩
abbrev S1x1x512 : Shape := ⟨3, ![1, 1, 512]⟩
abbrev S1024x1024 : Shape := ⟨2, ![1024, 1024]⟩
abbrev S1024x2816 : Shape := ⟨2, ![1024, 2816]⟩
abbrev S2816x1024 : Shape := ⟨2, ![2816, 1024]⟩

abbrev nBuf : Space → Nat
  | .hbm => 680
  | .vmem => 0
  | .smem => 0
  | _ => 0

abbrev hbmTy0_0 (i : Nat) : BufTy := match i % 128 with
  | 0 => ⟨S4x8192x1024, .f32⟩
  | 1 => ⟨S4x6x1024, .f32⟩
  | 2 => ⟨S1x1024, .f32⟩
  | 3 => ⟨S1x1024x3592, .f32⟩
  | 4 => ⟨S1x4x1536, .f32⟩
  | 5 => ⟨S1x4, .f32⟩
  | 6 => ⟨S1x4, .f32⟩
  | 7 => ⟨S1x128, .f32⟩
  | 8 => ⟨S1x3x512, .f32⟩
  | 9 => ⟨S1x1024x1024, .f32⟩
  | 10 => ⟨S1x1024x2816, .f32⟩
  | 11 => ⟨S1x1024x2816, .f32⟩
  | 12 => ⟨S1x2816x1024, .f32⟩
  | 13 => ⟨S4x1x1024, .f32⟩
  | 14 => ⟨S4x1x1024, .f32⟩
  | 15 => ⟨S1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S_, .f32⟩
  | 24 => ⟨S4x8192x1, .f32⟩
  | 25 => ⟨S4x8192x1, .f32⟩
  | 26 => ⟨S4x8192x1, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S_, .f32⟩
  | 33 => ⟨S4x1x1024, .f32⟩
  | 34 => ⟨S4x1x1024, .f32⟩
  | 35 => ⟨S4x8192x1024, .f32⟩
  | 36 => ⟨S4x8192x1024, .f32⟩
  | 37 => ⟨S4x8192x1024, .f32⟩
  | 38 => ⟨S4x8192x1024, .f32⟩
  | 39 => ⟨S1x1024x1536, .f32⟩
  | 40 => ⟨S1024x1536, .f32⟩
  | 41 => ⟨S4x8192x1536, .f32⟩
  | 42 => ⟨S4x1536, .f32⟩
  | 43 => ⟨S_, .i32⟩
  | 44 => ⟨S_, .f32⟩
  | 45 => ⟨S4x8195x1536, .f32⟩
  | 46 => ⟨S4x8192x1536, .f32⟩
  | 47 => ⟨S1x1536, .f32⟩
  | 48 => ⟨S1536, .f32⟩
  | 49 => ⟨S1x1x1536, .f32⟩
  | 50 => ⟨S4x8192x1536, .f32⟩
  | 51 => ⟨S4x8192x1536, .f32⟩
  | 52 => ⟨S4x8192x1536, .f32⟩
  | 53 => ⟨S1x1536, .f32⟩
  | 54 => ⟨S1536, .f32⟩
  | 55 => ⟨S1x1x1536, .f32⟩
  | 56 => ⟨S4x8192x1536, .f32⟩
  | 57 => ⟨S4x8192x1536, .f32⟩
  | 58 => ⟨S4x8192x1536, .f32⟩
  | 59 => ⟨S4x8192x1536, .f32⟩
  | 60 => ⟨S1x1536, .f32⟩
  | 61 => ⟨S1536, .f32⟩
  | 62 => ⟨S1x1x1536, .f32⟩
  | 63 => ⟨S4x8192x1536, .f32⟩
  | 64 => ⟨S4x8192x1536, .f32⟩
  | 65 => ⟨S4x8192x1536, .f32⟩
  | 66 => ⟨S4x8192x1536, .f32⟩
  | 67 => ⟨S1x1536, .f32⟩
  | 68 => ⟨S1536, .f32⟩
  | 69 => ⟨S1x1x1536, .f32⟩
  | 70 => ⟨S4x8192x1536, .f32⟩
  | 71 => ⟨S4x8192x1536, .f32⟩
  | 72 => ⟨S4x8192x1536, .f32⟩
  | 73 => ⟨S4x8192x1536, .f32⟩
  | 74 => ⟨S4x8192x1536, .f32⟩
  | 75 => ⟨S_, .f32⟩
  | 76 => ⟨S4x8192x1536, .f32⟩
  | 77 => ⟨S4x8192x1536, .f32⟩
  | 78 => ⟨S_, .f32⟩
  | 79 => ⟨S4x8192x1536, .f32⟩
  | 80 => ⟨S4x8192x1536, .f32⟩
  | 81 => ⟨S4x8192x1536, .f32⟩
  | 82 => ⟨S4x8192x512, .f32⟩
  | 83 => ⟨S4x8192x4x128, .f32⟩
  | 84 => ⟨S4x8192x512, .f32⟩
  | 85 => ⟨S4x8192x4x128, .f32⟩
  | 86 => ⟨S4x8192x512, .f32⟩
  | 87 => ⟨S4x8192x4x128, .f32⟩
  | 88 => ⟨S4, .f32⟩
  | 89 => ⟨S4, .f32⟩
  | 90 => ⟨S4, .f32⟩
  | 91 => ⟨S4x1x1024, .f32⟩
  | 92 => ⟨S4x1x1024, .f32⟩
  | 93 => ⟨S1024, .f32⟩
  | 94 => ⟨S4x8192x1024, .f32⟩
  | 95 => ⟨S_, .f32⟩
  | 96 => ⟨S4x8192, .f32⟩
  | 97 => ⟨S4x8192x1, .f32⟩
  | 98 => ⟨S_, .f32⟩
  | 99 => ⟨S4x8192x1, .f32⟩
  | 100 => ⟨S4x8192x1, .f32⟩
  | 101 => ⟨S_, .f32⟩
  | 102 => ⟨S4x8192x1, .f32⟩
  | 103 => ⟨S4x8192x1, .f32⟩
  | 104 => ⟨S4x8192x1, .f32⟩
  | 105 => ⟨S4x8192x1024, .f32⟩
  | 106 => ⟨S4x8192x1024, .f32⟩
  | 107 => ⟨S1x1x1024, .f32⟩
  | 108 => ⟨S4x8192x1024, .f32⟩
  | 109 => ⟨S4x8192x1024, .f32⟩
  | 110 => ⟨S_, .f32⟩
  | 111 => ⟨S4x1x1024, .f32⟩
  | 112 => ⟨S4x1x1024, .f32⟩
  | 113 => ⟨S4x8192x1024, .f32⟩
  | 114 => ⟨S4x8192x1024, .f32⟩
  | 115 => ⟨S4x8192x1024, .f32⟩
  | 116 => ⟨S4x8192x1024, .f32⟩
  | 117 => ⟨S1x1024x4, .f32⟩
  | 118 => ⟨S1024x4, .f32⟩
  | 119 => ⟨S4x8192x4, .f32⟩
  | 120 => ⟨S4, .f32⟩
  | 121 => ⟨S1x1x4, .f32⟩
  | 122 => ⟨S4x8192x4, .f32⟩
  | 123 => ⟨S4x8192x4, .f32⟩
  | 124 => ⟨S_, .f32⟩
  | 125 => ⟨S4x8192x4, .f32⟩
  | 126 => ⟨S4x8192x4, .f32⟩
  | 127 => ⟨S4x8192x4, .f32⟩
  | _ => ⟨S4x8192x1024, .f32⟩

abbrev hbmTy0_1 (i : Nat) : BufTy := match i % 128 with
  | 0 => ⟨S4x8192x4, .f32⟩
  | 1 => ⟨S4x8192x4, .i1⟩
  | 2 => ⟨S4x8192x4, .f32⟩
  | 3 => ⟨S4x8192x4, .f32⟩
  | 4 => ⟨S4x8192x4, .f32⟩
  | 5 => ⟨S4x8192x4, .f32⟩
  | 6 => ⟨S4x8192x4, .f32⟩
  | 7 => ⟨S4x8192x4, .f32⟩
  | 8 => ⟨S4x8192x4, .f32⟩
  | 9 => ⟨S4x8192x4, .f32⟩
  | 10 => ⟨S1x1x4, .f32⟩
  | 11 => ⟨S4x8192x4, .f32⟩
  | 12 => ⟨S4x8192x4, .f32⟩
  | 13 => ⟨S4x1x1024, .f32⟩
  | 14 => ⟨S4x1x1024, .f32⟩
  | 15 => ⟨S1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S_, .f32⟩
  | 24 => ⟨S4x8192x1, .f32⟩
  | 25 => ⟨S4x8192x1, .f32⟩
  | 26 => ⟨S4x8192x1, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S_, .f32⟩
  | 33 => ⟨S4x1x1024, .f32⟩
  | 34 => ⟨S4x1x1024, .f32⟩
  | 35 => ⟨S4x8192x1024, .f32⟩
  | 36 => ⟨S4x8192x1024, .f32⟩
  | 37 => ⟨S4x8192x1024, .f32⟩
  | 38 => ⟨S4x8192x1024, .f32⟩
  | 39 => ⟨S1x1024x4, .f32⟩
  | 40 => ⟨S1024x4, .f32⟩
  | 41 => ⟨S4x8192x4, .f32⟩
  | 42 => ⟨S4x8192x4, .f32⟩
  | 43 => ⟨S4x8192x4, .f32⟩
  | 44 => ⟨S_, .f32⟩
  | 45 => ⟨S4x8192x4, .f32⟩
  | 46 => ⟨S4x8192x4, .f32⟩
  | 47 => ⟨S_, .f32⟩
  | 48 => ⟨S4x8192x4, .f32⟩
  | 49 => ⟨S4x8192x4, .f32⟩
  | 50 => ⟨S4x8192x4x128, .f32⟩
  | 51 => ⟨S_, .f32⟩
  | 52 => ⟨S4x8192x4, .f32⟩
  | 53 => ⟨S4x8192x4x1, .f32⟩
  | 54 => ⟨S_, .f32⟩
  | 55 => ⟨S4x8192x4x1, .f32⟩
  | 56 => ⟨S4x8192x4x1, .f32⟩
  | 57 => ⟨S4x8192x4x1, .f32⟩
  | 58 => ⟨S4x8192x4x128, .f32⟩
  | 59 => ⟨S4x8192x4x128, .f32⟩
  | 60 => ⟨S4x8192x4x128, .f32⟩
  | 61 => ⟨S_, .f32⟩
  | 62 => ⟨S4x8192x4, .f32⟩
  | 63 => ⟨S4x8192x4x1, .f32⟩
  | 64 => ⟨S_, .f32⟩
  | 65 => ⟨S4x8192x4x1, .f32⟩
  | 66 => ⟨S4x8192x4x1, .f32⟩
  | 67 => ⟨S4x8192x4x1, .f32⟩
  | 68 => ⟨S4x8192x4x128, .f32⟩
  | 69 => ⟨S4x8192x4x128, .f32⟩
  | 70 => ⟨S4x128x64x4x128, .f32⟩
  | 71 => ⟨S4x4x128x64x128, .f32⟩
  | 72 => ⟨S_, .f32⟩
  | 73 => ⟨S4x4x128x64x128, .f32⟩
  | 74 => ⟨S4x4x128x64x128, .f32⟩
  | 75 => ⟨S4x128x64x4x128, .f32⟩
  | 76 => ⟨S4x4x128x64x128, .f32⟩
  | 77 => ⟨S4x128x64x4x128, .f32⟩
  | 78 => ⟨S4x4x128x64x128, .f32⟩
  | 79 => ⟨S4x128x64x4, .f32⟩
  | 80 => ⟨S4x4x128x64, .f32⟩
  | 81 => ⟨S4x128x64x4, .f32⟩
  | 82 => ⟨S4x4x128x64, .f32⟩
  | 83 => ⟨S_, .f32⟩
  | 84 => ⟨S_, .f32⟩
  | 85 => ⟨S4x4x128x64, .f32⟩
  | 86 => ⟨S4x4x128x64x1, .f32⟩
  | 87 => ⟨S4x4x128x64x128, .f32⟩
  | 88 => ⟨S4x4x128x64x128, .f32⟩
  | 89 => ⟨S4x4x128x64x1, .f32⟩
  | 90 => ⟨S4x4x128x64x128, .f32⟩
  | 91 => ⟨S4x4x128x64x128, .f32⟩
  | 92 => ⟨S_, .i1⟩
  | 93 => ⟨S64x64, .i1⟩
  | 94 => ⟨S64x64, .i32⟩
  | 95 => ⟨S_, .i32⟩
  | 96 => ⟨S64x64, .i32⟩
  | 97 => ⟨S64x64, .i32⟩
  | 98 => ⟨S64x64, .i32⟩
  | 99 => ⟨S64x64, .i1⟩
  | 100 => ⟨S_, .i1⟩
  | 101 => ⟨S64x64, .i1⟩
  | 102 => ⟨S64x64, .i1⟩
  | 103 => ⟨S_, .i1⟩
  | 104 => ⟨S64x64, .i1⟩
  | 105 => ⟨S64x64, .i32⟩
  | 106 => ⟨S_, .i32⟩
  | 107 => ⟨S64x64, .i32⟩
  | 108 => ⟨S64x64, .i32⟩
  | 109 => ⟨S64x64, .i32⟩
  | 110 => ⟨S64x64, .i1⟩
  | 111 => ⟨S_, .i1⟩
  | 112 => ⟨S64x64, .i1⟩
  | 113 => ⟨S64x64, .i1⟩
  | 114 => ⟨S4x4x128x64x1, .f32⟩
  | 115 => ⟨S4x4x128x1x64, .f32⟩
  | 116 => ⟨S4x4x128x64x64, .f32⟩
  | 117 => ⟨S4x4x128x64x64, .f32⟩
  | 118 => ⟨S4x4x128x64x64, .f32⟩
  | 119 => ⟨S_, .f32⟩
  | 120 => ⟨S_, .f32⟩
  | 121 => ⟨S4x4x128x64x64, .i1⟩
  | 122 => ⟨S4x4x128x64x64, .f32⟩
  | 123 => ⟨S4x4x128x64x64, .f32⟩
  | 124 => ⟨S4x4x128x64x64, .f32⟩
  | 125 => ⟨S4x4x128x64x64, .f32⟩
  | 126 => ⟨S4x4x128x64x64, .f32⟩
  | 127 => ⟨S_, .f32⟩
  | _ => ⟨S4x8192x1024, .f32⟩

abbrev hbmTy0_2 (i : Nat) : BufTy := match i % 128 with
  | 0 => ⟨S_, .f32⟩
  | 1 => ⟨S4x4x128x64x64, .i1⟩
  | 2 => ⟨S4x4x128x64x64, .f32⟩
  | 3 => ⟨S4x4x128x64x64, .f32⟩
  | 4 => ⟨S64x64, .i32⟩
  | 5 => ⟨S64x64, .i32⟩
  | 6 => ⟨S_, .i32⟩
  | 7 => ⟨S64x64, .i32⟩
  | 8 => ⟨S64x64, .i32⟩
  | 9 => ⟨S64x64, .i1⟩
  | 10 => ⟨S64x64, .f32⟩
  | 11 => ⟨S4x4x128x64x64, .f32⟩
  | 12 => ⟨S4x4x128x64x64, .f32⟩
  | 13 => ⟨S4x4x128x64x64, .f32⟩
  | 14 => ⟨S4x4x128x64x64, .f32⟩
  | 15 => ⟨S4x4x128x64x64, .f32⟩
  | 16 => ⟨S4x4x128x64x64, .f32⟩
  | 17 => ⟨S4x4x128x64x64, .f32⟩
  | 18 => ⟨S4x4x128x64x64, .f32⟩
  | 19 => ⟨S4x4x128x64x64, .f32⟩
  | 20 => ⟨S4x4x128x64x64, .f32⟩
  | 21 => ⟨S4x4x128x64x64, .f32⟩
  | 22 => ⟨S4x4x128x64x64, .f32⟩
  | 23 => ⟨S4x4x128x64x64, .f32⟩
  | 24 => ⟨S4x4x128x64x64, .f32⟩
  | 25 => ⟨S4x4x128x64x64, .f32⟩
  | 26 => ⟨S4x4x128x64x64, .f32⟩
  | 27 => ⟨S4x4x128x64x64, .f32⟩
  | 28 => ⟨S4x4x128x64x64, .f32⟩
  | 29 => ⟨S4x4x128x64x64, .f32⟩
  | 30 => ⟨S4x4x128x64x64, .f32⟩
  | 31 => ⟨S4x4x128x64x64, .f32⟩
  | 32 => ⟨S4x4x128x64x64, .f32⟩
  | 33 => ⟨S4x4x128x64x64, .f32⟩
  | 34 => ⟨S4x4x128x64x64, .f32⟩
  | 35 => ⟨S4x4x128x64x64, .f32⟩
  | 36 => ⟨S4x4x128x64x64, .f32⟩
  | 37 => ⟨S4x4x128x64x64, .f32⟩
  | 38 => ⟨S4x4x128x64x64, .f32⟩
  | 39 => ⟨S4x4x128x64x64, .f32⟩
  | 40 => ⟨S4x4x128x64x64, .f32⟩
  | 41 => ⟨S4x4x128x64x64, .f32⟩
  | 42 => ⟨S4x4x128x64x64, .f32⟩
  | 43 => ⟨S4x4x128x64x64, .f32⟩
  | 44 => ⟨S4x4x128x64x64, .f32⟩
  | 45 => ⟨S4x4x128x64x64, .f32⟩
  | 46 => ⟨S4x4x128x64x64, .f32⟩
  | 47 => ⟨S4x4x128x64x64, .f32⟩
  | 48 => ⟨S4x4x128x64x64, .f32⟩
  | 49 => ⟨S4x4x128x64x64, .f32⟩
  | 50 => ⟨S4x4x128x64x64, .f32⟩
  | 51 => ⟨S4x4x128x64x64, .f32⟩
  | 52 => ⟨S4x4x128x64x64, .f32⟩
  | 53 => ⟨S4x4x128x64x64, .f32⟩
  | 54 => ⟨S4x4x128x64x64, .f32⟩
  | 55 => ⟨S4x4x128x64x64, .f32⟩
  | 56 => ⟨S4x4x128x64x64, .f32⟩
  | 57 => ⟨S4x4x128x64x64, .f32⟩
  | 58 => ⟨S4x4x128x64x64, .f32⟩
  | 59 => ⟨S4x4x128x64x64, .f32⟩
  | 60 => ⟨S4x4x128x64x64, .f32⟩
  | 61 => ⟨S4x4x128x64x64, .f32⟩
  | 62 => ⟨S4x4x128x64x64, .f32⟩
  | 63 => ⟨S4x4x128x64x64, .f32⟩
  | 64 => ⟨S4x4x128x64x64, .f32⟩
  | 65 => ⟨S4x4x128x64x64, .f32⟩
  | 66 => ⟨S4x4x128x64x64, .f32⟩
  | 67 => ⟨S4x4x128x64x64, .f32⟩
  | 68 => ⟨S4x4x128x64x64, .f32⟩
  | 69 => ⟨S4x4x128x64x64, .f32⟩
  | 70 => ⟨S4x4x128x64x64, .f32⟩
  | 71 => ⟨S4x4x128x64x64, .f32⟩
  | 72 => ⟨S4x4x128x64x64, .f32⟩
  | 73 => ⟨S4x4x128x64x64, .f32⟩
  | 74 => ⟨S4x4x128x64x64, .f32⟩
  | 75 => ⟨S4x4x128x64x64, .f32⟩
  | 76 => ⟨S4x4x128x64x64, .f32⟩
  | 77 => ⟨S4x4x128x64x64, .f32⟩
  | 78 => ⟨S4x4x128x64x64, .f32⟩
  | 79 => ⟨S4x4x128x64x64, .f32⟩
  | 80 => ⟨S4x4x128x64x64, .f32⟩
  | 81 => ⟨S4x4x128x64x64, .f32⟩
  | 82 => ⟨S4x4x128x64x64, .f32⟩
  | 83 => ⟨S4x4x128x64x64, .f32⟩
  | 84 => ⟨S4x4x128x64x64, .f32⟩
  | 85 => ⟨S4x4x128x64x64, .f32⟩
  | 86 => ⟨S4x4x128x64x64, .f32⟩
  | 87 => ⟨S4x4x128x64x64, .f32⟩
  | 88 => ⟨S4x4x128x64x64, .f32⟩
  | 89 => ⟨S4x4x128x64x64, .f32⟩
  | 90 => ⟨S4x4x128x64x64, .f32⟩
  | 91 => ⟨S4x4x128x64x64, .f32⟩
  | 92 => ⟨S4x4x128x64x64, .f32⟩
  | 93 => ⟨S4x4x128x64x64, .f32⟩
  | 94 => ⟨S4x4x128x64x64, .f32⟩
  | 95 => ⟨S4x4x128x64x64, .f32⟩
  | 96 => ⟨S4x4x128x64x64, .f32⟩
  | 97 => ⟨S4x4x128x64x64, .f32⟩
  | 98 => ⟨S4x4x128x64x64, .f32⟩
  | 99 => ⟨S4x4x128x64x64, .f32⟩
  | 100 => ⟨S4x4x128x64x64, .f32⟩
  | 101 => ⟨S4x4x128x64x64, .f32⟩
  | 102 => ⟨S4x4x128x64x64, .f32⟩
  | 103 => ⟨S4x4x128x64x64, .f32⟩
  | 104 => ⟨S4x4x128x64x64, .f32⟩
  | 105 => ⟨S4x4x128x64x64, .f32⟩
  | 106 => ⟨S4x4x128x64x64, .f32⟩
  | 107 => ⟨S4x4x128x64x64, .f32⟩
  | 108 => ⟨S4x4x128x64x64, .f32⟩
  | 109 => ⟨S4x4x128x64x64, .f32⟩
  | 110 => ⟨S4x4x128x64x64, .f32⟩
  | 111 => ⟨S4x4x128x64x64, .f32⟩
  | 112 => ⟨S4x4x128x64x64, .f32⟩
  | 113 => ⟨S4x4x128x64x64, .f32⟩
  | 114 => ⟨S4x4x128x64x64, .f32⟩
  | 115 => ⟨S4x4x128x64x64, .f32⟩
  | 116 => ⟨S4x4x128x64x64, .f32⟩
  | 117 => ⟨S4x4x128x64x64, .f32⟩
  | 118 => ⟨S4x4x128x64x64, .f32⟩
  | 119 => ⟨S4x4x128x64x64, .f32⟩
  | 120 => ⟨S4x4x128x64x64, .f32⟩
  | 121 => ⟨S4x4x128x64x64, .f32⟩
  | 122 => ⟨S4x4x128x64x64, .f32⟩
  | 123 => ⟨S4x4x128x64x64, .f32⟩
  | 124 => ⟨S4x4x128x64x64, .f32⟩
  | 125 => ⟨S4x4x128x64x64, .f32⟩
  | 126 => ⟨S4x4x128x64x64, .f32⟩
  | 127 => ⟨S4x4x128x64x64, .f32⟩
  | _ => ⟨S4x8192x1024, .f32⟩

abbrev hbmTy0_3 (i : Nat) : BufTy := match i % 128 with
  | 0 => ⟨S4x4x128x64x64, .f32⟩
  | 1 => ⟨S4x4x128x64x64, .f32⟩
  | 2 => ⟨S4x4x128x64x64, .f32⟩
  | 3 => ⟨S4x4x128x64x64, .f32⟩
  | 4 => ⟨S4x4x128x64x64, .f32⟩
  | 5 => ⟨S4x4x128x64x64, .f32⟩
  | 6 => ⟨S4x4x128x64x64, .f32⟩
  | 7 => ⟨S4x4x128x64x64, .f32⟩
  | 8 => ⟨S4x4x128x64x64, .f32⟩
  | 9 => ⟨S4x4x128x64x128, .f32⟩
  | 10 => ⟨S4x4x128x64, .f32⟩
  | 11 => ⟨S4x4x128x64x1, .f32⟩
  | 12 => ⟨S4x4x128x64x128, .f32⟩
  | 13 => ⟨S4x4x128x64x128, .f32⟩
  | 14 => ⟨S4x4x128x64x128, .f32⟩
  | 15 => ⟨S4x4x128x64x64, .f32⟩
  | 16 => ⟨S4x4x128x64x64, .f32⟩
  | 17 => ⟨S_, .f32⟩
  | 18 => ⟨S_, .f32⟩
  | 19 => ⟨S4x4x128x64x64, .i1⟩
  | 20 => ⟨S4x4x128x64x64, .f32⟩
  | 21 => ⟨S4x4x128x64x64, .f32⟩
  | 22 => ⟨S4x4x128x1, .f32⟩
  | 23 => ⟨S4x4x128, .f32⟩
  | 24 => ⟨S4x4x128x1, .f32⟩
  | 25 => ⟨S4x4x128x64, .f32⟩
  | 26 => ⟨S4x4x128x64, .f32⟩
  | 27 => ⟨S4x4x128x64, .f32⟩
  | 28 => ⟨S4x4x128x64x1, .f32⟩
  | 29 => ⟨S4x4x128x64x128, .f32⟩
  | 30 => ⟨S4x4x128x64x128, .f32⟩
  | 31 => ⟨S4x4x128x64, .f32⟩
  | 32 => ⟨S4x4x128x64x1, .f32⟩
  | 33 => ⟨S4x4x128x64x128, .f32⟩
  | 34 => ⟨S4x4x128x64x128, .f32⟩
  | 35 => ⟨S128x4x4x64x128, .f32⟩
  | 36 => ⟨S128x4x4x64x128, .f32⟩
  | 37 => ⟨S128x4x4x64x128, .f32⟩
  | 38 => ⟨S128x4x4x64x64, .f32⟩
  | 39 => ⟨S128x4x4x64x128, .f32⟩
  | 40 => ⟨S128x4x4, .f32⟩
  | 41 => ⟨S_, .f32⟩
  | 42 => ⟨S4x4x128x128, .f32⟩
  | 43 => ⟨S_, .f32⟩
  | 44 => ⟨S128x4x4x64x128, .f32⟩
  | 45 => ⟨S_, .i32⟩
  | 46 => ⟨S128x4x4x64x128, .f32⟩
  | 47 => ⟨S128x4x4x64x128, .f32⟩
  | 48 => ⟨S128x4x4x64x128, .f32⟩
  | 49 => ⟨S128x4x4x64x64, .f32⟩
  | 50 => ⟨S128x4x4x64x128, .f32⟩
  | 51 => ⟨S128x4x4, .f32⟩
  | 52 => ⟨S_, .i32⟩
  | 53 => ⟨S4x4x128x128, .f32⟩
  | 54 => ⟨S128x4x4x64x128, .f32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S1x4x4x64x128, .f32⟩
  | 62 => ⟨S4x4x64x128, .f32⟩
  | 63 => ⟨S_, .i32⟩
  | 64 => ⟨S_, .i32⟩
  | 65 => ⟨S_, .i32⟩
  | 66 => ⟨S_, .i32⟩
  | 67 => ⟨S1x4x4x64x128, .f32⟩
  | 68 => ⟨S4x4x64x128, .f32⟩
  | 69 => ⟨S_, .i32⟩
  | 70 => ⟨S_, .i32⟩
  | 71 => ⟨S_, .i32⟩
  | 72 => ⟨S_, .i32⟩
  | 73 => ⟨S1x4x4x64x128, .f32⟩
  | 74 => ⟨S4x4x64x128, .f32⟩
  | 75 => ⟨S_, .i32⟩
  | 76 => ⟨S_, .i32⟩
  | 77 => ⟨S_, .i32⟩
  | 78 => ⟨S_, .i32⟩
  | 79 => ⟨S1x4x4x64x64, .f32⟩
  | 80 => ⟨S4x4x64x64, .f32⟩
  | 81 => ⟨S_, .i32⟩
  | 82 => ⟨S_, .i32⟩
  | 83 => ⟨S_, .i32⟩
  | 84 => ⟨S_, .i32⟩
  | 85 => ⟨S1x4x4x64x128, .f32⟩
  | 86 => ⟨S4x4x64x128, .f32⟩
  | 87 => ⟨S_, .i32⟩
  | 88 => ⟨S_, .i32⟩
  | 89 => ⟨S1x4x4, .f32⟩
  | 90 => ⟨S4x4, .f32⟩
  | 91 => ⟨S4x4x64x128, .f32⟩
  | 92 => ⟨S4x4x64x128, .f32⟩
  | 93 => ⟨S4x4x64x128, .f32⟩
  | 94 => ⟨S4x4x64x128, .f32⟩
  | 95 => ⟨S4x4x64x128, .f32⟩
  | 96 => ⟨S4x4, .f32⟩
  | 97 => ⟨S4x4x1x1, .f32⟩
  | 98 => ⟨S4x4x128x128, .f32⟩
  | 99 => ⟨S4x4x128x128, .f32⟩
  | 100 => ⟨S4x4x128x128, .f32⟩
  | 101 => ⟨S4x4x128x128, .f32⟩
  | 102 => ⟨S1x4x4x64x128, .f32⟩
  | 103 => ⟨S_, .i32⟩
  | 104 => ⟨S_, .i32⟩
  | 105 => ⟨S_, .i32⟩
  | 106 => ⟨S_, .i32⟩
  | 107 => ⟨S128x4x4x64x128, .f32⟩
  | 108 => ⟨S_, .i32⟩
  | 109 => ⟨S_, .i32⟩
  | 110 => ⟨S4x128x64x4x128, .f32⟩
  | 111 => ⟨S4x8192x4x128, .f32⟩
  | 112 => ⟨S128, .f32⟩
  | 113 => ⟨S4x8192x4x128, .f32⟩
  | 114 => ⟨S_, .f32⟩
  | 115 => ⟨S4x8192x4, .f32⟩
  | 116 => ⟨S4x8192x4x1, .f32⟩
  | 117 => ⟨S_, .f32⟩
  | 118 => ⟨S4x8192x4x1, .f32⟩
  | 119 => ⟨S4x8192x4x1, .f32⟩
  | 120 => ⟨S_, .f32⟩
  | 121 => ⟨S4x8192x4x1, .f32⟩
  | 122 => ⟨S4x8192x4x1, .f32⟩
  | 123 => ⟨S4x8192x4x1, .f32⟩
  | 124 => ⟨S4x8192x4x128, .f32⟩
  | 125 => ⟨S4x8192x4x128, .f32⟩
  | 126 => ⟨S1x1x1x128, .f32⟩
  | 127 => ⟨S4x8192x4x128, .f32⟩
  | _ => ⟨S4x8192x1024, .f32⟩

abbrev hbmTy0_4 (i : Nat) : BufTy := match i % 128 with
  | 0 => ⟨S4x8192x4x128, .f32⟩
  | 1 => ⟨S4x1x1024, .f32⟩
  | 2 => ⟨S4x1x1024, .f32⟩
  | 3 => ⟨S1024, .f32⟩
  | 4 => ⟨S4x8192x1024, .f32⟩
  | 5 => ⟨S_, .f32⟩
  | 6 => ⟨S4x8192, .f32⟩
  | 7 => ⟨S4x8192x1, .f32⟩
  | 8 => ⟨S_, .f32⟩
  | 9 => ⟨S4x8192x1, .f32⟩
  | 10 => ⟨S4x8192x1, .f32⟩
  | 11 => ⟨S_, .f32⟩
  | 12 => ⟨S4x8192x1, .f32⟩
  | 13 => ⟨S4x8192x1, .f32⟩
  | 14 => ⟨S4x8192x1, .f32⟩
  | 15 => ⟨S4x8192x1024, .f32⟩
  | 16 => ⟨S4x8192x1024, .f32⟩
  | 17 => ⟨S1x1x1024, .f32⟩
  | 18 => ⟨S4x8192x1024, .f32⟩
  | 19 => ⟨S4x8192x1024, .f32⟩
  | 20 => ⟨S_, .f32⟩
  | 21 => ⟨S4x1x1024, .f32⟩
  | 22 => ⟨S4x1x1024, .f32⟩
  | 23 => ⟨S4x8192x1024, .f32⟩
  | 24 => ⟨S4x8192x1024, .f32⟩
  | 25 => ⟨S4x8192x1024, .f32⟩
  | 26 => ⟨S4x8192x1024, .f32⟩
  | 27 => ⟨S1x1024x512, .f32⟩
  | 28 => ⟨S1024x512, .f32⟩
  | 29 => ⟨S4x8192x512, .f32⟩
  | 30 => ⟨S4x8192x4x128, .f32⟩
  | 31 => ⟨S4x8192x4x128, .f32⟩
  | 32 => ⟨S4x8192x4x128, .f32⟩
  | 33 => ⟨S_, .f32⟩
  | 34 => ⟨S4x8192x4x128, .f32⟩
  | 35 => ⟨S4x8192x4x128, .f32⟩
  | 36 => ⟨S_, .f32⟩
  | 37 => ⟨S4x8192x4x128, .f32⟩
  | 38 => ⟨S4x8192x4x128, .f32⟩
  | 39 => ⟨S4x8192x4x128, .f32⟩
  | 40 => ⟨S4x8192x4x128, .f32⟩
  | 41 => ⟨S4x8192x512, .f32⟩
  | 42 => ⟨S4x1x1024, .f32⟩
  | 43 => ⟨S4x1x1024, .f32⟩
  | 44 => ⟨S1024, .f32⟩
  | 45 => ⟨S4x8192x1024, .f32⟩
  | 46 => ⟨S_, .f32⟩
  | 47 => ⟨S4x8192, .f32⟩
  | 48 => ⟨S4x8192x1, .f32⟩
  | 49 => ⟨S_, .f32⟩
  | 50 => ⟨S4x8192x1, .f32⟩
  | 51 => ⟨S4x8192x1, .f32⟩
  | 52 => ⟨S_, .f32⟩
  | 53 => ⟨S4x8192x1, .f32⟩
  | 54 => ⟨S4x8192x1, .f32⟩
  | 55 => ⟨S4x8192x1, .f32⟩
  | 56 => ⟨S4x8192x1024, .f32⟩
  | 57 => ⟨S4x8192x1024, .f32⟩
  | 58 => ⟨S1x1x1024, .f32⟩
  | 59 => ⟨S4x8192x1024, .f32⟩
  | 60 => ⟨S4x8192x1024, .f32⟩
  | 61 => ⟨S_, .f32⟩
  | 62 => ⟨S4x1x1024, .f32⟩
  | 63 => ⟨S4x1x1024, .f32⟩
  | 64 => ⟨S4x8192x1024, .f32⟩
  | 65 => ⟨S4x8192x1024, .f32⟩
  | 66 => ⟨S4x8192x1024, .f32⟩
  | 67 => ⟨S4x8192x1024, .f32⟩
  | 68 => ⟨S1x1024x512, .f32⟩
  | 69 => ⟨S1024x512, .f32⟩
  | 70 => ⟨S4x8192x512, .f32⟩
  | 71 => ⟨S4x1x1024, .f32⟩
  | 72 => ⟨S4x1x1024, .f32⟩
  | 73 => ⟨S1024, .f32⟩
  | 74 => ⟨S4x8192x1024, .f32⟩
  | 75 => ⟨S_, .f32⟩
  | 76 => ⟨S4x8192, .f32⟩
  | 77 => ⟨S4x8192x1, .f32⟩
  | 78 => ⟨S_, .f32⟩
  | 79 => ⟨S4x8192x1, .f32⟩
  | 80 => ⟨S4x8192x1, .f32⟩
  | 81 => ⟨S_, .f32⟩
  | 82 => ⟨S4x8192x1, .f32⟩
  | 83 => ⟨S4x8192x1, .f32⟩
  | 84 => ⟨S4x8192x1, .f32⟩
  | 85 => ⟨S4x8192x1024, .f32⟩
  | 86 => ⟨S4x8192x1024, .f32⟩
  | 87 => ⟨S1x1x1024, .f32⟩
  | 88 => ⟨S4x8192x1024, .f32⟩
  | 89 => ⟨S4x8192x1024, .f32⟩
  | 90 => ⟨S_, .f32⟩
  | 91 => ⟨S4x1x1024, .f32⟩
  | 92 => ⟨S4x1x1024, .f32⟩
  | 93 => ⟨S4x8192x1024, .f32⟩
  | 94 => ⟨S4x8192x1024, .f32⟩
  | 95 => ⟨S4x8192x1024, .f32⟩
  | 96 => ⟨S4x8192x1024, .f32⟩
  | 97 => ⟨S1x1024x512, .f32⟩
  | 98 => ⟨S1024x512, .f32⟩
  | 99 => ⟨S4x8192x512, .f32⟩
  | 100 => ⟨S4x1x1024, .f32⟩
  | 101 => ⟨S4x1x1024, .f32⟩
  | 102 => ⟨S1024, .f32⟩
  | 103 => ⟨S4x8192x1024, .f32⟩
  | 104 => ⟨S_, .f32⟩
  | 105 => ⟨S4x8192, .f32⟩
  | 106 => ⟨S4x8192x1, .f32⟩
  | 107 => ⟨S_, .f32⟩
  | 108 => ⟨S4x8192x1, .f32⟩
  | 109 => ⟨S4x8192x1, .f32⟩
  | 110 => ⟨S_, .f32⟩
  | 111 => ⟨S4x8192x1, .f32⟩
  | 112 => ⟨S4x8192x1, .f32⟩
  | 113 => ⟨S4x8192x1, .f32⟩
  | 114 => ⟨S4x8192x1024, .f32⟩
  | 115 => ⟨S4x8192x1024, .f32⟩
  | 116 => ⟨S1x1x1024, .f32⟩
  | 117 => ⟨S4x8192x1024, .f32⟩
  | 118 => ⟨S4x8192x1024, .f32⟩
  | 119 => ⟨S_, .f32⟩
  | 120 => ⟨S4x1x1024, .f32⟩
  | 121 => ⟨S4x1x1024, .f32⟩
  | 122 => ⟨S4x8192x1024, .f32⟩
  | 123 => ⟨S4x8192x1024, .f32⟩
  | 124 => ⟨S4x8192x1024, .f32⟩
  | 125 => ⟨S4x8192x1024, .f32⟩
  | 126 => ⟨S1x1024x512, .f32⟩
  | 127 => ⟨S1024x512, .f32⟩
  | _ => ⟨S4x8192x1024, .f32⟩

abbrev hbmTy0_5 (i : Nat) : BufTy := match i % 128 with
  | 0 => ⟨S4x8192x512, .f32⟩
  | 1 => ⟨S4x8192x512, .f32⟩
  | 2 => ⟨S3x512, .f32⟩
  | 3 => ⟨S_, .i32⟩
  | 4 => ⟨S_, .f32⟩
  | 5 => ⟨S4x8194x512, .f32⟩
  | 6 => ⟨S4x8192x512, .f32⟩
  | 7 => ⟨S1x512, .f32⟩
  | 8 => ⟨S512, .f32⟩
  | 9 => ⟨S1x1x512, .f32⟩
  | 10 => ⟨S4x8192x512, .f32⟩
  | 11 => ⟨S4x8192x512, .f32⟩
  | 12 => ⟨S4x8192x512, .f32⟩
  | 13 => ⟨S1x512, .f32⟩
  | 14 => ⟨S512, .f32⟩
  | 15 => ⟨S1x1x512, .f32⟩
  | 16 => ⟨S4x8192x512, .f32⟩
  | 17 => ⟨S4x8192x512, .f32⟩
  | 18 => ⟨S4x8192x512, .f32⟩
  | 19 => ⟨S4x8192x512, .f32⟩
  | 20 => ⟨S1x512, .f32⟩
  | 21 => ⟨S512, .f32⟩
  | 22 => ⟨S1x1x512, .f32⟩
  | 23 => ⟨S4x8192x512, .f32⟩
  | 24 => ⟨S4x8192x512, .f32⟩
  | 25 => ⟨S4x8192x512, .f32⟩
  | 26 => ⟨S4x8192x512, .f32⟩
  | 27 => ⟨S4x1x1024, .f32⟩
  | 28 => ⟨S4x8192x1024, .f32⟩
  | 29 => ⟨S1024x1024, .f32⟩
  | 30 => ⟨S4x8192x1024, .f32⟩
  | 31 => ⟨S4x8192x1024, .f32⟩
  | 32 => ⟨S4x8192x1024, .f32⟩
  | 33 => ⟨S4x8192x1024, .f32⟩
  | 34 => ⟨S1024x2816, .f32⟩
  | 35 => ⟨S1024x2816, .bf16⟩
  | 36 => ⟨S1024x2816, .f32⟩
  | 37 => ⟨S1024x2816, .bf16⟩
  | 38 => ⟨S2816x1024, .f32⟩
  | 39 => ⟨S2816x1024, .bf16⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_3 : Ref sig .tc := ⟨.hbm, 95, rfl⟩
abbrev main_v68 : Ref sig .tc := ⟨.hbm, 96, rfl⟩
abbrev main_v69 : Ref sig .tc := ⟨.hbm, 97, rfl⟩
abbrev main_cst_4 : Ref sig .tc := ⟨.hbm, 98, rfl⟩
abbrev main_v70 : Ref sig .tc := ⟨.hbm, 99, rfl⟩
abbrev main_v71 : Ref sig .tc := ⟨.hbm, 100, rfl⟩
abbrev main_cst_5 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_6 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call2_cst : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_v8 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_7 : Ref sig .tc := ⟨.hbm, 145, rfl⟩
abbrev main_v101 : Ref sig .tc := ⟨.hbm, 146, rfl⟩
abbrev main_v102 : Ref sig .tc := ⟨.hbm, 147, rfl⟩
abbrev main_cst_8 : Ref sig .tc := ⟨.hbm, 148, rfl⟩
abbrev main_v103 : Ref sig .tc := ⟨.hbm, 149, rfl⟩
abbrev main_v104 : Ref sig .tc := ⟨.hbm, 150, rfl⟩
abbrev main_cst_9 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_10 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_11 : Ref sig .tc := ⟨.hbm, 172, rfl⟩
abbrev main_v124 : Ref sig .tc := ⟨.hbm, 173, rfl⟩
abbrev main_v125 : Ref sig .tc := ⟨.hbm, 174, rfl⟩
abbrev main_cst_12 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_13 : Ref sig .tc := ⟨.hbm, 179, rfl⟩
abbrev main_v129 : Ref sig .tc := ⟨.hbm, 180, rfl⟩
abbrev main_v130 : Ref sig .tc := ⟨.hbm, 181, rfl⟩
abbrev main_cst_14 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_15 : Ref sig .tc := ⟨.hbm, 189, rfl⟩
abbrev main_v137 : Ref sig .tc := ⟨.hbm, 190, rfl⟩
abbrev main_v138 : Ref sig .tc := ⟨.hbm, 191, rfl⟩
abbrev main_cst_16 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_17 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_call3_call0_cst : Ref sig .tc := ⟨.hbm, 211, rfl⟩
abbrev main_call3_call0_v0 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_c_18 : Ref sig .tc := ⟨.hbm, 220, rfl⟩
abbrev main_v163 : Ref sig .tc := ⟨.hbm, 221, rfl⟩
abbrev main_call4_v0 : Ref sig .tc := ⟨.hbm, 222, rfl⟩
abbrev main_call4_c : Ref sig .tc := ⟨.hbm, 223, rfl⟩
abbrev main_call4_v1 : Ref sig .tc := ⟨.hbm, 224, rfl⟩
abbrev main_call4_v2 : Ref sig .tc := ⟨.hbm, 225, rfl⟩
abbrev main_call4_v3 : Ref sig .tc := ⟨.hbm, 226, rfl⟩
abbrev main_call4_v4 : Ref sig .tc := ⟨.hbm, 227, rfl⟩
abbrev main_call4_c_0 : Ref sig .tc := ⟨.hbm, 228, rfl⟩
abbrev main_call4_v5 : Ref sig .tc := ⟨.hbm, 229, rfl⟩
abbrev main_v164 : Ref sig .tc := ⟨.hbm, 230, rfl⟩
abbrev main_c_19 : Ref sig .tc := ⟨.hbm, 231, rfl⟩
abbrev main_v165 : Ref sig .tc := ⟨.hbm, 232, rfl⟩
abbrev main_call5_v0 : Ref sig .tc := ⟨.hbm, 233, rfl⟩
abbrev main_call5_c : Ref sig .tc := ⟨.hbm, 234, rfl⟩
abbrev main_call5_v1 : Ref sig .tc := ⟨.hbm, 235, rfl⟩
abbrev main_call5_v2 : Ref sig .tc := ⟨.hbm, 236, rfl⟩
abbrev main_call5_v3 : Ref sig .tc := ⟨.hbm, 237, rfl⟩
abbrev main_call5_v4 : Ref sig .tc := ⟨.hbm, 238, rfl⟩
abbrev main_call5_c_0 : Ref sig .tc := ⟨.hbm, 239, rfl⟩
abbrev main_call5_v5 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_cst_20 : Ref sig .tc := ⟨.hbm, 247, rfl⟩
abbrev main_call6_v0 : Ref sig .tc := ⟨.hbm, 248, rfl⟩
abbrev main_call6_v1 : Ref sig .tc := ⟨.hbm, 249, rfl⟩
abbrev main_call6_v2 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_cst_21 : Ref sig .tc := ⟨.hbm, 255, rfl⟩
abbrev main_call7_v0 : Ref sig .tc := ⟨.hbm, 256, rfl⟩
abbrev main_call7_v1 : Ref sig .tc := ⟨.hbm, 257, rfl⟩
abbrev main_call7_v2 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_c_22 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_v259 : Ref sig .tc := ⟨.hbm, 343, rfl⟩
abbrev main_v260 : Ref sig .tc := ⟨.hbm, 344, rfl⟩
abbrev main_v261 : Ref sig .tc := ⟨.hbm, 345, rfl⟩
abbrev main_v262 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_v276 : Ref sig .tc := ⟨.hbm, 360, rfl⟩
abbrev main_v277 : Ref sig .tc := ⟨.hbm, 361, rfl⟩
abbrev main_v278 : Ref sig .tc := ⟨.hbm, 362, rfl⟩
abbrev main_v279 : Ref sig .tc := ⟨.hbm, 363, rfl⟩
abbrev main_v280 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_v284 : Ref sig .tc := ⟨.hbm, 368, rfl⟩
abbrev main_v285 : Ref sig .tc := ⟨.hbm, 369, rfl⟩
abbrev main_v286 : Ref sig .tc := ⟨.hbm, 370, rfl⟩
abbrev main_v287 : Ref sig .tc := ⟨.hbm, 371, rfl⟩
abbrev main_v288 : Ref sig .tc := ⟨.hbm, 372, rfl⟩
abbrev main_v289 : Ref sig .tc := ⟨.hbm, 373, rfl⟩
abbrev main_v290 : Ref sig .tc := ⟨.hbm, 374, rfl⟩
abbrev main_v291 : Ref sig .tc := ⟨.hbm, 375, rfl⟩
abbrev main_v292 : Ref sig .tc := ⟨.hbm, 376, rfl⟩
abbrev main_v293 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_v304 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_v308 : Ref sig .tc := ⟨.hbm, 392, rfl⟩
abbrev main_v309 : Ref sig .tc := ⟨.hbm, 393, rfl⟩
abbrev main_v310 : Ref sig .tc := ⟨.hbm, 394, rfl⟩
abbrev main_v311 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_cst_23 : Ref sig .tc := ⟨.hbm, 401, rfl⟩
abbrev main_call8_v0 : Ref sig .tc := ⟨.hbm, 402, rfl⟩
abbrev main_call8_v1 : Ref sig .tc := ⟨.hbm, 403, rfl⟩
abbrev main_call8_v2 : Ref sig .tc := ⟨.hbm, 404, rfl⟩
abbrev main_v317 : Ref sig .tc := ⟨.hbm, 405, rfl⟩
abbrev main_v318 : Ref sig .tc := ⟨.hbm, 406, rfl⟩
abbrev main_v319 : Ref sig .tc := ⟨.hbm, 407, rfl⟩
abbrev main_v320 : Ref sig .tc := ⟨.hbm, 408, rfl⟩
abbrev main_v321 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_v326 : Ref sig .tc := ⟨.hbm, 414, rfl⟩
abbrev main_v327 : Ref sig .tc := ⟨.hbm, 415, rfl⟩
abbrev main_v328 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_v332 : Ref sig .tc := ⟨.hbm, 420, rfl⟩
abbrev main_v333 : Ref sig .tc := ⟨.hbm, 421, rfl⟩
abbrev main_v334 : Ref sig .tc := ⟨.hbm, 422, rfl⟩
abbrev main_v335 : Ref sig .tc := ⟨.hbm, 423, rfl⟩
abbrev main_v336 : Ref sig .tc := ⟨.hbm, 424, rfl⟩
abbrev main_cst_24 : Ref sig .tc := ⟨.hbm, 425, rfl⟩
abbrev main_v337 : Ref sig .tc := ⟨.hbm, 426, rfl⟩
abbrev main_cst_25 : Ref sig .tc := ⟨.hbm, 427, rfl⟩
abbrev main_v338 : Ref sig .tc := ⟨.hbm, 428, rfl⟩
abbrev main_c_26 : Ref sig .tc := ⟨.hbm, 429, rfl⟩
abbrev main_v339_0 : Ref sig .tc := ⟨.hbm, 430, rfl⟩
abbrev main_v339_1 : Ref sig .tc := ⟨.hbm, 431, rfl⟩
abbrev main_v339_2 : Ref sig .tc := ⟨.hbm, 432, rfl⟩
abbrev main_v339_3 : Ref sig .tc := ⟨.hbm, 433, rfl⟩
abbrev main_v339_4 : Ref sig .tc := ⟨.hbm, 434, rfl⟩
abbrev main_v339_5 : Ref sig .tc := ⟨.hbm, 435, rfl⟩
abbrev main_v339_6 : Ref sig .tc := ⟨.hbm, 436, rfl⟩
abbrev main_v339_7 : Ref sig .tc := ⟨.hbm, 437, rfl⟩
abbrev main_v339_8 : Ref sig .tc := ⟨.hbm, 438, rfl⟩
abbrev main_while0c_c_55 : Ref sig .tc := ⟨.hbm, 439, rfl⟩
abbrev main_while0c_v497 : Ref sig .tc := ⟨.hbm, 440, rfl⟩
abbrev main_while0b_call9_c : Ref sig .tc := ⟨.hbm, 441, rfl⟩
abbrev main_while0b_call9_c_0 : Ref sig .tc := ⟨.hbm, 442, rfl⟩
abbrev main_while0b_call9_c_1 : Ref sig .tc := ⟨.hbm, 443, rfl⟩
abbrev main_while0b_call9_c_2 : Ref sig .tc := ⟨.hbm, 444, rfl⟩
abbrev main_while0b_call9_v0 : Ref sig .tc := ⟨.hbm, 445, rfl⟩
abbrev main_while0b_v497 : Ref sig .tc := ⟨.hbm, 446, rfl⟩
abbrev main_while0b_call10_c : Ref sig .tc := ⟨.hbm, 447, rfl⟩
abbrev main_while0b_call10_c_0 : Ref sig .tc := ⟨.hbm, 448, rfl⟩
abbrev main_while0b_call10_c_1 : Ref sig .tc := ⟨.hbm, 449, rfl⟩
abbrev main_while0b_call10_c_2 : Ref sig .tc := ⟨.hbm, 450, rfl⟩
abbrev main_while0b_call10_v0 : Ref sig .tc := ⟨.hbm, 451, rfl⟩
abbrev main_while0b_v498 : Ref sig .tc := ⟨.hbm, 452, rfl⟩
abbrev main_while0b_call11_c : Ref sig .tc := ⟨.hbm, 453, rfl⟩
abbrev main_while0b_call11_c_0 : Ref sig .tc := ⟨.hbm, 454, rfl⟩
abbrev main_while0b_call11_c_1 : Ref sig .tc := ⟨.hbm, 455, rfl⟩
abbrev main_while0b_call11_c_2 : Ref sig .tc := ⟨.hbm, 456, rfl⟩
abbrev main_while0b_call11_v0 : Ref sig .tc := ⟨.hbm, 457, rfl⟩
abbrev main_while0b_v499 : Ref sig .tc := ⟨.hbm, 458, rfl⟩
abbrev main_while0b_call12_c : Ref sig .tc := ⟨.hbm, 459, rfl⟩
abbrev main_while0b_call12_c_0 : Ref sig .tc := ⟨.hbm, 460, rfl⟩
abbrev main_while0b_call12_c_1 : Ref sig .tc := ⟨.hbm, 461, rfl⟩
abbrev main_while0b_call12_c_2 : Ref sig .tc := ⟨.hbm, 462, rfl⟩
abbrev main_while0b_call12_v0 : Ref sig .tc := ⟨.hbm, 463, rfl⟩
abbrev main_while0b_v500 : Ref sig .tc := ⟨.hbm, 464, rfl⟩
abbrev main_while0b_call13_c : Ref sig .tc := ⟨.hbm, 465, rfl⟩
abbrev main_while0b_call13_c_0 : Ref sig .tc := ⟨.hbm, 466, rfl⟩
abbrev main_while0b_call13_c_1 : Ref sig .tc := ⟨.hbm, 467, rfl⟩
abbrev main_while0b_call13_c_2 : Ref sig .tc := ⟨.hbm, 468, rfl⟩
abbrev main_while0b_call13_v0 : Ref sig .tc := ⟨.hbm, 469, rfl⟩
abbrev main_while0b_v501 : Ref sig .tc := ⟨.hbm, 470, rfl⟩
abbrev main_while0b_call14_c : Ref sig .tc := ⟨.hbm, 471, rfl⟩
abbrev main_while0b_call14_c_0 : Ref sig .tc := ⟨.hbm, 472, rfl⟩
abbrev main_while0b_call14_v0 : Ref sig .tc := ⟨.hbm, 473, rfl⟩
abbrev main_while0b_v502 : Ref sig .tc := ⟨.hbm, 474, rfl⟩
abbrev main_while0b_v503 : Ref sig .tc := ⟨.hbm, 475, rfl⟩
abbrev main_while0b_v504 : Ref sig .tc := ⟨.hbm, 476, rfl⟩
abbrev main_while0b_v505 : Ref sig .tc := ⟨.hbm, 477, rfl⟩
abbrev main_while0b_v506 : Ref sig .tc := ⟨.hbm, 478, rfl⟩
abbrev main_while0b_v507 : Ref sig .tc := ⟨.hbm, 479, rfl⟩
abbrev main_while0b_v508 : Ref sig .tc := ⟨.hbm, 480, rfl⟩
abbrev main_while0b_v509 : Ref sig .tc := ⟨.hbm, 481, rfl⟩
abbrev main_while0b_v510 : Ref sig .tc := ⟨.hbm, 482, rfl⟩
abbrev main_while0b_v511 : Ref sig .tc := ⟨.hbm, 483, rfl⟩
abbrev main_while0b_v512 : Ref sig .tc := ⟨.hbm, 484, rfl⟩
abbrev main_while0b_v513 : Ref sig .tc := ⟨.hbm, 485, rfl⟩
abbrev main_while0b_call15_v0 : Ref sig .tc := ⟨.hbm, 486, rfl⟩
abbrev main_while0b_call15_c : Ref sig .tc := ⟨.hbm, 487, rfl⟩
abbrev main_while0b_call15_c_0 : Ref sig .tc := ⟨.hbm, 488, rfl⟩
abbrev main_while0b_call15_c_1 : Ref sig .tc := ⟨.hbm, 489, rfl⟩
abbrev main_while0b_call15_c_2 : Ref sig .tc := ⟨.hbm, 490, rfl⟩
abbrev main_while0b_v514 : Ref sig .tc := ⟨.hbm, 491, rfl⟩
abbrev main_while0b_c_55 : Ref sig .tc := ⟨.hbm, 492, rfl⟩
abbrev main_while0b_v515 : Ref sig .tc := ⟨.hbm, 493, rfl⟩
abbrev main_v340 : Ref sig .tc := ⟨.hbm, 494, rfl⟩
abbrev main_v341 : Ref sig .tc := ⟨.hbm, 495, rfl⟩
abbrev main_v342 : Ref sig .tc := ⟨.hbm, 496, rfl⟩
abbrev main_v343 : Ref sig .tc := ⟨.hbm, 497, rfl⟩
abbrev main_cst_27 : Ref sig .tc := ⟨.hbm, 498, rfl⟩
abbrev main_v344 : Ref sig .tc := ⟨.hbm, 499, rfl⟩
abbrev main_v345 : Ref sig .tc := ⟨.hbm, 500, rfl⟩
abbrev main_cst_28 : Ref sig .tc := ⟨.hbm, 501, rfl⟩
abbrev main_v346 : Ref sig .tc := ⟨.hbm, 502, rfl⟩
abbrev main_v347 : Ref sig .tc := ⟨.hbm, 503, rfl⟩
abbrev main_cst_29 : Ref sig .tc := ⟨.hbm, 504, rfl⟩
abbrev main_v348 : Ref sig .tc := ⟨.hbm, 505, rfl⟩
abbrev main_v349 : Ref sig .tc := ⟨.hbm, 506, rfl⟩
abbrev main_v350 : Ref sig .tc := ⟨.hbm, 507, rfl⟩
abbrev main_v351 : Ref sig .tc := ⟨.hbm, 508, rfl⟩
abbrev main_v352 : Ref sig .tc := ⟨.hbm, 509, rfl⟩
abbrev main_v353 : Ref sig .tc := ⟨.hbm, 510, rfl⟩
abbrev main_v354 : Ref sig .tc := ⟨.hbm, 511, rfl⟩
abbrev main_v355 : Ref sig .tc := ⟨.hbm, 512, rfl⟩
abbrev main_v356 : Ref sig .tc := ⟨.hbm, 513, rfl⟩
abbrev main_v357 : Ref sig .tc := ⟨.hbm, 514, rfl⟩
abbrev main_v358 : Ref sig .tc := ⟨.hbm, 515, rfl⟩
abbrev main_v359 : Ref sig .tc := ⟨.hbm, 516, rfl⟩
abbrev main_cst_30 : Ref sig .tc := ⟨.hbm, 517, rfl⟩
abbrev main_v360 : Ref sig .tc := ⟨.hbm, 518, rfl⟩
abbrev main_v361 : Ref sig .tc := ⟨.hbm, 519, rfl⟩
abbrev main_cst_31 : Ref sig .tc := ⟨.hbm, 520, rfl⟩
abbrev main_v362 : Ref sig .tc := ⟨.hbm, 521, rfl⟩
abbrev main_v363 : Ref sig .tc := ⟨.hbm, 522, rfl⟩
abbrev main_cst_32 : Ref sig .tc := ⟨.hbm, 523, rfl⟩
abbrev main_v364 : Ref sig .tc := ⟨.hbm, 524, rfl⟩
abbrev main_v365 : Ref sig .tc := ⟨.hbm, 525, rfl⟩
abbrev main_v366 : Ref sig .tc := ⟨.hbm, 526, rfl⟩
abbrev main_v367 : Ref sig .tc := ⟨.hbm, 527, rfl⟩
abbrev main_v368 : Ref sig .tc := ⟨.hbm, 528, rfl⟩
abbrev main_v369 : Ref sig .tc := ⟨.hbm, 529, rfl⟩
abbrev main_v370 : Ref sig .tc := ⟨.hbm, 530, rfl⟩
abbrev main_v371 : Ref sig .tc := ⟨.hbm, 531, rfl⟩
abbrev main_cst_33 : Ref sig .tc := ⟨.hbm, 532, rfl⟩
abbrev main_v372 : Ref sig .tc := ⟨.hbm, 533, rfl⟩
abbrev main_v373 : Ref sig .tc := ⟨.hbm, 534, rfl⟩
abbrev main_v374 : Ref sig .tc := ⟨.hbm, 535, rfl⟩
abbrev main_v375 : Ref sig .tc := ⟨.hbm, 536, rfl⟩
abbrev main_v376 : Ref sig .tc := ⟨.hbm, 537, rfl⟩
abbrev main_v377 : Ref sig .tc := ⟨.hbm, 538, rfl⟩
abbrev main_v378 : Ref sig .tc := ⟨.hbm, 539, rfl⟩
abbrev main_v379 : Ref sig .tc := ⟨.hbm, 540, rfl⟩
abbrev main_v380 : Ref sig .tc := ⟨.hbm, 541, rfl⟩
abbrev main_v381 : Ref sig .tc := ⟨.hbm, 542, rfl⟩
abbrev main_call16_v0 : Ref sig .tc := ⟨.hbm, 543, rfl⟩
abbrev main_call16_v1 : Ref sig .tc := ⟨.hbm, 544, rfl⟩
abbrev main_call16_cst : Ref sig .tc := ⟨.hbm, 545, rfl⟩
abbrev main_call16_v2 : Ref sig .tc := ⟨.hbm, 546, rfl⟩
abbrev main_call16_v3 : Ref sig .tc := ⟨.hbm, 547, rfl⟩
abbrev main_call16_cst_0 : Ref sig .tc := ⟨.hbm, 548, rfl⟩
abbrev main_call16_v4 : Ref sig .tc := ⟨.hbm, 549, rfl⟩
abbrev main_call16_v5 : Ref sig .tc := ⟨.hbm, 550, rfl⟩
abbrev main_v382 : Ref sig .tc := ⟨.hbm, 551, rfl⟩
abbrev main_v383 : Ref sig .tc := ⟨.hbm, 552, rfl⟩
abbrev main_v384 : Ref sig .tc := ⟨.hbm, 553, rfl⟩
abbrev main_v385 : Ref sig .tc := ⟨.hbm, 554, rfl⟩
abbrev main_v386 : Ref sig .tc := ⟨.hbm, 555, rfl⟩
abbrev main_v387 : Ref sig .tc := ⟨.hbm, 556, rfl⟩
abbrev main_v388 : Ref sig .tc := ⟨.hbm, 557, rfl⟩
abbrev main_cst_34 : Ref sig .tc := ⟨.hbm, 558, rfl⟩
abbrev main_v389 : Ref sig .tc := ⟨.hbm, 559, rfl⟩
abbrev main_v390 : Ref sig .tc := ⟨.hbm, 560, rfl⟩
abbrev main_cst_35 : Ref sig .tc := ⟨.hbm, 561, rfl⟩
abbrev main_v391 : Ref sig .tc := ⟨.hbm, 562, rfl⟩
abbrev main_v392 : Ref sig .tc := ⟨.hbm, 563, rfl⟩
abbrev main_cst_36 : Ref sig .tc := ⟨.hbm, 564, rfl⟩
abbrev main_v393 : Ref sig .tc := ⟨.hbm, 565, rfl⟩
abbrev main_v394 : Ref sig .tc := ⟨.hbm, 566, rfl⟩
abbrev main_v395 : Ref sig .tc := ⟨.hbm, 567, rfl⟩
abbrev main_v396 : Ref sig .tc := ⟨.hbm, 568, rfl⟩
abbrev main_v397 : Ref sig .tc := ⟨.hbm, 569, rfl⟩
abbrev main_v398 : Ref sig .tc := ⟨.hbm, 570, rfl⟩
abbrev main_v399 : Ref sig .tc := ⟨.hbm, 571, rfl⟩
abbrev main_v400 : Ref sig .tc := ⟨.hbm, 572, rfl⟩
abbrev main_cst_37 : Ref sig .tc := ⟨.hbm, 573, rfl⟩
abbrev main_v401 : Ref sig .tc := ⟨.hbm, 574, rfl⟩
abbrev main_v402 : Ref sig .tc := ⟨.hbm, 575, rfl⟩
abbrev main_v403 : Ref sig .tc := ⟨.hbm, 576, rfl⟩
abbrev main_v404 : Ref sig .tc := ⟨.hbm, 577, rfl⟩
abbrev main_v405 : Ref sig .tc := ⟨.hbm, 578, rfl⟩
abbrev main_v406 : Ref sig .tc := ⟨.hbm, 579, rfl⟩
abbrev main_v407 : Ref sig .tc := ⟨.hbm, 580, rfl⟩
abbrev main_v408 : Ref sig .tc := ⟨.hbm, 581, rfl⟩
abbrev main_v409 : Ref sig .tc := ⟨.hbm, 582, rfl⟩
abbrev main_v410 : Ref sig .tc := ⟨.hbm, 583, rfl⟩
abbrev main_v411 : Ref sig .tc := ⟨.hbm, 584, rfl⟩
abbrev main_v412 : Ref sig .tc := ⟨.hbm, 585, rfl⟩
abbrev main_v413 : Ref sig .tc := ⟨.hbm, 586, rfl⟩
abbrev main_cst_38 : Ref sig .tc := ⟨.hbm, 587, rfl⟩
abbrev main_v414 : Ref sig .tc := ⟨.hbm, 588, rfl⟩
abbrev main_v415 : Ref sig .tc := ⟨.hbm, 589, rfl⟩
abbrev main_cst_39 : Ref sig .tc := ⟨.hbm, 590, rfl⟩
abbrev main_v416 : Ref sig .tc := ⟨.hbm, 591, rfl⟩
abbrev main_v417 : Ref sig .tc := ⟨.hbm, 592, rfl⟩
abbrev main_cst_40 : Ref sig .tc := ⟨.hbm, 593, rfl⟩
abbrev main_v418 : Ref sig .tc := ⟨.hbm, 594, rfl⟩
abbrev main_v419 : Ref sig .tc := ⟨.hbm, 595, rfl⟩
abbrev main_v420 : Ref sig .tc := ⟨.hbm, 596, rfl⟩
abbrev main_v421 : Ref sig .tc := ⟨.hbm, 597, rfl⟩
abbrev main_v422 : Ref sig .tc := ⟨.hbm, 598, rfl⟩
abbrev main_v423 : Ref sig .tc := ⟨.hbm, 599, rfl⟩
abbrev main_v424 : Ref sig .tc := ⟨.hbm, 600, rfl⟩
abbrev main_v425 : Ref sig .tc := ⟨.hbm, 601, rfl⟩
abbrev main_cst_41 : Ref sig .tc := ⟨.hbm, 602, rfl⟩
abbrev main_v426 : Ref sig .tc := ⟨.hbm, 603, rfl⟩
abbrev main_v427 : Ref sig .tc := ⟨.hbm, 604, rfl⟩
abbrev main_v428 : Ref sig .tc := ⟨.hbm, 605, rfl⟩
abbrev main_v429 : Ref sig .tc := ⟨.hbm, 606, rfl⟩
abbrev main_v430 : Ref sig .tc := ⟨.hbm, 607, rfl⟩
abbrev main_v431 : Ref sig .tc := ⟨.hbm, 608, rfl⟩
abbrev main_v432 : Ref sig .tc := ⟨.hbm, 609, rfl⟩
abbrev main_v433 : Ref sig .tc := ⟨.hbm, 610, rfl⟩
abbrev main_v434 : Ref sig .tc := ⟨.hbm, 611, rfl⟩
abbrev main_v435 : Ref sig .tc := ⟨.hbm, 612, rfl⟩
abbrev main_v436 : Ref sig .tc := ⟨.hbm, 613, rfl⟩
abbrev main_v437 : Ref sig .tc := ⟨.hbm, 614, rfl⟩
abbrev main_v438 : Ref sig .tc := ⟨.hbm, 615, rfl⟩
abbrev main_cst_42 : Ref sig .tc := ⟨.hbm, 616, rfl⟩
abbrev main_v439 : Ref sig .tc := ⟨.hbm, 617, rfl⟩
abbrev main_v440 : Ref sig .tc := ⟨.hbm, 618, rfl⟩
abbrev main_cst_43 : Ref sig .tc := ⟨.hbm, 619, rfl⟩
abbrev main_v441 : Ref sig .tc := ⟨.hbm, 620, rfl⟩
abbrev main_v442 : Ref sig .tc := ⟨.hbm, 621, rfl⟩
abbrev main_cst_44 : Ref sig .tc := ⟨.hbm, 622, rfl⟩
abbrev main_v443 : Ref sig .tc := ⟨.hbm, 623, rfl⟩
abbrev main_v444 : Ref sig .tc := ⟨.hbm, 624, rfl⟩
abbrev main_v445 : Ref sig .tc := ⟨.hbm, 625, rfl⟩
abbrev main_v446 : Ref sig .tc := ⟨.hbm, 626, rfl⟩
abbrev main_v447 : Ref sig .tc := ⟨.hbm, 627, rfl⟩
abbrev main_v448 : Ref sig .tc := ⟨.hbm, 628, rfl⟩
abbrev main_v449 : Ref sig .tc := ⟨.hbm, 629, rfl⟩
abbrev main_v450 : Ref sig .tc := ⟨.hbm, 630, rfl⟩
abbrev main_cst_45 : Ref sig .tc := ⟨.hbm, 631, rfl⟩
abbrev main_v451 : Ref sig .tc := ⟨.hbm, 632, rfl⟩
abbrev main_v452 : Ref sig .tc := ⟨.hbm, 633, rfl⟩
abbrev main_v453 : Ref sig .tc := ⟨.hbm, 634, rfl⟩
abbrev main_v454 : Ref sig .tc := ⟨.hbm, 635, rfl⟩
abbrev main_v455 : Ref sig .tc := ⟨.hbm, 636, rfl⟩
abbrev main_v456 : Ref sig .tc := ⟨.hbm, 637, rfl⟩
abbrev main_v457 : Ref sig .tc := ⟨.hbm, 638, rfl⟩
abbrev main_v458 : Ref sig .tc := ⟨.hbm, 639, rfl⟩
abbrev main_v459 : Ref sig .tc := ⟨.hbm, 640, rfl⟩
abbrev main_v460 : Ref sig .tc := ⟨.hbm, 641, rfl⟩
abbrev main_v461 : Ref sig .tc := ⟨.hbm, 642, rfl⟩
abbrev main_c_46 : Ref sig .tc := ⟨.hbm, 643, rfl⟩
abbrev main_call17_v0 : Ref sig .tc := ⟨.hbm, 644, rfl⟩
abbrev main_v462 : Ref sig .tc := ⟨.hbm, 645, rfl⟩
abbrev main_v463 : Ref sig .tc := ⟨.hbm, 646, rfl⟩
abbrev main_v464 : Ref sig .tc := ⟨.hbm, 647, rfl⟩
abbrev main_v465 : Ref sig .tc := ⟨.hbm, 648, rfl⟩
abbrev main_v466 : Ref sig .tc := ⟨.hbm, 649, rfl⟩
abbrev main_v467 : Ref sig .tc := ⟨.hbm, 650, rfl⟩
abbrev main_v468 : Ref sig .tc := ⟨.hbm, 651, rfl⟩
abbrev main_v469 : Ref sig .tc := ⟨.hbm, 652, rfl⟩
abbrev main_v470 : Ref sig .tc := ⟨.hbm, 653, rfl⟩
abbrev main_v471 : Ref sig .tc := ⟨.hbm, 654, rfl⟩
abbrev main_v472 : Ref sig .tc := ⟨.hbm, 655, rfl⟩
abbrev main_v473 : Ref sig .tc := ⟨.hbm, 656, rfl⟩
abbrev main_v474 : Ref sig .tc := ⟨.hbm, 657, rfl⟩
abbrev main_v475 : Ref sig .tc := ⟨.hbm, 658, rfl⟩
abbrev main_v476 : Ref sig .tc := ⟨.hbm, 659, rfl⟩
abbrev main_v477 : Ref sig .tc := ⟨.hbm, 660, rfl⟩
abbrev main_v478 : Ref sig .tc := ⟨.hbm, 661, rfl⟩
abbrev main_v479 : Ref sig .tc := ⟨.hbm, 662, rfl⟩
abbrev main_v480 : Ref sig .tc := ⟨.hbm, 663, rfl⟩
abbrev main_v481 : Ref sig .tc := ⟨.hbm, 664, rfl⟩
abbrev main_v482 : Ref sig .tc := ⟨.hbm, 665, rfl⟩
abbrev main_v483 : Ref sig .tc := ⟨.hbm, 666, rfl⟩
abbrev main_v484 : Ref sig .tc := ⟨.hbm, 667, rfl⟩
abbrev main_v485 : Ref sig .tc := ⟨.hbm, 668, rfl⟩
abbrev main_v486 : Ref sig .tc := ⟨.hbm, 669, rfl⟩
abbrev main_v487 : Ref sig .tc := ⟨.hbm, 670, rfl⟩
abbrev main_v488 : Ref sig .tc := ⟨.hbm, 671, rfl⟩
abbrev main_v489 : Ref sig .tc := ⟨.hbm, 672, rfl⟩
abbrev main_v490 : Ref sig .tc := ⟨.hbm, 673, rfl⟩
abbrev main_v491 : Ref sig .tc := ⟨.hbm, 674, rfl⟩
abbrev main_v492 : Ref sig .tc := ⟨.hbm, 675, rfl⟩
abbrev main_v493 : Ref sig .tc := ⟨.hbm, 676, rfl⟩
abbrev main_v494 : Ref sig .tc := ⟨.hbm, 677, rfl⟩
abbrev main_v495 : Ref sig .tc := ⟨.hbm, 678, rfl⟩
abbrev main_v496 : Ref sig .tc := ⟨.hbm, 679, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S4x8192x1024 : Shape := ⟨3, ![4, 8192, 1024]⟩
abbrev S4x6144 : Shape := ⟨2, ![4, 6144]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S4x6x1024 : Shape := ⟨3, ![4, 6, 1024]⟩
abbrev S1x1024x1024 : Shape := ⟨3, ![1, 1024, 1024]⟩
abbrev S1x6x1024 : Shape := ⟨3, ![1, 6, 1024]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1024x1280 : Shape := ⟨2, ![1024, 1280]⟩
abbrev S256x1280 : Shape := ⟨2, ![256, 1280]⟩
abbrev S256x2816 : Shape := ⟨2, ![256, 2816]⟩

abbrev nBuf : Space → Nat
  | .hbm => 12
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1024, .f32⟩
  | .hbm, ⟨7, _⟩ => ⟨S4x6x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnReferenceIdeal.lean ====
abbrev S4x8192x1024 : Shape := ⟨3, ![4, 8192, 1024]⟩
abbrev S4x6144 : Shape := ⟨2, ![4, 6144]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩

abbrev nBuf : Space → Nat
  | .hbm => 73
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S4x1x6144, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S1024, .f32⟩
  | .hbm, ⟨18, _⟩ => ⟨S4x8192x1024, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x2816, .f32⟩
  | .hbm, ⟨42, _⟩ => ⟨S4x8192x2816, .f32⟩
  | .hbm, ⟨43, _⟩ => ⟨S4x8192x2816, .f32⟩
  | .hbm, ⟨44, _⟩ => ⟨S_, .f32⟩
  | .hbm, ⟨45, _⟩ => ⟨S4x8192x2816, .f32⟩
  | .hbm, ⟨46, _⟩ => ⟨S4x8192x2816, .f32⟩
  | .hbm, ⟨47, _⟩ => ⟨S_, .f32⟩
  | .hbm, ⟨48, _⟩ => ⟨S4x8192x2816, .f32⟩
  | .hbm, ⟨49, _⟩ => ⟨S4x8192x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S_, .f32⟩
  | .hbm, ⟨59, _⟩ => ⟨S4x8192, .f32⟩
  | .hbm, ⟨60, _⟩ => ⟨S4x8192x1, .f32⟩
  | .hbm, ⟨61, _⟩ => ⟨S_, .f32⟩
  | .hbm, ⟨62, _⟩ => ⟨S4x8192x1, .f32⟩
  | .hbm, ⟨63, _⟩ => ⟨S4x8192x1, .f32⟩
  | .hbm, ⟨64, _⟩ => ⟨S_, .f32⟩
  | .hbm, ⟨65, _⟩ => ⟨S4x8192x1, .f32⟩
  | .hbm, ⟨66, _⟩ => ⟨S4x8192x1, .f32⟩
  | .hbm, ⟨67, _⟩ => ⟨S4x8192x1, .f32⟩
  | .hbm, ⟨68, _⟩ => ⟨S4x8192x1024, .f32⟩
  | .hbm, ⟨69, _⟩ => ⟨S4x8192x1024, .f32⟩
  | .hbm, ⟨70, _⟩ => ⟨S1x1x1024, .f32⟩
  | .hbm, ⟨71, _⟩ => ⟨S4x8192x1024, .f32⟩
  | .hbm, ⟨72, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Ada.lean ====
abbrev S8x1024 : Shape := ⟨2, ![8, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S8x6144 : Shape := ⟨2, ![8, 6144]⟩
abbrev S1024x3072 : Shape := ⟨2, ![1024, 3072]⟩
abbrev S1x3072 : Shape := ⟨2, ![1, 3072]⟩
abbrev S8x3072 : Shape := ⟨2, ![8, 3072]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S8x6144, .f32⟩
  | .local _ .vmem, ⟨0, _⟩ => ⟨S8x1024, .f32⟩
  | .local _ .vmem, ⟨1, _⟩ => ⟨S1024x3072, .f32⟩
  | .local _ .vmem, ⟨2, _⟩ => ⟨S1024x3072, .f32⟩
  | .local _ .vmem, ⟨3, _⟩ => ⟨S1x3072, .f32⟩
  | .local _ .vmem, ⟨4, _⟩ => ⟨S1x3072, .f32⟩
  | .local _ .vmem, ⟨5, _⟩ => ⟨S8x3072, .f32⟩
  | .local _ .vmem, ⟨6, _⟩ => ⟨S8x3072, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x6144, .f32⟩
  | .hbm, ⟨13, _⟩ => ⟨S8x6144, .f32⟩
  | .hbm, ⟨14, _⟩ => ⟨S6144, .f32⟩
  | .hbm, ⟨15, _⟩ => ⟨S1x6144, .f32⟩
  | .hbm, ⟨16, _⟩ => ⟨S8x6144, .f32⟩
  | .hbm, ⟨17, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Proof.FfnBlock.lean ====
module
public import proofs.«01_k».proof.Proof.Gen.FfnIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.FfnIdeal.Ffn
open Cert.FfnIdeal Cert.FfnIdeal.Gen

/-- The two column halves of the gated product, side by side. -/
def glue (P : FVec Ideal S256x1536 .bf16) (Q : FVec Ideal S256x1280 .bf16) : FVec Ideal S256x2816 .bf16 := fun i =>
  if h : (i 1 : ℕ) < 1536 then P (ix2 (i 0) ⟨i 1, h⟩) else Q (ix2 (i 0) ⟨(i 1 : ℕ) - 1536, by have := (i 1).isLt; simp at this ⊢; omega⟩)

/-- A row band of the scratch, read whole after its two column halves are stored, is the two halves side by side. -/
theorem band (o : ℕ) (inbA : ∀ a, (![o, 1536] : Fin 2 → ℕ) a + (![256, 1280] : Fin 2 → ℕ) a ≤ S1024x2816.size a)
    (inbB : ∀ a, (![o, 0] : Fin 2 → ℕ) a + (![256, 1536] : Fin 2 → ℕ) a ≤ S1024x2816.size a)
    (inbL : ∀ a, (![o, 0] : Fin 2 → ℕ) a + (![256, 2816] : Fin 2 → ℕ) a ≤ S1024x2816.size a)
    (P : FVec Ideal S256x1536 .bf16) (Q : FVec Ideal S256x1280 .bf16) (L : List (View.Piece (Elt Ideal) S1024x2816 .bf16)) :
    (fun j => View.canon (⟨Rect.unit (s := S1024x2816) ![o, 1536] ![256, 1280] inbA, Q⟩ :: ⟨Rect.unit (s := S1024x2816) ![o, 0] ![256, 1536] inbB, P⟩ :: L)
      ((Rect.unit (s := S1024x2816) ![o, 0] ![256, 2816] inbL).toLoadRect.idx j)) = glue P Q := by
  funext j
  obtain ⟨r, k, rfl⟩ : ∃ (r : Fin 256) (k : Fin 2816), j = ix2 r k := ⟨j 0, j 1, eq_ix2 j⟩
  by_cases h : (k : ℕ) < 1536
  · rw [View.canon_cons_of_not_mem]
    · have e : (Rect.unit (s := S1024x2816) ![o, 0] ![256, 2816] inbL).toLoadRect.idx (ix2 r k) = (Rect.unit (s := S1024x2816) ![o, 0] ![256, 1536] inbB).emb (ix2 r ⟨k, h⟩) := by
        funext a; match a with
        | ⟨0, _⟩ => rfl
        | ⟨1, _⟩ => rfl
      rw [e, View.canon_cons_emb]
      unfold glue
      rw [dif_pos (show ((ix2 r k : S256x2816.Idx) 1 : ℕ) < 1536 from h)]
      rfl
    · intro hm
      have := (Rect.mem_set_unit (inb := inbA)).mp hm 1
      have h2 : 1536 ≤ 0 + 1 * (k : ℕ) := this.1
      omega
  · have e : (Rect.unit (s := S1024x2816) ![o, 0] ![256, 2816] inbL).toLoadRect.idx (ix2 r k) = (Rect.unit (s := S1024x2816) ![o, 1536] ![256, 1280] inbA).emb (ix2 r ⟨(k : ℕ) - 1536, by omega⟩) := by
      funext a; match a with
      | ⟨0, _⟩ => rfl
      | ⟨1, _⟩ => exact Fin.ext (show 0 + 1 * (k : ℕ) = 1536 + 1 * ((k : ℕ) - 1536) by omega)
    rw [e, View.canon_cons_emb]
    unfold glue
    rw [dif_neg (show ¬ ((ix2 r k : S256x2816.Idx) 1 : ℕ) < 1536 from h)]
    rfl
variable (m : (ℓ : Loc nD τ sig) → Buf (Elt Ideal) ℓ)

/-- What the body leaves for one stream of 256 rows: `h`, the two halves of the gated product, the down product and the final norm. -/
def strm (xs : Vec Ideal S1x256x1024 .f32) (x1 : Vec Ideal S1x6x1024 .f32) (x2 : Vec Ideal S1x1024 .f32) (x3 x4 : Vec Ideal S1024x2816 .bf16)
    (x5 : Vec Ideal S2816x1024 .bf16) (x6 : Vec Ideal S1x1024 .f32) : FVec Ideal S1x256x1024 .f32 :=
  k0_pay12 (k0_pay11 (k0_pay3 (View.ld x1 (Rect.unit ![0, 5, 0] ![1, 1, 1024] inb_S1x6x1024_S1x1x1024_0_5_0))) (k0_pay13 xs)
    (glue (k0_pay15 (k0_pay2 (View.ld x1 (Rect.unit ![0, 3, 0] ![1, 1, 1024] inb_S1x6x1024_S1x1x1024_0_3_0))) (k0_pay4 (View.ld x1 (Rect.unit ![0, 4, 0] ![1, 1, 1024] inb_S1x6x1024_S1x1x1024_0_4_0)) x2) xs
        (View.ld x3 (Rect.unit ![0, 0] ![1024, 1536] inb_S1024x2816_S1024x1536_0_0)) (View.ld x4 (Rect.unit ![0, 0] ![1024, 1536] inb_S1024x2816_S1024x1536_0_0)))
      (k0_pay10 (k0_pay14 (k0_pay2 (View.ld x1 (Rect.unit ![0, 3, 0] ![1, 1, 1024] inb_S1x6x1024_S1x1x1024_0_3_0))) (k0_pay4 (View.ld x1 (Rect.unit ![0, 4, 0] ![1, 1, 1024] inb_S1x6x1024_S1x1x1024_0_4_0)) x2) xs)
        (View.ld x3 (Rect.unit ![0, 1536] ![1024, 1280] inb_S1024x2816_S1024x1280_0_1536)) (View.ld x4 (Rect.unit ![0, 1536] ![1024, 1280] inb_S1024x2816_S1024x1280_0_1536)))) x5 x6)

/-- The output block after the body: four bands of rows, each its stream's result. -/
theorem after7 (c : Dev nD) (t : Fin cfg0.N) : (dats m 0 c).after 7 t = View.canon
    [⟨Rect.unit ![0, 768, 0] ![1, 256, 1024] inb_S1x1024x1024_S1x256x1024_0_768_0, strm (View.ld (iblk m c 0 t) (Rect.unit ![0, 768, 0] ![1, 256, 1024] inb_S1x1024x1024_S1x256x1024_0_768_0)) (iblk m c 1 t) (iblk m c 2 t) (iblk m c 3 t) (iblk m c 4 t) (iblk m c 5 t) (iblk m c 6 t)⟩,
     ⟨Rect.unit ![0, 512, 0] ![1, 256, 1024] inb_S1x1024x1024_S1x256x1024_0_512_0, strm (View.ld (iblk m c 0 t) (Rect.unit ![0, 512, 0] ![1, 256, 1024] inb_S1x1024x1024_S1x256x1024_0_512_0)) (iblk m c 1 t) (iblk m c 2 t) (iblk m c 3 t) (iblk m c 4 t) (iblk m c 5 t) (iblk m c 6 t)⟩,
     ⟨Rect.unit ![0, 256, 0] ![1, 256, 1024] inb_S1x1024x1024_S1x256x1024_0_256_0, strm (View.ld (iblk m c 0 t) (Rect.unit ![0, 256, 0] ![1, 256, 1024] inb_S1x1024x1024_S1x256x1024_0_256_0)) (iblk m c 1 t) (iblk m c 2 t) (iblk m c 3 t) (iblk m c 4 t) (iblk m c 5 t) (iblk m c 6 t)⟩,
     ⟨Rect.unit ![0, 0, 0] ![1, 256, 1024] inb_S1x1024x1024_S1x256x1024_0_0_0, strm (View.ld (iblk m c 0 t) (Rect.unit ![0, 0, 0] ![1, 256, 1024] inb_S1x1024x1024_S1x256x1024_0_0_0)) (iblk m c 1 t) (iblk m c 2 t) (iblk m c 3 t) (iblk m c 4 t) (iblk m c 5 t) (iblk m c 6 t)⟩] := by
  rw [after0_7]
  unfold outsAt0
  frame_out
  simp only [View.readCov_eq_canon']
  rw [band 768, band 512, band 256, band 0]
  rfl
/-! ## One row -/

/-- One row's normalised and modulated input: `x · rsqrt(mean x² + ε) · w · (1 + scale) + shift`. -/
def rowH (x n2 sc sh : Fin 1024 → EReal) (k : Fin 1024) : EReal :=
  x k * Ideal.rsqrt (Ideal.div (∑ j, x j * x j) (Ideal.ofBits FTy.f32 1149239296#32) + Ideal.ofBits FTy.f32 897988541#32) * n2 k * (1 + sc k) + sh k

/-- One row's gated product at a column: `silu(h · wg) · (h · wu)`. -/
def rowA (h wg wu : Fin 1024 → EReal) : EReal :=
  (∑ j, h j * wg j) * Ideal.logistic (∑ j, h j * wg j) * ∑ j, h j * wu j

/-- One row after the residual sum, at a column: `x + gate · (a · wd)`. -/
def rowX (x g : EReal) (a wd : Fin 2816 → EReal) : EReal := x + g * ∑ j, a j * wd j

/-- One row's final RMS norm at a column. -/
def rowO (x : Fin 1024 → EReal) (nf : EReal) (k : Fin 1024) : EReal :=
  x k * Ideal.rsqrt (Ideal.div (∑ j, x j * x j) (Ideal.ofBits FTy.f32 1149239296#32) + Ideal.ofBits FTy.f32 897988541#32) * nf

/-- One row of the whole layer half: from the row, the modulation and the weights to the result at a column. -/
def row (x n2 sc sh g : Fin 1024 → EReal) (wg wu : Fin 1024 → Fin 2816 → EReal) (wd : Fin 2816 → Fin 1024 → EReal) (nf : Fin 1024 → EReal) (k : Fin 1024) : EReal :=
  rowO (fun j => rowX (x j) (g j) (fun n => rowA (rowH x n2 sc sh) (fun i => wg i n) (fun i => wu i n)) (fun n => wd n j)) (nf k) k

theorem hb_at (v1 v10 : FVec Ideal S1x1024 .f32) (xs : Vec Ideal S1x256x1024 .f32) (n2 sc : Fin 1024 → EReal) (hv : ∀ k, v10 (ix2 0 k) = n2 k * (1 + sc k)) (r : Fin 256) (k : Fin 1024) :
    k0_pay14 v1 v10 xs (ix2 r k) = rowH (fun j => xs (ix3 0 r j)) n2 sc (fun j => v1 (ix2 0 j)) k := by
  pointwise [k0_pay14, k0_pay13]
  unfold rowH
  rw [hv, mul_assoc _ (n2 k) _]

theorem left_at (v1 v10 : FVec Ideal S1x1024 .f32) (xs : Vec Ideal S1x256x1024 .f32) (g u : Vec Ideal S1024x1536 .bf16) (r : Fin 256) (n : Fin 1536) :
    k0_pay15 v1 v10 xs g u (ix2 r n) = rowA (fun j => k0_pay14 v1 v10 xs (ix2 r j)) (fun i => g (ix2 i n)) (fun i => u (ix2 i n)) := by
  pointwise [k0_pay15, rowA]

theorem right_at (hb : FVec Ideal S256x1024 .bf16) (g u : Vec Ideal S1024x1280 .bf16) (r : Fin 256) (n : Fin 1280) :
    k0_pay10 hb g u (ix2 r n) = rowA (fun j => hb (ix2 r j)) (fun i => g (ix2 i n)) (fun i => u (ix2 i n)) := by
  pointwise [k0_pay10, rowA]

/-- The glued product at an index: the row formula at the whole weights' column. -/
theorem glue_at (v1 v10 : FVec Ideal S1x1024 .f32) (xs : Vec Ideal S1x256x1024 .f32) (x3 x4 : Vec Ideal S1024x2816 .bf16) (r : Fin 256) (n : Fin 2816) :
    glue (k0_pay15 v1 v10 xs (View.ld x3 (Rect.unit ![0, 0] ![1024, 1536] inb_S1024x2816_S1024x1536_0_0)) (View.ld x4 (Rect.unit ![0, 0] ![1024, 1536] inb_S1024x2816_S1024x1536_0_0)))
      (k0_pay10 (k0_pay14 v1 v10 xs) (View.ld x3 (Rect.unit ![0, 1536] ![1024, 1280] inb_S1024x2816_S1024x1280_0_1536)) (View.ld x4 (Rect.unit ![0, 1536] ![1024, 1280] inb_S1024x2816_S1024x1280_0_1536))) (ix2 r n)
    = rowA (fun j => k0_pay14 v1 v10 xs (ix2 r j)) (fun i => x3 (ix2 i n)) (fun i => x4 (ix2 i n)) := by
  unfold glue
  by_cases h : (n : ℕ) < 1536
  · rw [dif_pos (show ((ix2 r n : S256x2816.Idx) 1 : ℕ) < 1536 from h)]
    refine (left_at v1 v10 xs _ _ r ⟨n, h⟩).trans ?_
    congr 1 <;> funext i <;> pointwise <;> congr 2 <;> exact Fin.ext (by simp)
  · rw [dif_neg (show ¬ ((ix2 r n : S256x2816.Idx) 1 : ℕ) < 1536 from h)]
    refine (right_at _ _ _ r ⟨(n : ℕ) - 1536, by omega⟩).trans ?_
    congr 1 <;> funext i <;> pointwise <;> congr 2 <;> exact Fin.ext (by simp; omega)

/-- One stream's block at an index is the row formula. -/
theorem strm_at (xs : Vec Ideal S1x256x1024 .f32) (x1 : Vec Ideal S1x6x1024 .f32) (x2 : Vec Ideal S1x1024 .f32) (x3 x4 : Vec Ideal S1024x2816 .bf16)
    (x5 : Vec Ideal S2816x1024 .bf16) (x6 : Vec Ideal S1x1024 .f32) (r : Fin 256) (k : Fin 1024) :
    strm xs x1 x2 x3 x4 x5 x6 (ix3 0 r k) = row (fun j => xs (ix3 0 r j)) (fun j => x2 (ix2 0 j)) (fun j => x1 (ix3 0 4 j)) (fun j => x1 (ix3 0 3 j)) (fun j => x1 (ix3 0 5 j))
      (fun i n => x3 (ix2 i n)) (fun i n => x4 (ix2 i n)) (fun n j => x5 (ix2 n j)) (fun j => x6 (ix2 0 j)) k := by
  have hH : ∀ j, k0_pay14 (k0_pay2 (View.ld x1 (Rect.unit ![0, 3, 0] ![1, 1, 1024] inb_S1x6x1024_S1x1x1024_0_3_0))) (k0_pay4 (View.ld x1 (Rect.unit ![0, 4, 0] ![1, 1, 1024] inb_S1x6x1024_S1x1x1024_0_4_0)) x2) xs (ix2 r j)
      = rowH (fun j => xs (ix3 0 r j)) (fun j => x2 (ix2 0 j)) (fun j => x1 (ix3 0 4 j)) (fun j => x1 (ix3 0 3 j)) j := by
    intro j
    rw [hb_at _ _ xs (fun j => x2 (ix2 0 j)) (fun j => x1 (ix3 0 4 j)) (fun k => by pointwise [k0_pay4]) r j]
    congr 1
    funext i
    pointwise [k0_pay2]
  unfold strm
  pointwise [k0_pay12, k0_pay11, k0_pay3, k0_pay13]
  simp only [glue_at, hH]
  rfl
end Cert.FfnIdeal.Ffn
end
-- ==== Proof.Proof.FfnValue.lean ====
module
public import proofs.«01_k».proof.Proof.Proof.FfnBlock
public import proofs.«01_k».proof.Proof.Gen.FfnReferenceIdeal.Run
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.FfnIdeal.Ffn
open Cert.FfnIdeal Cert.FfnIdeal.Gen
variable (m : (ℓ : Loc nD τ sig) → Buf (Elt Ideal) ℓ)

/-- The whole result: at every batch, row and column the row formula of the arguments. -/
def G (X : FVec Ideal S4x8192x1024 .f32) (md : FVec Ideal S4x6144 .f32) (n2 : FVec Ideal S1x1024 .f32) (wg wu : FVec Ideal S1024x2816 .bf16)
    (wd : FVec Ideal S2816x1024 .bf16) (nf : FVec Ideal S1024 .f32) : FVec Ideal S4x8192x1024 .f32 := fun i =>
  row (fun j => X (ix3 (i 0) (i 1) j)) (fun j => n2 (ix2 0 j)) (fun j => md (ix2 (i 0) ⟨4096 + j, by omega⟩)) (fun j => md (ix2 (i 0) ⟨3072 + j, by omega⟩)) (fun j => md (ix2 (i 0) ⟨5120 + j, by omega⟩))
    (fun a n => wg (ix2 a n)) (fun a n => wu (ix2 a n)) (fun n j => wd (ix2 n j)) (fun j => nf (ix1 j)) (i 2)

/-- Every window's block index at every point. -/
theorem idx : ∀ t : Fin cfg0.N, win0_0.index t = ![(grid0.coords t 0).val, (grid0.coords t 1).val, 0] ∧ win0_1.index t = ![(grid0.coords t 0).val, 0, 0] ∧ win0_2.index t = ![0, 0]
    ∧ win0_3.index t = ![0, 0] ∧ win0_4.index t = ![0, 0] ∧ win0_5.index t = ![0, 0] ∧ win0_6.index t = ![0, 0] ∧ win0_7.index t = ![(grid0.coords t 0).val, (grid0.coords t 1).val, 0] :=
  (by decide +kernel : ∀ t : Fin grid0.N, _)

/-- One stream's block against the whole result, at an index given by its coordinates. -/
theorem core (c : Dev nD) (t : Fin cfg0.N) (xs : Vec Ideal S1x256x1024 .f32) (r : Fin 256) (k : Fin 1024) (i : S4x8192x1024.Idx) (R : Fin 1024)
    (hx : ∀ j, xs (ix3 0 r j) = (iblk m c 0 t : Vec Ideal S1x1024x1024 .f32) (ix3 0 R j))
    (h0 : (i 0 : ℕ) = (grid0.coords t 0).val) (h1 : (i 1 : ℕ) = (grid0.coords t 1).val * 1024 + R) (h2 : (i 2 : ℕ) = k) :
    strm xs (iblk m c 1 t) (iblk m c 2 t) (iblk m c 3 t) (iblk m c 4 t) (iblk m c 5 t) (iblk m c 6 t) (ix3 0 r k)
    = G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) i := by
  rw [strm_at]
  unfold G
  have e : i 2 = k := Fin.ext h2
  rw [e]
  congr 1
  · funext j; rw [hx]; blk_ext [iblk, V, idx t]
  · funext j; blk_point [iblk, V, idx t]
  · funext j; blk_point [iblk, V, idx t]
  · funext j; blk_point [iblk, V, idx t]
  · funext j; blk_point [iblk, V, idx t]
  · funext a n; blk_point [iblk, V, idx t]
  · funext a n; blk_point [iblk, V, idx t]
  · funext a n; blk_point [iblk, V, idx t]
  · funext j; blk_point [iblk, V, idx t]

end Cert.FfnIdeal.Ffn
end
-- ==== Proof.Proof.FfnClaims.lean ====
module
public import proofs.«01_k».proof.Defs
public import proofs.«01_k».proof.Proof.Proof.FfnValue
public import proofs.«01_k».proof.Proof.Gen.Ffn.Frame
public import Idealize.ShloMosaic.Lib.Quiescent
@[expose] public section
set_option maxRecDepth 16384
noncomputable section
open Idealize.ShloMosaic Idealize.ShloMosaic.TcCoe Idealize.SL.Sem
open Idealize.ShloMosaic.Pipeline (Dat)
namespace Cert.FfnIdeal.Ffn
open Cert.FfnIdeal Cert.FfnIdeal.Gen
variable (m : (ℓ : Loc nD τ sig) → Buf (Elt Ideal) ℓ)

/-- The result array after the run is the whole result. -/
theorem final (c : Dev nD) : (dats m 0 c).arrAt 7 cfg0.N
    = G (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after7]
  canon_tiles x h
  all_goals
    obtain ⟨a, r, k, rfl⟩ : ∃ (a : Fin 1) (r : Fin 256) (k : Fin 1024), x = ix3 a r k := ⟨x 0, x 1, x 2, eq_ix3 x⟩
    obtain rfl : a = 0 := Subsingleton.elim _ _
  · refine core m c t _ r k _ ⟨768 + r, by omega⟩ (fun j => by pointwise) ?_ ?_ ?_ <;> (blk_simp [idx t] <;> simp_all <;> omega)
  · refine core m c t _ r k _ ⟨512 + r, by omega⟩ (fun j => by pointwise) ?_ ?_ ?_ <;> (blk_simp [idx t] <;> simp_all <;> omega)
  · refine core m c t _ r k _ ⟨256 + r, by omega⟩ (fun j => by pointwise) ?_ ?_ ?_ <;> (blk_simp [idx t] <;> simp_all <;> omega)
  · refine core m c t _ r k _ ⟨0 + r, by omega⟩ (fun j => by pointwise) ?_ ?_ ?_ <;> (blk_simp [idx t] <;> simp_all <;> omega)
end Cert.FfnIdeal.Ffn

namespace Cert.FfnReferenceIdeal.Ref
open Cert.FfnReferenceIdeal Cert.FfnReferenceIdeal.Gen Cert.FfnReferenceIdeal.Value
/-- The normalised and modulated input. -/
def refH (X : FVec Ideal S4x8192x1024 .f32) (md : FVec Ideal S4x6144 .f32) (n2 : FVec Ideal S1x1024 .f32) : FVec Ideal S4x8192x1024 .f32 :=
  addf (mulf (mulf (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast S1024 n2 shapeCasts_S1x1024_S1024)))) (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 0, 4096] (broadcastInDim S4x1x6144 ![0, 2] bcast_S4x6144_S4x1x6144_0_2 md) slices_S4x1x6144_S4x1x1024_0_0_4096)))) (broadcastInDim S4x8192x1024 ![0, 1, 2] bcast_S4x1x1024_S4x8192x1024_0_1_2 (extractStridedSlice S4x1x1024 ![0, 0, 3072] (broadcastInDim S4x1x6144 ![0, 2] bcast_S4x6144_S4x1x6144_0_2 md) slices_S4x1x6144_S4x1x1024_0_0_3072))
/-- The gated product. -/
def refA (H : FVec Ideal S4x8192x1024 .f32) (wg wu : FVec Ideal S1024x2816 .bf16) : FVec Ideal S4x8192x2816 .f32 :=
  mulf (mulf (Host.dotGeneral dot_S4x8192x1024_S1024x2816_S4x8192x2816_2_0_01_1_n_n none H (extf .f32 wg bitsLt_bf16_f32)) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (Host.dotGeneral dot_S4x8192x1024_S1024x2816_S4x8192x2816_2_0_01_1_n_n none H (extf .f32 wg bitsLt_bf16_f32))))))) (Host.dotGeneral dot_S4x8192x1024_S1024x2816_S4x8192x2816_2_0_01_1_n_n none H (extf .f32 wu bitsLt_bf16_f32))
/-- The residual sum. -/
def refX (X : FVec Ideal S4x8192x1024 .f32) (md : FVec Ideal S4x6144 .f32) (A : FVec Ideal S4x8192x2816 .f32) (wd : FVec Ideal S2816x1024 .bf16) : FVec Ideal S4x8192x1024 .f32 :=
  addf X (mulf (broadcastInDim S4x8192x1024 ![0, 1, 2] bcast_S4x1x1024_S4x8192x1024_0_1_2 (extractStridedSlice S4x1x1024 ![0, 0, 5120] (broadcastInDim S4x1x6144 ![0, 2] bcast_S4x6144_S4x1x6144_0_2 md) slices_S4x1x6144_S4x1x1024_0_0_5120)) (Host.dotGeneral dot_S4x8192x2816_S2816x1024_S4x8192x1024_2_0_01_1_n_n none A (extf .f32 wd bitsLt_bf16_f32)))
/-- The final norm. -/
def refO (X2 : FVec Ideal S4x8192x1024 .f32) (nf : FVec Ideal S1024 .f32) : FVec Ideal S4x8192x1024 .f32 :=
  mulf (mulf X2 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X2 X2) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 nf))
variable (m : (ℓ : Loc nD τ sig) → Buf (Elt Ideal) ℓ)
/-- The reference's result in stages. -/
theorem res_eq (c : Dev nD) : res_main_v50 (F := Ideal) m c = refO (refX (m ((c.tc : Thread nD τ).loc main_arg0)) (m ((c.tc : Thread nD τ).loc main_arg1)) (refA (refH (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) (m ((c.tc : Thread nD τ).loc main_arg5))) (m ((c.tc : Thread nD τ).loc main_arg6)) := rfl

open Cert.FfnIdeal.Ffn in
/-- The reference's stages at an index are the row formula. -/
theorem ref_at (X : FVec Ideal S4x8192x1024 .f32) (md : FVec Ideal S4x6144 .f32) (n2 : FVec Ideal S1x1024 .f32) (wg wu : FVec Ideal S1024x2816 .bf16)
    (wd : FVec Ideal S2816x1024 .bf16) (nf : FVec Ideal S1024 .f32) :
    refO (refX X md (refA (refH X md n2) wg wu) wd) nf = G X md n2 wg wu wd nf := by
  funext i
  obtain ⟨b, r, k, rfl⟩ : ∃ (b : Fin 4) (r : Fin 8192) (k : Fin 1024), i = ix3 b r k := ⟨i 0, i 1, i 2, eq_ix3 i⟩
  have hH : ∀ j, refH X md n2 (ix3 b r j) = rowH (fun j => X (ix3 b r j)) (fun j => n2 (ix2 0 j)) (fun j => md (ix2 b ⟨4096 + j, by omega⟩)) (fun j => md (ix2 b ⟨3072 + j, by omega⟩)) j := by
    intro j
    pointwise [refH, rowH]
  have hA : ∀ n, refA (refH X md n2) wg wu (ix3 b r n) = rowA (rowH (fun j => X (ix3 b r j)) (fun j => n2 (ix2 0 j)) (fun j => md (ix2 b ⟨4096 + j, by omega⟩)) (fun j => md (ix2 b ⟨3072 + j, by omega⟩))) (fun i => wg (ix2 i n)) (fun i => wu (ix2 i n)) := by
    intro n
    pointwise [refA]
    simp only [hH]
    rfl
  have hX : ∀ j, refX X md (refA (refH X md n2) wg wu) wd (ix3 b r j) = rowX (X (ix3 b r j)) (md (ix2 b ⟨5120 + j, by omega⟩)) (fun n => rowA (rowH (fun j => X (ix3 b r j)) (fun j => n2 (ix2 0 j)) (fun j => md (ix2 b ⟨4096 + j, by omega⟩)) (fun j => md (ix2 b ⟨3072 + j, by omega⟩))) (fun i => wg (ix2 i n)) (fun i => wu (ix2 i n))) (fun n => wd (ix2 n j)) := by
    intro j
    pointwise [refX]
    simp only [hA]
    rfl
  pointwise [refO]
  simp only [hX]
  rfl
end Cert.FfnReferenceIdeal.Ref

namespace Cert.Proof.FfnClaims

/-- The kernel's frame. -/
theorem frame_k : Cert.quiescent_Ffn := fun m ρ _ => Cert.Ffn.Gen.frame m ρ
/-- The idealized kernel's frame. -/
theorem frame_ki : Cert.quiescent_FfnIdeal := fun m ρ _ => Cert.FfnIdeal.Gen.frame m ρ
/-- The reference's frame: its run leaves the arguments, and it declares no semaphore. -/
theorem frame_ri : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)
/-- The ideal pass rewrote nothing. -/
theorem preserves : Cert.preserves_Ffn_FfnIdeal := trivial
/-- Over the extended reals the kernel's result is the reference's. -/
theorem algebraic : Cert.algebraic_FfnIdeal_FfnReferenceIdeal := by
  intro m ρ m' ρ' _ hagree
  refine ⟨fun c => (Cert.FfnIdeal.Gen.dats m 0 c).arrAt 7 Cert.FfnIdeal.cfg0.N, Cert.FfnIdeal.Value.run_blocks (F := Ideal) m ρ, ?_⟩
  refine (θ_run Cert.FfnReferenceIdeal.defs _ _).mono (fun _ h c => ⟨(h c).1.trans ?_, (h c).2⟩)
    (Cert.FfnReferenceIdeal.Value.run (F := Ideal) m' ρ')
  obtain ⟨h0, h1, h2, h3, h4, h5, h6⟩ := hagree c
  rw [Cert.FfnReferenceIdeal.Ref.res_eq, Cert.FfnReferenceIdeal.Ref.ref_at, h0, h1, h2, h3, h4, h5, h6]
  exact (Cert.FfnIdeal.Ffn.final m c).symm

end Cert.Proof.FfnClaims
end
-- ==== Proof.Proof.MixHost.lean ====
module
public import proofs.«01_k».proof.Proof.Gen.KernelIdeal.Frame
public import Idealize.ShloMosaic.Lib.StableHlo.RunRead
public import Idealize.ShloMosaic.Lib.Pointwise
public import Idealize.ShloMosaic.Lib.Pipeline.ValueKit
public import Idealize.ShloMosaic.Lib.Tactic

@[expose] public section
set_option maxRecDepth 65536
noncomputable section
namespace Cert.Mix
open Idealize.ShloMosaic Idealize.ShloMosaic.TcCoe Idealize.SL.Sem Cert.KernelIdeal Cert.KernelIdeal.Gen

def bI (d : IVec S_ 32) : IVec S128x128 32 := broadcastInDim S128x128 ![] bcast_S_S128x128 d
def bF (d : FVec Ideal S_ .f32) : FVec Ideal S128x128 .f32 := broadcastInDim S128x128 ![] bcast_S_S128x128 d
def fdiv (x : IVec S128x128 32) (d : BitVec 32) : IVec S128x128 32 :=
  select (andi (cmpi .ne (signi x) (bI (signi (constantI S_ 32 d)))) (cmpi .ne (Host.remsi x (bI (constantI S_ 32 d))) (bI (constantI S_ 32 0#32))))
    (subi (Host.divsi x (bI (constantI S_ 32 d))) (bI (constantI S_ 32 1#32))) (Host.divsi x (bI (constantI S_ 32 d)))
def dfix (d : BitVec 32) : IVec S_ 32 := select (cmpi .eq (constantI S_ 32 d) (constantI S_ 32 0#32)) (constantI S_ 32 1#32) (constantI S_ 32 d)
def frem (x : IVec S128x128 32) (d : BitVec 32) : IVec S128x128 32 :=
  select (andi (cmpi .ne (cmpi .slt (Host.remsi x (bI (dfix d))) (bI (constantI S_ 32 0#32)))
      (broadcastInDim S128x128 ![] bcast_S_S128x128 (cmpi .slt (dfix d) (constantI S_ 32 0#32)))) (cmpi .ne (Host.remsi x (bI (dfix d))) (bI (constantI S_ 32 0#32))))
    (addi (Host.remsi x (bI (dfix d))) (bI (dfix d))) (Host.remsi x (bI (dfix d)))
def ri : IVec S128x128 32 := iotaInDim S128x128 32 0
def ci : IVec S128x128 32 := iotaInDim S128x128 32 1
def wh (b : IVec S128x128 1) : FVec Ideal S128x128 .f32 := select b (bF (constant S_ .f32 0x3F800000#32)) (bF (constant S_ .f32 0x00000000#32))
def trilB : IVec S128x128 1 := andi (cmpi .eq (fdiv ri 64#32) (fdiv ci 64#32)) (cmpi .sge ri ci)
def eyeB : IVec S128x128 1 := cmpi .eq ri ci
def lvlB (d h : BitVec 32) : IVec S128x128 1 := andi (andi (cmpi .eq (fdiv ri d) (fdiv ci d)) (cmpi .sge (frem ri d) (bI (constantI S_ 32 h)))) (cmpi .slt (frem ci d) (bI (constantI S_ 32 h)))
def lane (x : FVec Ideal S4 .f32) : FVec Ideal S1x128 .f32 :=
  Host.scatter scatter_S1x128_S2_S4_0_0_01_0 (fun _ b => b) (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) x
def up3 (x : FVec Ideal S128x128 .f32) : FVec Ideal S1x128x128 .f32 := broadcastInDim S1x128x128 ![1, 2] bcast_S128x128_S1x128x128_1_2 x
def lvls : FVec Ideal S6x128x128 .f32 := concatenate S6x128x128 0 [⟨S1x128x128, up3 (wh (lvlB 2#32 1#32))⟩, ⟨S1x128x128, up3 (wh (lvlB 4#32 2#32))⟩, ⟨S1x128x128, up3 (wh (lvlB 8#32 4#32))⟩, ⟨S1x128x128, up3 (wh (lvlB 16#32 8#32))⟩, ⟨S1x128x128, up3 (wh (lvlB 32#32 16#32))⟩, ⟨S1x128x128, up3 (wh (lvlB 64#32 32#32))⟩] concatenates_S1x128x128_S1x128x128_S1x128x128_S1x128x128_S1x128x128_S1x128x128_S6x128x128_d0
variable (m : (ℓ : Loc nD τ sig) → Buf (Elt Ideal) ℓ) (c : Dev nD)
theorem V118 : V m c main_v118 = shapeCast S1x1024 (shapeCast S1024 (m ((c : Thread nD τ).loc main_arg2)) shapeCasts_S1x1024_S1024) shapeCasts_S1024_S1x1024 := by
  unfold V
  simp only [List.flatten_cons, List.flatten_nil]
  after_reads_simp
  rfl
theorem V119 : V m c main_v119 = (truncf .bf16 (shapeCast S1024x3592 (m ((c : Thread nD τ).loc main_arg3)) shapeCasts_S1x1024x3592_S1024x3592 : FVec Ideal S1024x3592 .f32) bitsLt_bf16_f32 : FVec Ideal S1024x3592 .bf16) := by
  unfold V
  simp only [List.flatten_cons, List.flatten_nil]
  after_reads_simp
  rfl
theorem V2 : V m c main_v2 = shapeCast S4x1536 (m ((c : Thread nD τ).loc main_arg4)) shapeCasts_S1x4x1536_S4x1536 := by
  unfold V
  simp only [List.flatten_cons, List.flatten_nil]
  after_reads_simp
  rfl
theorem V6 : V m c main_v6 = shapeCast S3x512 (m ((c : Thread nD τ).loc main_arg8)) shapeCasts_S1x3x512_S3x512 := by
  unfold V
  simp only [List.flatten_cons, List.flatten_nil]
  after_reads_simp
  rfl
theorem V15 : V m c main_v15 = lane (shapeCast S4 (m ((c : Thread nD τ).loc main_arg5)) shapeCasts_S1x4_S4) := by
  unfold V
  simp only [List.flatten_cons, List.flatten_nil]
  after_reads_simp
  rfl
theorem V20 : V m c main_v20 = lane (shapeCast S4 (m ((c : Thread nD τ).loc main_arg6)) shapeCasts_S1x4_S4) := by
  unfold V
  simp only [List.flatten_cons, List.flatten_nil]
  after_reads_simp
  rfl
theorem V120 : V m c main_v120 = shapeCast S1x128 (shapeCast S128 (m ((c : Thread nD τ).loc main_arg7)) shapeCasts_S1x128_S128) shapeCasts_S128_S1x128 := by
  unfold V
  simp only [List.flatten_cons, List.flatten_nil]
  after_reads_simp
  rfl
theorem V121 : V m c main_v121 = (truncf .bf16 (shapeCast S1024x1024 (m ((c : Thread nD τ).loc main_arg9)) shapeCasts_S1x1024x1024_S1024x1024 : FVec Ideal S1024x1024 .f32) bitsLt_bf16_f32 : FVec Ideal S1024x1024 .bf16) := by
  unfold V
  simp only [List.flatten_cons, List.flatten_nil]
  after_reads_simp
  rfl
theorem V29 : V m c main_v29 = wh trilB := by
  unfold V
  simp only [List.flatten_cons, List.flatten_nil]
  after_reads_simp
  rfl
theorem V32 : V m c main_v32 = wh eyeB := by
  unfold V
  simp only [List.flatten_cons, List.flatten_nil]
  after_reads_simp
  rfl
theorem V122 : V m c main_v122 = (truncf .bf16 (wh trilB) bitsLt_bf16_f32 : FVec Ideal S128x128 .bf16) := by
  unfold V
  simp only [List.flatten_cons, List.flatten_nil]
  after_reads_simp
  rfl
theorem V8 : V m c main_v8 = shapeCast S1024x2816 (m ((c : Thread nD τ).loc main_arg10)) shapeCasts_S1x1024x2816_S1024x2816 := by
  unfold V
  simp only [List.flatten_cons, List.flatten_nil]
  after_reads_simp
  rfl
theorem V9 : V m c main_v9 = shapeCast S1024x2816 (m ((c : Thread nD τ).loc main_arg11)) shapeCasts_S1x1024x2816_S1024x2816 := by
  unfold V
  simp only [List.flatten_cons, List.flatten_nil]
  after_reads_simp
  rfl
theorem V10 : V m c main_v10 = shapeCast S2816x1024 (m ((c : Thread nD τ).loc main_arg12)) shapeCasts_S1x2816x1024_S2816x1024 := by
  unfold V
  simp only [List.flatten_cons, List.flatten_nil]
  after_reads_simp
  rfl
end Cert.Mix
end
-- ==== Proof.Proof.MixHostV.lean ====
module
public import proofs.«01_k».proof.Proof.Proof.MixHost
@[expose] public section
set_option maxRecDepth 65536
noncomputable section
namespace Cert.Mix
open Idealize.ShloMosaic Idealize.ShloMosaic.TcCoe Idealize.SL.Sem Cert.KernelIdeal Cert.KernelIdeal.Gen
theorem wh_at (b : IVec S128x128 1) (P : Prop) [Decidable P] (r c : Fin 128) (h : b (ix2 r c) = if P then 1#1 else 0#1) :
    wh b (ix2 r c) = if P then 1 else 0 := by
  pointwise [wh, bF]
  rw [h]
  by_cases hp : P
  · simp [hp, Ideal.ofBits, Ideal.ieee, Scalar.select]
  · simp [hp, Ideal.ofBits, Ideal.ieee, Scalar.select]
def sg (x : BitVec 32) : BitVec 32 := if x = 0 then 0 else if x.msb then -1 else 1
def fd1 (x d : BitVec 32) : BitVec 32 :=
  Scalar.select (IntOp.andi (IntOp.cmpi .ne (sg x) (sg d)) (IntOp.cmpi .ne (IntOp.remsi .host x d) 0#32)) (IntOp.subi (IntOp.divsi .host x d) 1#32) (IntOp.divsi .host x d)
def df1 (d : BitVec 32) : BitVec 32 := Scalar.select (IntOp.cmpi .eq d 0#32) 1#32 d
def fr1 (x d : BitVec 32) : BitVec 32 :=
  Scalar.select (IntOp.andi (IntOp.cmpi .ne (IntOp.cmpi .slt (IntOp.remsi .host x (df1 d)) 0#32) (IntOp.cmpi .slt (df1 d) 0#32)) (IntOp.cmpi .ne (IntOp.remsi .host x (df1 d)) 0#32))
    (IntOp.addi (IntOp.remsi .host x (df1 d)) (df1 d)) (IntOp.remsi .host x (df1 d))
theorem fdiv_at (x : IVec S128x128 32) (d : BitVec 32) (i : S128x128.Idx) : fdiv x d i = fd1 (x i) d := rfl
theorem frem_at (x : IVec S128x128 32) (d : BitVec 32) (i : S128x128.Idx) : frem x d i = fr1 (x i) d := rfl
theorem ri_at (r c : Fin 128) : ri (ix2 r c) = BitVec.ofNat 32 r.val := rfl
theorem ci_at (r c : Fin 128) : ci (ix2 r c) = BitVec.ofNat 32 c.val := rfl
theorem eq_of (a b : ℕ) (ha : a < 128) (hb : b < 128) : IntOp.cmpi .eq (BitVec.ofNat 32 a) (BitVec.ofNat 32 b) = if a = b then 1#1 else 0#1 := by
  have : ∀ a b : Fin 128, IntOp.cmpi .eq (BitVec.ofNat 32 a.val) (BitVec.ofNat 32 b.val) = if a.val = b.val then 1#1 else 0#1 := by decide +kernel
  exact this ⟨a, ha⟩ ⟨b, hb⟩
theorem ge_of (a b : ℕ) (ha : a < 128) (hb : b < 128) : IntOp.cmpi .sge (BitVec.ofNat 32 a) (BitVec.ofNat 32 b) = if b ≤ a then 1#1 else 0#1 := by
  have : ∀ a b : Fin 128, IntOp.cmpi .sge (BitVec.ofNat 32 a.val) (BitVec.ofNat 32 b.val) = if b.val ≤ a.val then 1#1 else 0#1 := by decide +kernel
  exact this ⟨a, ha⟩ ⟨b, hb⟩
theorem and_of (P Q : Prop) [Decidable P] [Decidable Q] : IntOp.andi (if P then 1#1 else 0#1) (if Q then 1#1 else 0#1) = if P ∧ Q then 1#1 else 0#1 := by
  by_cases hp : P <;> by_cases hq : Q <;> simp [hp, hq, IntOp.andi]
theorem if_iff {P Q : Prop} [Decidable P] [Decidable Q] (h : P ↔ Q) : (if P then 1#1 else 0#1 : BitVec 1) = if Q then 1#1 else 0#1 := if_congr h rfl rfl
theorem eye_at (r c : Fin 128) : eyeB (ix2 r c) = if r = c then 1#1 else 0#1 := by
  show IntOp.cmpi .eq (ri (ix2 r c)) (ci (ix2 r c)) = _
  rw [ri_at, ci_at, eq_of _ _ r.isLt c.isLt]
  exact if_iff Fin.ext_iff.symm
theorem fd_2 : ∀ r : Fin 128, fd1 (BitVec.ofNat 32 r.val) 2#32 = BitVec.ofNat 32 (r.val / 2) := by decide +kernel
theorem ge_2 : ∀ r : Fin 128, IntOp.cmpi .sge (fr1 (BitVec.ofNat 32 r.val) 2#32) 1#32 = if r.val / 1 % 2 = 1 then 1#1 else 0#1 := by decide +kernel
theorem lt_2 : ∀ r : Fin 128, IntOp.cmpi .slt (fr1 (BitVec.ofNat 32 r.val) 2#32) 1#32 = if r.val / 1 % 2 = 0 then 1#1 else 0#1 := by decide +kernel
theorem lvl_2 (r c : Fin 128) : lvlB 2#32 1#32 (ix2 r c) = if r.val / 1 / 2 = c.val / 1 / 2 ∧ r.val / 1 % 2 = 1 ∧ c.val / 1 % 2 = 0 then 1#1 else 0#1 := by
  show IntOp.andi (IntOp.andi (IntOp.cmpi .eq (fdiv ri 2#32 (ix2 r c)) (fdiv ci 2#32 (ix2 r c))) (IntOp.cmpi .sge (frem ri 2#32 (ix2 r c)) 1#32)) (IntOp.cmpi .slt (frem ci 2#32 (ix2 r c)) 1#32) = _
  rw [fdiv_at, fdiv_at, frem_at, frem_at, ri_at, ci_at, fd_2, fd_2, ge_2, lt_2, eq_of _ _ (by omega) (by omega), and_of, and_of]
  exact if_iff (by omega)
theorem fd_4 : ∀ r : Fin 128, fd1 (BitVec.ofNat 32 r.val) 4#32 = BitVec.ofNat 32 (r.val / 4) := by decide +kernel
theorem ge_4 : ∀ r : Fin 128, IntOp.cmpi .sge (fr1 (BitVec.ofNat 32 r.val) 4#32) 2#32 = if r.val / 2 % 2 = 1 then 1#1 else 0#1 := by decide +kernel
theorem lt_4 : ∀ r : Fin 128, IntOp.cmpi .slt (fr1 (BitVec.ofNat 32 r.val) 4#32) 2#32 = if r.val / 2 % 2 = 0 then 1#1 else 0#1 := by decide +kernel
theorem lvl_4 (r c : Fin 128) : lvlB 4#32 2#32 (ix2 r c) = if r.val / 2 / 2 = c.val / 2 / 2 ∧ r.val / 2 % 2 = 1 ∧ c.val / 2 % 2 = 0 then 1#1 else 0#1 := by
  show IntOp.andi (IntOp.andi (IntOp.cmpi .eq (fdiv ri 4#32 (ix2 r c)) (fdiv ci 4#32 (ix2 r c))) (IntOp.cmpi .sge (frem ri 4#32 (ix2 r c)) 2#32)) (IntOp.cmpi .slt (frem ci 4#32 (ix2 r c)) 2#32) = _
  rw [fdiv_at, fdiv_at, frem_at, frem_at, ri_at, ci_at, fd_4, fd_4, ge_4, lt_4, eq_of _ _ (by omega) (by omega), and_of, and_of]
  exact if_iff (by omega)
theorem fd_8 : ∀ r : Fin 128, fd1 (BitVec.ofNat 32 r.val) 8#32 = BitVec.ofNat 32 (r.val / 8) := by decide +kernel
theorem ge_8 : ∀ r : Fin 128, IntOp.cmpi .sge (fr1 (BitVec.ofNat 32 r.val) 8#32) 4#32 = if r.val / 4 % 2 = 1 then 1#1 else 0#1 := by decide +kernel
theorem lt_8 : ∀ r : Fin 128, IntOp.cmpi .slt (fr1 (BitVec.ofNat 32 r.val) 8#32) 4#32 = if r.val / 4 % 2 = 0 then 1#1 else 0#1 := by decide +kernel
theorem lvl_8 (r c : Fin 128) : lvlB 8#32 4#32 (ix2 r c) = if r.val / 4 / 2 = c.val / 4 / 2 ∧ r.val / 4 % 2 = 1 ∧ c.val / 4 % 2 = 0 then 1#1 else 0#1 := by
  show IntOp.andi (IntOp.andi (IntOp.cmpi .eq (fdiv ri 8#32 (ix2 r c)) (fdiv ci 8#32 (ix2 r c))) (IntOp.cmpi .sge (frem ri 8#32 (ix2 r c)) 4#32)) (IntOp.cmpi .slt (frem ci 8#32 (ix2 r c)) 4#32) = _
  rw [fdiv_at, fdiv_at, frem_at, frem_at, ri_at, ci_at, fd_8, fd_8, ge_8, lt_8, eq_of _ _ (by omega) (by omega), and_of, and_of]
  exact if_iff (by omega)
theorem fd_16 : ∀ r : Fin 128, fd1 (BitVec.ofNat 32 r.val) 16#32 = BitVec.ofNat 32 (r.val / 16) := by decide +kernel
theorem ge_16 : ∀ r : Fin 128, IntOp.cmpi .sge (fr1 (BitVec.ofNat 32 r.val) 16#32) 8#32 = if r.val / 8 % 2 = 1 then 1#1 else 0#1 := by decide +kernel
theorem lt_16 : ∀ r : Fin 128, IntOp.cmpi .slt (fr1 (BitVec.ofNat 32 r.val) 16#32) 8#32 = if r.val / 8 % 2 = 0 then 1#1 else 0#1 := by decide +kernel
theorem lvl_16 (r c : Fin 128) : lvlB 16#32 8#32 (ix2 r c) = if r.val / 8 / 2 = c.val / 8 / 2 ∧ r.val / 8 % 2 = 1 ∧ c.val / 8 % 2 = 0 then 1#1 else 0#1 := by
  show IntOp.andi (IntOp.andi (IntOp.cmpi .eq (fdiv ri 16#32 (ix2 r c)) (fdiv ci 16#32 (ix2 r c))) (IntOp.cmpi .sge (frem ri 16#32 (ix2 r c)) 8#32)) (IntOp.cmpi .slt (frem ci 16#32 (ix2 r c)) 8#32) = _
  rw [fdiv_at, fdiv_at, frem_at, frem_at, ri_at, ci_at, fd_16, fd_16, ge_16, lt_16, eq_of _ _ (by omega) (by omega), and_of, and_of]
  exact if_iff (by omega)
theorem fd_32 : ∀ r : Fin 128, fd1 (BitVec.ofNat 32 r.val) 32#32 = BitVec.ofNat 32 (r.val / 32) := by decide +kernel
theorem ge_32 : ∀ r : Fin 128, IntOp.cmpi .sge (fr1 (BitVec.ofNat 32 r.val) 32#32) 16#32 = if r.val / 16 % 2 = 1 then 1#1 else 0#1 := by decide +kernel
theorem lt_32 : ∀ r : Fin 128, IntOp.cmpi .slt (fr1 (BitVec.ofNat 32 r.val) 32#32) 16#32 = if r.val / 16 % 2 = 0 then 1#1 else 0#1 := by decide +kernel
theorem lvl_32 (r c : Fin 128) : lvlB 32#32 16#32 (ix2 r c) = if r.val / 16 / 2 = c.val / 16 / 2 ∧ r.val / 16 % 2 = 1 ∧ c.val / 16 % 2 = 0 then 1#1 else 0#1 := by
  show IntOp.andi (IntOp.andi (IntOp.cmpi .eq (fdiv ri 32#32 (ix2 r c)) (fdiv ci 32#32 (ix2 r c))) (IntOp.cmpi .sge (frem ri 32#32 (ix2 r c)) 16#32)) (IntOp.cmpi .slt (frem ci 32#32 (ix2 r c)) 16#32) = _
  rw [fdiv_at, fdiv_at, frem_at, frem_at, ri_at, ci_at, fd_32, fd_32, ge_32, lt_32, eq_of _ _ (by omega) (by omega), and_of, and_of]
  exact if_iff (by omega)
theorem fd_64 : ∀ r : Fin 128, fd1 (BitVec.ofNat 32 r.val) 64#32 = BitVec.ofNat 32 (r.val / 64) := by decide +kernel
theorem ge_64 : ∀ r : Fin 128, IntOp.cmpi .sge (fr1 (BitVec.ofNat 32 r.val) 64#32) 32#32 = if r.val / 32 % 2 = 1 then 1#1 else 0#1 := by decide +kernel
theorem lt_64 : ∀ r : Fin 128, IntOp.cmpi .slt (fr1 (BitVec.ofNat 32 r.val) 64#32) 32#32 = if r.val / 32 % 2 = 0 then 1#1 else 0#1 := by decide +kernel
theorem lvl_64 (r c : Fin 128) : lvlB 64#32 32#32 (ix2 r c) = if r.val / 32 / 2 = c.val / 32 / 2 ∧ r.val / 32 % 2 = 1 ∧ c.val / 32 % 2 = 0 then 1#1 else 0#1 := by
  show IntOp.andi (IntOp.andi (IntOp.cmpi .eq (fdiv ri 64#32 (ix2 r c)) (fdiv ci 64#32 (ix2 r c))) (IntOp.cmpi .sge (frem ri 64#32 (ix2 r c)) 32#32)) (IntOp.cmpi .slt (frem ci 64#32 (ix2 r c)) 32#32) = _
  rw [fdiv_at, fdiv_at, frem_at, frem_at, ri_at, ci_at, fd_64, fd_64, ge_64, lt_64, eq_of _ _ (by omega) (by omega), and_of, and_of]
  exact if_iff (by omega)
theorem tril_at (r c : Fin 128) : trilB (ix2 r c) = if r.val / 64 = c.val / 64 ∧ c ≤ r then 1#1 else 0#1 := by
  show IntOp.andi (IntOp.cmpi .eq (fdiv ri 64#32 (ix2 r c)) (fdiv ci 64#32 (ix2 r c))) (IntOp.cmpi .sge (ri (ix2 r c)) (ci (ix2 r c))) = _
  rw [fdiv_at, fdiv_at, ri_at, ci_at, fd_64, fd_64, eq_of _ _ (by omega) (by omega), ge_of _ _ r.isLt c.isLt, and_of]
  exact if_iff Iff.rfl
theorem lane_idx : ∀ n : Fin S4.numel, (scatter_S1x128_S2_S4_0_0_01_0).resultIdx? (S4.rowMajor.symm n) (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) = some (ix2 0 ⟨n.val, lt_trans n.isLt (by decide)⟩ : S1x128.Idx) := by
  decide +kernel
theorem lane_rm : ∀ n : Fin S4.numel, (S4.rowMajor.symm n 0).val = n.val := by decide +kernel
theorem fold_hit {N : ℕ} {I β : Type} [DecidableEq I] (e : Fin N → I) (he : ∀ a b, e a = e b → a = b) (u : Fin N → β) (x0 : I → β) (n : Fin N) (l : List (Fin N)) :
    n ∈ l → (l.foldl (fun r n => fun i' => if i' = e n then u n else r i') x0) (e n) = u n := by
  induction l using List.reverseRecOn with
  | nil => intro h; simp at h
  | append_singleton l a ih =>
    intro h
    rw [List.foldl_append, List.foldl_cons, List.foldl_nil]
    by_cases ha : n = a
    · subst ha; exact if_pos rfl
    · refine (if_neg fun h' => ha (he _ _ h')).trans (ih ?_)
      simpa [ha] using h
theorem scatter_hit {α : Type} {s si u : Shape} {w : ℕ} (d : ScatterDims s si u) (x0 : s.Idx → α) (idx : IVec si w) (upd : u.Idx → α) (e : Fin u.numel → s.Idx)
    (h : ∀ n, d.resultIdx? (u.rowMajor.symm n) idx = some (e n)) (he : ∀ a b, e a = e b → a = b) (n : Fin u.numel) :
    Host.scatter d (fun _ b => b) x0 idx upd (e n) = upd (u.rowMajor.symm n) := by
  unfold Host.scatter
  simp only [h]
  exact fold_hit e he (fun n => upd (u.rowMajor.symm n)) x0 n _ (List.mem_finRange _)
theorem lane_at (x : FVec Ideal S4 .f32) (k : Fin 4) : lane x (ix2 0 ⟨k, by omega⟩) = x (ix1 k) := by
  have hn : k.val < S4.numel := lt_of_lt_of_eq k.isLt (by decide)
  unfold lane
  refine (scatter_hit _ _ _ x (fun n : Fin S4.numel => (ix2 0 ⟨n.val, lt_trans n.isLt (by decide)⟩ : S1x128.Idx)) lane_idx ?_ ⟨k.val, hn⟩).trans ?_
  · intro a b h
    exact Fin.ext (Fin.mk.inj_iff.mp (congrFun h 1))
  · refine congrArg x (funext fun a => ?_)
    fin_cases a
    exact Fin.ext (lane_rm ⟨k.val, hn⟩)
end Cert.Mix
end
-- ==== Proof.Proof.MixLvlA.lean ====
module
public import proofs.«01_k».proof.Proof.Proof.MixHost
@[expose] public section
set_option maxRecDepth 65536
set_option maxHeartbeats 4000000
noncomputable section
namespace Cert.Mix
open Idealize.ShloMosaic Idealize.ShloMosaic.TcCoe Idealize.SL.Sem Cert.KernelIdeal Cert.KernelIdeal.Gen
variable (m : (ℓ : Loc nD τ sig) → Buf (Elt Ideal) ℓ) (c : Dev nD)
/-- The level of half width 1. -/
theorem V45 : V m c main_v45 = wh (lvlB 2#32 1#32) := by
  unfold V
  simp only [List.flatten_cons, List.flatten_nil]
  after_reads_simp
  rfl
/-- The level of half width 2. -/
theorem V58 : V m c main_v58 = wh (lvlB 4#32 2#32) := by
  unfold V
  simp only [List.flatten_cons, List.flatten_nil]
  after_reads_simp
  rfl
end Cert.Mix
end
-- ==== Proof.Proof.MixLvlB.lean ====
module
public import proofs.«01_k».proof.Proof.Proof.MixHost
@[expose] public section
set_option maxRecDepth 65536
set_option maxHeartbeats 4000000
noncomputable section
namespace Cert.Mix
open Idealize.ShloMosaic Idealize.ShloMosaic.TcCoe Idealize.SL.Sem Cert.KernelIdeal Cert.KernelIdeal.Gen
variable (m : (ℓ : Loc nD τ sig) → Buf (Elt Ideal) ℓ) (c : Dev nD)
/-- The level of half width 4. -/
theorem V71 : V m c main_v71 = wh (lvlB 8#32 4#32) := by
  unfold V
  simp only [List.flatten_cons, List.flatten_nil]
  after_reads_simp
  rfl
/-- The level of half width 8. -/
theorem V84 : V m c main_v84 = wh (lvlB 16#32 8#32) := by
  unfold V
  simp only [List.flatten_cons, List.flatten_nil]
  after_reads_simp
  rfl
end Cert.Mix
end
-- ==== Proof.Proof.MixLvlC.lean ====
module
public import proofs.«01_k».proof.Proof.Proof.MixHost
@[expose] public section
set_option maxRecDepth 65536
set_option maxHeartbeats 4000000
noncomputable section
namespace Cert.Mix
open Idealize.ShloMosaic Idealize.ShloMosaic.TcCoe Idealize.SL.Sem Cert.KernelIdeal Cert.KernelIdeal.Gen
variable (m : (ℓ : Loc nD τ sig) → Buf (Elt Ideal) ℓ) (c : Dev nD)
/-- The level of half width 16. -/
theorem V97 : V m c main_v97 = wh (lvlB 32#32 16#32) := by
  unfold V
  simp only [List.flatten_cons, List.flatten_nil]
  after_reads_simp
  rfl
/-- The level of half width 32. -/
theorem V110 : V m c main_v110 = wh (lvlB 64#32 32#32) := by
  unfold V
  simp only [List.flatten_cons, List.flatten_nil]
  after_reads_simp
  rfl
end Cert.Mix
end
-- ==== Proof.Proof.MixLvlD.lean ====
module
public import proofs.«01_k».proof.Proof.Proof.MixHost
@[expose] public section
set_option maxRecDepth 65536
set_option maxHeartbeats 4000000
noncomputable section
namespace Cert.Mix
open Idealize.ShloMosaic Idealize.ShloMosaic.TcCoe Idealize.SL.Sem Cert.KernelIdeal Cert.KernelIdeal.Gen
variable (m : (ℓ : Loc nD τ sig) → Buf (Elt Ideal) ℓ) (c : Dev nD)
/-- The levels stacked. -/
theorem V123' : V m c main_v123 = (truncf .bf16 (concatenate S6x128x128 0 [⟨S1x128x128, up3 (V m c main_v45)⟩, ⟨S1x128x128, up3 (V m c main_v58)⟩, ⟨S1x128x128, up3 (V m c main_v71)⟩, ⟨S1x128x128, up3 (V m c main_v84)⟩, ⟨S1x128x128, up3 (V m c main_v97)⟩, ⟨S1x128x128, up3 (V m c main_v110)⟩] concatenates_S1x128x128_S1x128x128_S1x128x128_S1x128x128_S1x128x128_S1x128x128_S6x128x128_d0 : FVec Ideal S6x128x128 .f32) bitsLt_bf16_f32 : FVec Ideal S6x128x128 .bf16) := by
  unfold V
  simp only [List.flatten_cons, List.flatten_nil]
  after_reads_simp
  rfl
end Cert.Mix
end
-- ==== Proof.Proof.MixBody.lean ====
module
public import proofs.«01_k».proof.Proof.Gen.KernelIdeal.Frame

@[expose] public section
noncomputable section

namespace Cert.KernelIdeal.Mix
open Idealize.ShloMosaic Idealize.SL.Sem

/-- One (batch, head) pair of the sixteen, by a batch number and a head number. -/
abbrev U := Fin 4

/-- What one grid step of the mixer reads: the blocks of its inputs and the carried scratch, row group by row group. -/
structure Env (F : FTy → Type) where
  x : U → Vec F S1x128x1024 .f32
  md : U → Fin 3 → Vec F S1x1x1024 .f32
  n1 : Vec F S1x1024 .f32
  w : U → Vec F S1024x512 .bf16
  wsc : Fin 3 → Vec F S1024x512 .bf16
  wab : Vec F S1024x128 .bf16
  cq : U → Fin 3 → Vec F S1x512 .f32
  cs : Fin 3 → Vec F S1x512 .f32
  alog : Vec F S1x128 .f32
  dtb : Vec F S1x128 .f32
  gnw : Vec F S1x128 .f32
  wout : Vec F S1024x1024 .bf16
  tril : Vec F S128x128 .f32
  eye : Vec F S128x128 .f32
  tri16 : Vec F S128x128 .bf16
  lvl : Fin 6 → Vec F S1x128x128 .bf16
  st : U → U → Vec F S1x128x128 .f32
  mask : F .f32

variable {F : FTy → Type} [FloatOps F]

/-- A scalar constant. -/
abbrev cst (b : BitVec 32) : F .f32 := Scalar.ofBits .f32 b
/-- A 128 × 128 zero. -/
abbrev z128 : FVec F S128x128 .f32 := constant S128x128 .f32 0x00000000#32
/-- A 512 × 512 zero. -/
abbrev z512 : FVec F S512x512 .f32 := constant S512x512 .f32 0x00000000#32

/-- The 128 rows of x of batch b. -/
def xs (E : Env F) (b : U) : FVec F S128x1024 .f32 := shapeCast S128x1024 (E.x b) Gen.shapeCasts_S1x128x1024_S128x1024

/-- The modulated norm of batch b. -/
def hb (E : Env F) (b : U) : FVec F S128x1024 .bf16 :=
  truncf .bf16 (addf (mulf (mulf (xs E b) (broadcastTo S128x1024 (rsqrt (addf (divf (shapeCast S128x1
    (multiReduction .add [1] S128 (mulf (xs E b) (xs E b)) 0x00000000#32 Gen.reduces_S128x1024_S128 (.inl rfl) rfl) Gen.shapeCasts_S128_S128x1)
      (broadcast S128x1 (cst 1149239296#32))) (broadcast S128x1 (cst 897988541#32)))) Gen.broadcasts_S128x1_S128x1024))
    (broadcastTo S128x1024 (mulf (shapeCast S1x1024 E.n1 Gen.shapeCasts_S1x1024_S1x1024) (addf (broadcast S1x1024 (cst 1065353216#32))
      (shapeCast S1x1024 (E.md b 1) Gen.shapeCasts_S1x1x1024_S1x1024))) Gen.broadcasts_S1x1024_S128x1024))
    (broadcastTo S128x1024 (shapeCast S1x1024 (E.md b 0) Gen.shapeCasts_S1x1x1024_S1x1024) Gen.broadcasts_S1x1024_S128x1024)) Gen.bitsLt_bf16_f32

/-- The modulated norm of the four batches, one under the other. -/
def h16 (E : Env F) : FVec F S512x1024 .bf16 :=
  concatenate S512x1024 0 [⟨S128x1024, hb E 0⟩, ⟨S128x1024, hb E 1⟩, ⟨S128x1024, hb E 2⟩, ⟨S128x1024, hb E 3⟩]
    Gen.concatenates_S128x1024_S128x1024_S128x1024_S128x1024_S512x1024_d0

/-- A projection by columns of the input weight. -/
def proj (E : Env F) (j : U) : FVec F S512x512 .f32 :=
  matmul dot_S512x1024_S1024x512_S512x512_1_0_0_1_n_n none (h16 E) (shapeCast S1024x512 (E.w j) Gen.shapeCasts_S1024x512_S1024x512) z512
/-- A projection by columns of the short convolution's weight. -/
def projsc (E : Env F) (j : Fin 3) : FVec F S512x512 .f32 :=
  matmul dot_S512x1024_S1024x512_S512x512_1_0_0_1_n_n none (h16 E) (E.wsc j) z512
/-- The gate projection. -/
def projab (E : Env F) : FVec F S512x128 .f32 :=
  matmul dot_S512x1024_S1024x128_S512x128_1_0_0_1_n_n none (h16 E) E.wab (constant S512x128 .f32 0x00000000#32)

theorem sl_b (b : U) : S512x512.Slices ![128 * b.val, 0] S128x512 := by revert b; decide
theorem sl_ab (b : U) : S512x128.Slices ![128 * b.val, 0] S128x128 := by revert b; decide
theorem sl_hd (b : U) : S128x512.Slices ![0, 128 * b.val] S128x128 := by revert b; decide
theorem sl_o (b : U) : S512x1024.Slices ![128 * b.val, 0] S128x1024 := by revert b; decide
theorem sl_c (k : Fin 8) : S128x128.Slices ![0, k.val] S128x1 := by revert k; decide
theorem sl_r (k : Fin 8) : S128x128.Slices ![k.val, 0] S1x128 := by revert k; decide
theorem sl_e (c : Fin 2) (k : Fin 8) : S128x128.Slices ![64 * c.val, k.val] S1x1 := by revert c k; decide
theorem sl_u (c : Fin 2) : S128x256.Slices ![64 * c.val, 0] S64x128 := by revert c; decide
theorem sl_w (c : Fin 2) : S128x256.Slices ![64 * c.val, 128] S64x128 := by revert c; decide
theorem sl_q (c : Fin 2) : S128x128.Slices ![64 * c.val, 0] S64x128 := by revert c; decide
theorem in12 (k : ℕ) : ∀ a, (![k % 12, 0, 0] : Fin 3 → ℕ) a + S1x136x512.size a ≤ S12x136x512.size a := by
  intro a; fin_cases a <;> simp [S1x136x512, S12x136x512]; omega
theorem in12t (k : ℕ) : ∀ a, (![k % 12, 0, 0] : Fin 3 → ℕ) a + S1x8x512.size a ≤ S12x136x512.size a := by
  intro a; fin_cases a <;> simp [S1x8x512, S12x136x512]; omega
theorem in12p (k : ℕ) : ∀ a, (![k % 12, 8, 0] : Fin 3 → ℕ) a + S1x128x512.size a ≤ S12x136x512.size a := by
  intro a; fin_cases a <;> simp [S1x128x512, S12x136x512]; omega
theorem in4 (k : ℕ) : ∀ a, (![k % 4, 0, 0] : Fin 3 → ℕ) a + S1x136x512.size a ≤ S4x136x512.size a := by
  intro a; fin_cases a <;> simp [S1x136x512, S4x136x512]; omega
theorem in4t (k : ℕ) : ∀ a, (![k % 4, 0, 0] : Fin 3 → ℕ) a + S1x8x512.size a ≤ S4x136x512.size a := by
  intro a; fin_cases a <;> simp [S1x8x512, S4x136x512]; omega
theorem in4p (k : ℕ) : ∀ a, (![k % 4, 8, 0] : Fin 3 → ℕ) a + S1x128x512.size a ≤ S4x136x512.size a := by
  intro a; fin_cases a <;> simp [S1x128x512, S4x136x512]; omega
theorem inY (b hd : U) : ∀ a, (![128 * b.val, 128 * hd.val] : Fin 2 → ℕ) a + S128x128.size a ≤ S512x1024.size a := by revert b hd; decide
theorem inYs (b : U) : ∀ a, (![128 * b.val, 512] : Fin 2 → ℕ) a + S128x512.size a ≤ S512x1024.size a := by revert b; decide
theorem inZ (b hd : U) : ∀ a, (![128 * b.val, 128 * hd.val] : Fin 2 → ℕ) a + S128x128.size a ≤ S512x512.size a := by revert b hd; decide
theorem inB (b : U) : ∀ a, (![128 * b.val, 0] : Fin 2 → ℕ) a + S128x512.size a ≤ S512x512.size a := by revert b; decide
theorem inO (b : U) : ∀ a, (![b.val, 0, 0] : Fin 3 → ℕ) a + S1x128x1024.size a ≤ S4x128x1024.size a := by revert b; decide
theorem inS (k : Fin 16) : ∀ a, (![k.val, 0, 0] : Fin 3 → ℕ) a + S1x128x128.size a ≤ S16x128x128.size a := by revert k; decide

/-- The rows of a projection that belong to batch b. -/
def rowsP (P : FVec F S512x512 .f32) (b : U) : FVec F S128x512 .f32 := extractStridedSlice S128x512 ![128 * b.val, 0] P (sl_b b)

/-- The causal convolution of width 4 over 8 + 128 rows, then SiLU. -/
def conv4 (e : Vec F S1x136x512 .f32) (w : U → Vec F S1x512 .f32) : FVec F S128x512 .f32 :=
  extractStridedSlice S128x512 ![8, 0] (addf (addf (addf (mulf (shapeCast S136x512 e Gen.shapeCasts_S1x136x512_S136x512) (broadcastTo S136x512 (shapeCast S1x512 (w 3) Gen.shapeCasts_S1x512_S1x512) Gen.broadcasts_S1x512_S136x512))
    (mulf (dynamicRotate 0 1#32 none (shapeCast S136x512 e Gen.shapeCasts_S1x136x512_S136x512) Gen.rotates_S136x512_d0) (broadcastTo S136x512 (shapeCast S1x512 (w 2) Gen.shapeCasts_S1x512_S1x512) Gen.broadcasts_S1x512_S136x512)))
    (mulf (dynamicRotate 0 2#32 none (shapeCast S136x512 e Gen.shapeCasts_S1x136x512_S136x512) Gen.rotates_S136x512_d0) (broadcastTo S136x512 (shapeCast S1x512 (w 1) Gen.shapeCasts_S1x512_S1x512) Gen.broadcasts_S1x512_S136x512)))
    (mulf (dynamicRotate 0 3#32 none (shapeCast S136x512 e Gen.shapeCasts_S1x136x512_S136x512) Gen.rotates_S136x512_d0) (broadcastTo S136x512 (shapeCast S1x512 (w 0) Gen.shapeCasts_S1x512_S1x512) Gen.broadcasts_S1x512_S136x512)))
    Gen.slices_S136x512_o8_0_S128x512
/-- SiLU. -/
def silu (v : FVec F S128x512 .f32) : FVec F S128x512 .f32 := mulf v (logistic v)

/-- The last 8 of the 136 rows. -/
def tail8 (e : Vec F S1x136x512 .f32) : Vec F S1x8x512 .f32 :=
  shapeCast S1x8x512 (extractStridedSlice S8x512 ![128, 0] (shapeCast S136x512 e Gen.shapeCasts_S1x136x512_S136x512) Gen.slices_S136x512_o128_0_S8x512) Gen.shapeCasts_S8x512_S1x8x512

/-- Batch b's activated columns (queries, keys, values by the group j), from its 136 convolution rows. -/
def act (E : Env F) (ext : ℕ → Vec F S1x136x512 .f32) (b : U) (j : Fin 3) : FVec F S128x512 .f32 := silu (conv4 (ext (4 * j.val + b.val)) (fun r => E.cq r j))

/-- Batch b's gate columns. -/
def ab (E : Env F) (b : U) : FVec F S128x128 .f32 := extractStridedSlice S128x128 ![128 * b.val, 0] (projab E) (sl_ab b)
/-- The gate projection plus the bias. -/
def abd (E : Env F) (b : U) : FVec F S128x128 .f32 := addf (ab E b) (broadcastTo S128x128 (shapeCast S1x128 E.dtb Gen.shapeCasts_S1x128_S1x128) Gen.broadcasts_S1x128_S128x128)
/-- The log decay of a token. -/
def gg (E : Env F) (b : U) : FVec F S128x128 .f32 :=
  mulf (broadcastTo S128x128 (subf (broadcast S1x128 (cst 0#32)) (exp (shapeCast S1x128 E.alog Gen.shapeCasts_S1x128_S1x128))) Gen.broadcasts_S1x128_S128x128)
    (addf (maximumf (abd E b) (broadcast S128x128 (cst 0#32))) (log1p (exp (subf (broadcast S128x128 (cst 0#32)) (absf (abd E b))))))
/-- The write strengths. -/
def beta (E : Env F) (b : U) : FVec F S128x128 .f32 := logistic (ab E b)

/-- A 128 × 128 product. -/
def mm {φ ψ : FTy} (a : FVec F S128x128 φ) (b : FVec F S128x128 ψ) : FVec F S128x128 .f32 := matmul dot_S128x128_S128x128_S128x128_1_0_0_1_n_n none a b z128
/-- A 128 × 128 product with the second factor transposed. -/
def mmT {φ ψ : FTy} (a : FVec F S128x128 φ) (b : FVec F S128x128 ψ) : FVec F S128x128 .f32 := matmul dot_S128x128_S128x128_S128x128_1_1_0_0_n_n none a b z128
/-- Rounding to bf16. -/
def tr {s : Shape} (a : FVec F s .f32) : FVec F s .bf16 := truncf .bf16 a Gen.bitsLt_bf16_f32
/-- Widening to f32. -/
def ex {s : Shape} (a : FVec F s .bf16) : FVec F s .f32 := extf .f32 a Gen.bitsLt_bf16_f32

/-- The sum of a g within its chunk, in three rounded pieces. -/
def cum3 (t : FVec F S128x128 .bf16) (g : FVec F S128x128 .f32) : FVec F S128x128 .f32 :=
  addf (addf (mm t (tr g)) (mm t (tr (subf g (ex (tr g)))))) (mm t (tr (subf (subf g (ex (tr g))) (ex (tr (subf g (ex (tr g))))))))
/-- The cumulated log decay of batch b. -/
def cum (E : Env F) (b : U) : FVec F S128x128 .f32 := cum3 (shapeCast S128x128 E.tri16 Gen.shapeCasts_S128x128_S128x128) (gg E b)

/-- The cumulated log decay at the end of each token's chunk. -/
def cumLast (E : Env F) (b : U) : FVec F S128x128 .f32 :=
  concatenate S128x128 0 [⟨S64x128, broadcastTo S64x128 (shapeCast S1x128 (extractStridedSlice S1x128 ![63, 0] (cum E b) Gen.slices_S128x128_o63_0_S1x128) Gen.shapeCasts_S1x128_S1x128) Gen.broadcasts_S1x128_S64x128⟩,
    ⟨S64x128, broadcastTo S64x128 (shapeCast S1x128 (extractStridedSlice S1x128 ![127, 0] (cum E b) Gen.slices_S128x128_o127_0_S1x128) Gen.shapeCasts_S1x128_S1x128) Gen.broadcasts_S1x128_S64x128⟩]
    Gen.concatenates_S64x128_S64x128_S128x128_d0
/-- The decay of each chunk. -/
def eLast (E : Env F) (b : U) : FVec F S128x128 .f32 := exp (cumLast E b)

/-- Column k of a gate array, along the rows. -/
def col (a : FVec F S128x128 .f32) (k : Fin 8) : FVec F S128x128 .f32 :=
  broadcastTo S128x128 (extractStridedSlice S128x1 ![0, k.val] a (sl_c k)) Gen.broadcasts_S128x1_S128x128

/-- Head hd of an activation. -/
def head (a : FVec F S128x512 .f32) (hd : U) : FVec F S128x128 .f32 := extractStridedSlice S128x128 ![0, 128 * hd.val] a (sl_hd hd)
/-- The reciprocal norm of the rows. -/
def rn (a : FVec F S128x128 .f32) : FVec F S128x1 .f32 :=
  rsqrt (addf (shapeCast S128x1 (multiReduction .add [1] S128 (mulf a a) 0x00000000#32 Gen.reduces_S128x128_S128 (.inl rfl) rfl) Gen.shapeCasts_S128_S128x1) (broadcast S128x1 (cst 897988541#32)))

variable (E : Env F) (ext : ℕ → Vec F S1x136x512 .f32) (b hd : U)

/-- Raw queries of a head. -/
def q0 : FVec F S128x128 .f32 := head (act E ext b 0) hd
/-- Raw keys of a head. -/
def k0 : FVec F S128x128 .f32 := head (act E ext b 1) hd
/-- Values of a head. -/
def v0 : FVec F S128x128 .f32 := head (act E ext b 2) hd
/-- Normalised and scaled queries. -/
def qn : FVec F S128x128 .f32 := mulf (q0 E ext b hd) (broadcastTo S128x128 (mulf (rn (q0 E ext b hd)) (broadcast S128x1 (cst 1035273459#32))) Gen.broadcasts_S128x1_S128x128)
/-- Normalised keys. -/
def kn : FVec F S128x128 .f32 := mulf (k0 E ext b hd) (broadcastTo S128x128 (rn (k0 E ext b hd)) Gen.broadcasts_S128x1_S128x128)
/-- A head's gate column number. -/
def gcol (hd : U) : Fin 8 := ⟨hd.val, by omega⟩
/-- A head's write strength column number. -/
def bcol (hd : U) : Fin 8 := ⟨4 + hd.val, by omega⟩
/-- The write strength of a head along the rows. -/
def bt : FVec F S128x128 .f32 := col (beta E b) (bcol hd)
/-- Keys times the write strength. -/
def kb : FVec F S128x128 .f32 := mulf (kn E ext b hd) (bt E b hd)
/-- exp of the cumulated decay of a head. -/
def eg : FVec F S128x128 .f32 := col (exp (cum E b)) (gcol hd)
/-- The pairwise decay of a head. -/
def dec : FVec F S128x128 .f32 :=
  exp (select (cmpf .ogt (shapeCast S128x128 E.tril Gen.shapeCasts_S128x128_S128x128) (broadcast S128x128 (cst 0#32)))
    (subf (col (cum E b) (gcol hd)) (broadcastTo S128x128 (extractStridedSlice S1x128 ![(gcol hd).val, 0] (transpose S128x128 [1, 0] (cum E b) Gen.transposes_S128x128_p1_0_S128x128) (sl_r (gcol hd))) Gen.broadcasts_S1x128_S128x128))
    (broadcast S128x128 E.mask))
/-- The strictly causal coupling of a head. -/
def lmat : FVec F S128x128 .f32 := mulf (mmT (tr (kb E ext b hd)) (tr (kn E ext b hd))) (dec E b hd)
/-- The attention of a head. -/
def attn : FVec F S128x128 .bf16 := tr (mulf (mmT (tr (qn E ext b hd)) (tr (kn E ext b hd))) (dec E b hd))
/-- The two right-hand sides of the triangular solve. -/
def rhs : FVec F S128x256 .bf16 :=
  tr (concatenate S128x256 1 [⟨S128x128, mulf (v0 E ext b hd) (bt E b hd)⟩, ⟨S128x128, mulf (kb E ext b hd) (eg E b hd)⟩] Gen.concatenates_S128x128_S128x128_S128x256_d1)
/-- Decayed queries. -/
def qd : FVec F S128x128 .bf16 := tr (mulf (qn E ext b hd) (eg E b hd))
/-- Keys decayed to the chunk's end. -/
def kd : FVec F S128x128 .bf16 := tr (mulf (kn E ext b hd) (col (exp (subf (cumLast E b) (cum E b))) (gcol hd)))

/-- A level mask. -/
def lv (i : Fin 6) : FVec F S128x128 .bf16 := shapeCast S128x128 (E.lvl i) Gen.shapeCasts_S1x128x128_S128x128
/-- The first level of the inverse. -/
def t0 : FVec F S128x128 .f32 := subf (shapeCast S128x128 E.eye Gen.shapeCasts_S128x128_S128x128) (mulf (lmat E ext b hd) (ex (lv E 0)))
/-- One doubling level of the inverse. -/
def tstep (L : FVec F S128x128 .f32) (M : FVec F S128x128 .bf16) (T : FVec F S128x128 .f32) : FVec F S128x128 .f32 :=
  subf T (mm (tr (mm (tr T) (mulf (tr L) M))) (tr T))
/-- The inverse. -/
def tfin : FVec F S128x128 .f32 :=
  tstep (lmat E ext b hd) (lv E 5) (tstep (lmat E ext b hd) (lv E 4) (tstep (lmat E ext b hd) (lv E 3) (tstep (lmat E ext b hd) (lv E 2) (tstep (lmat E ext b hd) (lv E 1) (t0 E ext b hd)))))
/-- The solved right-hand sides. -/
def uw : FVec F S128x256 .f32 :=
  matmul dot_S128x128_S128x256_S128x256_1_0_0_1_n_n none (tr (tfin E ext b hd)) (rhs E ext b hd) (constant S128x256 .f32 0x00000000#32)
/-- A chunk's two products with the state. -/
def resC (c : Fin 2) (s : FVec F S128x128 .f32) : FVec F S128x128 .f32 :=
  mm (concatenate S128x128 0 [⟨S64x128, tr (extractStridedSlice S64x128 ![64 * c.val, 128] (uw E ext b hd) (sl_w c))⟩,
    ⟨S64x128, extractStridedSlice S64x128 ![64 * c.val, 0] (qd E ext b hd) (sl_q c)⟩] Gen.concatenates_S64x128_S64x128_S128x128_d0) (tr s)
/-- A chunk's new values. -/
def vnew (c : Fin 2) (s : FVec F S128x128 .f32) : FVec F S64x128 .bf16 :=
  tr (subf (extractStridedSlice S64x128 ![64 * c.val, 0] (uw E ext b hd) (sl_u c)) (extractStridedSlice S64x128 ![0, 0] (resC E ext b hd c s) Gen.slices_S128x128_o0_0_S64x128))
/-- A chunk's output from the state. -/
def ointer (c : Fin 2) (s : FVec F S128x128 .f32) : FVec F S64x128 .f32 := extractStridedSlice S64x128 ![64, 0] (resC E ext b hd c s) Gen.slices_S128x128_o64_0_S64x128
/-- The state after a chunk. -/
def stepS (c : Fin 2) (s : FVec F S128x128 .f32) : FVec F S128x128 .f32 :=
  addf (mulf s (broadcastTo S128x128 (extractStridedSlice S1x1 ![64 * c.val, (gcol hd).val] (eLast E b) (sl_e c (gcol hd))) Gen.broadcasts_S1x1_S128x128))
    (matmul dot_S64x128_S64x128_S128x128_0_0_1_1_n_n none (extractStridedSlice S64x128 ![64 * c.val, 0] (kd E ext b hd) (sl_q c)) (vnew E ext b hd c s) z128)
/-- The state a step starts from. -/
def s0 : FVec F S128x128 .f32 := shapeCast S128x128 (E.st b hd) Gen.shapeCasts_S1x128x128_S128x128
/-- The state between the chunks. -/
def s1 : FVec F S128x128 .f32 := stepS E ext b hd 0 (s0 E b hd)
/-- The state a step ends with. -/
def s2 : FVec F S128x128 .f32 := stepS E ext b hd 1 (s1 E ext b hd)
/-- A head's output. -/
def oo : FVec F S128x128 .f32 :=
  addf (concatenate S128x128 0 [⟨S64x128, ointer E ext b hd 0 (s0 E b hd)⟩, ⟨S64x128, ointer E ext b hd 1 (s1 E ext b hd)⟩] Gen.concatenates_S64x128_S64x128_S128x128_d0)
    (mm (attn E ext b hd) (concatenate S128x128 0 [⟨S64x128, vnew E ext b hd 0 (s0 E b hd)⟩, ⟨S64x128, vnew E ext b hd 1 (s1 E ext b hd)⟩] Gen.concatenates_S64x128_S64x128_S128x128_d0))
/-- The head's norm and its gate. -/
def yhead (o z : FVec F S128x128 .f32) : FVec F S128x128 .bf16 :=
  shapeCast S128x128 (tr (mulf (mulf (mulf o (broadcastTo S128x128 (rsqrt (addf (divf (shapeCast S128x1 (multiReduction .add [1] S128 (mulf o o) 0x00000000#32 Gen.reduces_S128x128_S128 (.inl rfl) rfl) Gen.shapeCasts_S128_S128x1)
    (broadcast S128x1 (cst 1124073472#32))) (broadcast S128x1 (cst 897988541#32)))) Gen.broadcasts_S128x1_S128x128))
    (broadcastTo S128x128 (shapeCast S1x128 E.gnw Gen.shapeCasts_S1x128_S1x128) Gen.broadcasts_S1x128_S128x128)) (mulf z (logistic z)))) Gen.shapeCasts_S128x128_S128x128

/-- The short convolution of width 3 over 8 + 128 rows. -/
def conv3 (e : Vec F S1x136x512 .f32) (w : Fin 3 → Vec F S1x512 .f32) : FVec F S128x512 .f32 :=
  extractStridedSlice S128x512 ![8, 0] (addf (addf (mulf (shapeCast S136x512 e Gen.shapeCasts_S1x136x512_S136x512) (broadcastTo S136x512 (shapeCast S1x512 (w 2) Gen.shapeCasts_S1x512_S1x512) Gen.broadcasts_S1x512_S136x512))
    (mulf (dynamicRotate 0 1#32 none (shapeCast S136x512 e Gen.shapeCasts_S1x136x512_S136x512) Gen.rotates_S136x512_d0) (broadcastTo S136x512 (shapeCast S1x512 (w 1) Gen.shapeCasts_S1x512_S1x512) Gen.broadcasts_S1x512_S136x512)))
    (mulf (dynamicRotate 0 2#32 none (shapeCast S136x512 e Gen.shapeCasts_S1x136x512_S136x512) Gen.rotates_S136x512_d0) (broadcastTo S136x512 (shapeCast S1x512 (w 0) Gen.shapeCasts_S1x512_S1x512) Gen.broadcasts_S1x512_S136x512)))
    Gen.slices_S136x512_o8_0_S128x512
/-- The short convolution's output of a batch. -/
def ysc (scb : FVec F S128x512 .f32) (e : Vec F S1x136x512 .f32) : FVec F S128x512 .bf16 :=
  shapeCast S128x512 (tr (mulf scb (conv3 e E.cs))) Gen.shapeCasts_S128x512_S128x512

/-- The rows of a projection as a block of a scratch buffer. -/
def blkP (P : FVec F S512x512 .f32) (b : U) : Vec F S1x128x512 .f32 := shapeCast S1x128x512 (rowsP P b) Gen.shapeCasts_S128x512_S1x128x512

section Scratch
variable [∀ e, Nonempty (Elt F e)]
variable {κ : Kind} (v22 : View sig κ .vmem S12x136x512 .f32) (f22 : v22.ty.Contents (Elt F)) (L22 : List (View.Piece (Elt F) S12x136x512 .f32))
  (v23 : View sig κ .vmem S4x136x512 .f32) (f23 : v23.ty.Contents (Elt F)) (L23 : List (View.Piece (Elt F) S4x136x512 .f32))
  (v24 v25 : View sig κ .vmem S512x512 .f32) (v26 : View sig κ .vmem S512x1024 .bf16)

/-- The twelve projections written under the carried rows. -/
def qproj : List (View.Piece (Elt F) S12x136x512 .f32) :=
  ([11, 10, 9, 8, 7, 6, 5, 4, 3, 2, 1, 0] : List (Fin 12)).map (fun k => ⟨Rect.unit ![k.val % 12, 8, 0] S1x128x512.size (in12p k.val), blkP (proj E ⟨k.val / 4, by omega⟩) ⟨k.val % 4, by omega⟩⟩) ++ L22
/-- The stores into the projection scratch up to the k-th carried tail. -/
def qlist : ℕ → List (View.Piece (Elt F) S12x136x512 .f32)
  | 0 => qproj E L22
  | k + 1 => ⟨Rect.unit ![k % 12, 0, 0] S1x8x512.size (in12t k), tail8 (v22.readAt (Elt F) (Rect.unit (s := S12x136x512) ![k % 12, 0, 0] S1x136x512.size (in12 k)).toLoadRect (v22.writes (Elt F) f22 (qlist k)))⟩ :: qlist k
/-- The k-th convolution input. -/
def qext (k : ℕ) : Vec F S1x136x512 .f32 := v22.readAt (Elt F) (Rect.unit (s := S12x136x512) ![k % 12, 0, 0] S1x136x512.size (in12 k)).toLoadRect (v22.writes (Elt F) f22 (qlist E v22 f22 L22 k))

/-- The second projection written under the carried rows of the short convolution. -/
def slist0 : List (View.Piece (Elt F) S4x136x512 .f32) :=
  ([3, 2, 1, 0] : List U).map (fun k => ⟨Rect.unit ![k.val % 4, 8, 0] S1x128x512.size (in4p k.val), blkP (projsc E 1) k⟩) ++ L23
/-- The third projection multiplied in, batch after batch. -/
def slist1 : ℕ → List (View.Piece (Elt F) S4x136x512 .f32)
  | 0 => slist0 E L23
  | k + 1 => ⟨Rect.unit ![k % 4, 8, 0] S1x128x512.size (in4p k), shapeCast S1x128x512 (mulf (shapeCast S128x512 (v23.readCov (Val := Elt F) (slist1 k) (Rect.unit (s := S4x136x512) ![k % 4, 8, 0] S1x128x512.size (in4p k)).toLoadRect) Gen.shapeCasts_S1x128x512_S128x512)
      (rowsP (projsc E 2) ⟨k % 4, by omega⟩)) Gen.shapeCasts_S128x512_S1x128x512⟩ :: slist1 k
/-- The stores into the short convolution's scratch up to the k-th carried tail. -/
def slist : ℕ → List (View.Piece (Elt F) S4x136x512 .f32)
  | 0 => slist1 E v23 L23 4
  | k + 1 => ⟨Rect.unit ![k % 4, 0, 0] S1x8x512.size (in4t k), tail8 (v23.readAt (Elt F) (Rect.unit (s := S4x136x512) ![k % 4, 0, 0] S1x136x512.size (in4 k)).toLoadRect (v23.writes (Elt F) f23 (slist k)))⟩ :: slist k
/-- The k-th short convolution input. -/
def sext (k : ℕ) : Vec F S1x136x512 .f32 := v23.readAt (Elt F) (Rect.unit (s := S4x136x512) ![k % 4, 0, 0] S1x136x512.size (in4 k)).toLoadRect (v23.writes (Elt F) f23 (slist E v23 f23 L23 k))

/-- The gate z of a head, read back from its scratch. -/
def zr (b hd : U) : FVec F S128x128 .f32 :=
  v25.readCov (Val := Elt F) [⟨Rect.unit ![0, 0] S512x512.size Gen.inb_S512x512_S512x512_0_0, shapeCast S512x512 (proj E 3) Gen.shapeCasts_S512x512_S512x512⟩] (Rect.unit (s := S512x512) ![128 * b.val, 128 * hd.val] S128x128.size (inZ b hd)).toLoadRect
/-- The short convolution's gate of a batch, read back from its scratch. -/
def scbr (b : U) : FVec F S128x512 .f32 :=
  v24.readCov (Val := Elt F) [⟨Rect.unit ![0, 0] S512x512.size Gen.inb_S512x512_S512x512_0_0, shapeCast S512x512 (projsc E 0) Gen.shapeCasts_S512x512_S512x512⟩] (Rect.unit (s := S512x512) ![128 * b.val, 0] S128x512.size (inB b)).toLoadRect

/-- The stores into the concatenated outputs. -/
def ylist (qe se : ℕ → Vec F S1x136x512 .f32) : List (View.Piece (Elt F) S512x1024 .bf16) :=
  ([(3, 3), (3, 2), (3, 1), (3, 0), (2, 3), (2, 2), (2, 1), (2, 0), (1, 3), (1, 2), (1, 1), (1, 0), (0, 3), (0, 2), (0, 1), (0, 0)] : List (U × U)).map
    (fun p => ⟨Rect.unit ![128 * p.1.val, 128 * p.2.val] S128x128.size (inY p.1 p.2), yhead E (oo E qe p.1 p.2) (zr E v25 p.1 p.2)⟩) ++
  ([3, 2, 1, 0] : List U).map (fun b => ⟨Rect.unit ![128 * b.val, 512] S128x512.size (inYs b), ysc E (scbr E v24 b) (se b.val)⟩)
/-- The mixed output before the residual. -/
def mix (qe se : ℕ → Vec F S1x136x512 .f32) : FVec F S512x1024 .f32 :=
  matmul dot_S512x1024_S1024x1024_S512x1024_1_0_0_1_n_n none (v26.readCov (Val := Elt F) (ylist E v24 v25 qe se) (Rect.unit ![0, 0] S512x1024.size Gen.inb_S512x1024_S512x1024_0_0).toLoadRect)
    (shapeCast S1024x1024 E.wout Gen.shapeCasts_S1024x1024_S1024x1024) (constant S512x1024 .f32 0x00000000#32)
/-- A batch's result rows. -/
def outb (qe se : ℕ → Vec F S1x136x512 .f32) (b : U) : Vec F S1x128x1024 .f32 :=
  shapeCast S1x128x1024 (addf (xs E b) (mulf (broadcastTo S128x1024 (shapeCast S1x1024 (E.md b 2) Gen.shapeCasts_S1x1x1024_S1x1024) Gen.broadcasts_S1x1024_S128x1024)
    (extractStridedSlice S128x1024 ![128 * b.val, 0] (mix E v24 v25 v26 qe se) (sl_o b)))) Gen.shapeCasts_S128x1024_S1x128x1024
/-- The stores of the result. -/
def olist (qe se : ℕ → Vec F S1x136x512 .f32) : List (View.Piece (Elt F) S4x128x1024 .f32) :=
  ([3, 2, 1, 0] : List U).map (fun b => ⟨Rect.unit ![b.val, 0, 0] S1x128x1024.size (inO b), outb E v24 v25 v26 qe se b⟩)
/-- The stores of the state. -/
def stlist (qe : ℕ → Vec F S1x136x512 .f32) : List (View.Piece (Elt F) S16x128x128 .f32) :=
  ([15, 14, 13, 12, 11, 10, 9, 8, 7, 6, 5, 4, 3, 2, 1, 0] : List (Fin 16)).map (fun k => ⟨Rect.unit ![k.val, 0, 0] S1x128x128.size (inS k),
    shapeCast S1x128x128 (s2 E qe ⟨k.val / 4, by omega⟩ ⟨k.val % 4, by omega⟩) Gen.shapeCasts_S128x128_S1x128x128⟩)
end Scratch

end Cert.KernelIdeal.Mix
end
end
-- ==== Proof.Proof.MixMath.lean ====
module
public import proofs.«01_k».proof.Proof.Proof.MixBody
public import Idealize.ShloMosaic.Lib.Pointwise
public import Mathlib.LinearAlgebra.Matrix.NonsingularInverse

@[expose] public section

open Idealize.ShloMosaic

namespace Cert.Mix

/-- The extended real is a real number. -/
def Rl (x : EReal) : Prop := ∃ r : ℝ, x = r

theorem Rl.coe (r : ℝ) : Rl (r : EReal) := ⟨r, rfl⟩

theorem Rl.mul {x y : EReal} (hx : Rl x) (hy : Rl y) : Rl (x * y) := by
  obtain ⟨a, rfl⟩ := hx; obtain ⟨b, rfl⟩ := hy; exact ⟨a * b, by push_cast; rfl⟩

theorem Rl.eq {x : EReal} (hx : Rl x) : ((x.toReal : ℝ) : EReal) = x := by
  obtain ⟨a, rfl⟩ := hx; simp

theorem coe_sum' {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem Rl.sum {ι : Type} (s : Finset ι) (f : ι → EReal) (h : ∀ i, Rl (f i)) : Rl (∑ i ∈ s, f i) := by
  choose g hg using h
  exact ⟨∑ i ∈ s, g i, by rw [coe_sum']; exact Finset.sum_congr rfl fun i _ => hg i⟩

theorem coe_mm {n : ℕ} (a b : Fin n → ℝ) :
    (∑ k, (a k : EReal) * (b k : EReal)) = ((∑ k, a k * b k : ℝ) : EReal) := by
  rw [coe_sum']; simp

theorem exp_nonneg (x : EReal) : 0 ≤ Ideal.exp x := by
  induction x with
  | bot => exact le_refl _
  | top => exact le_top
  | coe r => exact EReal.coe_nonneg.2 (Real.exp_pos r).le

theorem rl_exp {x : EReal} (h : x ≠ ⊤) : Rl (Ideal.exp x) := by
  induction x with
  | bot => exact ⟨0, rfl⟩
  | top => exact absurd rfl h
  | coe r => exact ⟨_, rfl⟩

theorem rl_logistic (x : EReal) : Rl (Ideal.logistic x) := by
  unfold Ideal.logistic
  have h := exp_nonneg (-x)
  generalize Ideal.exp (-x) = y at h
  have hp : (0 : EReal) < 1 + y := lt_of_lt_of_le (by norm_num) (le_add_of_nonneg_right h)
  unfold Ideal.div
  rw [if_neg hp.ne', one_mul]
  induction y with
  | bot => exact absurd h (by simp)
  | top => exact ⟨0, by rw [show (1 : EReal) + ⊤ = ⊤ from EReal.coe_add_top 1]; simp⟩
  | coe r => exact ⟨(1 + r)⁻¹, by rw [EReal.coe_inv]; norm_cast⟩

/-- The softplus function as both programs compute it is never negative. -/
theorem softplus_nonneg (x y : EReal) : 0 ≤ max x 0 + Ideal.log1p (Ideal.exp y) := by
  refine add_nonneg (le_max_right _ _) ?_
  have h := exp_nonneg y
  generalize Ideal.exp y = z at h
  unfold Ideal.log1p
  induction z with
  | bot => exact absurd h (by simp)
  | top => rw [show (1 : EReal) + ⊤ = ⊤ from EReal.coe_add_top 1]; exact le_top
  | coe r =>
    have hr : 0 ≤ r := by simpa using h
    have e : (1 : EReal) + (r : EReal) = ((1 + r : ℝ) : EReal) := by push_cast; rfl
    rw [e, Ideal.log_coe, if_neg (by linarith)]
    exact EReal.coe_nonneg.2 (Real.log_nonneg (by linarith))

/-- The decay's exponent is never positive. -/
theorem gate_nonpos (a x y : EReal) : (0 - Ideal.exp a) * (max x 0 + Ideal.log1p (Ideal.exp y)) ≤ 0 := by
  have h : 0 - Ideal.exp a ≤ 0 := by
    rw [zero_sub]; exact EReal.neg_le_zero.2 (exp_nonneg a)
  have h2 := softplus_nonneg x y
  have := EReal.mul_nonpos_iff (a := 0 - Ideal.exp a) (b := max x 0 + Ideal.log1p (Ideal.exp y))
  exact this.2 (Or.inr ⟨h, h2⟩)

/-- A row divided by the root of its sum of squares plus a positive real is real, whatever the row. -/
theorem rl_unit {n : ℕ} (q : Fin n → EReal) {e : ℝ} (he : 0 < e) (d : Fin n) :
    Rl (q d * Ideal.rsqrt ((∑ k, q k * q k) + (e : EReal))) := by
  have hsq : ∀ k, 0 ≤ q k * q k := fun k => by
    rcases le_total 0 (q k) with h | h
    · exact EReal.mul_nonneg_iff.2 (Or.inl ⟨h, h⟩)
    · exact EReal.mul_nonneg_iff.2 (Or.inr ⟨h, h⟩)
  by_cases hr : ∀ k, Rl (q k)
  · choose g hg using hr
    have : (∑ k, q k * q k) + (e : EReal) = ((∑ k, g k * g k) + e : ℝ) := by
      rw [EReal.coe_add, ← coe_mm]; simp only [hg]
    have hp : 0 < (∑ k, g k * g k) + e := add_pos_of_nonneg_of_pos (Finset.sum_nonneg fun k _ => mul_self_nonneg _) he
    rw [this, Ideal.rsqrt_coe, if_neg (by linarith), if_neg (by linarith), hg d]
    exact Rl.mul (Rl.coe _) (Rl.coe _)
  · push Not at hr
    obtain ⟨k, hk⟩ := hr
    have ht : q k * q k = ⊤ := by
      generalize q k = z at hk
      induction z with
      | bot => rfl
      | top => rfl
      | coe r => exact absurd (Rl.coe r) hk
    have hs : (∑ k, q k * q k) = ⊤ := by
      refine top_le_iff.1 ?_
      rw [← ht]
      exact Finset.single_le_sum (f := fun k => q k * q k) (fun i _ => hsq i) (Finset.mem_univ k)
    rw [hs, EReal.top_add_coe, Ideal.rsqrt_top, mul_zero]
    exact ⟨0, rfl⟩

theorem sub_ne_top {x y : EReal} (hx : x ≤ 0) (h : x ≤ y) : x - y ≠ ⊤ := by
  induction x with
  | bot => rw [EReal.bot_sub]; simp
  | top => exact absurd hx (by simp)
  | coe r =>
    induction y with
    | bot => exact absurd h (by simp)
    | top => simp
    | coe s => rw [← EReal.coe_sub]; exact EReal.coe_ne_top _

/-- Adding the two error parts of a split changes nothing: each is zero where `g` is real, and all are `⊥` where it is `⊥`. -/
theorem split3 {a g : EReal} (ha : a = 0 ∨ a = 1) (hg : g ≤ 0) :
    a * g + a * (g - g) + a * ((g - g) - (g - g)) = a * g := by
  rcases ha with rfl | rfl
  · simp
  · simp only [one_mul]
    induction g with
    | bot => simp
    | top => exact absurd hg (by simp)
    | coe r => rw [← EReal.coe_sub, sub_self, ← EReal.coe_sub, sub_self]; simp

/-- A sum over two chunks whose summand vanishes off one of them is that chunk's sum. -/
theorem sum_chunk (F : Fin 128 → EReal) (cc : Fin 2) (h : ∀ k : Fin 128, k.val / 64 ≠ cc.val → F k = 0) :
    (∑ k, F k) = ∑ m : Fin 64, F ⟨64 * cc.val + m.val, by omega⟩ := by
  have e := Fin.sum_univ_add (a := 64) (b := 64) F
  rw [show (∑ k, F k) = ∑ i : Fin (64 + 64), F i from rfl, e]
  match cc with
  | 0 =>
    rw [Finset.sum_eq_zero (s := Finset.univ) (f := fun i : Fin 64 => F (Fin.natAdd 64 i)), add_zero]
    · exact Finset.sum_congr rfl fun i _ => congrArg F (Fin.ext (by simp))
    · intro i _; exact h _ (by simp only [Fin.val_natAdd, Fin.val_zero]; omega)
  | 1 =>
    rw [Finset.sum_eq_zero (s := Finset.univ) (f := fun i : Fin 64 => F (Fin.castAdd 64 i)), zero_add]
    · exact Finset.sum_congr rfl fun i _ => congrArg F (Fin.ext (by simp [add_comm]))
    · intro i _; exact h _ (by simp only [Fin.val_castAdd, Fin.val_one]; omega)

open Matrix

/-- The part of a matrix inside the diagonal blocks of side `s`. -/
def blk {n : ℕ} (s : ℕ) (L : Matrix (Fin n) (Fin n) ℝ) : Matrix (Fin n) (Fin n) ℝ :=
  Matrix.of fun i j => if i.val / s = j.val / s then L i j else 0

/-- One doubling step of the block inverse: from blocks of side `s` to blocks of side `2 s`. -/
theorem double {n : ℕ} (s : ℕ) (L T C : Matrix (Fin n) (Fin n) ℝ) (hL : ∀ i j, i ≤ j → L i j = 0)
    (h1 : (1 + blk s L) * T = 1) (h2 : ∀ i j : Fin n, i.val / s ≠ j.val / s → T i j = 0)
    (hC : ∀ i j : Fin n, C i j = if i.val / s / 2 = j.val / s / 2 ∧ i.val / s % 2 = 1 ∧ j.val / s % 2 = 0 then L i j else 0) :
    (1 + blk (s * 2) L) * (T - T * C * T) = 1 ∧
      ∀ i j : Fin n, i.val / (s * 2) ≠ j.val / (s * 2) → (T - T * C * T) i j = 0 := by
  have hb : blk (s * 2) L = blk s L + C := by
    ext i j
    rw [Matrix.add_apply, hC]
    simp only [blk, Matrix.of_apply, ← Nat.div_div_eq_div_mul]
    by_cases hij : i ≤ j
    · simp [hL i j hij]
    · have hm : j.val / s ≤ i.val / s := Nat.div_le_div_right (by have := Fin.le_def.not.1 hij; omega)
      generalize i.val / s = p at hm
      generalize j.val / s = q at hm
      split_ifs <;> first | (exfalso; omega) | simp
  have hz : C * T * C = 0 := by
    ext i l
    rw [Matrix.mul_apply]
    refine Finset.sum_eq_zero fun k _ => ?_
    rw [Matrix.mul_apply, Finset.sum_mul]
    refine Finset.sum_eq_zero fun j _ => ?_
    by_cases hjk : j.val / s = k.val / s
    · rw [hC i j, hC k l]
      split_ifs with ha hb
      · exfalso; omega
      all_goals simp
    · rw [h2 j k hjk]; simp
  constructor
  · rw [hb]
    have e : (1 + (blk s L + C)) * (T - T * C * T)
        = (1 + blk s L) * T - ((1 + blk s L) * T) * (C * T) + C * T - (C * T * C) * T := by noncomm_ring
    rw [e, hz, h1]; simp
  · intro i j hij
    simp only [← Nat.div_div_eq_div_mul] at hij
    rw [Matrix.sub_apply, h2 i j (by intro h; rw [h] at hij; exact hij rfl), zero_sub, neg_eq_zero, Matrix.mul_apply]
    refine Finset.sum_eq_zero fun k _ => ?_
    rw [Matrix.mul_apply, Finset.sum_mul]
    refine Finset.sum_eq_zero fun l _ => ?_
    by_cases h3 : i.val / s = l.val / s
    · by_cases h4 : k.val / s = j.val / s
      · rw [hC l k, if_neg (by rw [← h3, h4]; exact fun h => hij h.1)]; simp
      · rw [h2 k j h4]; simp
    · rw [h2 i l h3]; simp

/-- One substitution sweep. -/
def sweep {n : ℕ} (L X : Matrix (Fin n) (Fin n) ℝ) : Matrix (Fin n) (Fin n) ℝ := 1 - L * X

theorem sweep_diff {n : ℕ} (L : Matrix (Fin n) (Fin n) ℝ) (hL : ∀ i j, i ≤ j → L i j = 0) (k : ℕ) :
    ∀ i j : Fin n, i.val ≤ k → ((sweep L)^[k + 1] 1 - (sweep L)^[k] 1) i j = 0 := by
  induction k with
  | zero =>
    intro i j hi
    simp only [Function.iterate_succ, Function.iterate_zero, Function.comp, id, sweep, mul_one]
    simp [hL i j (by rw [Fin.le_def]; omega)]
  | succ k ih =>
    intro i j hi
    have e : (sweep L)^[k + 1 + 1] 1 - (sweep L)^[k + 1] 1
        = -(L * ((sweep L)^[k + 1] 1 - (sweep L)^[k] 1)) := by
      rw [Function.iterate_succ_apply' (sweep L) (k + 1)]
      conv_lhs => rw [show (sweep L)^[k + 1] (1 : Matrix (Fin n) (Fin n) ℝ) = sweep L ((sweep L)^[k] 1) from Function.iterate_succ_apply' _ _ _]
      rw [show (sweep L)^[k + 1] (1 : Matrix (Fin n) (Fin n) ℝ) = sweep L ((sweep L)^[k] 1) from Function.iterate_succ_apply' _ _ _]
      unfold sweep
      noncomm_ring
    rw [e, Matrix.neg_apply, neg_eq_zero, Matrix.mul_apply]
    refine Finset.sum_eq_zero fun m _ => ?_
    by_cases hm : i ≤ m
    · rw [hL i m hm, zero_mul]
    · rw [ih m j (by have := Fin.le_def.not.1 hm; omega), mul_zero]

/-- Sixty-three sweeps invert the unit lower triangle of a chunk. -/
theorem sweep_inv (L : Matrix (Fin 64) (Fin 64) ℝ) (hL : ∀ i j, i ≤ j → L i j = 0) :
    (1 + L) * (sweep L)^[63] 1 = 1 := by
  have h : (sweep L)^[63 + 1] 1 - (sweep L)^[63] 1 = 0 := by
    ext i j; exact sweep_diff L hL 63 i j (by omega)
  rw [Function.iterate_succ_apply', sub_eq_zero] at h
  have h' : 1 - L * (sweep L)^[63] 1 = (sweep L)^[63] 1 := h
  rw [add_mul, one_mul]
  nth_rewrite 1 [← h']
  simp

theorem inv_eq_sweep (L : Matrix (Fin 64) (Fin 64) ℝ) (hL : ∀ i j, i ≤ j → L i j = 0) :
    (1 + L)⁻¹ = (sweep L)^[63] 1 := Matrix.inv_eq_right_inv (sweep_inv L hL)

/-- The inverse of two chunks side by side is each chunk's own inverse, and zero across them. -/
theorem chunk_inv (L T : Matrix (Fin 128) (Fin 128) ℝ) (hL : ∀ i j, i ≤ j → L i j = 0)
    (hB : ∀ i j : Fin 128, i.val / 64 ≠ j.val / 64 → L i j = 0) (h : (1 + L) * T = 1) (cc cc' : Fin 2) (c m : Fin 64) :
    T ⟨64 * cc.val + c.val, by omega⟩ ⟨64 * cc'.val + m.val, by omega⟩
      = if cc = cc' then ((1 + Matrix.of fun a b : Fin 64 => L ⟨64 * cc.val + a.val, by omega⟩ ⟨64 * cc.val + b.val, by omega⟩)⁻¹ c m) else 0 := by
  set A : Matrix (Fin 64) (Fin 64) ℝ := Matrix.of fun a b : Fin 64 => L ⟨64 * cc.val + a.val, by omega⟩ ⟨64 * cc.val + b.val, by omega⟩ with hA
  set B : Matrix (Fin 64) (Fin 64) ℝ := Matrix.of fun a b : Fin 64 => T ⟨64 * cc.val + a.val, by omega⟩ ⟨64 * cc'.val + b.val, by omega⟩ with hBd
  have hAl : ∀ i j, i ≤ j → A i j = 0 := fun i j hij => hL _ _ (by rw [Fin.le_def] at hij ⊢; simp only; omega)
  have key : (1 + A) * B = if cc = cc' then 1 else 0 := by
    ext a b
    have e := congrFun (congrFun h ⟨64 * cc.val + a.val, by omega⟩) ⟨64 * cc'.val + b.val, by omega⟩
    rw [add_mul, one_mul, Matrix.add_apply, Matrix.mul_apply] at e ⊢
    have hs : (∑ j, (L ⟨64 * cc.val + a.val, by omega⟩ j * T j ⟨64 * cc'.val + b.val, by omega⟩ : ℝ))
        = ∑ j, A a j * B j b := by
      apply EReal.coe_injective
      rw [coe_sum', coe_sum', sum_chunk _ cc]
      · rfl
      · intro k hk
        rw [hB _ _ (by simp only; omega)]; simp
    rw [← hs]
    refine Eq.trans e ?_
    rw [Matrix.one_apply]
    by_cases hc : cc = cc'
    · subst hc
      simp only [if_true, Matrix.one_apply]
      congr 1
      simp [Fin.ext_iff]
    · rw [if_neg hc, if_neg (by simp only [Fin.mk.injEq]; have := fun hh => hc (Fin.ext hh); omega)]; rfl
  have hi := sweep_inv A hAl
  have hB' : B = (1 + A)⁻¹ * ((1 + A) * B) := by
    rw [← mul_assoc, inv_eq_sweep A hAl, mul_eq_one_comm.1 hi, one_mul]
  show B c m = _
  rw [hB', key]
  split_ifs <;> simp

end Cert.Mix
-- ==== Proof.Proof.MixPoint.lean ====
module
public import proofs.«01_k».proof.Proof.Proof.MixBody
public import Idealize.ShloMosaic.Lib.Pointwise

@[expose] public section
set_option maxRecDepth 16384
noncomputable section

namespace Cert.KernelIdeal.Mix
open Idealize.ShloMosaic Idealize.SL.Sem

/-- The norm's epsilon. -/
def eps : EReal := Ideal.ofBits FTy.f32 897988541#32

/-- One row's normalised and modulated input. -/
def hrow (x n1 sc sh : Fin 1024 → EReal) (k : Fin 1024) : EReal :=
  x k * Ideal.rsqrt (Ideal.div (∑ j, x j * x j) (Ideal.ofBits FTy.f32 1149239296#32) + eps) * (n1 k * (Ideal.ofBits FTy.f32 1065353216#32 + sc k)) + sh k

variable (E : Env Ideal)

/-- The modulated norm at a row and a column. -/
theorem hb_at (b : U) (r : Fin 128) (k : Fin 1024) : hb E b (ix2 r k)
    = hrow (fun j => E.x b (ix3 0 r j)) (fun j => E.n1 (ix2 0 j)) (fun j => E.md b 1 (ix3 0 0 j)) (fun j => E.md b 0 (ix3 0 0 j)) k := by
  unfold hrow eps
  pointwise [hb, xs, cst]

/-- Row 128 b + r of the stacked norm is batch b's row r. -/
theorem h16_at (b : U) (r : Fin 128) (k : Fin 1024) : h16 E (ix2 ⟨128 * b + r, by omega⟩ k) = hb E b (ix2 r k) := by
  fin_cases b
  · pointwise [h16]
  · pointwise [h16]
  · pointwise [h16]
    rw [dif_neg (by omega), dif_neg (by omega), dif_pos (by omega)]
    congr 2
    exact Fin.ext (by simp; omega)
  · pointwise [h16]
    rw [dif_neg (by omega), dif_neg (by omega), dif_neg (by omega)]
    congr 2
    exact Fin.ext (by simp; omega)

/-- A projection's rows of a batch. -/
theorem rowsP_proj_at (b j : U) (r : Fin 128) (c : Fin 512) : rowsP (proj E j) b (ix2 r c) = ∑ k, hb E b (ix2 r k) * E.w j (ix2 k c) := by
  pointwise [rowsP, proj]
  refine Finset.sum_congr rfl fun k _ => ?_
  rw [← h16_at]
theorem rowsP_projsc_at (b : U) (j : Fin 3) (r : Fin 128) (c : Fin 512) : rowsP (projsc E j) b (ix2 r c) = ∑ k, hb E b (ix2 r k) * E.wsc j (ix2 k c) := by
  pointwise [rowsP, projsc]
  refine Finset.sum_congr rfl fun k _ => ?_
  rw [← h16_at]
theorem ab_at (b : U) (r c : Fin 128) : ab E b (ix2 r c) = ∑ k, hb E b (ix2 r k) * E.wab (ix2 k c) := by
  pointwise [ab, projab]
  refine Finset.sum_congr rfl fun k _ => ?_
  rw [← h16_at]

theorem conv4_at (e : Vec Ideal S1x136x512 .f32) (w : U → Vec Ideal S1x512 .f32) (r : Fin 128) (c : Fin 512) : conv4 e w (ix2 r c)
    = ((e (ix3 0 ⟨r + 8, by omega⟩ c) * w 3 (ix2 0 c) + e (ix3 0 ⟨r + 7, by omega⟩ c) * w 2 (ix2 0 c)) + e (ix3 0 ⟨r + 6, by omega⟩ c) * w 1 (ix2 0 c)) + e (ix3 0 ⟨r + 5, by omega⟩ c) * w 0 (ix2 0 c) := by
  pointwise [conv4]
  simp only [show 8 + r.val = r.val + 8 by omega, show (r.val + 8 + 136 - 1) % 136 = r.val + 7 by omega, show (r.val + 8 + 136 - 2) % 136 = r.val + 6 by omega, show (r.val + 8 + 136 - 3) % 136 = r.val + 5 by omega]
theorem conv3_at (e : Vec Ideal S1x136x512 .f32) (w : Fin 3 → Vec Ideal S1x512 .f32) (r : Fin 128) (c : Fin 512) : conv3 e w (ix2 r c)
    = (e (ix3 0 ⟨r + 8, by omega⟩ c) * w 2 (ix2 0 c) + e (ix3 0 ⟨r + 7, by omega⟩ c) * w 1 (ix2 0 c)) + e (ix3 0 ⟨r + 6, by omega⟩ c) * w 0 (ix2 0 c) := by
  pointwise [conv3]
  simp only [show 8 + r.val = r.val + 8 by omega, show (r.val + 8 + 136 - 1) % 136 = r.val + 7 by omega, show (r.val + 8 + 136 - 2) % 136 = r.val + 6 by omega]
theorem tail8_at (e : Vec Ideal S1x136x512 .f32) (r : Fin 8) (c : Fin 512) : tail8 e (ix3 0 r c) = e (ix3 0 ⟨128 + r, by omega⟩ c) := by
  pointwise [tail8]
theorem silu_at (v : FVec Ideal S128x512 .f32) (j) : silu v j = v j * Ideal.logistic (v j) := by
  pointwise [silu]
theorem gg_at (b : U) (r c : Fin 128) : gg E b (ix2 r c) =
    (0 - Ideal.exp (E.alog (ix2 0 c))) * (max (ab E b (ix2 r c) + E.dtb (ix2 0 c)) 0 + Ideal.log1p (Ideal.exp (0 - FloatOps.absf (F := Ideal) (φ := .f32) (ab E b (ix2 r c) + E.dtb (ix2 0 c))))) := by
  pointwise [gg, abd, cst]
theorem beta_at (b : U) (r c : Fin 128) : beta E b (ix2 r c) = Ideal.logistic (ab E b (ix2 r c)) := by
  pointwise [beta]
theorem mm_at {φ ψ : FTy} (a : FVec Ideal S128x128 φ) (b : FVec Ideal S128x128 ψ) (r c : Fin 128) : mm a b (ix2 r c) = ∑ k, a (ix2 r k) * b (ix2 k c) := by
  pointwise [mm]
theorem mmT_at {φ ψ : FTy} (a : FVec Ideal S128x128 φ) (b : FVec Ideal S128x128 ψ) (r c : Fin 128) : mmT a b (ix2 r c) = ∑ k, a (ix2 r k) * b (ix2 c k) := by
  pointwise [mmT]
theorem tr_at {s : Shape} (a : FVec Ideal s .f32) (i) : tr a i = a i := by pointwise [tr]
theorem ex_at {s : Shape} (a : FVec Ideal s .bf16) (i) : ex a i = a i := by pointwise [ex]
theorem cum3_at (t : FVec Ideal S128x128 .bf16) (g : FVec Ideal S128x128 .f32) (r c : Fin 128) : cum3 t g (ix2 r c)
    = ((∑ k, t (ix2 r k) * g (ix2 k c)) + ∑ k, t (ix2 r k) * (g (ix2 k c) - g (ix2 k c)))
      + ∑ k, t (ix2 r k) * ((g (ix2 k c) - g (ix2 k c)) - (g (ix2 k c) - g (ix2 k c))) := by
  pointwise [cum3, mm, tr, ex]
theorem cum_at (b : U) (r c : Fin 128) : cum E b (ix2 r c) = cum3 E.tri16 (gg E b) (ix2 r c) := by
  rw [cum3_at]; unfold cum; rw [cum3_at]; pointwise
theorem cumLast_at (b : U) (r c : Fin 128) : cumLast E b (ix2 r c) = cum E b (ix2 ⟨64 * (r / 64) + 63, by omega⟩ c) := by
  rcases lt_or_ge r.val 64 with h | h
  · have : r.val / 64 = 0 := by omega
    pointwise [cumLast]; simp [this, h]
  · have : r.val / 64 = 1 := by omega
    pointwise [cumLast]; simp [this, h]
theorem col_at (a : FVec Ideal S128x128 .f32) (k : Fin 8) (r c : Fin 128) : col a k (ix2 r c) = a (ix2 r ⟨k, by omega⟩) := by
  pointwise [col]
theorem head_at (a : FVec Ideal S128x512 .f32) (hd : U) (r c : Fin 128) : head a hd (ix2 r c) = a (ix2 r ⟨128 * hd + c, by omega⟩) := by
  pointwise [head]
theorem rn_at (a : FVec Ideal S128x128 .f32) (r : Fin 128) (z : Fin 1) : rn a (ix2 r z) = Ideal.rsqrt ((∑ k, a (ix2 r k) * a (ix2 r k)) + eps) := by
  unfold eps
  pointwise [rn, cst]

variable (ext : ℕ → Vec Ideal S1x136x512 .f32) (b hd : U)

theorem act_at (j : Fin 3) (r : Fin 128) (c : Fin 512) : act E ext b j (ix2 r c)
    = conv4 (ext (4 * j + b)) (fun i => E.cq i j) (ix2 r c) * Ideal.logistic (conv4 (ext (4 * j + b)) (fun i => E.cq i j) (ix2 r c)) := by
  unfold act; rw [silu_at]
theorem qn_at (r d : Fin 128) : qn E ext b hd (ix2 r d)
    = q0 E ext b hd (ix2 r d) * (Ideal.rsqrt ((∑ k, q0 E ext b hd (ix2 r k) * q0 E ext b hd (ix2 r k)) + eps) * Ideal.ofBits FTy.f32 1035273459#32) := by
  rw [← rn_at _ r 0]
  pointwise [qn, cst]
theorem kn_at (r d : Fin 128) : kn E ext b hd (ix2 r d)
    = k0 E ext b hd (ix2 r d) * Ideal.rsqrt ((∑ k, k0 E ext b hd (ix2 r k) * k0 E ext b hd (ix2 r k)) + eps) := by
  rw [← rn_at _ r 0]
  pointwise [kn]
theorem bt_at (r d : Fin 128) : bt E b hd (ix2 r d) = beta E b (ix2 r ⟨4 + hd, by omega⟩) := by
  unfold bt; rw [col_at]; rfl
theorem kb_at (r d : Fin 128) : kb E ext b hd (ix2 r d) = kn E ext b hd (ix2 r d) * beta E b (ix2 r ⟨4 + hd, by omega⟩) := by
  rw [← bt_at E b hd r d]; pointwise [kb]
theorem eg_at (r d : Fin 128) : eg E b hd (ix2 r d) = Ideal.exp (cum E b (ix2 r ⟨hd, by omega⟩)) := by
  unfold eg; rw [col_at]; pointwise [gcol]
theorem dec_at (r c : Fin 128) : dec E b hd (ix2 r c)
    = Ideal.exp (if 0 < E.tril (ix2 r c) then cum E b (ix2 r ⟨hd, by omega⟩) - cum E b (ix2 c ⟨hd, by omega⟩) else E.mask) := by
  have h := col_at (cum E b) (gcol hd) r c
  pointwise [dec, cst, gcol] at h ⊢
  rw [h]
theorem lmat_at (r c : Fin 128) : lmat E ext b hd (ix2 r c)
    = (∑ d, kb E ext b hd (ix2 r d) * kn E ext b hd (ix2 c d)) * dec E b hd (ix2 r c) := by
  have h := mmT_at (tr (kb E ext b hd)) (tr (kn E ext b hd)) r c
  simp only [tr_at] at h
  rw [← h]; pointwise [lmat]
theorem attn_at (r c : Fin 128) : attn E ext b hd (ix2 r c)
    = (∑ d, qn E ext b hd (ix2 r d) * kn E ext b hd (ix2 c d)) * dec E b hd (ix2 r c) := by
  have h := mmT_at (tr (qn E ext b hd)) (tr (kn E ext b hd)) r c
  simp only [tr_at] at h
  rw [← h]; unfold attn; rw [tr_at]; pointwise
theorem rhs_at0 (r d : Fin 128) : rhs E ext b hd (ix2 r ⟨d, by omega⟩) = v0 E ext b hd (ix2 r d) * beta E b (ix2 r ⟨4 + hd, by omega⟩) := by
  rw [← bt_at E b hd r d]; unfold rhs; rw [tr_at]; pointwise
theorem rhs_at1 (r d : Fin 128) : rhs E ext b hd (ix2 r ⟨128 + d, by omega⟩) = kb E ext b hd (ix2 r d) * Ideal.exp (cum E b (ix2 r ⟨hd, by omega⟩)) := by
  rw [← eg_at E b hd r d]; unfold rhs; rw [tr_at]; pointwise
theorem qd_at (r d : Fin 128) : qd E ext b hd (ix2 r d) = qn E ext b hd (ix2 r d) * Ideal.exp (cum E b (ix2 r ⟨hd, by omega⟩)) := by
  rw [← eg_at E b hd r d]; unfold qd; rw [tr_at]; pointwise
theorem kd_at (r d : Fin 128) : kd E ext b hd (ix2 r d)
    = kn E ext b hd (ix2 r d) * Ideal.exp (cum E b (ix2 ⟨64 * (r / 64) + 63, by omega⟩ ⟨hd, by omega⟩) - cum E b (ix2 r ⟨hd, by omega⟩)) := by
  have h := col_at (exp (subf (cumLast E b) (cum E b))) (gcol hd) r d
  unfold kd; rw [tr_at]
  pointwise [gcol] at h ⊢
  rw [h, cumLast_at]
theorem lv_at (i : Fin 6) (r c : Fin 128) : lv E i (ix2 r c) = E.lvl i (ix3 0 r c) := by pointwise [lv]
theorem t0_at (r c : Fin 128) : t0 E ext b hd (ix2 r c) = E.eye (ix2 r c) - lmat E ext b hd (ix2 r c) * E.lvl 0 (ix3 0 r c) := by
  rw [← lv_at]; pointwise [t0, ex]
theorem tstep_at (L : FVec Ideal S128x128 .f32) (M : FVec Ideal S128x128 .bf16) (T : FVec Ideal S128x128 .f32) (r c : Fin 128) : tstep L M T (ix2 r c)
    = T (ix2 r c) - ∑ k, (∑ l, T (ix2 r l) * (L (ix2 l k) * M (ix2 l k))) * T (ix2 k c) := by
  pointwise [tstep, mm, tr]
theorem uw_at (r : Fin 128) (c : Fin 256) : uw E ext b hd (ix2 r c) = ∑ k, tfin E ext b hd (ix2 r k) * rhs E ext b hd (ix2 k c) := by
  pointwise [uw, tr]
theorem res0_at (c : Fin 2) (s : FVec Ideal S128x128 .f32) (r : Fin 64) (e : Fin 128) : resC E ext b hd c s (ix2 ⟨r, by omega⟩ e)
    = ∑ k : Fin 128, uw E ext b hd (ix2 ⟨64 * c + r, by omega⟩ ⟨128 + k, by omega⟩) * s (ix2 k e) := by
  unfold resC; rw [mm_at]; simp only [tr_at]
  pointwise [tr]
theorem res1_at (c : Fin 2) (s : FVec Ideal S128x128 .f32) (r : Fin 64) (e : Fin 128) : resC E ext b hd c s (ix2 ⟨64 + r, by omega⟩ e)
    = ∑ k : Fin 128, qd E ext b hd (ix2 ⟨64 * c + r, by omega⟩ k) * s (ix2 k e) := by
  unfold resC; rw [mm_at]; simp only [tr_at]
  pointwise [tr]
theorem vnew_at (c : Fin 2) (s : FVec Ideal S128x128 .f32) (r : Fin 64) (e : Fin 128) : vnew E ext b hd c s (ix2 r e)
    = uw E ext b hd (ix2 ⟨64 * c + r, by omega⟩ ⟨e, by omega⟩) - ∑ k : Fin 128, uw E ext b hd (ix2 ⟨64 * c + r, by omega⟩ ⟨128 + k, by omega⟩) * s (ix2 k e) := by
  rw [← res0_at]; unfold vnew; rw [tr_at]; pointwise
theorem ointer_at (c : Fin 2) (s : FVec Ideal S128x128 .f32) (r : Fin 64) (e : Fin 128) : ointer E ext b hd c s (ix2 r e)
    = ∑ k : Fin 128, qd E ext b hd (ix2 ⟨64 * c + r, by omega⟩ k) * s (ix2 k e) := by
  rw [← res1_at]; pointwise [ointer]
theorem stepS_at (c : Fin 2) (s : FVec Ideal S128x128 .f32) (d e : Fin 128) : stepS E ext b hd c s (ix2 d e)
    = s (ix2 d e) * Ideal.exp (cum E b (ix2 ⟨64 * c + 63, by omega⟩ ⟨hd, by omega⟩)) + ∑ r : Fin 64, kd E ext b hd (ix2 ⟨64 * c + r, by omega⟩ d) * vnew E ext b hd c s (ix2 r e) := by
  have h := cumLast_at E b ⟨64 * c, by omega⟩ ⟨hd, by omega⟩
  have h2 : (⟨64 * ((⟨64 * c, by omega⟩ : Fin 128).val / 64) + 63, by omega⟩ : Fin 128) = ⟨64 * c + 63, by omega⟩ := Fin.ext (by simp)
  rw [h2] at h
  rw [← h]
  pointwise [stepS, eLast, gcol]
theorem oo_at (cc : Fin 2) (r : Fin 64) (e : Fin 128) : oo E ext b hd (ix2 ⟨64 * cc + r, by omega⟩ e)
    = ointer E ext b hd cc (if cc = 0 then s0 E b hd else s1 E ext b hd) (ix2 r e)
      + ∑ k : Fin 128, attn E ext b hd (ix2 ⟨64 * cc + r, by omega⟩ k) * (if h : k.val < 64 then vnew E ext b hd 0 (s0 E b hd) (ix2 ⟨k, h⟩ e) else vnew E ext b hd 1 (s1 E ext b hd) (ix2 ⟨k - 64, by omega⟩ e)) := by
  fin_cases cc <;> pointwise [oo, mm]
theorem yhead_at (o z : FVec Ideal S128x128 .f32) (r e : Fin 128) : yhead E o z (ix2 r e)
    = o (ix2 r e) * Ideal.rsqrt (Ideal.div (∑ k, o (ix2 r k) * o (ix2 r k)) (Ideal.ofBits FTy.f32 1124073472#32) + eps) * E.gnw (ix2 0 e) * (z (ix2 r e) * Ideal.logistic (z (ix2 r e))) := by
  unfold eps
  pointwise [yhead, tr, cst]
theorem ysc_at (scb : FVec Ideal S128x512 .f32) (e : Vec Ideal S1x136x512 .f32) (r : Fin 128) (c : Fin 512) : ysc E scb e (ix2 r c) = scb (ix2 r c) * conv3 e E.cs (ix2 r c) := by
  pointwise [ysc, tr]
theorem blkP_at (P : FVec Ideal S512x512 .f32) (r : Fin 128) (c : Fin 512) : blkP P b (ix3 0 r c) = rowsP P b (ix2 r c) := by
  pointwise [blkP]
theorem s0_at (d e : Fin 128) : s0 E b hd (ix2 d e) = E.st b hd (ix3 0 d e) := by pointwise [s0]

end Cert.KernelIdeal.Mix
end
end
-- ==== Proof.Proof.MixSpec.lean ====
module
public import proofs.«01_k».proof.Proof.Proof.MixMath
public import proofs.«01_k».proof.Proof.Proof.MixPoint
public import Idealize.ShloMosaic.Lib.Pointwise

@[expose] public noncomputable section
set_option maxRecDepth 16384
namespace Cert.Mix
open Idealize.ShloMosaic Cert.KernelIdeal.Mix

/-- What the mixer takes: rows of x by batch and time, the shift, scale and gate, and the weights. -/
structure Par where
  x : U → ℕ → Fin 1024 → EReal
  md : U → Fin 3 → Fin 1024 → EReal
  n1 : Fin 1024 → EReal
  win : Fin 1024 → ℕ → EReal
  cq : U → ℕ → EReal
  cs : Fin 3 → Fin 512 → EReal
  alog : U → EReal
  dtb : U → EReal
  gnw : Fin 128 → EReal
  wout : Fin 1024 → Fin 1024 → EReal

namespace Par
variable (p : Par)

/-- The modulated norm of a row. -/
def h (b : U) (t : ℕ) : Fin 1024 → EReal := hrow (p.x b t) p.n1 (p.md b 1) (p.md b 0)
/-- One column of the input projection. -/
def P (b : U) (c t : ℕ) : EReal := ∑ k, p.h b t k * p.win k c
/-- The projection under eight rows of zeros. -/
def Pz (b : U) (c n : ℕ) : EReal := if n < 8 then 0 else p.P b c (n - 8)
/-- The causal convolution of width four. -/
def cv (b : U) (c t : ℕ) : EReal :=
  ((p.Pz b c (t + 8) * p.cq 3 c + p.Pz b c (t + 7) * p.cq 2 c) + p.Pz b c (t + 6) * p.cq 1 c) + p.Pz b c (t + 5) * p.cq 0 c
/-- The convolution's activation. -/
def A (b : U) (c t : ℕ) : EReal := p.cv b c t * Ideal.logistic (p.cv b c t)
/-- Raw queries. -/
def q0 (b hd : U) (t : ℕ) (d : Fin 128) : EReal := p.A b (128 * hd + d) t
/-- Raw keys. -/
def k0 (b hd : U) (t : ℕ) (d : Fin 128) : EReal := p.A b (512 + (128 * hd + d)) t
/-- Values. -/
def v (b hd : U) (t : ℕ) (d : Fin 128) : EReal := p.A b (1024 + (128 * hd + d)) t
/-- Normalised queries, scaled. -/
def qn (b hd : U) (t : ℕ) (d : Fin 128) : EReal :=
  p.q0 b hd t d * (Ideal.rsqrt ((∑ k, p.q0 b hd t k * p.q0 b hd t k) + eps) * Ideal.ofBits FTy.f32 1035273459#32)
/-- Normalised keys. -/
def kn (b hd : U) (t : ℕ) (d : Fin 128) : EReal := p.k0 b hd t d * Ideal.rsqrt ((∑ k, p.k0 b hd t k * p.k0 b hd t k) + eps)
/-- The gate projection with its bias. -/
def dl (b hd : U) (t : ℕ) : EReal := p.P b (2048 + hd) t + p.dtb hd
/-- The log decay of a token. -/
def g (b hd : U) (t : ℕ) : EReal :=
  (0 - Ideal.exp (p.alog hd)) * (max (p.dl b hd t) 0 + Ideal.log1p (Ideal.exp (0 - max (p.dl b hd t) (-p.dl b hd t))))
/-- The write strength of a token. -/
def bet (b hd : U) (t : ℕ) : EReal := Ideal.logistic (p.P b (2052 + hd) t)
/-- The log decay cumulated inside chunk n up to token c. -/
def cum (b hd : U) (n : ℕ) (c : Fin 64) : EReal := ∑ m : Fin 64, if m ≤ c then p.g b hd (64 * n + m) else 0
/-- Keys times their write strength. -/
def kb (b hd : U) (t : ℕ) (d : Fin 128) : EReal := p.kn b hd t d * p.bet b hd t
/-- The pairwise decay, zero above the diagonal. -/
def dec (b hd : U) (n : ℕ) (c m : Fin 64) : EReal := if m ≤ c then Ideal.exp (p.cum b hd n c - p.cum b hd n m) else 0
/-- The chunk's interaction of written and read keys, decayed. -/
def L0 (b hd : U) (n : ℕ) (c m : Fin 64) : EReal :=
  (∑ d, p.kb b hd (64 * n + c) d * p.kn b hd (64 * n + m) d) * p.dec b hd n c m
/-- Its strict lower triangle, as a real matrix. -/
def L (b hd : U) (n : ℕ) : Matrix (Fin 64) (Fin 64) ℝ := Matrix.of fun c m => if m < c then (p.L0 b hd n c m).toReal else 0
/-- The inverse of one plus that triangle. -/
def T (b hd : U) (n : ℕ) (c m : Fin 64) : EReal := (((1 + p.L b hd n)⁻¹ c m : ℝ) : EReal)
/-- The chunk's solved values. -/
def u (b hd : U) (n : ℕ) (c : Fin 64) (e : Fin 128) : EReal := ∑ m : Fin 64, p.T b hd n c m * (p.v b hd (64 * n + m) e * p.bet b hd (64 * n + m))
/-- The chunk's solved keys. -/
def w (b hd : U) (n : ℕ) (c : Fin 64) (d : Fin 128) : EReal :=
  ∑ m : Fin 64, p.T b hd n c m * (p.kb b hd (64 * n + m) d * Ideal.exp (p.cum b hd n m))
/-- Attention inside the chunk. -/
def att (b hd : U) (n : ℕ) (c m : Fin 64) : EReal :=
  (∑ d, p.qn b hd (64 * n + c) d * p.kn b hd (64 * n + m) d) * p.dec b hd n c m
/-- What the chunk writes, given the state before it. -/
def vn (b hd : U) (n : ℕ) (s : Fin 128 → Fin 128 → EReal) (c : Fin 64) (e : Fin 128) : EReal :=
  p.u b hd n c e - ∑ k, p.w b hd n c k * s k e
/-- The state after a chunk, given the one before it. -/
def step (b hd : U) (n : ℕ) (s : Fin 128 → Fin 128 → EReal) (d e : Fin 128) : EReal :=
  s d e * Ideal.exp (p.cum b hd n 63)
    + ∑ c : Fin 64, (p.kn b hd (64 * n + c) d * Ideal.exp (p.cum b hd n 63 - p.cum b hd n c)) * p.vn b hd n s c e
/-- The state before chunk n. -/
def S (b hd : U) : ℕ → Fin 128 → Fin 128 → EReal
  | 0 => fun _ _ => 0
  | n + 1 => p.step b hd n (S b hd n)
/-- The chunk's output. -/
def oc (b hd : U) (n : ℕ) (s : Fin 128 → Fin 128 → EReal) (c : Fin 64) (e : Fin 128) : EReal :=
  (∑ k, (p.qn b hd (64 * n + c) k * Ideal.exp (p.cum b hd n c)) * s k e) + ∑ m, p.att b hd n c m * p.vn b hd n s m e
/-- A token's output. -/
def o (b hd : U) (t : ℕ) (e : Fin 128) : EReal := p.oc b hd (t / 64) (p.S b hd (t / 64)) ⟨t % 64, by omega⟩ e
/-- The gate z. -/
def z (b hd : U) (t : ℕ) (e : Fin 128) : EReal := p.P b (1536 + (128 * hd + e)) t
/-- A head's normalised and gated output. -/
def yh (b hd : U) (t : ℕ) (e : Fin 128) : EReal :=
  p.o b hd t e * Ideal.rsqrt (Ideal.div (∑ k, p.o b hd t k * p.o b hd t k) (Ideal.ofBits FTy.f32 1124073472#32) + eps) * p.gnw e
    * (p.z b hd t e * Ideal.logistic (p.z b hd t e))
/-- The short convolution's input under eight rows of zeros. -/
def sz (b : U) (c : Fin 512) (n : ℕ) : EReal := if n < 8 then 0 else p.P b (2568 + c) (n - 8) * p.P b (3080 + c) (n - 8)
/-- The short convolution's branch. -/
def ys (b : U) (t : ℕ) (c : Fin 512) : EReal :=
  p.P b (2056 + c) t * ((p.sz b c (t + 8) * p.cs 2 c + p.sz b c (t + 7) * p.cs 1 c) + p.sz b c (t + 6) * p.cs 0 c)
/-- The heads' columns, then the short convolution's. -/
def y (b : U) (t : ℕ) (j : Fin 1024) : EReal :=
  if hj : j.val < 512 then p.yh b ⟨j / 128, by omega⟩ t ⟨j % 128, by omega⟩ else p.ys b t ⟨j - 512, by omega⟩
/-- The mixer's result. -/
def out (b : U) (t : ℕ) (k : Fin 1024) : EReal := p.x b t k + p.md b 2 k * ∑ j, p.y b t j * p.wout j k

theorem eps_pos : ∃ e : ℝ, 0 < e ∧ eps = (e : EReal) := by
  refine ⟨8796093 * (2 : ℝ) ^ (-43 : ℤ), by positivity, ?_⟩
  simp [eps, Ideal.ofBits, Ideal.ieee, -EReal.coe_mul]
theorem g_nonpos (b hd : U) (t : ℕ) : p.g b hd t ≤ 0 := gate_nonpos _ _ _
theorem cum_nonpos (b hd : U) (n : ℕ) (c : Fin 64) : p.cum b hd n c ≤ 0 :=
  Finset.sum_nonpos fun m _ => by split_ifs; exacts [p.g_nonpos b hd _, le_rfl]
theorem cum_anti (b hd : U) (n : ℕ) {m c : Fin 64} (h : m ≤ c) : p.cum b hd n c ≤ p.cum b hd n m := by
  unfold cum
  refine Finset.sum_le_sum fun i _ => ?_
  by_cases h1 : i ≤ m
  · rw [if_pos h1, if_pos (h1.trans h)]
  · rw [if_neg h1]; split_ifs; exacts [p.g_nonpos b hd _, le_rfl]
theorem rl_dec (b hd : U) (n : ℕ) (c m : Fin 64) : Rl (p.dec b hd n c m) := by
  unfold dec; split_ifs with h
  · exact rl_exp (sub_ne_top (p.cum_nonpos b hd n c) (p.cum_anti b hd n h))
  · exact ⟨0, rfl⟩
theorem rl_kn (b hd : U) (t : ℕ) (d : Fin 128) : Rl (p.kn b hd t d) := by
  obtain ⟨e, he, h⟩ := eps_pos
  unfold kn; rw [h]; exact rl_unit (p.k0 b hd t) he d
theorem rl_L0 (b hd : U) (n : ℕ) (c m : Fin 64) : Rl (p.L0 b hd n c m) :=
  Rl.mul (Rl.sum _ _ fun d => Rl.mul (Rl.mul (p.rl_kn b hd _ d) (rl_logistic _)) (p.rl_kn b hd _ d)) (p.rl_dec b hd n c m)
theorem L_coe (b hd : U) (n : ℕ) (c m : Fin 64) : ((p.L b hd n c m : ℝ) : EReal) = if m < c then p.L0 b hd n c m else 0 := by
  unfold L; rw [Matrix.of_apply]; split_ifs
  · exact (p.rl_L0 b hd n c m).eq
  · rfl
theorem L_low (b hd : U) (n : ℕ) (i j : Fin 64) (h : i ≤ j) : p.L b hd n i j = 0 := by
  unfold L; rw [Matrix.of_apply, if_neg (not_lt.2 h)]
end Par
end Cert.Mix
end
-- ==== Proof.Proof.MixScratch.lean ====
module
public import proofs.«01_k».proof.Proof.Proof.MixPoint
public import Idealize.ShloMosaic.Lib.Writes

@[expose] public section
set_option maxRecDepth 16384
noncomputable section

namespace Cert.KernelIdeal.Mix
open Idealize.ShloMosaic Idealize.SL.Sem Cert.KernelIdeal.Gen

section
variable {Val : EltTy → Type} {sg : RefSig} {κ : Kind} {sp : Space} {s : Shape} {e : EltTy} (v : View sg κ sp s e) (f : v.ty.Contents Val)

/-- A place under one of the latest stores, and under no other of them, reads that store's payload. -/
theorem read_map {ι : Type} (g : ι → View.Piece Val s e) (L : List (View.Piece Val s e)) (k : ι) (x : (g k).1.shape.Idx) (y : s.Idx)
    (hy : ∀ a, (y a).val = (g k).1.off a + (g k).1.stride a * (x a).val) : ∀ l : List ι, k ∈ l → (∀ k' ∈ l, y ∈ (g k').1.set → k' = k) →
    v.read Val (v.writes Val f (l.map g ++ L)) y = (g k).2 x
  | [], h, _ => absurd h (by simp)
  | k' :: l, h, hd => by
    by_cases hm : y ∈ (g k').1.set
    · obtain rfl := hd k' (by simp) hm
      exact View.read_writes_cons_hit_of_coords v f (g k').1 (g k').2 _ x y hy
    · have hk : k ∈ l := by
        rcases List.mem_cons.mp h with rfl | h
        · exact absurd (by rw [← Rect.emb_eq_of_coords (g k).1 x y hy, ← Rect.map_emb_univ]; exact Finset.mem_map_of_mem _ (Finset.mem_univ x)) hm
        · exact h
      rw [List.map_cons, List.cons_append, View.read_writes_cons_miss v f (g k') _ y hm]
      exact read_map g L k x y hy l hk fun k'' h'' => hd k'' (by simp [h''])

/-- A place under none of the latest stores reads what was there. -/
theorem read_skip (L : List (View.Piece Val s e)) (y : s.Idx) : ∀ l : List (View.Piece Val s e), (∀ p ∈ l, y ∉ p.1.set) →
    v.read Val (v.writes Val f (l ++ L)) y = v.read Val (v.writes Val f L) y
  | [], _ => rfl
  | p :: l, h => by
    rw [List.cons_append, View.read_writes_cons_miss v f p _ y (h p (by simp))]
    exact read_skip L y l fun q hq => h q (by simp [hq])
end

variable (E : Env Ideal)
variable {κ : Kind} (v22 : View sig κ .vmem S12x136x512 .f32) (f22 : v22.ty.Contents (Elt Ideal)) (L22 : List (View.Piece (Elt Ideal) S12x136x512 .f32))
  (v23 : View sig κ .vmem S4x136x512 .f32) (f23 : v23.ty.Contents (Elt Ideal)) (L23 : List (View.Piece (Elt Ideal) S4x136x512 .f32))
  (w22 : View sig κ .vmem S12x136x512 .f32) (g22 : w22.ty.Contents (Elt Ideal))
  (w23 : View sig κ .vmem S4x136x512 .f32) (g23 : w23.ty.Contents (Elt Ideal))
  (v24 v25 : View sig κ .vmem S512x512 .f32) (v26 : View sig κ .vmem S512x1024 .bf16)
  (w26 : View sig κ .vmem S512x1024 .bf16) (g26 : w26.ty.Contents (Elt Ideal)) (w18 : View sig κ .vmem S4x128x1024 .f32) (g18 : w18.ty.Contents (Elt Ideal)) (w29 : View sig κ .vmem S16x128x128 .f32) (g29 : w29.ty.Contents (Elt Ideal))

/-- Below the carried rows the projection scratch holds the projections. -/
theorem qproj_at_hi (m : Fin 12) (r : Fin 128) (c : Fin 512) (i : Fin 136) (hi : i.val = 8 + r) :
    w22.read (Elt Ideal) (w22.writes (Elt Ideal) g22 (qproj E L22)) (ix3 m i c) = rowsP (proj E ⟨m / 4, by omega⟩) ⟨m % 4, by omega⟩ (ix2 r c) := by
  unfold qproj
  rw [read_map w22 g22 _ L22 m (ix3 0 r c : S1x128x512.Idx)]
  · exact blkP_at (⟨m % 4, by omega⟩ : U) (proj E ⟨m / 4, by omega⟩) r c
  · intro a
    match a with
    | ⟨0, _⟩ => show m.val = m.val % 12 + 1 * 0; omega
    | ⟨1, _⟩ => show i.val = 8 + 1 * r.val; omega
    | ⟨2, _⟩ => show c.val = 0 + 1 * c.val; omega
  · fin_cases m <;> simp
  · intro k' _ hk
    have h := (Rect.mem_set_unit (inb := in12p k'.val)).mp hk 0
    have h1 : k'.val % 12 ≤ m.val := h.1
    have h2 : m.val < k'.val % 12 + 1 := h.2
    exact Fin.ext (by omega)

/-- On the carried rows the projection scratch holds what it held. -/
theorem qproj_at_lo (m : Fin 12) (c : Fin 512) (i : Fin 136) (hi : i.val < 8) :
    w22.read (Elt Ideal) (w22.writes (Elt Ideal) g22 (qproj E L22)) (ix3 m i c) = w22.read (Elt Ideal) (w22.writes (Elt Ideal) g22 L22) (ix3 m i c) := by
  unfold qproj
  refine read_skip w22 g22 L22 _ _ fun p hp hm => ?_
  obtain ⟨k', -, rfl⟩ := List.mem_map.mp hp
  have h := (Rect.mem_set_unit (inb := in12p k'.val)).mp hm 1
  have h1 : 8 ≤ i.val := h.1
  omega

/-- A batch and group not yet carried over is as the projections left it. -/
theorem qlist_ge (m : Fin 12) (i : Fin 136) (c : Fin 512) : ∀ k : ℕ, k ≤ m.val →
    w22.read (Elt Ideal) (w22.writes (Elt Ideal) g22 (qlist E v22 f22 L22 k)) (ix3 m i c) = w22.read (Elt Ideal) (w22.writes (Elt Ideal) g22 (qproj E L22)) (ix3 m i c)
  | 0, _ => rfl
  | k + 1, h => by
    rw [qlist, View.read_writes_cons_miss, qlist_ge m i c k (by omega)]
    intro hm
    have h' := (Rect.mem_set_unit (inb := in12t k)).mp hm 0
    have h1 : m.val < k % 12 + 1 := h'.2
    omega

/-- The convolution input of batch and group m. -/
theorem qext_at (m : Fin 12) (i : Fin 136) (c : Fin 512) : qext E v22 f22 L22 m (ix3 0 i c)
    = v22.read (Elt Ideal) (v22.writes (Elt Ideal) f22 (qproj E L22)) (ix3 m i c) := by
  rw [← qlist_ge E v22 f22 L22 v22 f22 m i c m le_rfl]
  have e : (Rect.unit (s := S12x136x512) ![m.val % 12, 0, 0] S1x136x512.size (in12 m.val)).toLoadRect.idx (ix3 0 i c : S1x136x512.Idx) = ix3 m i c := by
    funext a
    match a with
    | ⟨0, _⟩ => exact Fin.ext (show m.val % 12 + 1 * 0 = m.val by omega)
    | ⟨1, _⟩ => exact Fin.ext (show 0 + 1 * i.val = i.val by omega)
    | ⟨2, _⟩ => exact Fin.ext (show 0 + 1 * c.val = c.val by omega)
  rw [← e]; rfl

/-- After its tail is carried over, the carried rows of batch and group m are its last eight rows. -/
theorem qlist_tail (m : Fin 12) (i : Fin 136) (r : Fin 8) (hi : i.val = r.val) (c : Fin 512) : ∀ k : ℕ, m.val < k → k ≤ 12 →
    w22.read (Elt Ideal) (w22.writes (Elt Ideal) g22 (qlist E v22 f22 L22 k)) (ix3 m i c) = qext E v22 f22 L22 m (ix3 0 ⟨128 + r, by omega⟩ c)
  | 0, h, _ => by omega
  | k + 1, h, h12 => by
    rw [qlist]
    by_cases hk : m.val = k
    · subst hk
      rw [View.read_writes_cons_hit_of_coords w22 g22 _ _ _ (ix3 0 r c : S1x8x512.Idx)]
      · exact tail8_at _ r c
      · intro a
        match a with
        | ⟨0, _⟩ => show m.val = m.val % 12 + 1 * 0; omega
        | ⟨1, _⟩ => show i.val = 0 + 1 * r.val; omega
        | ⟨2, _⟩ => show c.val = 0 + 1 * c.val; omega
    · rw [View.read_writes_cons_miss, qlist_tail m i r hi c k (by omega) (by omega)]
      intro hm
      have h' := (Rect.mem_set_unit (inb := in12t k)).mp hm 0
      have h1 : k % 12 ≤ m.val := h'.1
      omega

/-! ## The short convolution's scratch -/

theorem sch_at (X : Vec Ideal S1x128x512 .f32) (Y : FVec Ideal S128x512 .f32) (r : Fin 128) (c : Fin 512) :
    shapeCast S1x128x512 (mulf (shapeCast S128x512 X shapeCasts_S1x128x512_S128x512) Y : FVec Ideal S128x512 .f32) shapeCasts_S128x512_S1x128x512 (ix3 0 r c) = X (ix3 0 r c) * Y (ix2 r c) := by
  pointwise
theorem slist0_at_hi (m : U) (r : Fin 128) (c : Fin 512) (i : Fin 136) (hi : i.val = 8 + r) :
    w23.read (Elt Ideal) (w23.writes (Elt Ideal) g23 (slist0 E L23)) (ix3 m i c) = rowsP (projsc E 1) m (ix2 r c) := by
  unfold slist0
  rw [read_map w23 g23 _ L23 m (ix3 0 r c : S1x128x512.Idx)]
  · exact blkP_at m (projsc E 1) r c
  · intro a
    match a with
    | ⟨0, _⟩ => show m.val = m.val % 4 + 1 * 0; omega
    | ⟨1, _⟩ => show i.val = 8 + 1 * r.val; omega
    | ⟨2, _⟩ => show c.val = 0 + 1 * c.val; omega
  · fin_cases m <;> simp
  · intro k' _ hk
    have h := (Rect.mem_set_unit (inb := in4p k'.val)).mp hk 0
    have h1 : k'.val % 4 ≤ m.val := h.1
    have h2 : m.val < k'.val % 4 + 1 := h.2
    exact Fin.ext (by omega)
theorem slist0_at_lo (m : U) (c : Fin 512) (i : Fin 136) (hi : i.val < 8) :
    w23.read (Elt Ideal) (w23.writes (Elt Ideal) g23 (slist0 E L23)) (ix3 m i c) = w23.read (Elt Ideal) (w23.writes (Elt Ideal) g23 L23) (ix3 m i c) := by
  unfold slist0
  refine read_skip w23 g23 L23 _ _ fun p hp hm => ?_
  obtain ⟨k', -, rfl⟩ := List.mem_map.mp hp
  have h := (Rect.mem_set_unit (inb := in4p k'.val)).mp hm 1
  have h1 : 8 ≤ i.val := h.1
  omega
theorem slist1_ge (m : U) (i : Fin 136) (c : Fin 512) : ∀ k : ℕ, k ≤ m.val →
    w23.read (Elt Ideal) (w23.writes (Elt Ideal) g23 (slist1 E v23 L23 k)) (ix3 m i c) = w23.read (Elt Ideal) (w23.writes (Elt Ideal) g23 (slist0 E L23)) (ix3 m i c)
  | 0, _ => rfl
  | k + 1, h => by
    rw [slist1, View.read_writes_cons_miss, slist1_ge m i c k (by omega)]
    intro hm
    have h' := (Rect.mem_set_unit (inb := in4p k)).mp hm 0
    have h1 : m.val < k % 4 + 1 := h'.2
    omega
theorem slist1_lo (m : U) (c : Fin 512) (i : Fin 136) (hi : i.val < 8) : ∀ k : ℕ,
    w23.read (Elt Ideal) (w23.writes (Elt Ideal) g23 (slist1 E v23 L23 k)) (ix3 m i c) = w23.read (Elt Ideal) (w23.writes (Elt Ideal) g23 L23) (ix3 m i c)
  | 0 => slist0_at_lo E L23 w23 g23 m c i hi
  | k + 1 => by
    rw [slist1, View.read_writes_cons_miss, slist1_lo m c i hi k]
    intro hm
    have h' := (Rect.mem_set_unit (inb := in4p k)).mp hm 1
    have h1 : 8 ≤ i.val := h'.1
    omega
theorem slist1_hi (m : U) (r : Fin 128) (c : Fin 512) (i : Fin 136) (hi : i.val = 8 + r) : ∀ k : ℕ, m.val < k → k ≤ 4 →
    w23.read (Elt Ideal) (w23.writes (Elt Ideal) g23 (slist1 E v23 L23 k)) (ix3 m i c) = rowsP (projsc E 1) m (ix2 r c) * rowsP (projsc E 2) m (ix2 r c)
  | 0, h, _ => by omega
  | k + 1, h, h12 => by
    rw [slist1]
    by_cases hk : m.val = k
    · subst hk
      rw [View.read_writes_cons_hit_of_coords w23 g23 _ _ _ (ix3 0 r c : S1x128x512.Idx)]
      · have e1 : (⟨m.val % 4, by omega⟩ : U) = m := Fin.ext (Nat.mod_eq_of_lt m.isLt)
        have e : (Rect.unit (s := S4x136x512) ![m.val % 4, 8, 0] S1x128x512.size (in4p m.val)).toLoadRect.idx (ix3 0 r c : S1x128x512.Idx) = ix3 m i c := by
          funext a
          match a with
          | ⟨0, _⟩ => exact Fin.ext (show m.val % 4 + 1 * 0 = m.val by omega)
          | ⟨1, _⟩ => exact Fin.ext (show 8 + 1 * r.val = i.val by omega)
          | ⟨2, _⟩ => exact Fin.ext (show 0 + 1 * c.val = c.val by omega)
        have h0 := slist0_at_hi E L23 v23 v23.junk m r c i hi
        rw [← slist1_ge E v23 L23 v23 v23.junk m i c m.val le_rfl, ← e] at h0
        have h1 : View.readCov (Val := Elt Ideal) v23 (slist1 E v23 L23 m.val) (Rect.unit (s := S4x136x512) ![m.val % 4, 8, 0] S1x128x512.size (in4p m.val)).toLoadRect (ix3 0 r c : S1x128x512.Idx) = rowsP (projsc E 1) m (ix2 r c) := h0
        rw [← h1]
        refine (sch_at _ _ r c).trans ?_
        rw [e1]
      · intro a
        match a with
        | ⟨0, _⟩ => show m.val = m.val % 4 + 1 * 0; omega
        | ⟨1, _⟩ => show i.val = 8 + 1 * r.val; omega
        | ⟨2, _⟩ => show c.val = 0 + 1 * c.val; omega
    · rw [View.read_writes_cons_miss, slist1_hi m r c i hi k (by omega) (by omega)]
      intro hm
      have h' := (Rect.mem_set_unit (inb := in4p k)).mp hm 0
      have h1 : k % 4 ≤ m.val := h'.1
      omega
theorem slist_ge (m : U) (i : Fin 136) (c : Fin 512) : ∀ k : ℕ, k ≤ m.val →
    w23.read (Elt Ideal) (w23.writes (Elt Ideal) g23 (slist E v23 f23 L23 k)) (ix3 m i c) = w23.read (Elt Ideal) (w23.writes (Elt Ideal) g23 (slist1 E v23 L23 4)) (ix3 m i c)
  | 0, _ => rfl
  | k + 1, h => by
    rw [slist, View.read_writes_cons_miss, slist_ge m i c k (by omega)]
    intro hm
    have h' := (Rect.mem_set_unit (inb := in4t k)).mp hm 0
    have h1 : m.val < k % 4 + 1 := h'.2
    omega
theorem sext_at (m : U) (i : Fin 136) (c : Fin 512) : sext E v23 f23 L23 m (ix3 0 i c)
    = v23.read (Elt Ideal) (v23.writes (Elt Ideal) f23 (slist1 E v23 L23 4)) (ix3 m i c) := by
  rw [← slist_ge E v23 f23 L23 v23 f23 m i c m le_rfl]
  have e : (Rect.unit (s := S4x136x512) ![m.val % 4, 0, 0] S1x136x512.size (in4 m.val)).toLoadRect.idx (ix3 0 i c : S1x136x512.Idx) = ix3 m i c := by
    funext a
    match a with
    | ⟨0, _⟩ => exact Fin.ext (show m.val % 4 + 1 * 0 = m.val by omega)
    | ⟨1, _⟩ => exact Fin.ext (show 0 + 1 * i.val = i.val by omega)
    | ⟨2, _⟩ => exact Fin.ext (show 0 + 1 * c.val = c.val by omega)
  rw [← e]; rfl
theorem slist_tail (m : U) (i : Fin 136) (r : Fin 8) (hi : i.val = r.val) (c : Fin 512) : ∀ k : ℕ, m.val < k → k ≤ 4 →
    w23.read (Elt Ideal) (w23.writes (Elt Ideal) g23 (slist E v23 f23 L23 k)) (ix3 m i c) = sext E v23 f23 L23 m (ix3 0 ⟨128 + r, by omega⟩ c)
  | 0, h, _ => by omega
  | k + 1, h, h12 => by
    rw [slist]
    by_cases hk : m.val = k
    · subst hk
      rw [View.read_writes_cons_hit_of_coords w23 g23 _ _ _ (ix3 0 r c : S1x8x512.Idx)]
      · exact tail8_at _ r c
      · intro a
        match a with
        | ⟨0, _⟩ => show m.val = m.val % 4 + 1 * 0; omega
        | ⟨1, _⟩ => show i.val = 0 + 1 * r.val; omega
        | ⟨2, _⟩ => show c.val = 0 + 1 * c.val; omega
    · rw [View.read_writes_cons_miss, slist_tail m i r hi c k (by omega) (by omega)]
      intro hm
      have h' := (Rect.mem_set_unit (inb := in4t k)).mp hm 0
      have h1 : k % 4 ≤ m.val := h'.1
      omega

/-! ## The gates and the concatenated outputs -/

theorem zr_at (b hd : U) (r e : Fin 128) : zr E v25 b hd (ix2 r e) = rowsP (proj E 3) b (ix2 r ⟨128 * hd + e, by omega⟩) := by
  unfold zr
  rw [View.readCov_eq_canon']
  have h := View.canon_cons_emb (Val := Elt Ideal) (e := EltTy.f32) (Rect.unit ![0, 0] S512x512.size inb_S512x512_S512x512_0_0) (shapeCast S512x512 (proj E 3) shapeCasts_S512x512_S512x512) [] (ix2 ⟨128 * b + r, by omega⟩ ⟨128 * hd + e, by omega⟩)
  have e1 : (Rect.unit (s := S512x512) ![128 * b.val, 128 * hd.val] S128x128.size (inZ b hd)).toLoadRect.idx (ix2 r e : S128x128.Idx) = (Rect.unit (s := S512x512) ![0, 0] S512x512.size inb_S512x512_S512x512_0_0).emb (ix2 ⟨128 * b + r, by omega⟩ ⟨128 * hd + e, by omega⟩ : S512x512.Idx) := by
    funext a
    match a with
    | ⟨0, _⟩ => exact Fin.ext (show 128 * b.val + 1 * r.val = 0 + 1 * (128 * b + r) by omega)
    | ⟨1, _⟩ => exact Fin.ext (show 128 * hd.val + 1 * e.val = 0 + 1 * (128 * hd + e) by omega)
  show View.canon _ _ = _
  rw [e1, h]
  pointwise [rowsP]
theorem scbr_at (b : U) (r : Fin 128) (c : Fin 512) : scbr E v24 b (ix2 r c) = rowsP (projsc E 0) b (ix2 r c) := by
  unfold scbr
  rw [View.readCov_eq_canon']
  have h := View.canon_cons_emb (Val := Elt Ideal) (e := EltTy.f32) (Rect.unit ![0, 0] S512x512.size inb_S512x512_S512x512_0_0) (shapeCast S512x512 (projsc E 0) shapeCasts_S512x512_S512x512) [] (ix2 ⟨128 * b + r, by omega⟩ c)
  have e1 : (Rect.unit (s := S512x512) ![128 * b.val, 0] S128x512.size (inB b)).toLoadRect.idx (ix2 r c : S128x512.Idx) = (Rect.unit (s := S512x512) ![0, 0] S512x512.size inb_S512x512_S512x512_0_0).emb (ix2 ⟨128 * b + r, by omega⟩ c : S512x512.Idx) := by
    funext a
    match a with
    | ⟨0, _⟩ => exact Fin.ext (show 128 * b.val + 1 * r.val = 0 + 1 * (128 * b + r) by omega)
    | ⟨1, _⟩ => exact Fin.ext (show 0 + 1 * c.val = 0 + 1 * c.val by omega)
  show View.canon _ _ = _
  rw [e1, h]
  pointwise [rowsP]

variable (qe se : ℕ → Vec Ideal S1x136x512 .f32)

/-- The concatenated outputs, read back: a head's columns. -/
theorem y_at_head (b hd : U) (r e : Fin 128) : w26.read (Elt Ideal) (w26.writes (Elt Ideal) g26 (ylist E v24 v25 qe se)) (ix2 ⟨128 * b + r, by omega⟩ ⟨128 * hd + e, by omega⟩)
    = yhead E (oo E qe b hd) (zr E v25 b hd) (ix2 r e) := by
  unfold ylist
  rw [read_map w26 g26 _ _ (b, hd) (ix2 r e : S128x128.Idx)]
  · intro a
    match a with
    | ⟨0, _⟩ => show 128 * b.val + r.val = 128 * b.val + 1 * r.val; omega
    | ⟨1, _⟩ => show 128 * hd.val + e.val = 128 * hd.val + 1 * e.val; omega
  · fin_cases b <;> fin_cases hd <;> simp
  · intro k' _ hk
    have h := (Rect.mem_set_unit (inb := inY k'.1 k'.2)).mp hk
    have h1 : 128 * k'.1.val ≤ 128 * b.val + r.val := (h 0).1
    have h2 : 128 * b.val + r.val < 128 * k'.1.val + 128 := (h 0).2
    have h3 : 128 * k'.2.val ≤ 128 * hd.val + e.val := (h 1).1
    have h4 : 128 * hd.val + e.val < 128 * k'.2.val + 128 := (h 1).2
    exact Prod.ext (Fin.ext (show k'.1.val = b.val by omega)) (Fin.ext (show k'.2.val = hd.val by omega))
/-- The concatenated outputs, read back: the short convolution's columns. -/
theorem y_at_sc (b : U) (r : Fin 128) (c : Fin 512) : w26.read (Elt Ideal) (w26.writes (Elt Ideal) g26 (ylist E v24 v25 qe se)) (ix2 ⟨128 * b + r, by omega⟩ ⟨512 + c, by omega⟩)
    = ysc E (scbr E v24 b) (se b) (ix2 r c) := by
  unfold ylist
  rw [read_skip, ← List.append_nil (List.map _ [3, 2, 1, 0]), read_map w26 g26 _ _ b (ix2 r c : S128x512.Idx)]
  · intro a
    match a with
    | ⟨0, _⟩ => show 128 * b.val + r.val = 128 * b.val + 1 * r.val; omega
    | ⟨1, _⟩ => show 512 + c.val = 512 + 1 * c.val; omega
  · fin_cases b <;> simp
  · intro k' _ hk
    have h := (Rect.mem_set_unit (inb := inYs k')).mp hk
    have h1 : 128 * k'.val ≤ 128 * b.val + r.val := (h 0).1
    have h2 : 128 * b.val + r.val < 128 * k'.val + 128 := (h 0).2
    exact Fin.ext (by omega)
  · intro p hp hm
    obtain ⟨k', -, rfl⟩ := List.mem_map.mp hp
    have h := (Rect.mem_set_unit (inb := inY k'.1 k'.2)).mp hm 1
    have h1 : 512 + c.val < 128 * k'.2.val + 128 := h.2
    omega
/-- A result row. -/
theorem outb_at (b : U) (r : Fin 128) (k : Fin 1024) : outb E v24 v25 v26 qe se b (ix3 0 r k)
    = E.x b (ix3 0 r k) + E.md b 2 (ix3 0 0 k) * ∑ j : Fin 1024, v26.read (Elt Ideal) (v26.writes (Elt Ideal) v26.junk (ylist E v24 v25 qe se)) (ix2 ⟨128 * b + r, by omega⟩ j) * E.wout (ix2 j k) := by
  have e1 : ∀ R C, View.readCov (Val := Elt Ideal) v26 (ylist E v24 v25 qe se) (Rect.unit (s := S512x1024) ![0, 0] S512x1024.size inb_S512x1024_S512x1024_0_0).toLoadRect (ix2 R C : S512x1024.Idx)
      = v26.read (Elt Ideal) (v26.writes (Elt Ideal) v26.junk (ylist E v24 v25 qe se)) (ix2 R C) := by
    intro R C
    have e : (Rect.unit (s := S512x1024) ![0, 0] S512x1024.size inb_S512x1024_S512x1024_0_0).toLoadRect.idx (ix2 R C : S512x1024.Idx) = ix2 R C := by
      funext a
      match a with
      | ⟨0, _⟩ => exact Fin.ext (show 0 + 1 * R.val = R.val by omega)
      | ⟨1, _⟩ => exact Fin.ext (show 0 + 1 * C.val = C.val by omega)
    conv_rhs => rw [← e]
    rfl
  simp only [← e1]
  pointwise [outb, mix, xs]
/-- The result block, read back. -/
theorem olist_at (b : U) (r : Fin 128) (k : Fin 1024) : w18.read (Elt Ideal) (w18.writes (Elt Ideal) g18 (olist E v24 v25 v26 qe se)) (ix3 b r k)
    = outb E v24 v25 v26 qe se b (ix3 0 r k) := by
  unfold olist
  rw [← List.append_nil (List.map _ [3, 2, 1, 0]), read_map w18 g18 _ _ b (ix3 0 r k : S1x128x1024.Idx)]
  · intro a
    match a with
    | ⟨0, _⟩ => show b.val = b.val + 1 * 0; omega
    | ⟨1, _⟩ => show r.val = 0 + 1 * r.val; omega
    | ⟨2, _⟩ => show k.val = 0 + 1 * k.val; omega
  · fin_cases b <;> simp
  · intro k' _ hk
    have h := (Rect.mem_set_unit (inb := inO k')).mp hk 0
    have h1 : k'.val ≤ b.val := h.1
    have h2 : b.val < k'.val + 1 := h.2
    exact Fin.ext (by omega)
/-- The state, read back. -/
theorem stlist_at (L : List (View.Piece (Elt Ideal) S16x128x128 .f32)) (u : Fin 16) (d e : Fin 128) : w29.read (Elt Ideal) (w29.writes (Elt Ideal) g29 (stlist E qe ++ L)) (ix3 u d e)
    = s2 E qe ⟨u / 4, by omega⟩ ⟨u % 4, by omega⟩ (ix2 d e) := by
  unfold stlist
  rw [read_map w29 g29 _ _ u (ix3 0 d e : S1x128x128.Idx)]
  · pointwise
  · intro a
    match a with
    | ⟨0, _⟩ => show u.val = u.val + 1 * 0; omega
    | ⟨1, _⟩ => show d.val = 0 + 1 * d.val; omega
    | ⟨2, _⟩ => show e.val = 0 + 1 * e.val; omega
  · fin_cases u <;> simp
  · intro k' _ hk
    have h := (Rect.mem_set_unit (inb := inS k')).mp hk 0
    have h1 : k'.val ≤ u.val := h.1
    have h2 : u.val < k'.val + 1 := h.2
    exact Fin.ext (by omega)
end Cert.KernelIdeal.Mix
end
end
-- ==== Proof.Proof.MixStep.lean ====
module
public import proofs.«01_k».proof.Proof.Proof.MixSpec
public import proofs.«01_k».proof.Proof.Proof.MixScratch
public import Idealize.ShloMosaic.Lib.Pointwise

@[expose] public noncomputable section
set_option maxRecDepth 16384
namespace Cert.Mix
open Idealize.ShloMosaic Cert.KernelIdeal Cert.KernelIdeal.Mix

/-- A grid step's inputs are those of the mathematics at step s. -/
structure Lf (E : Env Ideal) (p : Par) (s : ℕ) : Prop where
  x : ∀ (b : U) (r : Fin 128) (k : Fin 1024), E.x b (ix3 0 r k) = p.x b (128 * s + r) k
  md : ∀ (b : U) (i : Fin 3) (k : Fin 1024), E.md b i (ix3 0 0 k) = p.md b i k
  n1 : ∀ k : Fin 1024, E.n1 (ix2 0 k) = p.n1 k
  w : ∀ (j : U) (k : Fin 1024) (c : Fin 512), E.w j (ix2 k c) = p.win k (512 * j + c)
  wsc : ∀ (j : Fin 3) (k : Fin 1024) (c : Fin 512), E.wsc j (ix2 k c) = p.win k (2056 + 512 * j + c)
  wab : ∀ (k : Fin 1024) (c : Fin 128), c.val < 8 → E.wab (ix2 k c) = p.win k (2048 + c)
  cq : ∀ (i : U) (j : Fin 3) (c : Fin 512), E.cq i j (ix2 0 c) = p.cq i (512 * j + c)
  cs : ∀ (i : Fin 3) (c : Fin 512), E.cs i (ix2 0 c) = p.cs i c
  alog : ∀ hd : U, E.alog (ix2 0 ⟨hd, by omega⟩) = p.alog hd
  dtb : ∀ hd : U, E.dtb (ix2 0 ⟨hd, by omega⟩) = p.dtb hd
  gnw : ∀ e : Fin 128, E.gnw (ix2 0 e) = p.gnw e
  wout : ∀ j k : Fin 1024, E.wout (ix2 j k) = p.wout j k
  tril : ∀ r c : Fin 128, E.tril (ix2 r c) = if r.val / 64 = c.val / 64 ∧ c ≤ r then 1 else 0
  tri16 : ∀ r c : Fin 128, E.tri16 (ix2 r c) = if r.val / 64 = c.val / 64 ∧ c ≤ r then 1 else 0
  eye : ∀ r c : Fin 128, E.eye (ix2 r c) = if r = c then 1 else 0
  lvl : ∀ (i : Fin 6) (r c : Fin 128), E.lvl i (ix3 0 r c)
    = if r.val / 2 ^ i.val / 2 = c.val / 2 ^ i.val / 2 ∧ r.val / 2 ^ i.val % 2 = 1 ∧ c.val / 2 ^ i.val % 2 = 0 then 1 else 0
  st : ∀ (b hd : U) (d e : Fin 128), E.st b hd (ix3 0 d e) = p.S b hd (2 * s) d e
  mask : E.mask = ⊥

/-- So are the rows its convolutions read. -/
structure At (E : Env Ideal) (qe se : ℕ → Vec Ideal S1x136x512 .f32) (p : Par) (s : ℕ) : Prop extends Lf E p s where
  qe : ∀ (b : U) (j : Fin 3) (i : Fin 136) (c : Fin 512), qe (4 * j + b) (ix3 0 i c) = p.Pz b (512 * j + c) (128 * s + i)
  se : ∀ (b : U) (i : Fin 136) (c : Fin 512), se b (ix3 0 i c) = p.sz b c (128 * s + i)

namespace Lf
variable {E : Env Ideal} {p : Par} {s : ℕ} (H : Lf E p s)
include H

theorem h (b : U) (r : Fin 128) (k : Fin 1024) : hb E b (ix2 r k) = p.h b (128 * s + r) k := by
  rw [hb_at]; simp only [H.x, H.n1, H.md]; rfl
theorem proj (j b : U) (r : Fin 128) (c : Fin 512) : rowsP (proj E j) b (ix2 r c) = p.P b (512 * j + c) (128 * s + r) := by
  rw [rowsP_proj_at]; simp only [H.h, H.w]; rfl
theorem projsc (b : U) (j : Fin 3) (r : Fin 128) (c : Fin 512) : rowsP (projsc E j) b (ix2 r c) = p.P b (2056 + 512 * j + c) (128 * s + r) := by
  rw [rowsP_projsc_at]; simp only [H.h, H.wsc]; rfl
theorem ab (b : U) (r c : Fin 128) (hc : c.val < 8) : ab E b (ix2 r c) = p.P b (2048 + c) (128 * s + r) := by
  rw [ab_at]; simp only [H.h, H.wab _ c hc]; rfl
end Lf

namespace At
variable {E : Env Ideal} {qe se : ℕ → Vec Ideal S1x136x512 .f32} {p : Par} {s : ℕ} (H : At E qe se p s)
include H

theorem gg (b hd : U) (r : Fin 128) : gg E b (ix2 r ⟨hd, by omega⟩) = p.g b hd (128 * s + r) := by
  rw [gg_at, H.ab _ _ _ (by simp only; omega), H.alog, H.dtb]; rfl
theorem beta (b hd : U) (r : Fin 128) : beta E b (ix2 r ⟨4 + hd, by omega⟩) = p.bet b hd (128 * s + r) := by
  rw [beta_at, H.ab _ _ _ (by simp only; omega)]; unfold Par.bet
  rw [show 2048 + (4 + hd.val) = 2052 + hd.val by omega]
theorem act (b : U) (j : Fin 3) (r : Fin 128) (c : Fin 512) : act E qe b j (ix2 r c) = p.A b (512 * j + c) (128 * s + r) := by
  rw [act_at, conv4_at]; simp only [H.qe, H.cq]; unfold Par.A Par.cv
  simp only [Nat.add_assoc]
theorem q0 (b hd : U) (r d : Fin 128) : q0 E qe b hd (ix2 r d) = p.q0 b hd (128 * s + r) d := by
  unfold Cert.KernelIdeal.Mix.q0; rw [head_at, H.act]; unfold Par.q0
  simp
theorem k0 (b hd : U) (r d : Fin 128) : k0 E qe b hd (ix2 r d) = p.k0 b hd (128 * s + r) d := by
  unfold Cert.KernelIdeal.Mix.k0; rw [head_at, H.act]; unfold Par.k0
  simp
theorem v0 (b hd : U) (r d : Fin 128) : v0 E qe b hd (ix2 r d) = p.v b hd (128 * s + r) d := by
  unfold Cert.KernelIdeal.Mix.v0; rw [head_at, H.act]; unfold Par.v
  simp
theorem qn (b hd : U) (r d : Fin 128) : qn E qe b hd (ix2 r d) = p.qn b hd (128 * s + r) d := by
  rw [qn_at]; simp only [H.q0]; rfl
theorem kn (b hd : U) (r d : Fin 128) : kn E qe b hd (ix2 r d) = p.kn b hd (128 * s + r) d := by
  rw [kn_at]; simp only [H.k0]; rfl
theorem kb (b hd : U) (r d : Fin 128) : kb E qe b hd (ix2 r d) = p.kb b hd (128 * s + r) d := by
  rw [kb_at, H.kn, H.beta]; rfl

omit H in
theorem tm (s : ℕ) (cc : Fin 2) (c : ℕ) : 128 * s + (64 * cc.val + c) = 64 * (2 * s + cc) + c := by omega

theorem cum (b hd : U) (cc : Fin 2) (c : Fin 64) : cum E b (ix2 ⟨64 * cc + c, by omega⟩ ⟨hd, by omega⟩) = p.cum b hd (2 * s + cc) c := by
  rw [cum_at, cum3_at, ← Finset.sum_add_distrib, ← Finset.sum_add_distrib]
  simp only [H.gg, H.tri16]
  have e : ∀ k : Fin 128, ∀ a : EReal, (a = 0 ∨ a = 1) → a * p.g b hd (128 * s + k) + a * (p.g b hd (128 * s + k) - p.g b hd (128 * s + k))
      + a * ((p.g b hd (128 * s + k) - p.g b hd (128 * s + k)) - (p.g b hd (128 * s + k) - p.g b hd (128 * s + k))) = a * p.g b hd (128 * s + k) :=
    fun k a ha => split3 ha (p.g_nonpos b hd _)
  rw [Finset.sum_congr rfl fun k _ => e k _ (by split_ifs <;> simp), sum_chunk _ cc]
  · unfold Par.cum
    refine Finset.sum_congr rfl fun m _ => ?_
    rw [← tm]
    by_cases h : m ≤ c
    · rw [if_pos h, if_pos, one_mul]
      rw [Fin.le_def] at h ⊢; simp only; omega
    · rw [if_neg h, if_neg, zero_mul]
      rw [Fin.le_def] at h ⊢; simp only; omega
  · intro k hk
    rw [if_neg, zero_mul]
    exact fun hh => hk (by have := hh.1; omega)

/-- The pairwise decay: the chunk's own, zero across chunks. -/
theorem dec (b hd : U) (cc cc' : Fin 2) (c m : Fin 64) : dec E b hd (ix2 ⟨64 * cc + c, by omega⟩ ⟨64 * cc' + m, by omega⟩)
    = if cc = cc' then p.dec b hd (2 * s + cc) c m else 0 := by
  rw [dec_at, H.cum, H.cum, H.tril, H.mask]
  by_cases h : cc = cc'
  · subst h
    unfold Par.dec
    simp only [if_true]
    by_cases hm : m ≤ c
    · rw [if_pos hm, if_pos (by rw [if_pos (by rw [Fin.le_def] at hm ⊢; simp only; omega)]; exact zero_lt_one)]
    · rw [if_neg hm, if_neg (by rw [if_neg (by rw [Fin.le_def] at hm ⊢; simp only; omega)]; exact lt_irrefl _)]; rfl
  · rw [if_neg h, if_neg (by rw [if_neg (by have := fun hh => h (Fin.ext hh); rw [Fin.le_def]; simp only; omega)]; exact lt_irrefl _)]; rfl

theorem lmat (b hd : U) (cc cc' : Fin 2) (c m : Fin 64) : lmat E qe b hd (ix2 ⟨64 * cc + c, by omega⟩ ⟨64 * cc' + m, by omega⟩)
    = if cc = cc' then p.L0 b hd (2 * s + cc) c m else 0 := by
  rw [lmat_at, H.dec]; simp only [H.kb, H.kn, tm]
  split_ifs with h
  · subst h; rfl
  · rw [mul_zero]
theorem attn (b hd : U) (cc cc' : Fin 2) (c m : Fin 64) : attn E qe b hd (ix2 ⟨64 * cc + c, by omega⟩ ⟨64 * cc' + m, by omega⟩)
    = if cc = cc' then p.att b hd (2 * s + cc) c m else 0 := by
  rw [attn_at, H.dec]; simp only [H.qn, H.kn, tm]
  split_ifs with h
  · subst h; rfl
  · rw [mul_zero]
theorem qd (b hd : U) (cc : Fin 2) (c : Fin 64) (d : Fin 128) : qd E qe b hd (ix2 ⟨64 * cc + c, by omega⟩ d)
    = p.qn b hd (64 * (2 * s + cc) + c) d * Ideal.exp (p.cum b hd (2 * s + cc) c) := by
  rw [qd_at, H.cum, H.qn]; simp only [tm]
theorem kd (b hd : U) (cc : Fin 2) (c : Fin 64) (d : Fin 128) : kd E qe b hd (ix2 ⟨64 * cc + c, by omega⟩ d)
    = p.kn b hd (64 * (2 * s + cc) + c) d * Ideal.exp (p.cum b hd (2 * s + cc) 63 - p.cum b hd (2 * s + cc) c) := by
  have e : ∀ h1, (⟨64 * ((64 * cc.val + c.val) / 64) + 63, h1⟩ : Fin 128) = ⟨64 * cc + (63 : Fin 64).val, by simp; omega⟩ := fun h1 => Fin.ext (by simp; omega)
  rw [kd_at, e, H.cum, H.cum, H.kn]; simp only [tm]

/-- The strict lower triangle the kernel inverts, over its 128 rows. -/
def LL (E : Env Ideal) (qe : ℕ → Vec Ideal S1x136x512 .f32) (b hd : U) : Matrix (Fin 128) (Fin 128) ℝ :=
  Matrix.of fun r c => if c < r ∧ r.val / 64 = c.val / 64 then (Cert.KernelIdeal.Mix.lmat E qe b hd (ix2 r c)).toReal else 0

omit H in
theorem LL_low (b hd : U) (i j : Fin 128) (h : i ≤ j) : LL E qe b hd i j = 0 := by
  unfold LL; rw [Matrix.of_apply, if_neg (fun hh => absurd hh.1 (not_lt.2 h))]
omit H in
theorem LL_blk (b hd : U) (i j : Fin 128) (h : i.val / 64 ≠ j.val / 64) : LL E qe b hd i j = 0 := by
  unfold LL; rw [Matrix.of_apply, if_neg (fun hh => h hh.2)]
omit H in
theorem row_eq (r : Fin 128) : r = ⟨64 * (⟨r.val / 64, by omega⟩ : Fin 2).val + (⟨r.val % 64, by omega⟩ : Fin 64).val, by simp only; omega⟩ := Fin.ext (by simp only; omega)
theorem LL_coe (b hd : U) (r c : Fin 128) (h : c < r ∧ r.val / 64 = c.val / 64) : ((LL E qe b hd r c : ℝ) : EReal) = Cert.KernelIdeal.Mix.lmat E qe b hd (ix2 r c) := by
  unfold LL; rw [Matrix.of_apply, if_pos h]
  refine Rl.eq ?_
  rw [row_eq r, row_eq c, H.lmat]
  split_ifs
  · exact p.rl_L0 _ _ _ _ _
  · exact ⟨0, rfl⟩

/-- The part of that triangle a level of the doubling uses. -/
def CC (E : Env Ideal) (qe : ℕ → Vec Ideal S1x136x512 .f32) (b hd : U) (i : ℕ) : Matrix (Fin 128) (Fin 128) ℝ :=
  Matrix.of fun r c => if r.val / 2 ^ i / 2 = c.val / 2 ^ i / 2 ∧ r.val / 2 ^ i % 2 = 1 ∧ c.val / 2 ^ i % 2 = 0 then LL E qe b hd r c else 0

theorem CC_coe (b hd : U) (i : Fin 6) (r c : Fin 128) : Cert.KernelIdeal.Mix.lmat E qe b hd (ix2 r c) * E.lvl i (ix3 0 r c) = ((CC E qe b hd i r c : ℝ) : EReal) := by
  rw [H.lvl]; unfold CC; rw [Matrix.of_apply]
  split_ifs with h
  · rw [mul_one, H.LL_coe b hd r c ?_]
    rw [Fin.lt_def]
    fin_cases i <;> simp only [Fin.reduceFinMk, Fin.isValue, Fin.val_ofNat] at h <;> norm_num at h <;> omega
  · rw [mul_zero]; rfl

theorem tstep_coe (b hd : U) (i : Fin 6) (T : FVec Ideal S128x128 .f32) (T' : Matrix (Fin 128) (Fin 128) ℝ) (hT : ∀ r c, T (ix2 r c) = ((T' r c : ℝ) : EReal)) (r c : Fin 128) :
    tstep (Cert.KernelIdeal.Mix.lmat E qe b hd) (lv E i) T (ix2 r c) = (((T' - T' * CC E qe b hd i * T') r c : ℝ) : EReal) := by
  rw [tstep_at]
  simp only [lv_at, H.CC_coe, hT, coe_mm]
  rw [← EReal.coe_sub]; rfl

/-- The kernel's inverse is real and inverts one plus the triangle. -/
theorem tfin_inv (b hd : U) : ∃ T' : Matrix (Fin 128) (Fin 128) ℝ, (∀ r c, tfin E qe b hd (ix2 r c) = ((T' r c : ℝ) : EReal)) ∧ (1 + LL E qe b hd) * T' = 1 := by
  have stp : ∀ (i : Fin 6) (T : FVec Ideal S128x128 .f32) (T' : Matrix (Fin 128) (Fin 128) ℝ), (∀ r c, T (ix2 r c) = ((T' r c : ℝ) : EReal)) →
      ((1 + blk (2 ^ i.val) (LL E qe b hd)) * T' = 1 ∧ ∀ r c : Fin 128, r.val / 2 ^ i.val ≠ c.val / 2 ^ i.val → T' r c = 0) →
      ∃ T'' : Matrix (Fin 128) (Fin 128) ℝ, (∀ r c, tstep (Cert.KernelIdeal.Mix.lmat E qe b hd) (lv E i) T (ix2 r c) = ((T'' r c : ℝ) : EReal)) ∧
        ((1 + blk (2 ^ (i.val + 1)) (LL E qe b hd)) * T'' = 1 ∧ ∀ r c : Fin 128, r.val / 2 ^ (i.val + 1) ≠ c.val / 2 ^ (i.val + 1) → T'' r c = 0) :=
    fun i T T' hT hI => ⟨_, H.tstep_coe b hd i T T' hT, by
      rw [pow_succ]
      exact double (2 ^ i.val) _ T' _ (LL_low b hd) hI.1 hI.2 fun r c => by unfold CC; rw [Matrix.of_apply]⟩
  have d0 := double 1 (LL E qe b hd) 1 (CC E qe b hd 0) (LL_low b hd)
    (by
      have : blk 1 (LL E qe b hd) = 0 := by
        ext i j; unfold blk; rw [Matrix.of_apply]
        split_ifs with hij
        · exact LL_low b hd i j (by rw [Fin.le_def]; omega)
        · rfl
      rw [this]; simp)
    (fun i j hij => Matrix.one_apply_ne (fun hh => hij (by rw [hh])))
    (fun r c => by unfold CC; rw [Matrix.of_apply]; simp)
  have h0 : ∀ r c, t0 E qe b hd (ix2 r c) = (((1 - 1 * CC E qe b hd 0 * 1 : Matrix (Fin 128) (Fin 128) ℝ) r c : ℝ) : EReal) := fun r c => by
    rw [t0_at, H.eye]
    have := H.CC_coe b hd 0 r c
    rw [this, one_mul, mul_one, Matrix.sub_apply, Matrix.one_apply, EReal.coe_sub]
    congr 1
    split_ifs <;> rfl
  obtain ⟨T1, h1, i1⟩ := stp 1 _ _ h0 (by simpa using d0)
  obtain ⟨T2, h2, i2⟩ := stp 2 _ _ h1 i1
  obtain ⟨T3, h3, i3⟩ := stp 3 _ _ h2 i2
  obtain ⟨T4, h4, i4⟩ := stp 4 _ _ h3 i3
  obtain ⟨T5, h5, i5⟩ := stp 5 _ _ h4 i4
  refine ⟨T5, h5, ?_⟩
  have e : blk (2 ^ ((5 : Fin 6).val + 1)) (LL E qe b hd) = LL E qe b hd := by
    ext i j; unfold blk; rw [Matrix.of_apply]
    split_ifs with hij
    · rfl
    · exact (LL_blk b hd i j (by norm_num at hij; exact hij)).symm
  rw [← e]; exact i5.1

theorem tfin (b hd : U) (cc cc' : Fin 2) (c m : Fin 64) : tfin E qe b hd (ix2 ⟨64 * cc + c, by omega⟩ ⟨64 * cc' + m, by omega⟩)
    = if cc = cc' then p.T b hd (2 * s + cc) c m else 0 := by
  obtain ⟨T', h, hi⟩ := H.tfin_inv b hd
  have hA : (Matrix.of fun a d : Fin 64 => LL E qe b hd ⟨64 * cc.val + a.val, by omega⟩ ⟨64 * cc.val + d.val, by omega⟩) = p.L b hd (2 * s + cc) := by
    ext a d
    rw [Matrix.of_apply]
    apply EReal.coe_injective
    rw [p.L_coe]
    by_cases hd' : d < a
    · rw [if_pos hd', H.LL_coe _ _ _ _ ⟨by rw [Fin.lt_def] at hd' ⊢; simp only; omega, by simp only; omega⟩, H.lmat, if_pos rfl]
    · rw [if_neg hd', LL_low _ _ _ _ (by rw [Fin.lt_def] at hd'; rw [Fin.le_def]; simp only; omega)]; rfl
  rw [h, chunk_inv _ _ (LL_low b hd) (LL_blk b hd) hi, hA]
  unfold Par.T
  split_ifs <;> rfl

theorem tsum (b hd : U) (cc : Fin 2) (c : Fin 64) (F : Fin 128 → EReal) : (∑ k, Cert.KernelIdeal.Mix.tfin E qe b hd (ix2 ⟨64 * cc + c, by omega⟩ k) * F k)
    = ∑ m : Fin 64, p.T b hd (2 * s + cc) c m * F ⟨64 * cc + m, by omega⟩ := by
  rw [sum_chunk _ cc]
  · exact Finset.sum_congr rfl fun m _ => by rw [H.tfin, if_pos rfl]
  · intro k hk
    rw [row_eq k, H.tfin, if_neg (fun hh => hk (by rw [hh])), zero_mul]
theorem u (b hd : U) (cc : Fin 2) (c : Fin 64) (e : Fin 128) : uw E qe b hd (ix2 ⟨64 * cc + c, by omega⟩ ⟨e, by omega⟩) = p.u b hd (2 * s + cc) c e := by
  rw [uw_at, H.tsum]
  simp only [rhs_at0, H.v0, H.beta, tm]; rfl
theorem w' (b hd : U) (cc : Fin 2) (c : Fin 64) (e : Fin 128) : uw E qe b hd (ix2 ⟨64 * cc + c, by omega⟩ ⟨128 + e, by omega⟩) = p.w b hd (2 * s + cc) c e := by
  rw [uw_at, H.tsum]
  simp only [rhs_at1, H.kb, H.cum, tm]; rfl
theorem vnew (b hd : U) (cc : Fin 2) (t : FVec Ideal S128x128 .f32) (c : Fin 64) (e : Fin 128) : vnew E qe b hd cc t (ix2 c e)
    = p.vn b hd (2 * s + cc) (fun d e => t (ix2 d e)) c e := by
  rw [vnew_at, H.u]; simp only [H.w']; rfl
theorem stepS (b hd : U) (cc : Fin 2) (t : FVec Ideal S128x128 .f32) (d e : Fin 128) : stepS E qe b hd cc t (ix2 d e)
    = p.step b hd (2 * s + cc) (fun d e => t (ix2 d e)) d e := by
  have := H.cum b hd cc 63
  rw [stepS_at]
  simp only [H.vnew, H.kd]
  rw [show Cert.KernelIdeal.Mix.cum E b (ix2 ⟨64 * cc + 63, by omega⟩ ⟨hd, by omega⟩) = p.cum b hd (2 * s + cc) 63 from this]; rfl
theorem s0 (b hd : U) (d e : Fin 128) : s0 E b hd (ix2 d e) = p.S b hd (2 * s) d e := by rw [s0_at, H.st]
theorem s1 (b hd : U) (d e : Fin 128) : s1 E qe b hd (ix2 d e) = p.S b hd (2 * s + 1) d e := by
  unfold Cert.KernelIdeal.Mix.s1; rw [H.stepS]; simp only [H.s0]; rfl
theorem s2 (b hd : U) (d e : Fin 128) : s2 E qe b hd (ix2 d e) = p.S b hd (2 * (s + 1)) d e := by
  unfold Cert.KernelIdeal.Mix.s2; rw [H.stepS]; simp only [H.s1]; rfl

theorem oo (b hd : U) (r e : Fin 128) : oo E qe b hd (ix2 r e) = p.o b hd (128 * s + r) e := by
  obtain ⟨cc, c, rfl⟩ : ∃ (cc : Fin 2) (c : Fin 64), r = ⟨64 * cc + c, by omega⟩ := ⟨⟨r.val / 64, by omega⟩, ⟨r.val % 64, by omega⟩, Fin.ext (by simp only; omega)⟩
  rw [oo_at, sum_chunk _ cc]
  · rw [ointer_at]
    unfold Par.o
    have e1 : (128 * s + (64 * cc.val + c.val)) / 64 = 2 * s + cc := by omega
    have e2 : ∀ h, (⟨(128 * s + (64 * cc.val + c.val)) % 64, h⟩ : Fin 64) = c := fun h => Fin.ext (by simp only; omega)
    simp only [e1, e2, H.attn, if_true, H.qd]
    unfold Par.oc
    match cc with
    | 0 =>
      congr 1
      · simp only [if_true, H.s0]; rfl
      · refine Finset.sum_congr rfl fun m _ => ?_
        rw [dif_pos (by simp)]
        simp only [H.vnew, H.s0];
        congr 2
        exact Fin.ext (by simp)
    | 1 =>
      congr 1
      · rw [if_neg (by decide)]; simp only [H.s1]; rfl
      · refine Finset.sum_congr rfl fun m _ => ?_
        rw [dif_neg (by simp)]
        simp only [H.vnew, H.s1];
        congr 2
        exact Fin.ext (by simp)
  · intro k hk
    rw [row_eq k, H.attn, if_neg (fun hh => hk (by rw [hh])), zero_mul]

section Out
open Cert.KernelIdeal
variable {κ : Kind} (v24 : View sig κ .vmem S512x512 .f32) (v25 : View sig κ .vmem S512x512 .f32) (v26 : View sig κ .vmem S512x1024 .bf16)

theorem y (b : U) (r : Fin 128) (j : Fin 1024) : v26.read (Elt Ideal) (v26.writes (Elt Ideal) v26.junk (ylist E v24 v25 qe se)) (ix2 ⟨128 * b + r, by omega⟩ j)
    = p.y b (128 * s + r) j := by
  unfold Par.y
  by_cases hj : j.val < 512
  · rw [dif_pos hj]
    have key : ∀ (hd : U) (e : Fin 128), v26.read (Elt Ideal) (v26.writes (Elt Ideal) v26.junk (ylist E v24 v25 qe se)) (ix2 ⟨128 * b + r, by omega⟩ ⟨128 * hd + e, by omega⟩)
        = p.yh b hd (128 * s + r) e := fun hd e => by
      rw [y_at_head, yhead_at]
      simp only [H.oo, zr_at, H.proj, H.gnw]
      rfl
    have := key ⟨j / 128, by omega⟩ ⟨j % 128, by omega⟩
    rw [← this]
    congr 2
    exact Fin.ext (by simp only; omega)
  · rw [dif_neg hj]
    have key : ∀ c : Fin 512, v26.read (Elt Ideal) (v26.writes (Elt Ideal) v26.junk (ylist E v24 v25 qe se)) (ix2 ⟨128 * b + r, by omega⟩ ⟨512 + c, by omega⟩)
        = p.ys b (128 * s + r) c := fun c => by
      rw [y_at_sc, ysc_at, conv3_at, scbr_at]
      simp only [H.se, H.cs, H.projsc]
      simp only [Par.ys, Nat.add_assoc]
      simp
    have := key ⟨j - 512, by omega⟩
    rw [← this]
    congr 2
    exact Fin.ext (by simp only; omega)

/-- A grid step's rows of the result. -/
theorem outb (b : U) (r : Fin 128) (k : Fin 1024) : outb E v24 v25 v26 qe se b (ix3 0 r k) = p.out b (128 * s + r) k := by
  rw [outb_at]; simp only [H.y, H.x, H.md, H.wout]; rfl
end Out
end At
end Cert.Mix
end
-- ==== Proof.Proof.MixEnv.lean ====
module
public import proofs.«01_k».proof.Proof.Proof.MixBody

@[expose] public section
noncomputable section

namespace Cert.KernelIdeal.Mix
open Idealize.ShloMosaic Idealize.SL.Sem Cert.KernelIdeal.Gen

/-- A box read of an argument's block. -/
abbrev rd {F : FTy → Type} [FloatOps F] [∀ e, Nonempty (Elt F e)] {s : Shape} {e : EltTy} (a : Memref sig .tc .vmem s e) (h : a.IsWhole) (x : Vec F s e) (off : Fin s.rank → ℕ) (sz : Fin s.rank → ℕ)
    (hin : ∀ i, off i + sz i ≤ s.size i) : Vec F ⟨s.rank, sz⟩ e :=
  a.view.readAt (Elt F) (Rect.unit off sz hin).toLoadRect (h.unread x)

section
variable {F : FTy → Type} [FloatOps F] [Named F] [∀ e, Nonempty (Elt F e)]
variable (c : Dev nD) (i : grid0.Coords) (arg1 : Memref sig .tc .vmem S4x128x1024 .f32) (harg1 : arg1.IsWhole) (arg2 : Memref sig .tc .vmem S4x6x1024 .f32) (harg2 : arg2.IsWhole) (arg3 : Memref sig .tc .vmem S1x1024 .f32) (harg3 : arg3.IsWhole) (arg4 : Memref sig .tc .vmem S1024x3592 .bf16) (harg4 : arg4.IsWhole) (arg5 : Memref sig .tc .vmem S4x1536 .f32) (harg5 : arg5.IsWhole) (arg6 : Memref sig .tc .vmem S3x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .bf16) (harg13 : arg13.IsWhole) (arg14 : Memref sig .tc .vmem S6x128x128 .bf16) (harg14 : arg14.IsWhole) (arg15 : Memref sig .tc .vmem S16x2816 .f32) (harg15 : arg15.IsWhole) (arg16 : Memref sig .tc .vmem S16x2816 .f32) (harg16 : arg16.IsWhole) (arg17 : Memref sig .tc .vmem S176x1024 .f32) (harg17 : arg17.IsWhole) (arg18 : Memref sig .tc .vmem S4x128x1024 .f32) (harg18 : arg18.IsWhole) (arg19 : Memref sig .tc .vmem S16x2816 .bf16) (harg19 : arg19.IsWhole) (arg20 : Memref sig .tc .vmem S16x2816 .bf16) (harg20 : arg20.IsWhole) (arg21 : Memref sig .tc .vmem S176x1024 .bf16) (harg21 : arg21.IsWhole) (arg22 : Memref sig .tc .vmem S12x136x512 .f32) (harg22 : arg22.IsWhole) (arg23 : Memref sig .tc .vmem S4x136x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x1024 .bf16) (harg26 : arg26.IsWhole) (arg27 : Memref sig .tc .vmem S1024x1536 .bf16) (harg27 : arg27.IsWhole) (arg28 : Memref sig .tc .vmem S1024x128 .bf16) (harg28 : arg28.IsWhole) (arg29 : Memref sig .tc .vmem S16x128x128 .f32) (harg29 : arg29.IsWhole)
  (x0 : Vec F S4x128x1024 .f32) (x1 : Vec F S4x6x1024 .f32) (x2 : Vec F S1x1024 .f32) (x3 : Vec F S1024x3592 .bf16) (x4 : Vec F S4x1536 .f32) (x5 : Vec F S3x512 .f32) (x6 : Vec F S1x128 .f32) (x7 : Vec F S1x128 .f32) (x8 : Vec F S1x128 .f32) (x9 : Vec F S1024x1024 .bf16) (x10 : Vec F S128x128 .f32) (x11 : Vec F S128x128 .f32) (x12 : Vec F S128x128 .bf16) (x13 : Vec F S6x128x128 .bf16) (x14 : Vec F S16x2816 .f32) (x15 : Vec F S16x2816 .f32) (x16 : Vec F S176x1024 .f32)

/-- What a step reads, given the two weight scratches and the state. -/
def env (wsc : Fin 3 → Vec F S1024x512 .bf16) (wab : Vec F S1024x128 .bf16) (st : U → U → Vec F S1x128x128 .f32) : Env F where
  x b := rd arg1 harg1 x0 ![b.val, 0, 0] S1x128x1024.size (by revert b; decide)
  md b i := rd arg2 harg2 x1 ![b.val, i.val, 0] S1x1x1024.size (by revert b i; decide)
  n1 := rd arg3 harg3 x2 ![0, 0] S1x1024.size (by decide)
  w j := rd arg4 harg4 x3 ![0, 512 * j.val] S1024x512.size (by revert j; decide)
  wsc := wsc
  wab := wab
  cq i j := rd arg5 harg5 x4 ![i.val, 512 * j.val] S1x512.size (by revert i j; decide)
  cs i := rd arg6 harg6 x5 ![i.val, 0] S1x512.size (by revert i; decide)
  alog := rd arg7 harg7 x6 ![0, 0] S1x128.size (by decide)
  dtb := rd arg8 harg8 x7 ![0, 0] S1x128.size (by decide)
  gnw := rd arg9 harg9 x8 ![0, 0] S1x128.size (by decide)
  wout := rd arg10 harg10 x9 ![0, 0] S1024x1024.size (by decide)
  tril := rd arg11 harg11 x10 ![0, 0] S128x128.size (by decide)
  eye := rd arg12 harg12 x11 ![0, 0] S128x128.size (by decide)
  tri16 := rd arg13 harg13 x12 ![0, 0] S128x128.size (by decide)
  lvl i := rd arg14 harg14 x13 ![i.val, 0, 0] S1x128x128.size (by revert i; decide)
  st := st
  mask := Named.named Cert.KernelIdeal.κ "mask" 0xF149F2CA#32

variable (xs0 : Vec F S12x136x512 .f32) (xs1 : Vec F S4x136x512 .f32) (xs5 : Vec F S1024x1536 .bf16) (xs6 : Vec F S1024x128 .bf16) (xs7 : Vec F S16x128x128 .f32)

/-- What a later step reads. -/
abbrev envB : Env F :=
  env arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13
    (fun i => rd arg27 harg27 xs5 ![0, 512 * i.val] S1024x512.size (by revert i; decide))
    (rd arg28 harg28 xs6 ![0, 0] S1024x128.size (by decide))
    (fun b hd => rd arg29 harg29 xs7 ![4 * b.val + hd.val, 0, 0] S1x128x128.size (by revert b hd; decide))
/-- What the first step reads. -/
abbrev envA : Env F :=
  env arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13
    (fun i => arg27.view.readCov (Val := Elt F) [⟨Rect.unit ![0, 0] S1024x1536.size (by decide), k0_pay5 (rd arg4 harg4 x3 ![0, 2056] S1024x1536.size (by decide))⟩] (Rect.unit (s := S1024x1536) ![0, 512 * i.val] S1024x512.size (by revert i; decide)).toLoadRect)
    (arg28.view.readCov (Val := Elt F) [⟨Rect.unit ![0, 0] S1024x128.size (by decide), k0_pay6 (rd arg4 harg4 x3 ![0, 2048] S1024x128.size (by decide))⟩] (Rect.unit ![0, 0] S1024x128.size (by decide)).toLoadRect)
    (fun b hd => arg29.view.readCov (Val := Elt F) [⟨Rect.unit ![0, 0, 0] S16x128x128.size (by decide), k0_pay9⟩] (Rect.unit (s := S16x128x128) ![4 * b.val + hd.val, 0, 0] S1x128x128.size (by revert b hd; decide)).toLoadRect)
end
end Cert.KernelIdeal.Mix
end
end
-- ==== Proof.Proof.MixGrid.lean ====
module
public import proofs.«01_k».proof.Proof.Proof.MixStep
public import proofs.«01_k».proof.Proof.Proof.MixEnv
public import Idealize.ShloMosaic.Lib.WholeRead
public import Idealize.ShloMosaic.Lib.Pointwise

@[expose] public section
set_option maxRecDepth 16384
noncomputable section
namespace Cert.Mix
open Idealize.ShloMosaic Idealize.SL.Sem Cert.KernelIdeal Cert.KernelIdeal.Mix

section
variable {E : Env Ideal} {p : Par} {s : ℕ}
variable {κ : Kind} (v22 : View sig κ .vmem S12x136x512 .f32) (f22 : v22.ty.Contents (Elt Ideal)) (L22 : List (View.Piece (Elt Ideal) S12x136x512 .f32))
  (v23 : View sig κ .vmem S4x136x512 .f32) (f23 : v23.ty.Contents (Elt Ideal)) (L23 : List (View.Piece (Elt Ideal) S4x136x512 .f32))
  (w22 : View sig κ .vmem S12x136x512 .f32) (g22 : w22.ty.Contents (Elt Ideal))
  (w23 : View sig κ .vmem S4x136x512 .f32) (g23 : w23.ty.Contents (Elt Ideal))

/-- Carried rows that are the previous step's last eight make the convolutions' rows those of the mathematics. -/
theorem at_of_lf (H : Lf E p s)
    (h22 : ∀ (m : Fin 12) (i : Fin 136) (c : Fin 512), i.val < 8 → v22.read (Elt Ideal) (v22.writes (Elt Ideal) f22 L22) (ix3 m i c) = p.Pz ⟨m % 4, by omega⟩ (512 * (m / 4) + c) (128 * s + i))
    (h23 : ∀ (m : U) (i : Fin 136) (c : Fin 512), i.val < 8 → v23.read (Elt Ideal) (v23.writes (Elt Ideal) f23 L23) (ix3 m i c) = p.sz m c (128 * s + i)) :
    At E (qext E v22 f22 L22) (sext E v23 f23 L23) p s where
  toLf := H
  qe b j i c := by
    have h := qext_at E v22 f22 L22 ⟨4 * j + b, by omega⟩ i c
    have e1 : ∀ h, (⟨(4 * j.val + b.val) % 4, h⟩ : U) = b := fun h => Fin.ext (by simp only; omega)
    have e2 : (4 * j.val + b.val) / 4 = j.val := by omega
    refine h.trans ?_
    by_cases hi : i.val < 8
    · rw [qproj_at_lo _ _ _ _ _ _ _ hi, h22 _ _ _ hi]
      simp only [e1, e2]
    · rw [qproj_at_hi E L22 v22 f22 ⟨4 * j + b, by omega⟩ ⟨i - 8, by omega⟩ c i (by simp only; omega), H.proj]
      simp only [e1, e2]
      unfold Par.Pz
      rw [if_neg (by omega), show 128 * s + (i.val - 8) = 128 * s + i.val - 8 by omega]
  se b i c := by
    refine (sext_at E v23 f23 L23 b i c).trans ?_
    by_cases hi : i.val < 8
    · rw [slist1_lo _ _ _ _ _ _ _ _ hi, h23 _ _ _ hi]
    · rw [slist1_hi E v23 L23 v23 f23 b ⟨i - 8, by omega⟩ c i (by simp only; omega) 4 (by omega) le_rfl, H.projsc, H.projsc]
      unfold Par.sz
      rw [if_neg (by omega)]
      simp only [show 128 * s + (i.val - 8) = 128 * s + i.val - 8 by omega]
      rfl

/-- What a step leaves in the projection's carried rows. -/
theorem tail22 (H : At E (qext E v22 f22 L22) (sext E v23 f23 L23) p s) (m : Fin 12) (i : Fin 136) (c : Fin 512) (hi : i.val < 8) :
    w22.read (Elt Ideal) (w22.writes (Elt Ideal) g22 (qlist E v22 f22 L22 12)) (ix3 m i c) = p.Pz ⟨m % 4, by omega⟩ (512 * (m / 4) + c) (128 * (s + 1) + i) := by
  rw [qlist_tail E v22 f22 L22 w22 g22 m i ⟨i, hi⟩ rfl c 12 (by omega) le_rfl]
  have h := H.qe ⟨m % 4, by omega⟩ ⟨m / 4, by omega⟩ ⟨128 + i, by omega⟩ c
  simp only [show 4 * (m.val / 4) + m.val % 4 = m.val by omega] at h
  refine h.trans ?_
  simp only [show 128 * s + (128 + i.val) = 128 * (s + 1) + i.val by omega]
/-- What a step leaves in the short convolution's carried rows. -/
theorem tail23 (H : At E (qext E v22 f22 L22) (sext E v23 f23 L23) p s) (m : U) (i : Fin 136) (c : Fin 512) (hi : i.val < 8) :
    w23.read (Elt Ideal) (w23.writes (Elt Ideal) g23 (slist E v23 f23 L23 4)) (ix3 m i c) = p.sz m c (128 * (s + 1) + i) := by
  rw [slist_tail E v23 f23 L23 w23 g23 m i ⟨i, hi⟩ rfl c 4 (by omega) le_rfl]
  refine (H.se m ⟨128 + i, by omega⟩ c).trans ?_
  simp only [show 128 * s + (128 + i.val) = 128 * (s + 1) + i.val by omega]
end

/-- A box read of a block, by coordinates. -/
theorem rd_at {s : Shape} {e : EltTy} (a : Memref sig .tc .vmem s e) (h : a.IsWhole) (x : Vec Ideal s e) (off sz : Fin s.rank → ℕ)
    (hin : ∀ i, off i + sz i ≤ s.size i) (i : Shape.Idx ⟨s.rank, sz⟩) (j : s.Idx) (hj : ∀ a, (j a).val = off a + 1 * (i a).val) : rd a h x off sz hin i = x j := by
  unfold rd
  refine (Memref.IsWhole.readAt_unread (Val := Elt Ideal) h x _ _).trans (congrArg x (funext fun a => Fin.ext (hj a).symm))

/-- The blocks of the inputs at a step are those of the mathematics. -/
structure In (p : Par) (s : ℕ) (x0 : Vec Ideal S4x128x1024 .f32) (x1 : Vec Ideal S4x6x1024 .f32) (x2 : Vec Ideal S1x1024 .f32) (x3 : Vec Ideal S1024x3592 .bf16)
    (x4 : Vec Ideal S4x1536 .f32) (x5 : Vec Ideal S3x512 .f32) (x6 : Vec Ideal S1x128 .f32) (x7 : Vec Ideal S1x128 .f32) (x8 : Vec Ideal S1x128 .f32) (x9 : Vec Ideal S1024x1024 .bf16)
    (x10 : Vec Ideal S128x128 .f32) (x11 : Vec Ideal S128x128 .f32) (x12 : Vec Ideal S128x128 .bf16) (x13 : Vec Ideal S6x128x128 .bf16) : Prop where
  x : ∀ (b : U) (r : Fin 128) (k : Fin 1024), x0 (ix3 b r k) = p.x b (128 * s + r) k
  md : ∀ (b : U) (i : Fin 3) (k : Fin 1024), x1 (ix3 b ⟨i, by omega⟩ k) = p.md b i k
  n1 : ∀ k : Fin 1024, x2 (ix2 0 k) = p.n1 k
  w : ∀ (k : Fin 1024) (c : Fin 3592), x3 (ix2 k c) = p.win k c
  cq : ∀ (i : U) (c : Fin 1536), x4 (ix2 i c) = p.cq i c
  cs : ∀ (i : Fin 3) (c : Fin 512), x5 (ix2 i c) = p.cs i c
  alog : ∀ hd : U, x6 (ix2 0 ⟨hd, by omega⟩) = p.alog hd
  dtb : ∀ hd : U, x7 (ix2 0 ⟨hd, by omega⟩) = p.dtb hd
  gnw : ∀ e : Fin 128, x8 (ix2 0 e) = p.gnw e
  wout : ∀ j k : Fin 1024, x9 (ix2 j k) = p.wout j k
  tril : ∀ r c : Fin 128, x10 (ix2 r c) = if r.val / 64 = c.val / 64 ∧ c ≤ r then 1 else 0
  eye : ∀ r c : Fin 128, x11 (ix2 r c) = if r = c then 1 else 0
  tri16 : ∀ r c : Fin 128, x12 (ix2 r c) = if r.val / 64 = c.val / 64 ∧ c ≤ r then 1 else 0
  lvl : ∀ (i : Fin 6) (r c : Fin 128), x13 (ix3 i r c)
    = if r.val / 2 ^ i.val / 2 = c.val / 2 ^ i.val / 2 ∧ r.val / 2 ^ i.val % 2 = 1 ∧ c.val / 2 ^ i.val % 2 = 0 then 1 else 0

/-- The scratch at the start of a step is that of the mathematics. -/
structure Sc (p : Par) (s : ℕ) (xs0 : Vec Ideal S12x136x512 .f32) (xs1 : Vec Ideal S4x136x512 .f32) (xs5 : Vec Ideal S1024x1536 .bf16) (xs6 : Vec Ideal S1024x128 .bf16) (xs7 : Vec Ideal S16x128x128 .f32) : Prop where
  q : ∀ (m : Fin 12) (i : Fin 136) (c : Fin 512), i.val < 8 → xs0 (ix3 m i c) = p.Pz ⟨m % 4, by omega⟩ (512 * (m / 4) + c) (128 * s + i)
  sc : ∀ (m : U) (i : Fin 136) (c : Fin 512), i.val < 8 → xs1 (ix3 m i c) = p.sz m c (128 * s + i)
  wsc : ∀ (k : Fin 1024) (c : Fin 1536), xs5 (ix2 k c) = p.win k (2056 + c)
  wab : ∀ (k : Fin 1024) (c : Fin 128), c.val < 8 → xs6 (ix2 k c) = p.win k (2048 + c)
  st : ∀ (u : Fin 16) (d e : Fin 128), xs7 (ix3 u d e) = p.S ⟨u / 4, by omega⟩ ⟨u % 4, by omega⟩ (2 * s) d e

section
variable (c : Dev nD) (i : grid0.Coords) (arg1 : Memref sig .tc .vmem S4x128x1024 .f32) (harg1 : arg1.IsWhole) (arg2 : Memref sig .tc .vmem S4x6x1024 .f32) (harg2 : arg2.IsWhole) (arg3 : Memref sig .tc .vmem S1x1024 .f32) (harg3 : arg3.IsWhole) (arg4 : Memref sig .tc .vmem S1024x3592 .bf16) (harg4 : arg4.IsWhole) (arg5 : Memref sig .tc .vmem S4x1536 .f32) (harg5 : arg5.IsWhole) (arg6 : Memref sig .tc .vmem S3x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .bf16) (harg13 : arg13.IsWhole) (arg14 : Memref sig .tc .vmem S6x128x128 .bf16) (harg14 : arg14.IsWhole) (arg15 : Memref sig .tc .vmem S16x2816 .f32) (harg15 : arg15.IsWhole) (arg16 : Memref sig .tc .vmem S16x2816 .f32) (harg16 : arg16.IsWhole) (arg17 : Memref sig .tc .vmem S176x1024 .f32) (harg17 : arg17.IsWhole) (arg18 : Memref sig .tc .vmem S4x128x1024 .f32) (harg18 : arg18.IsWhole) (arg19 : Memref sig .tc .vmem S16x2816 .bf16) (harg19 : arg19.IsWhole) (arg20 : Memref sig .tc .vmem S16x2816 .bf16) (harg20 : arg20.IsWhole) (arg21 : Memref sig .tc .vmem S176x1024 .bf16) (harg21 : arg21.IsWhole) (arg22 : Memref sig .tc .vmem S12x136x512 .f32) (harg22 : arg22.IsWhole) (arg23 : Memref sig .tc .vmem S4x136x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x1024 .bf16) (harg26 : arg26.IsWhole) (arg27 : Memref sig .tc .vmem S1024x1536 .bf16) (harg27 : arg27.IsWhole) (arg28 : Memref sig .tc .vmem S1024x128 .bf16) (harg28 : arg28.IsWhole) (arg29 : Memref sig .tc .vmem S16x128x128 .f32) (harg29 : arg29.IsWhole)
  (x0 : Vec Ideal S4x128x1024 .f32) (x1 : Vec Ideal S4x6x1024 .f32) (x2 : Vec Ideal S1x1024 .f32) (x3 : Vec Ideal S1024x3592 .bf16) (x4 : Vec Ideal S4x1536 .f32) (x5 : Vec Ideal S3x512 .f32) (x6 : Vec Ideal S1x128 .f32) (x7 : Vec Ideal S1x128 .f32) (x8 : Vec Ideal S1x128 .f32) (x9 : Vec Ideal S1024x1024 .bf16) (x10 : Vec Ideal S128x128 .f32) (x11 : Vec Ideal S128x128 .f32) (x12 : Vec Ideal S128x128 .bf16) (x13 : Vec Ideal S6x128x128 .bf16) (x14 : Vec Ideal S16x2816 .f32) (x15 : Vec Ideal S16x2816 .f32) (x16 : Vec Ideal S176x1024 .f32)

theorem lf_env {p : Par} {s : ℕ} (I : In p s x0 x1 x2 x3 x4 x5 x6 x7 x8 x9 x10 x11 x12 x13)
    (wsc : Fin 3 → Vec Ideal S1024x512 .bf16) (wab : Vec Ideal S1024x128 .bf16) (st : U → U → Vec Ideal S1x128x128 .f32)
    (hwsc : ∀ (j : Fin 3) (k : Fin 1024) (c : Fin 512), wsc j (ix2 k c) = p.win k (2056 + 512 * j + c))
    (hwab : ∀ (k : Fin 1024) (c : Fin 128), c.val < 8 → wab (ix2 k c) = p.win k (2048 + c))
    (hst : ∀ (b hd : U) (d e : Fin 128), st b hd (ix3 0 d e) = p.S b hd (2 * s) d e)
    (hm : (env arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 wsc wab st).mask = ⊥) : Lf (env arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 wsc wab st) p s where
  x b r k := (rd_at _ _ _ _ _ _ _ (ix3 b r k) (by intro a; fin_cases a <;> simp)).trans (I.x b r k)
  md b i k := (rd_at _ _ _ _ _ _ _ (ix3 b ⟨i, by omega⟩ k) (by intro a; fin_cases a <;> simp)).trans (I.md b i k)
  n1 k := (rd_at _ _ _ _ _ _ _ (ix2 0 k) (by intro a; fin_cases a <;> simp)).trans (I.n1 k)
  w j k c := (rd_at _ _ _ _ _ _ _ (ix2 k ⟨512 * j + c, by omega⟩) (by intro a; fin_cases a <;> simp)).trans (I.w k _)
  wsc := hwsc
  wab := hwab
  cq i j c := (rd_at _ _ _ _ _ _ _ (ix2 i ⟨512 * j + c, by omega⟩) (by intro a; fin_cases a <;> simp)).trans (I.cq i _)
  cs i c := (rd_at _ _ _ _ _ _ _ (ix2 i c) (by intro a; fin_cases a <;> simp)).trans (I.cs i c)
  alog hd := (rd_at _ _ _ _ _ _ _ (ix2 0 ⟨hd, by omega⟩) (by intro a; fin_cases a <;> simp)).trans (I.alog hd)
  dtb hd := (rd_at _ _ _ _ _ _ _ (ix2 0 ⟨hd, by omega⟩) (by intro a; fin_cases a <;> simp)).trans (I.dtb hd)
  gnw e := (rd_at _ _ _ _ _ _ _ (ix2 0 e) (by intro a; fin_cases a <;> simp)).trans (I.gnw e)
  wout j k := (rd_at _ _ _ _ _ _ _ (ix2 j k) (by intro a; fin_cases a <;> simp)).trans (I.wout j k)
  tril r c := (rd_at _ _ _ _ _ _ _ (ix2 r c) (by intro a; fin_cases a <;> simp)).trans (I.tril r c)
  eye r c := (rd_at _ _ _ _ _ _ _ (ix2 r c) (by intro a; fin_cases a <;> simp)).trans (I.eye r c)
  tri16 r c := (rd_at _ _ _ _ _ _ _ (ix2 r c) (by intro a; fin_cases a <;> simp)).trans (I.tri16 r c)
  lvl i r c := (rd_at _ _ _ _ _ _ _ (ix3 i r c) (by intro a; fin_cases a <;> simp)).trans (I.lvl i r c)
  st := hst
  mask := hm

variable (xs0 : Vec Ideal S12x136x512 .f32) (xs1 : Vec Ideal S4x136x512 .f32) (xs5 : Vec Ideal S1024x1536 .bf16) (xs6 : Vec Ideal S1024x128 .bf16) (xs7 : Vec Ideal S16x128x128 .f32)

/-- A later step reads what the mathematics says, given its scratch does. -/
theorem at_B {p : Par} {s : ℕ} (I : In p s x0 x1 x2 x3 x4 x5 x6 x7 x8 x9 x10 x11 x12 x13) (C : Sc p s xs0 xs1 xs5 xs6 xs7) (hm : (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7).mask = ⊥) :
    At (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7) (qext (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7) arg22.view (harg22.unread xs0) []) (sext (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7) arg23.view (harg23.unread xs1) []) p s := by
  refine at_of_lf _ _ _ _ _ _ (lf_env arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 I _ _ _ ?_ ?_ ?_ hm) ?_ ?_
  · intro j k c
    refine (rd_at _ _ _ _ _ _ _ (ix2 k ⟨512 * j + c, by omega⟩) (by intro a; fin_cases a <;> simp)).trans ((C.wsc k _).trans ?_)
    simp only [Nat.add_assoc]
  · intro k c hc
    exact (rd_at _ _ _ _ _ _ _ (ix2 k c) (by intro a; fin_cases a <;> simp)).trans (C.wab k c hc)
  · intro b hd d e
    refine (rd_at _ _ _ _ _ _ _ (ix3 ⟨4 * b + hd, by omega⟩ d e) (by intro a; fin_cases a <;> simp)).trans ((C.st _ d e).trans ?_)
    have e1 : ∀ h, (⟨(4 * b.val + hd.val) / 4, h⟩ : U) = b := fun h => Fin.ext (by simp only; omega)
    have e2 : ∀ h, (⟨(4 * b.val + hd.val) % 4, h⟩ : U) = hd := fun h => Fin.ext (by simp only; omega)
    simp only [e1, e2]
  · intro m i c hi
    exact (congrFun (harg22.read_unread xs0) _).trans (C.q m i c hi)
  · intro m i c hi
    exact (congrFun (harg23.read_unread xs1) _).trans (C.sc m i c hi)
end
end Cert.Mix
end
end
-- ==== Proof.Proof.MixWin.lean ====
module
public import proofs.«01_k».proof.Proof.Gen.ReferenceIdeal.Step
public import Idealize.ShloMosaic.Lib.Pointwise
public import Idealize.ShloMosaic.Lib.Tactic

@[expose] public section
noncomputable section
namespace Cert.Mix
set_option maxRecDepth 16384
open Idealize.ShloMosaic Idealize.SL.Sem Cert.ReferenceIdeal Cert.ReferenceIdeal.Step

/-- A sum over a window that ends at c is the sum up to c. -/
theorem win_sum (c : Fin 64) (f : Fin 64 → EReal) (F : Fin 64 → EReal)
    (h1 : ∀ (n : Fin 64) (h : 63 ≤ c.val + n.val), F n = f ⟨c.val + n.val - 63, by omega⟩) (h0 : ∀ n : Fin 64, ¬63 ≤ c.val + n.val → F n = 0) :
    ∑ n, F n = ∑ m, if m ≤ c then f m else 0 := by
  rw [← Equiv.sum_comp (Equiv.addRight (c + 1)) (fun m => if m ≤ c then f m else 0)]
  refine Finset.sum_congr rfl fun n _ => ?_
  have e : (Equiv.addRight (c + 1) n).val = (n.val + (c.val + 1) % 64) % 64 := by
    show (n + (c + 1)).val = _
    rw [Fin.val_add, Fin.val_add]; rfl
  by_cases h : 63 ≤ c.val + n.val
  · have e' : Equiv.addRight (c + 1) n = ⟨c.val + n.val - 63, by omega⟩ := Fin.ext (by rw [e]; show _ = c.val + n.val - 63; omega)
    rw [h1 n h, e', if_pos (by show c.val + n.val - 63 ≤ c.val; omega)]
  · rw [h0 n h, if_neg]
    intro hle
    have : (Equiv.addRight (c + 1) n).val ≤ c.val := hle
    rw [e] at this; omega

theorem foldl_sum {N : ℕ} (F : Fin N → EReal) (z : EReal) : (List.finRange N).foldl (fun r n => r + F n) z = z + ∑ n, F n := by
  rw [Fin.sum_univ_def, ← List.foldl_map (f := F) (g := fun r x => r + x)]
  generalize (List.finRange N).map F = l
  induction l generalizing z with
  | nil => simp
  | cons a l ih => rw [List.foldl_cons, ih, List.sum_cons, add_assoc]

theorem win_numel : (64 : ℕ) = (⟨4, ![1, 1, 1, 64]⟩ : Shape).numel := by decide +kernel
theorem win_pos : ∀ k : Fin 64, ((⟨4, ![1, 1, 1, 64]⟩ : Shape).rowMajor.symm (finCongr win_numel k) 0).val = 0 ∧ ((⟨4, ![1, 1, 1, 64]⟩ : Shape).rowMajor.symm (finCongr win_numel k) 1).val = 0 ∧ ((⟨4, ![1, 1, 1, 64]⟩ : Shape).rowMajor.symm (finCongr win_numel k) 2).val = 0 ∧ ((⟨4, ![1, 1, 1, 64]⟩ : Shape).rowMajor.symm (finCongr win_numel k) 3).val = k.val := by
    decide +kernel

/-- A cumulated sum along a chunk. -/
theorem cumsum_at (x : Vec Ideal S4x4x128x64 .f32) (init : Vec Ideal S_ .f32) (hi : init (Shape.Idx.first Gen.h_S_) = 0) (b hd : Fin 4) (n : Fin 128) (c : Fin 64) :
    Host.reduceWindowAdd (F := Ideal) (φ := .f32) ![1, 1, 1, 64] ![1, 1, 1, 1] ![0, 0, 0, 63] ![0, 0, 0, 0] x init Gen.reduceWindows_S4x4x128x64_S4x4x128x64_w1s1p0_0_w1s1p0_0_w1s1p0_0_w64s1p63_0 Gen.h_S_ (ix4 b hd n c : S4x4x128x64.Idx)
      = ∑ m : Fin 64, if m ≤ c then x (ix4 b hd n m : S4x4x128x64.Idx) else 0 := by
  have hs := win_pos
  unfold Host.reduceWindowAdd
  show Ideal.hostReduceWindowAdd _ _ _ _ _ _ _ _ = _
  unfold Ideal.hostReduceWindowAdd Host.reduceWindow
  refine (foldl_sum _ _).trans ?_
  rw [hi, zero_add, ← Equiv.sum_comp (finCongr win_numel)]
  refine win_sum c _ _ (fun k h => ?_) (fun k h => ?_)
  · obtain ⟨s0, s1, s2, s3⟩ := hs k
    refine (dif_pos ?_).trans (congrArg x (funext fun a => Fin.ext ?_))
    · intro a
      match a with
      | ⟨0, _⟩ => show 0 ≤ b.val * 1 + ((⟨4, ![1, 1, 1, 64]⟩ : Shape).rowMajor.symm (finCongr win_numel k) 0).val ∧ b.val * 1 + ((⟨4, ![1, 1, 1, 64]⟩ : Shape).rowMajor.symm (finCongr win_numel k) 0).val - 0 < 4; rw [s0]; omega
      | ⟨1, _⟩ => show 0 ≤ hd.val * 1 + ((⟨4, ![1, 1, 1, 64]⟩ : Shape).rowMajor.symm (finCongr win_numel k) 1).val ∧ hd.val * 1 + ((⟨4, ![1, 1, 1, 64]⟩ : Shape).rowMajor.symm (finCongr win_numel k) 1).val - 0 < 4; rw [s1]; omega
      | ⟨2, _⟩ => show 0 ≤ n.val * 1 + ((⟨4, ![1, 1, 1, 64]⟩ : Shape).rowMajor.symm (finCongr win_numel k) 2).val ∧ n.val * 1 + ((⟨4, ![1, 1, 1, 64]⟩ : Shape).rowMajor.symm (finCongr win_numel k) 2).val - 0 < 128; rw [s2]; omega
      | ⟨3, _⟩ => show 63 ≤ c.val * 1 + ((⟨4, ![1, 1, 1, 64]⟩ : Shape).rowMajor.symm (finCongr win_numel k) 3).val ∧ c.val * 1 + ((⟨4, ![1, 1, 1, 64]⟩ : Shape).rowMajor.symm (finCongr win_numel k) 3).val - 63 < 64; rw [s3]; omega
    · match a with
      | ⟨0, _⟩ => show b.val * 1 + ((⟨4, ![1, 1, 1, 64]⟩ : Shape).rowMajor.symm (finCongr win_numel k) 0).val - 0 = b.val; rw [s0]; omega
      | ⟨1, _⟩ => show hd.val * 1 + ((⟨4, ![1, 1, 1, 64]⟩ : Shape).rowMajor.symm (finCongr win_numel k) 1).val - 0 = hd.val; rw [s1]; omega
      | ⟨2, _⟩ => show n.val * 1 + ((⟨4, ![1, 1, 1, 64]⟩ : Shape).rowMajor.symm (finCongr win_numel k) 2).val - 0 = n.val; rw [s2]; omega
      | ⟨3, _⟩ => show c.val * 1 + ((⟨4, ![1, 1, 1, 64]⟩ : Shape).rowMajor.symm (finCongr win_numel k) 3).val - 63 = c.val + k.val - 63; rw [s3]; omega
  · refine (dif_neg fun hin => h ?_).trans rfl
    have := hin 3
    change 63 ≤ c.val * 1 + ((⟨4, ![1, 1, 1, 64]⟩ : Shape).rowMajor.symm (finCongr win_numel k) 3).val ∧ _ at this
    rw [(hs k).2.2.2] at this; omega
end Cert.Mix
end
end
-- ==== Proof.Proof.MixRefA.lean ====
module
public import proofs.«01_k».proof.Proof.Proof.MixSpec
public import proofs.«01_k».proof.Proof.Proof.MixWin
public import proofs.«01_k».proof.Proof.Gen.ReferenceIdeal.Step
public import Idealize.ShloMosaic.Lib.Pointwise
public import Idealize.ShloMosaic.Lib.Tactic

@[expose] public section
set_option maxRecDepth 16384
noncomputable section
namespace Cert.Mix
open Idealize.ShloMosaic Idealize.SL.Sem Cert.ReferenceIdeal Cert.ReferenceIdeal.Step
open Cert.KernelIdeal.Mix (U hrow eps)

/-- The mathematics' values, of the arguments. -/
def par (a0 : (⟨S4x8192x1024, .f32⟩ : BufTy).Contents (Elt Ideal)) (a1 : (⟨S4x6x1024, .f32⟩ : BufTy).Contents (Elt Ideal)) (a2 : (⟨S1x1024, .f32⟩ : BufTy).Contents (Elt Ideal)) (a3 : (⟨S1x1024x3592, .f32⟩ : BufTy).Contents (Elt Ideal)) (a4 : (⟨S1x4x1536, .f32⟩ : BufTy).Contents (Elt Ideal)) (a5 a6 : (⟨S1x4, .f32⟩ : BufTy).Contents (Elt Ideal))
    (a7 : (⟨S1x128, .f32⟩ : BufTy).Contents (Elt Ideal)) (a8 : (⟨S1x3x512, .f32⟩ : BufTy).Contents (Elt Ideal)) (a9 : (⟨S1x1024x1024, .f32⟩ : BufTy).Contents (Elt Ideal)) : Par where
  x b t k := if h : t < 8192 then a0 (ix3 b ⟨t, h⟩ k : S4x8192x1024.Idx) else 0
  md b i k := a1 (ix3 b ⟨i, by omega⟩ k : S4x6x1024.Idx)
  n1 k := a2 (ix2 0 k : S1x1024.Idx)
  win k c := if h : c < 3592 then a3 (ix3 0 k ⟨c, h⟩ : S1x1024x3592.Idx) else 0
  cq i c := if h : c < 1536 then a4 (ix3 0 i ⟨c, h⟩ : S1x4x1536.Idx) else 0
  cs i c := a8 (ix3 0 i c : S1x3x512.Idx)
  alog hd := a5 (ix2 0 hd : S1x4.Idx)
  dtb hd := a6 (ix2 0 hd : S1x4.Idx)
  gnw e := a7 (ix2 0 e : S1x128.Idx)
  wout j k := a9 (ix3 0 j k : S1x1024x1024.Idx)

theorem add4 (a b c d : EReal) : a + b + c + d = d + c + b + a := by
  rw [add_comm (a + b + c) d, add_comm (a + b) c, add_comm a b, ← add_assoc, ← add_assoc]

section
variable (a0 : (⟨S4x8192x1024, .f32⟩ : BufTy).Contents (Elt Ideal)) (a1 : (⟨S4x6x1024, .f32⟩ : BufTy).Contents (Elt Ideal)) (a2 : (⟨S1x1024, .f32⟩ : BufTy).Contents (Elt Ideal)) (a3 : (⟨S1x1024x3592, .f32⟩ : BufTy).Contents (Elt Ideal)) (a4 : (⟨S1x4x1536, .f32⟩ : BufTy).Contents (Elt Ideal)) (a5 a6 : (⟨S1x4, .f32⟩ : BufTy).Contents (Elt Ideal))
    (a7 : (⟨S1x128, .f32⟩ : BufTy).Contents (Elt Ideal)) (a8 : (⟨S1x3x512, .f32⟩ : BufTy).Contents (Elt Ideal)) (a9 : (⟨S1x1024x1024, .f32⟩ : BufTy).Contents (Elt Ideal))

/-- The modulated norm. -/
theorem r21 (b : U) (t : Fin 8192) (k : Fin 1024) : A_main_v21 a0 a1 a2 a3 a4 a5 a6 (ix3 b t k : S4x8192x1024.Idx) = (par a0 a1 a2 a3 a4 a5 a6 a7 a8 a9).h b t k := by
  pointwise [A_main_v21, A_main_v20, A_main_v19, A_main_v18, A_main_v17, A_main_v15, A_main_v14, A_main_v13, A_main_v12, A_main_v11, A_main_v10, A_main_v9, A_main_v7, A_main_v5, A_main_v4, A_main_v3, A_main_v2, A_main_v1, A_main_v0, K_main_v6, K_main_v8, K_main_v16, K_main_cst, K_main_cst_0, K_main_cst_1, K_main_cst_2, Par.h, hrow, par]
  simp only [eps, mul_assoc]
theorem r85 : A_main_v85 a0 a1 a2 a3 a4 a5 a6 = A_main_v21 a0 a1 a2 a3 a4 a5 a6 := by sl_kernel_rfl
theorem r118 : A_main_v118 a0 a1 a2 a3 a4 a5 a6 = A_main_v21 a0 a1 a2 a3 a4 a5 a6 := by sl_kernel_rfl
theorem win_at (k : Fin 1024) (c : ℕ) (h : c < 3592) : (par a0 a1 a2 a3 a4 a5 a6 a7 a8 a9).win k c = a3 (ix3 0 k ⟨c, h⟩ : S1x1024x3592.Idx) := dif_pos h
theorem cq_at (i : U) (c : ℕ) (h : c < 1536) : (par a0 a1 a2 a3 a4 a5 a6 a7 a8 a9).cq i c = a4 (ix3 0 i ⟨c, h⟩ : S1x4x1536.Idx) := dif_pos h
/-- The projection's first columns. -/
theorem r24 (b : U) (t : Fin 8192) (c : Fin 1536) : A_main_v24 a0 a1 a2 a3 a4 a5 a6 (ix3 b t c : S4x8192x1536.Idx) = (par a0 a1 a2 a3 a4 a5 a6 a7 a8 a9).P b c t := by
  pointwise [A_main_v24, A_main_v23, A_main_v22]
  unfold Par.P
  exact Finset.sum_congr rfl fun k _ => by rw [r21 a0 a1 a2 a3 a4 a5 a6 a7 a8 a9, win_at a0 a1 a2 a3 a4 a5 a6 a7 a8 a9 _ _ (by omega)]
/-- The decay gate's columns. -/
theorem r88 (b : U) (t : Fin 8192) (hd : U) : A_main_v88 a0 a1 a2 a3 a4 a5 a6 (ix3 b t hd : S4x8192x4.Idx) = (par a0 a1 a2 a3 a4 a5 a6 a7 a8 a9).P b (2048 + hd) t := by
  pointwise [A_main_v88, A_main_v87, A_main_v86]
  unfold Par.P
  exact Finset.sum_congr rfl fun k _ => by rw [r85, r21 a0 a1 a2 a3 a4 a5 a6 a7 a8 a9, win_at a0 a1 a2 a3 a4 a5 a6 a7 a8 a9 _ _ (by omega)]
/-- The write gate's columns. -/
theorem r121 (b : U) (t : Fin 8192) (hd : U) : A_main_v121 a0 a1 a2 a3 a4 a5 a6 (ix3 b t hd : S4x8192x4.Idx) = (par a0 a1 a2 a3 a4 a5 a6 a7 a8 a9).P b (2052 + hd) t := by
  pointwise [A_main_v121, A_main_v120, A_main_v119]
  unfold Par.P
  exact Finset.sum_congr rfl fun k _ => by rw [r118, r21 a0 a1 a2 a3 a4 a5 a6 a7 a8 a9, win_at a0 a1 a2 a3 a4 a5 a6 a7 a8 a9 _ _ (by omega)]
theorem r26 (b : U) (n : Fin 8195) (c : Fin 1536) : A_main_v26 a0 a1 a2 a3 a4 a5 a6 (ix3 b n c : S4x8195x1536.Idx) = (par a0 a1 a2 a3 a4 a5 a6 a7 a8 a9).Pz b c (n + 5) := by
  pointwise [A_main_v26, K_main_call0_v0, K_main_c]
  have hz : (FloatOps.sitofp (F := Ideal) FTy.f32 (0#32 : BitVec 32) : EReal) = 0 := by
    show (((0#32 : BitVec 32).toInt : ℝ) : EReal) = 0
    simp
  by_cases h : 3 ≤ n.val
  · rw [dif_pos ⟨h, by omega⟩, r24 a0 a1 a2 a3 a4 a5 a6 a7 a8 a9]
    unfold Par.Pz
    rw [if_neg (by omega)]
    show (par a0 a1 a2 a3 a4 a5 a6 a7 a8 a9).P b c (n.val - 3) = (par a0 a1 a2 a3 a4 a5 a6 a7 a8 a9).P b c (n.val + 5 - 8)
    rw [show n.val + 5 - 8 = n.val - 3 by omega]
  · rw [dif_neg fun hh => h hh.1, hz]
    unfold Par.Pz
    rw [if_pos (by omega)]
theorem r53 (b : U) (t : Fin 8192) (c : Fin 1536) : A_main_v53 a0 a1 a2 a3 a4 a5 a6 (ix3 b t c : S4x8192x1536.Idx) = (par a0 a1 a2 a3 a4 a5 a6 a7 a8 a9).cv b c t := by
  pointwise [A_main_v53, A_main_v52, A_main_v51, A_main_v50, A_main_v49, A_main_v48, A_main_v47, A_main_v46, A_main_v45, A_main_v44, A_main_v43, A_main_v42, A_main_v41, A_main_v40, A_main_v39, A_main_v38, A_main_v37, A_main_v36, A_main_v35, A_main_v34, A_main_v33, A_main_v32, A_main_v31, A_main_v30, A_main_v29, A_main_v28, A_main_v27, A_main_v25]
  rw [r26 a0 a1 a2 a3 a4 a5 a6 a7 a8 a9, r26 a0 a1 a2 a3 a4 a5 a6 a7 a8 a9, r26 a0 a1 a2 a3 a4 a5 a6 a7 a8 a9, r26 a0 a1 a2 a3 a4 a5 a6 a7 a8 a9]
  unfold Par.cv
  rw [cq_at a0 a1 a2 a3 a4 a5 a6 a7 a8 a9 _ _ c.isLt, cq_at a0 a1 a2 a3 a4 a5 a6 a7 a8 a9 _ _ c.isLt, cq_at a0 a1 a2 a3 a4 a5 a6 a7 a8 a9 _ _ c.isLt, cq_at a0 a1 a2 a3 a4 a5 a6 a7 a8 a9 _ _ c.isLt]
  show (par a0 a1 a2 a3 a4 a5 a6 a7 a8 a9).Pz b c (t.val + 5) * _ + (par a0 a1 a2 a3 a4 a5 a6 a7 a8 a9).Pz b c (1 + t.val + 5) * _ + (par a0 a1 a2 a3 a4 a5 a6 a7 a8 a9).Pz b c (2 + t.val + 5) * _ + (par a0 a1 a2 a3 a4 a5 a6 a7 a8 a9).Pz b c (3 + t.val + 5) * _ = _
  rw [show 1 + t.val + 5 = t.val + 6 by omega, show 2 + t.val + 5 = t.val + 7 by omega, show 3 + t.val + 5 = t.val + 8 by omega]
  exact add4 _ _ _ _
theorem r54 (b : U) (t : Fin 8192) (c : Fin 1536) : A_main_v54 a0 a1 a2 a3 a4 a5 a6 (ix3 b t c : S4x8192x1536.Idx) = (par a0 a1 a2 a3 a4 a5 a6 a7 a8 a9).A b c t := by
  pointwise [A_main_v54, A_main_call1_v5, A_main_call1_v3, A_main_call1_v1, A_main_call1_v0, K_main_call1_v2, K_main_call1_v4, K_main_call1_cst, K_main_call1_cst_0]
  rw [r53 a0 a1 a2 a3 a4 a5 a6 a7 a8 a9]; rfl
theorem r60 (b : U) (t : Fin 8192) (hd : U) (d : Fin 128) : A_main_v60 a0 a1 a2 a3 a4 a5 a6 (ix4 b t hd d : S4x8192x4x128.Idx) = (par a0 a1 a2 a3 a4 a5 a6 a7 a8 a9).v b hd t d := by
  pointwise [A_main_v60, A_main_v59]
  rw [r54 a0 a1 a2 a3 a4 a5 a6 a7 a8 a9]
  show (par a0 a1 a2 a3 a4 a5 a6 a7 a8 a9).A b (1024 + (hd.val * 128 + d.val)) t = (par a0 a1 a2 a3 a4 a5 a6 a7 a8 a9).A b (1024 + (128 * hd.val + d.val)) t
  rw [Nat.mul_comm hd.val]
theorem r96 (b : U) (t : Fin 8192) (hd : U) : A_main_v96 a0 a1 a2 a3 a4 a5 a6 (ix3 b t hd : S4x8192x4.Idx) = (par a0 a1 a2 a3 a4 a5 a6 a7 a8 a9).g b hd t := by
  pointwise [A_main_v96, A_main_v95, A_main_v94, A_main_v93, A_main_call2_v11, A_main_call2_v10, A_main_call2_v9, A_main_call2_v8, A_main_call2_v7, A_main_call2_v6, A_main_call2_v4, A_main_call2_v3, A_main_call2_v1, A_main_v92, A_main_v91, A_main_v90, A_main_v89, A_main_v63, A_main_v62, A_main_v61, K_main_call2_v0, K_main_call2_v2, K_main_call2_v5, K_main_call2_cst]
  rw [if_neg (fun h => h rfl), r88 a0 a1 a2 a3 a4 a5 a6 a7 a8 a9]
  show (-Ideal.exp (a5 (ix2 0 hd : S1x4.Idx))) * (max ((par a0 a1 a2 a3 a4 a5 a6 a7 a8 a9).dl b hd t) 0 + Ideal.log1p (Ideal.exp (-(max ((par a0 a1 a2 a3 a4 a5 a6 a7 a8 a9).dl b hd t) (-(par a0 a1 a2 a3 a4 a5 a6 a7 a8 a9).dl b hd t))))) = _
  unfold Par.g
  rw [zero_sub, zero_sub]; rfl
theorem r127 (b : U) (t : Fin 8192) (hd : U) : A_main_v127 a0 a1 a2 a3 a4 a5 a6 (ix3 b t hd : S4x8192x4.Idx) = (par a0 a1 a2 a3 a4 a5 a6 a7 a8 a9).bet b hd t := by
  pointwise [A_main_v127, A_main_v125, A_main_v123, A_main_v122, K_main_v124, K_main_v126, K_main_cst_11, K_main_cst_12]
  rw [r121 a0 a1 a2 a3 a4 a5 a6 a7 a8 a9]; rfl
theorem r56 (b : U) (t : Fin 8192) (hd : U) (d : Fin 128) : A_main_v56 a0 a1 a2 a3 a4 a5 a6 (ix4 b t hd d : S4x8192x4x128.Idx) = (par a0 a1 a2 a3 a4 a5 a6 a7 a8 a9).q0 b hd t d := by
  pointwise [A_main_v56, A_main_v55]
  rw [r54 a0 a1 a2 a3 a4 a5 a6 a7 a8 a9]
  show (par a0 a1 a2 a3 a4 a5 a6 a7 a8 a9).A b (hd.val * 128 + d.val) t = (par a0 a1 a2 a3 a4 a5 a6 a7 a8 a9).A b (128 * hd.val + d.val) t
  rw [Nat.mul_comm hd.val]
theorem r58 (b : U) (t : Fin 8192) (hd : U) (d : Fin 128) : A_main_v58 a0 a1 a2 a3 a4 a5 a6 (ix4 b t hd d : S4x8192x4x128.Idx) = (par a0 a1 a2 a3 a4 a5 a6 a7 a8 a9).k0 b hd t d := by
  pointwise [A_main_v58, A_main_v57]
  rw [r54 a0 a1 a2 a3 a4 a5 a6 a7 a8 a9]
  show (par a0 a1 a2 a3 a4 a5 a6 a7 a8 a9).A b (512 + (hd.val * 128 + d.val)) t = (par a0 a1 a2 a3 a4 a5 a6 a7 a8 a9).A b (512 + (128 * hd.val + d.val)) t
  rw [Nat.mul_comm hd.val]
end
end Cert.Mix
end
end
-- ==== Proof.Proof.MixIn.lean ====
module
public import proofs.«01_k».proof.Proof.Proof.MixHostV
public import proofs.«01_k».proof.Proof.Proof.MixLvlA
public import proofs.«01_k».proof.Proof.Proof.MixLvlB
public import proofs.«01_k».proof.Proof.Proof.MixLvlC
public import proofs.«01_k».proof.Proof.Proof.MixLvlD
public import proofs.«01_k».proof.Proof.Proof.MixGrid
public import proofs.«01_k».proof.Proof.Proof.MixRefA
public import Idealize.ShloMosaic.Lib.Pipeline.ValueKit
@[expose] public section
set_option maxRecDepth 65536
set_option maxHeartbeats 1000000
noncomputable section
namespace Cert.Mix
open Idealize.ShloMosaic Idealize.ShloMosaic.TcCoe Idealize.SL.Sem Cert.KernelIdeal Cert.KernelIdeal.Gen Cert.KernelIdeal.Mix
variable (m : (ℓ : Loc nD τ sig) → Buf (Elt Ideal) ℓ) (c : Dev nD)

/-- The mathematics' values, of the kernel's arguments. -/
def kp : Par := par (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The block indices at every point. -/
theorem idx : ∀ t : Fin cfg0.N, win0_0.index t = ![0, t.val, 0] ∧ win0_1.index t = ![0, 0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0, 0]
    ∧ win0_14.index t = ![t.val, 0] ∧ win0_15.index t = ![t.val, 0] ∧ win0_16.index t = ![min t.val 15, 0] ∧ win0_17.index t = ![0, t.val, 0] ∧ win0_18.index t = ![t.val, 0] ∧ win0_19.index t = ![t.val, 0] ∧ win0_20.index t = ![min t.val 15, 0] :=
  (by decide +kernel : ∀ t : Fin grid0.N, _)
theorem b2 (t : Fin cfg0.N) (i0 : Fin 1) (i1 : Fin 1024) : (iblk m c 2 t : Vec Ideal S1x1024 .f32) (ix2 i0 i1) = (V m c main_v118 : FVec Ideal S1x1024 .f32) (ix2 i0 i1) := by
  blk_ext [iblk, idx t]
theorem b3 (t : Fin cfg0.N) (i0 : Fin 1024) (i1 : Fin 3592) : (iblk m c 3 t : Vec Ideal S1024x3592 .bf16) (ix2 i0 i1) = (V m c main_v119 : FVec Ideal S1024x3592 .bf16) (ix2 i0 i1) := by
  blk_ext [iblk, idx t]
theorem b4 (t : Fin cfg0.N) (i0 : Fin 4) (i1 : Fin 1536) : (iblk m c 4 t : Vec Ideal S4x1536 .f32) (ix2 i0 i1) = (V m c main_v2 : FVec Ideal S4x1536 .f32) (ix2 i0 i1) := by
  blk_ext [iblk, idx t]
theorem b5 (t : Fin cfg0.N) (i0 : Fin 3) (i1 : Fin 512) : (iblk m c 5 t : Vec Ideal S3x512 .f32) (ix2 i0 i1) = (V m c main_v6 : FVec Ideal S3x512 .f32) (ix2 i0 i1) := by
  blk_ext [iblk, idx t]
theorem b6 (t : Fin cfg0.N) (i0 : Fin 1) (i1 : Fin 128) : (iblk m c 6 t : Vec Ideal S1x128 .f32) (ix2 i0 i1) = (V m c main_v15 : FVec Ideal S1x128 .f32) (ix2 i0 i1) := by
  blk_ext [iblk, idx t]
theorem b7 (t : Fin cfg0.N) (i0 : Fin 1) (i1 : Fin 128) : (iblk m c 7 t : Vec Ideal S1x128 .f32) (ix2 i0 i1) = (V m c main_v20 : FVec Ideal S1x128 .f32) (ix2 i0 i1) := by
  blk_ext [iblk, idx t]
theorem b8 (t : Fin cfg0.N) (i0 : Fin 1) (i1 : Fin 128) : (iblk m c 8 t : Vec Ideal S1x128 .f32) (ix2 i0 i1) = (V m c main_v120 : FVec Ideal S1x128 .f32) (ix2 i0 i1) := by
  blk_ext [iblk, idx t]
theorem b9 (t : Fin cfg0.N) (i0 : Fin 1024) (i1 : Fin 1024) : (iblk m c 9 t : Vec Ideal S1024x1024 .bf16) (ix2 i0 i1) = (V m c main_v121 : FVec Ideal S1024x1024 .bf16) (ix2 i0 i1) := by
  blk_ext [iblk, idx t]
theorem b10 (t : Fin cfg0.N) (i0 : Fin 128) (i1 : Fin 128) : (iblk m c 10 t : Vec Ideal S128x128 .f32) (ix2 i0 i1) = (V m c main_v29 : FVec Ideal S128x128 .f32) (ix2 i0 i1) := by
  blk_ext [iblk, idx t]
theorem b11 (t : Fin cfg0.N) (i0 : Fin 128) (i1 : Fin 128) : (iblk m c 11 t : Vec Ideal S128x128 .f32) (ix2 i0 i1) = (V m c main_v32 : FVec Ideal S128x128 .f32) (ix2 i0 i1) := by
  blk_ext [iblk, idx t]
theorem b12 (t : Fin cfg0.N) (i0 : Fin 128) (i1 : Fin 128) : (iblk m c 12 t : Vec Ideal S128x128 .bf16) (ix2 i0 i1) = (V m c main_v122 : FVec Ideal S128x128 .bf16) (ix2 i0 i1) := by
  blk_ext [iblk, idx t]
theorem b13 (t : Fin cfg0.N) (i0 : Fin 6) (i1 : Fin 128) (i2 : Fin 128) : (iblk m c 13 t : Vec Ideal S6x128x128 .bf16) (ix3 i0 i1 i2) = (V m c main_v123 : FVec Ideal S6x128x128 .bf16) (ix3 i0 i1 i2) := by
  blk_ext [iblk, idx t]
theorem b0 (t : Fin cfg0.N) (b : U) (r : Fin 128) (k : Fin 1024) (h : 128 * t.val + r < 8192) : (iblk m c 0 t : Vec Ideal S4x128x1024 .f32) (ix3 b r k) = (m ((c : Thread nD τ).loc main_arg0) : FVec Ideal S4x8192x1024 .f32) (ix3 b ⟨128 * t.val + r, h⟩ k) := by
  blk_ext [iblk, V, idx t]
theorem b1 (t : Fin cfg0.N) (b : U) (i : Fin 6) (k : Fin 1024) : (iblk m c 1 t : Vec Ideal S4x6x1024 .f32) (ix3 b i k) = (m ((c : Thread nD τ).loc main_arg1) : FVec Ideal S4x6x1024 .f32) (ix3 b i k) := by
  blk_ext [iblk, V, idx t]
end Cert.Mix
end
-- ==== Proof.Proof.MixLvs.lean ====
module
public import proofs.«01_k».proof.Proof.Proof.MixIn
@[expose] public section
set_option maxRecDepth 65536
set_option maxHeartbeats 1000000
noncomputable section
namespace Cert.Mix
open Idealize.ShloMosaic Idealize.ShloMosaic.TcCoe Idealize.SL.Sem Cert.KernelIdeal Cert.KernelIdeal.Gen Cert.KernelIdeal.Mix
variable (m : (ℓ : Loc nD τ sig) → Buf (Elt Ideal) ℓ) (c : Dev nD)

theorem stk (X0 X1 X2 X3 X4 X5 : FVec Ideal S128x128 .f32) (i : Fin 6) (r c : Fin 128) :
    (truncf .bf16 (concatenate S6x128x128 0 [⟨S1x128x128, up3 X0⟩, ⟨S1x128x128, up3 X1⟩, ⟨S1x128x128, up3 X2⟩, ⟨S1x128x128, up3 X3⟩, ⟨S1x128x128, up3 X4⟩, ⟨S1x128x128, up3 X5⟩] concatenates_S1x128x128_S1x128x128_S1x128x128_S1x128x128_S1x128x128_S1x128x128_S6x128x128_d0 : FVec Ideal S6x128x128 .f32) bitsLt_bf16_f32 : FVec Ideal S6x128x128 .bf16) (ix3 i r c)
    = (![X0, X1, X2, X3, X4, X5] : Fin 6 → FVec Ideal S128x128 .f32) i (ix2 r c) := by
  fin_cases i <;> pointwise [up3]
theorem pick (X0 X1 X2 X3 X4 X5 : FVec Ideal S128x128 .f32) (r c : Fin 128)
    (h0 : X0 (ix2 r c) = (if r.val / 2 ^ 0 / 2 = c.val / 2 ^ 0 / 2 ∧ r.val / 2 ^ 0 % 2 = 1 ∧ c.val / 2 ^ 0 % 2 = 0 then 1 else 0 : EReal))
    (h1 : X1 (ix2 r c) = (if r.val / 2 ^ 1 / 2 = c.val / 2 ^ 1 / 2 ∧ r.val / 2 ^ 1 % 2 = 1 ∧ c.val / 2 ^ 1 % 2 = 0 then 1 else 0 : EReal))
    (h2 : X2 (ix2 r c) = (if r.val / 2 ^ 2 / 2 = c.val / 2 ^ 2 / 2 ∧ r.val / 2 ^ 2 % 2 = 1 ∧ c.val / 2 ^ 2 % 2 = 0 then 1 else 0 : EReal))
    (h3 : X3 (ix2 r c) = (if r.val / 2 ^ 3 / 2 = c.val / 2 ^ 3 / 2 ∧ r.val / 2 ^ 3 % 2 = 1 ∧ c.val / 2 ^ 3 % 2 = 0 then 1 else 0 : EReal))
    (h4 : X4 (ix2 r c) = (if r.val / 2 ^ 4 / 2 = c.val / 2 ^ 4 / 2 ∧ r.val / 2 ^ 4 % 2 = 1 ∧ c.val / 2 ^ 4 % 2 = 0 then 1 else 0 : EReal))
    (h5 : X5 (ix2 r c) = (if r.val / 2 ^ 5 / 2 = c.val / 2 ^ 5 / 2 ∧ r.val / 2 ^ 5 % 2 = 1 ∧ c.val / 2 ^ 5 % 2 = 0 then 1 else 0 : EReal))
    (i : Fin 6) : (![X0, X1, X2, X3, X4, X5] : Fin 6 → FVec Ideal S128x128 .f32) i (ix2 r c)
    = (if r.val / 2 ^ i.val / 2 = c.val / 2 ^ i.val / 2 ∧ r.val / 2 ^ i.val % 2 = 1 ∧ c.val / 2 ^ i.val % 2 = 0 then 1 else 0 : EReal) := by
  fin_cases i
  exacts [h0, h1, h2, h3, h4, h5]
theorem at0 (r cc : Fin 128) : (V m c main_v45 : FVec Ideal S128x128 .f32) (ix2 r cc) = (if r.val / 2 ^ 0 / 2 = cc.val / 2 ^ 0 / 2 ∧ r.val / 2 ^ 0 % 2 = 1 ∧ cc.val / 2 ^ 0 % 2 = 0 then 1 else 0 : EReal) := (congrFun (V45 m c) _).trans (wh_at _ _ r cc (lvl_2 r cc))
theorem at1 (r cc : Fin 128) : (V m c main_v58 : FVec Ideal S128x128 .f32) (ix2 r cc) = (if r.val / 2 ^ 1 / 2 = cc.val / 2 ^ 1 / 2 ∧ r.val / 2 ^ 1 % 2 = 1 ∧ cc.val / 2 ^ 1 % 2 = 0 then 1 else 0 : EReal) := (congrFun (V58 m c) _).trans (wh_at _ _ r cc (lvl_4 r cc))
theorem at2 (r cc : Fin 128) : (V m c main_v71 : FVec Ideal S128x128 .f32) (ix2 r cc) = (if r.val / 2 ^ 2 / 2 = cc.val / 2 ^ 2 / 2 ∧ r.val / 2 ^ 2 % 2 = 1 ∧ cc.val / 2 ^ 2 % 2 = 0 then 1 else 0 : EReal) := (congrFun (V71 m c) _).trans (wh_at _ _ r cc (lvl_8 r cc))
theorem at3 (r cc : Fin 128) : (V m c main_v84 : FVec Ideal S128x128 .f32) (ix2 r cc) = (if r.val / 2 ^ 3 / 2 = cc.val / 2 ^ 3 / 2 ∧ r.val / 2 ^ 3 % 2 = 1 ∧ cc.val / 2 ^ 3 % 2 = 0 then 1 else 0 : EReal) := (congrFun (V84 m c) _).trans (wh_at _ _ r cc (lvl_16 r cc))
theorem at4 (r cc : Fin 128) : (V m c main_v97 : FVec Ideal S128x128 .f32) (ix2 r cc) = (if r.val / 2 ^ 4 / 2 = cc.val / 2 ^ 4 / 2 ∧ r.val / 2 ^ 4 % 2 = 1 ∧ cc.val / 2 ^ 4 % 2 = 0 then 1 else 0 : EReal) := (congrFun (V97 m c) _).trans (wh_at _ _ r cc (lvl_32 r cc))
theorem at5 (r cc : Fin 128) : (V m c main_v110 : FVec Ideal S128x128 .f32) (ix2 r cc) = (if r.val / 2 ^ 5 / 2 = cc.val / 2 ^ 5 / 2 ∧ r.val / 2 ^ 5 % 2 = 1 ∧ cc.val / 2 ^ 5 % 2 = 0 then 1 else 0 : EReal) := (congrFun (V110 m c) _).trans (wh_at _ _ r cc (lvl_64 r cc))
/-- The stacked levels at an index. -/
theorem lvls_at (i : Fin 6) (r cc : Fin 128) : (V m c main_v123 : FVec Ideal S6x128x128 .bf16) (ix3 i r cc)
    = (if r.val / 2 ^ i.val / 2 = cc.val / 2 ^ i.val / 2 ∧ r.val / 2 ^ i.val % 2 = 1 ∧ cc.val / 2 ^ i.val % 2 = 0 then 1 else 0 : EReal) := by
  exact (congrFun (V123' m c) _).trans ((stk _ _ _ _ _ _ i r cc).trans
    (pick _ _ _ _ _ _ r cc (at0 m c r cc) (at1 m c r cc) (at2 m c r cc) (at3 m c r cc) (at4 m c r cc) (at5 m c r cc) i))
end Cert.Mix
end
-- ==== Proof.Proof.MixInB.lean ====
module
public import proofs.«01_k».proof.Proof.Proof.MixLvs
public import proofs.«01_k».proof.Proof.Proof.MixIn
@[expose] public section
set_option maxRecDepth 65536
set_option maxHeartbeats 1000000
noncomputable section
namespace Cert.Mix
open Idealize.ShloMosaic Idealize.ShloMosaic.TcCoe Idealize.SL.Sem Cert.KernelIdeal Cert.KernelIdeal.Gen Cert.KernelIdeal.Mix
variable (m : (ℓ : Loc nD τ sig) → Buf (Elt Ideal) ℓ) (c : Dev nD)

section
variable (k : Fin 1024) (cc : Fin 3592) (cq : Fin 1536) (cs : Fin 512) (e : Fin 128) (j : Fin 1024) (i : Fin 4) (i3 : Fin 3)
theorem pw2 (X : FVec Ideal S1x1024 .f32) : (shapeCast S1x1024 (shapeCast S1024 X shapeCasts_S1x1024_S1024) shapeCasts_S1024_S1x1024 : FVec Ideal S1x1024 .f32) (ix2 0 k) = X (ix2 0 k) := by pointwise
theorem pw3 (X : FVec Ideal S1x1024x3592 .f32) : (truncf .bf16 (shapeCast S1024x3592 X shapeCasts_S1x1024x3592_S1024x3592 : FVec Ideal S1024x3592 .f32) bitsLt_bf16_f32 : FVec Ideal S1024x3592 .bf16) (ix2 k cc) = X (ix3 0 k cc) := by pointwise
theorem pw4 (X : FVec Ideal S1x4x1536 .f32) : (shapeCast S4x1536 X shapeCasts_S1x4x1536_S4x1536 : FVec Ideal S4x1536 .f32) (ix2 i cq) = X (ix3 0 i cq) := by pointwise
theorem pw5 (X : FVec Ideal S1x3x512 .f32) : (shapeCast S3x512 X shapeCasts_S1x3x512_S3x512 : FVec Ideal S3x512 .f32) (ix2 i3 cs) = X (ix3 0 i3 cs) := by pointwise
theorem pw6 (X : FVec Ideal S1x4 .f32) : (lane (shapeCast S4 X shapeCasts_S1x4_S4)) (ix2 0 ⟨i, by omega⟩) = X (ix2 0 i) := by rw [lane_at]; pointwise
theorem pw8 (X : FVec Ideal S1x128 .f32) : (shapeCast S1x128 (shapeCast S128 X shapeCasts_S1x128_S128) shapeCasts_S128_S1x128 : FVec Ideal S1x128 .f32) (ix2 0 e) = X (ix2 0 e) := by pointwise
theorem pw9 (X : FVec Ideal S1x1024x1024 .f32) : (truncf .bf16 (shapeCast S1024x1024 X shapeCasts_S1x1024x1024_S1024x1024 : FVec Ideal S1024x1024 .f32) bitsLt_bf16_f32 : FVec Ideal S1024x1024 .bf16) (ix2 j k) = X (ix3 0 j k) := by pointwise
theorem pw12 (X : FVec Ideal S128x128 .f32) (r c : Fin 128) : (truncf .bf16 X bitsLt_bf16_f32 : FVec Ideal S128x128 .bf16) (ix2 r c) = X (ix2 r c) := rfl
end
theorem kx (b : U) (t : ℕ) (k : Fin 1024) (h : t < 8192) : (kp m c).x b t k = (m ((c : Thread nD τ).loc main_arg0) : FVec Ideal S4x8192x1024 .f32) (ix3 b ⟨t, h⟩ k) := by
  unfold kp par; exact dif_pos h
theorem kw (k : Fin 1024) (cc : Fin 3592) : (kp m c).win k cc = (m ((c : Thread nD τ).loc main_arg3) : FVec Ideal S1x1024x3592 .f32) (ix3 0 k cc) := by
  unfold kp par; exact dif_pos cc.isLt
theorem kq (i : U) (cc : Fin 1536) : (kp m c).cq i cc = (m ((c : Thread nD τ).loc main_arg4) : FVec Ideal S1x4x1536 .f32) (ix3 0 i cc) := by
  unfold kp par; exact dif_pos cc.isLt
variable (t : Fin cfg0.N)
theorem i0 (b : U) (r : Fin 128) (k : Fin 1024) : (iblk m c 0 t : Vec Ideal S4x128x1024 .f32) (ix3 b r k) = (kp m c).x b (128 * t.val + r) k := by
  have h : 128 * t.val + r < 8192 := by have := lt_of_lt_of_eq t.isLt (show cfg0.N = 64 from N_0); omega
  exact (b0 m c t b r k h).trans (kx m c b _ k h).symm
theorem i2 (k : Fin 1024) : (iblk m c 2 t : Vec Ideal S1x1024 .f32) (ix2 0 k) = (kp m c).n1 k := (b2 m c t 0 k).trans ((congrFun (V118 m c) _).trans (pw2 k _))
theorem i3 (k : Fin 1024) (cc : Fin 3592) : (iblk m c 3 t : Vec Ideal S1024x3592 .bf16) (ix2 k cc) = (kp m c).win k cc := (b3 m c t k cc).trans ((congrFun (V119 m c) _).trans ((pw3 k cc _).trans (kw m c k cc).symm))
theorem i4 (i : U) (cc : Fin 1536) : (iblk m c 4 t : Vec Ideal S4x1536 .f32) (ix2 i cc) = (kp m c).cq i cc := (b4 m c t i cc).trans ((congrFun (V2 m c) _).trans ((pw4 cc i _).trans (kq m c i cc).symm))
theorem i5 (i : Fin 3) (cc : Fin 512) : (iblk m c 5 t : Vec Ideal S3x512 .f32) (ix2 i cc) = (kp m c).cs i cc := (b5 m c t i cc).trans ((congrFun (V6 m c) _).trans (pw5 cc i _))
theorem i6 (hd : U) : (iblk m c 6 t : Vec Ideal S1x128 .f32) (ix2 0 ⟨hd, by omega⟩) = (kp m c).alog hd := (b6 m c t 0 _).trans ((congrFun (V15 m c) _).trans (pw6 hd _))
theorem i7 (hd : U) : (iblk m c 7 t : Vec Ideal S1x128 .f32) (ix2 0 ⟨hd, by omega⟩) = (kp m c).dtb hd := (b7 m c t 0 _).trans ((congrFun (V20 m c) _).trans (pw6 hd _))
theorem i8 (e : Fin 128) : (iblk m c 8 t : Vec Ideal S1x128 .f32) (ix2 0 e) = (kp m c).gnw e := (b8 m c t 0 e).trans ((congrFun (V120 m c) _).trans (pw8 e _))
theorem i9 (j k : Fin 1024) : (iblk m c 9 t : Vec Ideal S1024x1024 .bf16) (ix2 j k) = (kp m c).wout j k := (b9 m c t j k).trans ((congrFun (V121 m c) _).trans (pw9 k j _))
theorem i10 (r cc : Fin 128) : (iblk m c 10 t : Vec Ideal S128x128 .f32) (ix2 r cc) = (if r.val / 64 = cc.val / 64 ∧ cc ≤ r then 1 else 0 : EReal) := (b10 m c t r cc).trans ((congrFun (V29 m c) _).trans (wh_at _ _ r cc (tril_at r cc)))
theorem i11 (r cc : Fin 128) : (iblk m c 11 t : Vec Ideal S128x128 .f32) (ix2 r cc) = (if r = cc then 1 else 0 : EReal) := (b11 m c t r cc).trans ((congrFun (V32 m c) _).trans (wh_at _ _ r cc (eye_at r cc)))
theorem i12 (r cc : Fin 128) : (iblk m c 12 t : Vec Ideal S128x128 .bf16) (ix2 r cc) = (if r.val / 64 = cc.val / 64 ∧ cc ≤ r then 1 else 0 : EReal) := (b12 m c t r cc).trans ((congrFun (V122 m c) _).trans ((pw12 _ r cc).trans (wh_at _ _ r cc (tril_at r cc))))

/-- Every block a point reads is the mathematics' arguments. -/
theorem ins : In (kp m c) t.val (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  x := i0 m c t
  md b i k := b1 m c t b _ k
  n1 := i2 m c t
  w := i3 m c t
  cq := i4 m c t
  cs := i5 m c t
  alog := i6 m c t
  dtb := i7 m c t
  gnw := i8 m c t
  wout := i9 m c t
  tril := i10 m c t
  eye := i11 m c t
  tri16 := i12 m c t
  lvl i r cc := (b13 m c t i r cc).trans (lvls_at m c i r cc)
end Cert.Mix
end
-- ==== Proof.Proof.MixRunA.lean ====
module
public import proofs.«01_k».proof.Proof.Proof.MixEnv

@[expose] public section
noncomputable section

namespace Cert.KernelIdeal.Mix
open Idealize.ShloMosaic Idealize.SL.Sem Cert.KernelIdeal.Gen

section
variable {F : FTy → Type} [FloatOps F] [Named F] [∀ e, Nonempty (Elt F e)]
variable (c : Dev nD) (i : grid0.Coords) (arg1 : Memref sig .tc .vmem S4x128x1024 .f32) (harg1 : arg1.IsWhole) (arg2 : Memref sig .tc .vmem S4x6x1024 .f32) (harg2 : arg2.IsWhole) (arg3 : Memref sig .tc .vmem S1x1024 .f32) (harg3 : arg3.IsWhole) (arg4 : Memref sig .tc .vmem S1024x3592 .bf16) (harg4 : arg4.IsWhole) (arg5 : Memref sig .tc .vmem S4x1536 .f32) (harg5 : arg5.IsWhole) (arg6 : Memref sig .tc .vmem S3x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .bf16) (harg13 : arg13.IsWhole) (arg14 : Memref sig .tc .vmem S6x128x128 .bf16) (harg14 : arg14.IsWhole) (arg15 : Memref sig .tc .vmem S16x2816 .f32) (harg15 : arg15.IsWhole) (arg16 : Memref sig .tc .vmem S16x2816 .f32) (harg16 : arg16.IsWhole) (arg17 : Memref sig .tc .vmem S176x1024 .f32) (harg17 : arg17.IsWhole) (arg18 : Memref sig .tc .vmem S4x128x1024 .f32) (harg18 : arg18.IsWhole) (arg19 : Memref sig .tc .vmem S16x2816 .bf16) (harg19 : arg19.IsWhole) (arg20 : Memref sig .tc .vmem S16x2816 .bf16) (harg20 : arg20.IsWhole) (arg21 : Memref sig .tc .vmem S176x1024 .bf16) (harg21 : arg21.IsWhole) (arg22 : Memref sig .tc .vmem S12x136x512 .f32) (harg22 : arg22.IsWhole) (arg23 : Memref sig .tc .vmem S4x136x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x1024 .bf16) (harg26 : arg26.IsWhole) (arg27 : Memref sig .tc .vmem S1024x1536 .bf16) (harg27 : arg27.IsWhole) (arg28 : Memref sig .tc .vmem S1024x128 .bf16) (harg28 : arg28.IsWhole) (arg29 : Memref sig .tc .vmem S16x128x128 .f32) (harg29 : arg29.IsWhole)
  (x0 : Vec F S4x128x1024 .f32) (x1 : Vec F S4x6x1024 .f32) (x2 : Vec F S1x1024 .f32) (x3 : Vec F S1024x3592 .bf16) (x4 : Vec F S4x1536 .f32) (x5 : Vec F S3x512 .f32) (x6 : Vec F S1x128 .f32) (x7 : Vec F S1x128 .f32) (x8 : Vec F S1x128 .f32) (x9 : Vec F S1024x1024 .bf16) (x10 : Vec F S128x128 .f32) (x11 : Vec F S128x128 .f32) (x12 : Vec F S128x128 .bf16) (x13 : Vec F S6x128x128 .bf16) (x14 : Vec F S16x2816 .f32) (x15 : Vec F S16x2816 .f32) (x16 : Vec F S176x1024 .f32)
variable (xs0 : Vec F S12x136x512 .f32) (xs1 : Vec F S4x136x512 .f32) (xs5 : Vec F S1024x1536 .bf16) (xs6 : Vec F S1024x128 .bf16) (xs7 : Vec F S16x128x128 .f32)
variable (hc0 : cond0_0 i)

/-- The first step's stores into the projection scratch. -/
theorem runA_s0 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16).2.2.2.2.1
    = qlist (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13) arg22.view arg22.view.junk [⟨Rect.unit ![0, 0, 0] S12x8x512.size (by decide), k0_pay7⟩] 12 := by sl_kernel_rfl

/-- The first step's stores into the short convolution's scratch. -/
theorem runA_s1 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16).2.2.2.2.2.1
    = slist (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13) arg23.view arg23.view.junk [⟨Rect.unit ![0, 0, 0] S4x8x512.size (by decide), k0_pay8⟩] 4 := by sl_kernel_rfl

/-- The first step's stores into the state. -/
theorem runA_s7 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16).2.2.2.2.2.2.2.2.1
    = stlist (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13) (qext (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13) arg22.view arg22.view.junk [⟨Rect.unit ![0, 0, 0] S12x8x512.size (by decide), k0_pay7⟩]) ++ [⟨Rect.unit ![0, 0, 0] S16x128x128.size (by decide), k0_pay9⟩] := by sl_kernel_rfl

/-- The first step's stores into the result. -/
theorem runA_o : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16).1
    = olist (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13) arg24.view arg25.view arg26.view (qext (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13) arg22.view arg22.view.junk [⟨Rect.unit ![0, 0, 0] S12x8x512.size (by decide), k0_pay7⟩]) (sext (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13) arg23.view arg23.view.junk [⟨Rect.unit ![0, 0, 0] S4x8x512.size (by decide), k0_pay8⟩]) := by sl_kernel_rfl
end
end Cert.KernelIdeal.Mix
end
end
-- ==== Proof.Proof.MixRunB.lean ====
module
public import proofs.«01_k».proof.Proof.Proof.MixEnv

@[expose] public section
noncomputable section

namespace Cert.KernelIdeal.Mix
open Idealize.ShloMosaic Idealize.SL.Sem Cert.KernelIdeal.Gen

section
variable {F : FTy → Type} [FloatOps F] [Named F] [∀ e, Nonempty (Elt F e)]
variable (c : Dev nD) (i : grid0.Coords) (arg1 : Memref sig .tc .vmem S4x128x1024 .f32) (harg1 : arg1.IsWhole) (arg2 : Memref sig .tc .vmem S4x6x1024 .f32) (harg2 : arg2.IsWhole) (arg3 : Memref sig .tc .vmem S1x1024 .f32) (harg3 : arg3.IsWhole) (arg4 : Memref sig .tc .vmem S1024x3592 .bf16) (harg4 : arg4.IsWhole) (arg5 : Memref sig .tc .vmem S4x1536 .f32) (harg5 : arg5.IsWhole) (arg6 : Memref sig .tc .vmem S3x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .bf16) (harg13 : arg13.IsWhole) (arg14 : Memref sig .tc .vmem S6x128x128 .bf16) (harg14 : arg14.IsWhole) (arg15 : Memref sig .tc .vmem S16x2816 .f32) (harg15 : arg15.IsWhole) (arg16 : Memref sig .tc .vmem S16x2816 .f32) (harg16 : arg16.IsWhole) (arg17 : Memref sig .tc .vmem S176x1024 .f32) (harg17 : arg17.IsWhole) (arg18 : Memref sig .tc .vmem S4x128x1024 .f32) (harg18 : arg18.IsWhole) (arg19 : Memref sig .tc .vmem S16x2816 .bf16) (harg19 : arg19.IsWhole) (arg20 : Memref sig .tc .vmem S16x2816 .bf16) (harg20 : arg20.IsWhole) (arg21 : Memref sig .tc .vmem S176x1024 .bf16) (harg21 : arg21.IsWhole) (arg22 : Memref sig .tc .vmem S12x136x512 .f32) (harg22 : arg22.IsWhole) (arg23 : Memref sig .tc .vmem S4x136x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x1024 .bf16) (harg26 : arg26.IsWhole) (arg27 : Memref sig .tc .vmem S1024x1536 .bf16) (harg27 : arg27.IsWhole) (arg28 : Memref sig .tc .vmem S1024x128 .bf16) (harg28 : arg28.IsWhole) (arg29 : Memref sig .tc .vmem S16x128x128 .f32) (harg29 : arg29.IsWhole)
  (x0 : Vec F S4x128x1024 .f32) (x1 : Vec F S4x6x1024 .f32) (x2 : Vec F S1x1024 .f32) (x3 : Vec F S1024x3592 .bf16) (x4 : Vec F S4x1536 .f32) (x5 : Vec F S3x512 .f32) (x6 : Vec F S1x128 .f32) (x7 : Vec F S1x128 .f32) (x8 : Vec F S1x128 .f32) (x9 : Vec F S1024x1024 .bf16) (x10 : Vec F S128x128 .f32) (x11 : Vec F S128x128 .f32) (x12 : Vec F S128x128 .bf16) (x13 : Vec F S6x128x128 .bf16) (x14 : Vec F S16x2816 .f32) (x15 : Vec F S16x2816 .f32) (x16 : Vec F S176x1024 .f32)
variable (xs0 : Vec F S12x136x512 .f32) (xs1 : Vec F S4x136x512 .f32) (xs5 : Vec F S1024x1536 .bf16) (xs6 : Vec F S1024x128 .bf16) (xs7 : Vec F S16x128x128 .f32)
variable (hc0 : ¬cond0_0 i)

/-- A later step's stores into the projection scratch. -/
theorem runB_s0 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7).2.2.2.2.1
    = qlist (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7) arg22.view (harg22.unread xs0) [] 12 := by sl_kernel_rfl

/-- A later step's stores into the short convolution's scratch. -/
theorem runB_s1 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7).2.2.2.2.2.1
    = slist (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7) arg23.view (harg23.unread xs1) [] 4 := by sl_kernel_rfl

/-- A later step's stores into the state. -/
theorem runB_s7 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7).2.2.2.2.2.2.2.2.1
    = stlist (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7) (qext (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7) arg22.view (harg22.unread xs0) []) := by sl_kernel_rfl

/-- A later step's stores into the result. -/
theorem runB_o : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7).1
    = olist (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7) arg24.view arg25.view arg26.view (qext (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7) arg22.view (harg22.unread xs0) []) (sext (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7) arg23.view (harg23.unread xs1) []) := by sl_kernel_rfl
end
end Cert.KernelIdeal.Mix
end
end
-- ==== Proof.Proof.MixNext.lean ====
module
public import proofs.«01_k».proof.Proof.Proof.MixGrid
public import proofs.«01_k».proof.Proof.Proof.MixRunA
public import proofs.«01_k».proof.Proof.Proof.MixRunB
public import proofs.«01_k».proof.Proof.Gen.KernelIdeal.Frame
public import Idealize.ShloMosaic.Lib.Pointwise
public import Idealize.ShloMosaic.Lib.Tactic

@[expose] public section
set_option maxRecDepth 16384
noncomputable section
namespace Cert.Mix
open Idealize.ShloMosaic Idealize.SL.Sem Cert.KernelIdeal Cert.KernelIdeal.Gen Cert.KernelIdeal.Mix

/-- A box read back from one store of a whole buffer reads the stored vector. -/
theorem cov_whole {κ : Kind} {sp : Space} {s : Shape} {e : EltTy} (v : View sig κ sp s e) (X : Vec Ideal s e) (off : Fin s.rank → ℕ) (hin : ∀ a, off a + s.size a ≤ s.size a)
    (B : LoadRect s) (x : B.shape.Idx) (j : s.Idx) (h0 : ∀ a, off a = 0) (hj : B.idx x = j) :
    v.readCov (Val := Elt Ideal) [⟨Rect.unit off s.size hin, X⟩] B x = X j := by
  rw [View.readCov_eq_canon']
  have h := View.canon_cons_emb (Val := Elt Ideal) (e := e) (Rect.unit off s.size hin) X [] j
  have e1 : B.idx x = (Rect.unit off s.size hin).emb j := by
    rw [hj]; funext a
    exact Fin.ext (show (j a).val = off a + 1 * (j a).val by rw [h0 a]; omega)
  show View.canon _ _ = _
  rw [e1, h]

theorem pay7_at (m : Fin 12) (i : Fin 8) (c : Fin 512) : (k0_pay7 (F := Ideal)) (ix3 m i c) = 0 := by pointwise [k0_pay7]
theorem pay8_at (m : Fin 4) (i : Fin 8) (c : Fin 512) : (k0_pay8 (F := Ideal)) (ix3 m i c) = 0 := by pointwise [k0_pay8]
theorem pay9_at (m : Fin 16) (i c : Fin 128) : (k0_pay9 (F := Ideal)) (ix3 m i c) = 0 := by pointwise [k0_pay9]
theorem pay2_at (x : Vec Ideal S16x2816 .f32) (r : Fin 16) (k : Fin 2816) : k0_pay2 x (ix2 r k) = x (ix2 r k) := by pointwise [k0_pay2]
theorem pay3_at (x : Vec Ideal S16x2816 .f32) (r : Fin 16) (k : Fin 2816) : k0_pay3 x (ix2 r k) = x (ix2 r k) := by pointwise [k0_pay3]
theorem pay4_at (x : Vec Ideal S176x1024 .f32) (r : Fin 176) (k : Fin 1024) : k0_pay4 x (ix2 r k) = x (ix2 r k) := by pointwise [k0_pay4]
theorem pay5_at (x : Vec Ideal S1024x1536 .bf16) (k : Fin 1024) (c : Fin 1536) : k0_pay5 x (ix2 k c) = x (ix2 k c) := by pointwise [k0_pay5]
theorem pay6_at (x : Vec Ideal S1024x128 .bf16) (k : Fin 1024) (c : Fin 128) (hc : c.val < 8) : k0_pay6 x (ix2 k c) = x (ix2 k c) := by
  have h : ∀ c : Fin 8, IntOp.cmpi .slt (BitVec.ofNat 32 c.val) 8#32 = 1#1 := by decide +kernel
  pointwise [k0_pay6]
  rw [h ⟨c.val, hc⟩]; rfl

section
variable (c : Dev nD) (i : grid0.Coords) (arg1 : Memref sig .tc .vmem S4x128x1024 .f32) (harg1 : arg1.IsWhole) (arg2 : Memref sig .tc .vmem S4x6x1024 .f32) (harg2 : arg2.IsWhole) (arg3 : Memref sig .tc .vmem S1x1024 .f32) (harg3 : arg3.IsWhole) (arg4 : Memref sig .tc .vmem S1024x3592 .bf16) (harg4 : arg4.IsWhole) (arg5 : Memref sig .tc .vmem S4x1536 .f32) (harg5 : arg5.IsWhole) (arg6 : Memref sig .tc .vmem S3x512 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1024x1024 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .bf16) (harg13 : arg13.IsWhole) (arg14 : Memref sig .tc .vmem S6x128x128 .bf16) (harg14 : arg14.IsWhole) (arg15 : Memref sig .tc .vmem S16x2816 .f32) (harg15 : arg15.IsWhole) (arg16 : Memref sig .tc .vmem S16x2816 .f32) (harg16 : arg16.IsWhole) (arg17 : Memref sig .tc .vmem S176x1024 .f32) (harg17 : arg17.IsWhole) (arg18 : Memref sig .tc .vmem S4x128x1024 .f32) (harg18 : arg18.IsWhole) (arg19 : Memref sig .tc .vmem S16x2816 .bf16) (harg19 : arg19.IsWhole) (arg20 : Memref sig .tc .vmem S16x2816 .bf16) (harg20 : arg20.IsWhole) (arg21 : Memref sig .tc .vmem S176x1024 .bf16) (harg21 : arg21.IsWhole) (arg22 : Memref sig .tc .vmem S12x136x512 .f32) (harg22 : arg22.IsWhole) (arg23 : Memref sig .tc .vmem S4x136x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x1024 .bf16) (harg26 : arg26.IsWhole) (arg27 : Memref sig .tc .vmem S1024x1536 .bf16) (harg27 : arg27.IsWhole) (arg28 : Memref sig .tc .vmem S1024x128 .bf16) (harg28 : arg28.IsWhole) (arg29 : Memref sig .tc .vmem S16x128x128 .f32) (harg29 : arg29.IsWhole)
  (x0 : Vec Ideal S4x128x1024 .f32) (x1 : Vec Ideal S4x6x1024 .f32) (x2 : Vec Ideal S1x1024 .f32) (x3 : Vec Ideal S1024x3592 .bf16) (x4 : Vec Ideal S4x1536 .f32) (x5 : Vec Ideal S3x512 .f32) (x6 : Vec Ideal S1x128 .f32) (x7 : Vec Ideal S1x128 .f32) (x8 : Vec Ideal S1x128 .f32) (x9 : Vec Ideal S1024x1024 .bf16) (x10 : Vec Ideal S128x128 .f32) (x11 : Vec Ideal S128x128 .f32) (x12 : Vec Ideal S128x128 .bf16) (x13 : Vec Ideal S6x128x128 .bf16) (x14 : Vec Ideal S16x2816 .f32) (x15 : Vec Ideal S16x2816 .f32) (x16 : Vec Ideal S176x1024 .f32)

variable (xs0 : Vec Ideal S12x136x512 .f32) (xs1 : Vec Ideal S4x136x512 .f32) (xs5 : Vec Ideal S1024x1536 .bf16) (xs6 : Vec Ideal S1024x128 .bf16) (xs7 : Vec Ideal S16x128x128 .f32)

/-- The first step keeps the short convolution's weights. -/
theorem runA_s5 (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16).2.2.2.2.2.2.1 = [⟨Rect.unit ![0, 0] S1024x1536.size (by decide), k0_pay5 (rd arg4 harg4 x3 ![0, 2056] S1024x1536.size (by decide))⟩] := by sl_kernel_rfl
/-- The first step keeps the gates' weights. -/
theorem runA_s6 (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16).2.2.2.2.2.2.2.1 = [⟨Rect.unit ![0, 0] S1024x128.size (by decide), k0_pay6 (rd arg4 harg4 x3 ![0, 2048] S1024x128.size (by decide))⟩] := by sl_kernel_rfl
/-- A step stores the narrowed rows of a weight. -/
theorem runA_w0 (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16).2.1 = [⟨Rect.unit ![0, 0] S16x2816.size (by decide), k0_pay2 (rd arg15 harg15 x14 ![0, 0] S16x2816.size (by decide))⟩] := by sl_kernel_rfl
/-- A step stores the narrowed rows of a weight. -/
theorem runA_w1 (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16).2.2.1 = [⟨Rect.unit ![0, 0] S16x2816.size (by decide), k0_pay3 (rd arg16 harg16 x15 ![0, 0] S16x2816.size (by decide))⟩] := by sl_kernel_rfl
/-- A step stores the narrowed rows of a weight. -/
theorem runA_w2 (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16).2.2.2.1 = [⟨Rect.unit ![0, 0] S176x1024.size (by decide), k0_pay4 (rd arg17 harg17 x16 ![0, 0] S176x1024.size (by decide))⟩] := by sl_kernel_rfl
/-- A step stores the narrowed rows of a weight. -/
theorem runB_w0 (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7).2.1 = [⟨Rect.unit ![0, 0] S16x2816.size (by decide), k0_pay2 (rd arg15 harg15 x14 ![0, 0] S16x2816.size (by decide))⟩] := by sl_kernel_rfl
/-- A step stores the narrowed rows of a weight. -/
theorem runB_w1 (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7).2.2.1 = [⟨Rect.unit ![0, 0] S16x2816.size (by decide), k0_pay3 (rd arg16 harg16 x15 ![0, 0] S16x2816.size (by decide))⟩] := by sl_kernel_rfl
/-- A step stores the narrowed rows of a weight. -/
theorem runB_w2 (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7).2.2.2.1 = [⟨Rect.unit ![0, 0] S176x1024.size (by decide), k0_pay4 (rd arg17 harg17 x16 ![0, 0] S176x1024.size (by decide))⟩] := by sl_kernel_rfl

/-- The first step reads what the mathematics says. -/
theorem at_A {p : Par} (I : In p 0 x0 x1 x2 x3 x4 x5 x6 x7 x8 x9 x10 x11 x12 x13) (hm : (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13).mask = ⊥) :
    At (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13) (qext (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13) arg22.view arg22.view.junk [⟨Rect.unit ![0, 0, 0] S12x8x512.size (by decide), k0_pay7 (F := Ideal)⟩]) (sext (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13) arg23.view arg23.view.junk [⟨Rect.unit ![0, 0, 0] S4x8x512.size (by decide), k0_pay8 (F := Ideal)⟩]) p 0 := by
  refine at_of_lf _ _ _ _ _ _ (lf_env arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 I _ _ _ ?_ ?_ ?_ hm) ?_ ?_
  · intro j k c
    refine (cov_whole _ _ _ _ _ _ (ix2 k ⟨512 * j + c, by omega⟩) (by intro a; fin_cases a <;> rfl) ?_).trans ?_
    · funext a
      match a with
      | ⟨0, _⟩ => exact Fin.ext (show 0 + 1 * k.val = k.val by omega)
      | ⟨1, _⟩ => exact Fin.ext (show 512 * j.val + 1 * c.val = 512 * j.val + c.val by omega)
    · rw [pay5_at]
      refine (rd_at _ _ _ _ _ _ _ (ix2 k ⟨2056 + (512 * j + c), by omega⟩) (by intro a; fin_cases a <;> simp)).trans ((I.w k _).trans ?_)
      simp only [Nat.add_assoc]
  · intro k c hc
    refine (cov_whole _ _ _ _ _ _ (ix2 k c) (by intro a; fin_cases a <;> rfl) ?_).trans ?_
    · funext a
      match a with
      | ⟨0, _⟩ => exact Fin.ext (show 0 + 1 * k.val = k.val by omega)
      | ⟨1, _⟩ => exact Fin.ext (show 0 + 1 * c.val = c.val by omega)
    · rw [pay6_at _ _ _ hc]
      exact (rd_at _ _ _ _ _ _ _ (ix2 k ⟨2048 + c, by omega⟩) (by intro a; fin_cases a <;> simp)).trans (I.w k _)
  · intro b hd d e
    refine (cov_whole _ _ _ _ _ _ (ix3 ⟨4 * b + hd, by omega⟩ d e) (by intro a; fin_cases a <;> rfl) ?_).trans (pay9_at _ _ _)
    funext a
    match a with
    | ⟨0, _⟩ => exact Fin.ext (show 4 * b.val + hd.val + 1 * 0 = 4 * b.val + hd.val by omega)
    | ⟨1, _⟩ => exact Fin.ext (show 0 + 1 * d.val = d.val by omega)
    | ⟨2, _⟩ => exact Fin.ext (show 0 + 1 * e.val = e.val by omega)
  · intro m i c hi
    rw [View.read_writes_cons_hit_of_coords _ _ _ _ _ (ix3 m ⟨i, hi⟩ c : S12x8x512.Idx) (ix3 m i c : S12x136x512.Idx) (by intro a; fin_cases a <;> simp), pay7_at]
    unfold Par.Pz; rw [if_pos (by omega)]
  · intro m i c hi
    rw [View.read_writes_cons_hit_of_coords _ _ _ _ _ (ix3 m ⟨i, hi⟩ c : S4x8x512.Idx) (ix3 m i c : S4x136x512.Idx) (by intro a; fin_cases a <;> simp), pay8_at]
    unfold Par.sz; rw [if_pos (by omega)]

/-- A later step's result rows. -/
theorem out_B (hc0 : ¬cond0_0 i) {p : Par} {s : ℕ} (I : In p s x0 x1 x2 x3 x4 x5 x6 x7 x8 x9 x10 x11 x12 x13) (C : Sc p s xs0 xs1 xs5 xs6 xs7) (hm : (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7).mask = ⊥)
    (b : U) (r : Fin 128) (k : Fin 1024) : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7 (ix3 b r k) = p.out b (128 * s + r) k := by
  unfold out0_B_17
  rw [runB_o, olist_at]
  exact (at_B arg1 harg1 arg2 harg2 arg3 harg3 arg4 harg4 arg5 harg5 arg6 harg6 arg7 harg7 arg8 harg8 arg9 harg9 arg10 harg10 arg11 harg11 arg12 harg12 arg13 harg13 arg14 harg14 arg22 harg22 arg23 harg23 arg27 harg27 arg28 harg28 arg29 harg29 x0 x1 x2 x3 x4 x5 x6 x7 x8 x9 x10 x11 x12 x13 xs0 xs1 xs5 xs6 xs7 I C hm).outb _ _ _ b r k

/-- A later step leaves the scratch of the next. -/
theorem next_B (hc0 : ¬cond0_0 i) {p : Par} {s : ℕ} (I : In p s x0 x1 x2 x3 x4 x5 x6 x7 x8 x9 x10 x11 x12 x13) (C : Sc p s xs0 xs1 xs5 xs6 xs7) (hm : (envB arg1 harg1 arg2 harg2 arg3 harg3 arg4 harg4 arg5 harg5 arg6 harg6 arg7 harg7 arg8 harg8 arg9 harg9 arg10 harg10 arg11 harg11 arg12 harg12 arg13 harg13 arg14 harg14 arg27 harg27 arg28 harg28 arg29 harg29 x0 x1 x2 x3 x4 x5 x6 x7 x8 x9 x10 x11 x12 x13 xs5 xs6 xs7).mask = ⊥) :
    Sc p (s + 1) (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7) (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7) (sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7) (sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7) (sout0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7) where
  q m i c hi := by
    unfold sout0_B_0; rw [runB_s0]
    exact tail22 _ _ _ _ _ _ _ _ (at_B arg1 harg1 arg2 harg2 arg3 harg3 arg4 harg4 arg5 harg5 arg6 harg6 arg7 harg7 arg8 harg8 arg9 harg9 arg10 harg10 arg11 harg11 arg12 harg12 arg13 harg13 arg14 harg14 arg22 harg22 arg23 harg23 arg27 harg27 arg28 harg28 arg29 harg29 x0 x1 x2 x3 x4 x5 x6 x7 x8 x9 x10 x11 x12 x13 xs0 xs1 xs5 xs6 xs7 I C hm) m i c hi
  sc m i c hi := by
    unfold sout0_B_1; rw [runB_s1]
    exact tail23 _ _ _ _ _ _ _ _ (at_B arg1 harg1 arg2 harg2 arg3 harg3 arg4 harg4 arg5 harg5 arg6 harg6 arg7 harg7 arg8 harg8 arg9 harg9 arg10 harg10 arg11 harg11 arg12 harg12 arg13 harg13 arg14 harg14 arg22 harg22 arg23 harg23 arg27 harg27 arg28 harg28 arg29 harg29 x0 x1 x2 x3 x4 x5 x6 x7 x8 x9 x10 x11 x12 x13 xs0 xs1 xs5 xs6 xs7 I C hm) m i c hi
  wsc := C.wsc
  wab := C.wab
  st u d e := by
    unfold sout0_B_7; rw [runB_s7, ← List.append_nil (stlist _ _), stlist_at]
    exact (at_B arg1 harg1 arg2 harg2 arg3 harg3 arg4 harg4 arg5 harg5 arg6 harg6 arg7 harg7 arg8 harg8 arg9 harg9 arg10 harg10 arg11 harg11 arg12 harg12 arg13 harg13 arg14 harg14 arg22 harg22 arg23 harg23 arg27 harg27 arg28 harg28 arg29 harg29 x0 x1 x2 x3 x4 x5 x6 x7 x8 x9 x10 x11 x12 x13 xs0 xs1 xs5 xs6 xs7 I C hm).s2 _ _ d e

/-- The first step's result rows. -/
theorem out_A (hc0 : cond0_0 i) {p : Par} (I : In p 0 x0 x1 x2 x3 x4 x5 x6 x7 x8 x9 x10 x11 x12 x13) (hm : (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13).mask = ⊥)
    (b : U) (r : Fin 128) (k : Fin 1024) : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 (ix3 b r k) = p.out b (128 * 0 + r) k := by
  unfold out0_A_17
  rw [runA_o, olist_at]
  exact (at_A arg1 harg1 arg2 harg2 arg3 harg3 arg4 harg4 arg5 harg5 arg6 harg6 arg7 harg7 arg8 harg8 arg9 harg9 arg10 harg10 arg11 harg11 arg12 harg12 arg13 harg13 arg14 harg14 arg22 arg23 arg27 arg28 arg29 x0 x1 x2 x3 x4 x5 x6 x7 x8 x9 x10 x11 x12 x13 I hm).outb _ _ _ b r k

/-- The first step leaves the scratch of the next. -/
theorem next_A (hc0 : cond0_0 i) {p : Par} (I : In p 0 x0 x1 x2 x3 x4 x5 x6 x7 x8 x9 x10 x11 x12 x13) (hm : (envA arg1 harg1 arg2 harg2 arg3 harg3 arg4 harg4 arg5 harg5 arg6 harg6 arg7 harg7 arg8 harg8 arg9 harg9 arg10 harg10 arg11 harg11 arg12 harg12 arg13 harg13 arg14 harg14 arg27 arg28 arg29 x0 x1 x2 x3 x4 x5 x6 x7 x8 x9 x10 x11 x12 x13).mask = ⊥) :
    Sc p (0 + 1) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16) (sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16) (sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16) (sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16) where
  q m i c hi := by
    unfold sout0_A_0; rw [runA_s0]
    exact tail22 _ _ _ _ _ _ _ _ (at_A arg1 harg1 arg2 harg2 arg3 harg3 arg4 harg4 arg5 harg5 arg6 harg6 arg7 harg7 arg8 harg8 arg9 harg9 arg10 harg10 arg11 harg11 arg12 harg12 arg13 harg13 arg14 harg14 arg22 arg23 arg27 arg28 arg29 x0 x1 x2 x3 x4 x5 x6 x7 x8 x9 x10 x11 x12 x13 I hm) m i c hi
  sc m i c hi := by
    unfold sout0_A_1; rw [runA_s1]
    exact tail23 _ _ _ _ _ _ _ _ (at_A arg1 harg1 arg2 harg2 arg3 harg3 arg4 harg4 arg5 harg5 arg6 harg6 arg7 harg7 arg8 harg8 arg9 harg9 arg10 harg10 arg11 harg11 arg12 harg12 arg13 harg13 arg14 harg14 arg22 arg23 arg27 arg28 arg29 x0 x1 x2 x3 x4 x5 x6 x7 x8 x9 x10 x11 x12 x13 I hm) m i c hi
  wsc k cc := by
    unfold sout0_A_5
    rw [runA_s5, View.read_writes_cons_hit_of_coords _ _ _ _ _ (ix2 k cc : S1024x1536.Idx) (ix2 k cc : S1024x1536.Idx) (by intro a; fin_cases a <;> simp), pay5_at]
    exact (rd_at _ _ _ _ _ _ _ (ix2 k ⟨2056 + cc, by omega⟩) (by intro a; fin_cases a <;> simp)).trans (I.w k _)
  wab k cc hcc := by
    unfold sout0_A_6
    rw [runA_s6, View.read_writes_cons_hit_of_coords _ _ _ _ _ (ix2 k cc : S1024x128.Idx) (ix2 k cc : S1024x128.Idx) (by intro a; fin_cases a <;> simp), pay6_at _ _ _ hcc]
    exact (rd_at _ _ _ _ _ _ _ (ix2 k ⟨2048 + cc, by omega⟩) (by intro a; fin_cases a <;> simp)).trans (I.w k _)
  st u d e := by
    unfold sout0_A_7; rw [runA_s7, stlist_at]
    exact (at_A arg1 harg1 arg2 harg2 arg3 harg3 arg4 harg4 arg5 harg5 arg6 harg6 arg7 harg7 arg8 harg8 arg9 harg9 arg10 harg10 arg11 harg11 arg12 harg12 arg13 harg13 arg14 harg14 arg22 arg23 arg27 arg28 arg29 x0 x1 x2 x3 x4 x5 x6 x7 x8 x9 x10 x11 x12 x13 I hm).s2 _ _ d e

/-- The narrowed rows are the rows. -/
theorem wA_0 (hc0 : cond0_0 i) (r : Fin 16) (k : Fin 2816) : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 (ix2 r k) = x14 (ix2 r k) := by
  unfold out0_A_18
  rw [runA_w0, View.read_writes_cons_hit_of_coords _ _ _ _ _ (ix2 r k : S16x2816.Idx) (ix2 r k : S16x2816.Idx) (by intro a; fin_cases a <;> simp), pay2_at]
  exact rd_at _ _ _ _ _ _ _ (ix2 r k) (by intro a; fin_cases a <;> simp)

/-- The narrowed rows are the rows. -/
theorem wA_1 (hc0 : cond0_0 i) (r : Fin 16) (k : Fin 2816) : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 (ix2 r k) = x15 (ix2 r k) := by
  unfold out0_A_19
  rw [runA_w1, View.read_writes_cons_hit_of_coords _ _ _ _ _ (ix2 r k : S16x2816.Idx) (ix2 r k : S16x2816.Idx) (by intro a; fin_cases a <;> simp), pay3_at]
  exact rd_at _ _ _ _ _ _ _ (ix2 r k) (by intro a; fin_cases a <;> simp)

/-- The narrowed rows are the rows. -/
theorem wA_2 (hc0 : cond0_0 i) (r : Fin 176) (k : Fin 1024) : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 (ix2 r k) = x16 (ix2 r k) := by
  unfold out0_A_20
  rw [runA_w2, View.read_writes_cons_hit_of_coords _ _ _ _ _ (ix2 r k : S176x1024.Idx) (ix2 r k : S176x1024.Idx) (by intro a; fin_cases a <;> simp), pay4_at]
  exact rd_at _ _ _ _ _ _ _ (ix2 r k) (by intro a; fin_cases a <;> simp)

/-- The narrowed rows are the rows. -/
theorem wB_0 (hc0 : ¬cond0_0 i) (r : Fin 16) (k : Fin 2816) : out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7 (ix2 r k) = x14 (ix2 r k) := by
  unfold out0_B_18
  rw [runB_w0, View.read_writes_cons_hit_of_coords _ _ _ _ _ (ix2 r k : S16x2816.Idx) (ix2 r k : S16x2816.Idx) (by intro a; fin_cases a <;> simp), pay2_at]
  exact rd_at _ _ _ _ _ _ _ (ix2 r k) (by intro a; fin_cases a <;> simp)

/-- The narrowed rows are the rows. -/
theorem wB_1 (hc0 : ¬cond0_0 i) (r : Fin 16) (k : Fin 2816) : out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7 (ix2 r k) = x15 (ix2 r k) := by
  unfold out0_B_19
  rw [runB_w1, View.read_writes_cons_hit_of_coords _ _ _ _ _ (ix2 r k : S16x2816.Idx) (ix2 r k : S16x2816.Idx) (by intro a; fin_cases a <;> simp), pay3_at]
  exact rd_at _ _ _ _ _ _ _ (ix2 r k) (by intro a; fin_cases a <;> simp)

/-- The narrowed rows are the rows. -/
theorem wB_2 (hc0 : ¬cond0_0 i) (r : Fin 176) (k : Fin 1024) : out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 xs0 xs1 xs5 xs6 xs7 (ix2 r k) = x16 (ix2 r k) := by
  unfold out0_B_20
  rw [runB_w2, View.read_writes_cons_hit_of_coords _ _ _ _ _ (ix2 r k : S176x1024.Idx) (ix2 r k : S176x1024.Idx) (by intro a; fin_cases a <;> simp), pay4_at]
  exact rd_at _ _ _ _ _ _ _ (ix2 r k) (by intro a; fin_cases a <;> simp)
end
end Cert.Mix
end
end
-- ==== Proof.Proof.MixOuts.lean ====
module
public import proofs.«01_k».proof.Proof.Proof.MixInB
public import proofs.«01_k».proof.Proof.Proof.MixNext
@[expose] public section
set_option maxRecDepth 65536
set_option maxHeartbeats 1000000
noncomputable section
namespace Cert.Mix
open Idealize.ShloMosaic Idealize.ShloMosaic.TcCoe Idealize.SL.Sem Cert.KernelIdeal Cert.KernelIdeal.Gen Cert.KernelIdeal.Mix
variable (m : (ℓ : Loc nD τ sig) → Buf (Elt Ideal) ℓ) (c : Dev nD)

/-- The named mask is minus infinity. -/
theorem mask_bot : (Named.named Cert.KernelIdeal.κ "mask" 0xF149F2CA#32 : Ideal .f32) = ⊥ := rfl

variable (t : Fin cfg0.N)
/-- The scratch after the first point. -/
theorem scA (h : t.val = 0) : Sc (kp m c) (t.val + 1) (outsAt0 m c t.val t.isLt).2.2.2.2.1 (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2 := by
  have h0 : t.val % 64 = 0 := by omega
  have I := ins m c t
  rw [h] at I
  rw [outsAt0_A m c t h0, show t.val + 1 = 0 + 1 by omega]
  have K := next_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((hcond0_0 t).mpr h0) I mask_bot
  dsimp only
  exact K
/-- The scratch after a later point. -/
theorem scB (h0 : ¬t.val % 64 = 0) (C : ∀ k hk, k + 1 = t.val → Sc (kp m c) (k + 1) (outsAt0 m c k hk).2.2.2.2.1 (outsAt0 m c k hk).2.2.2.2.2.1 (outsAt0 m c k hk).2.2.2.2.2.2.1 (outsAt0 m c k hk).2.2.2.2.2.2.2.1 (outsAt0 m c k hk).2.2.2.2.2.2.2.2) : Sc (kp m c) (t.val + 1) (outsAt0 m c t.val t.isLt).2.2.2.2.1 (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2 := by
  have C' := C (t.val - 1) (Nat.lt_of_le_of_lt (Nat.sub_le _ _) t.isLt) (by omega)
  rw [show t.val - 1 + 1 = t.val by omega] at C'
  rw [outsAt0_B m c t h0]
  have K := next_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (fun h => h0 ((hcond0_0 t).mp h)) (ins m c t) C' mask_bot
  dsimp only
  exact K
theorem oA (h : t.val = 0) (b : U) (r : Fin 128) (k : Fin 1024) : (outsAt0 m c t.val t.isLt).1 (ix3 b r k) = (kp m c).out b (128 * t.val + r) k := by
  have h0 : t.val % 64 = 0 := by omega
  have I := ins m c t
  rw [h] at I
  rw [outsAt0_A m c t h0, show 128 * t.val + r.val = 128 * 0 + r.val by omega]
  have K := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((hcond0_0 t).mpr h0) I mask_bot b r k
  dsimp only
  exact K
theorem oB (h0 : ¬t.val % 64 = 0) (C : ∀ k hk, k + 1 = t.val → Sc (kp m c) (k + 1) (outsAt0 m c k hk).2.2.2.2.1 (outsAt0 m c k hk).2.2.2.2.2.1 (outsAt0 m c k hk).2.2.2.2.2.2.1 (outsAt0 m c k hk).2.2.2.2.2.2.2.1 (outsAt0 m c k hk).2.2.2.2.2.2.2.2) (b : U) (r : Fin 128) (k : Fin 1024) : (outsAt0 m c t.val t.isLt).1 (ix3 b r k) = (kp m c).out b (128 * t.val + r) k := by
  have C' := C (t.val - 1) (Nat.lt_of_le_of_lt (Nat.sub_le _ _) t.isLt) (by omega)
  rw [show t.val - 1 + 1 = t.val by omega] at C'
  rw [outsAt0_B m c t h0]
  have K := out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (fun h => h0 ((hcond0_0 t).mp h)) (ins m c t) C' mask_bot b r k
  dsimp only
  exact K
/-- After every point the scratch is that of the mathematics at the next step. -/
theorem scr : ∀ (n : ℕ) (hn : n < cfg0.N), Sc (kp m c) (n + 1) (outsAt0 m c n hn).2.2.2.2.1 (outsAt0 m c n hn).2.2.2.2.2.1 (outsAt0 m c n hn).2.2.2.2.2.2.1 (outsAt0 m c n hn).2.2.2.2.2.2.2.1 (outsAt0 m c n hn).2.2.2.2.2.2.2.2 := by
  intro n
  induction n with
  | zero => intro hn; exact scA m c ⟨0, hn⟩ rfl
  | succ n ih =>
    intro hn
    have h0 : ¬(n + 1) % 64 = 0 := by have := lt_of_lt_of_eq hn (show cfg0.N = 64 from N_0); omega
    exact scB m c ⟨n + 1, hn⟩ h0 (fun k hk e => by have e' : k = n := Nat.succ.inj e; subst e'; exact ih hk)
/-- What a point leaves in the result's block. -/
theorem o17 (b : U) (r : Fin 128) (k : Fin 1024) : (outsAt0 m c t.val t.isLt).1 (ix3 b r k) = (kp m c).out b (128 * t.val + r) k := by
  by_cases h : t.val = 0
  · exact oA m c t h b r k
  · exact oB m c t (by have := lt_of_lt_of_eq t.isLt (show cfg0.N = 64 from N_0); omega) (fun k hk _ => scr m c k hk) b r k
end Cert.Mix
end
-- ==== Proof.Proof.MixOutW.lean ====
module
public import proofs.«01_k».proof.Proof.Proof.MixIn
public import proofs.«01_k».proof.Proof.Proof.MixNext
@[expose] public section
set_option maxRecDepth 65536
set_option maxHeartbeats 1000000
noncomputable section
namespace Cert.Mix
open Idealize.ShloMosaic Idealize.ShloMosaic.TcCoe Idealize.SL.Sem Cert.KernelIdeal Cert.KernelIdeal.Gen Cert.KernelIdeal.Mix
variable (m : (ℓ : Loc nD τ sig) → Buf (Elt Ideal) ℓ) (c : Dev nD)

/-- What a point leaves in a narrowed weight's block. -/
theorem o18 (t : Fin cfg0.N) (r : Fin 16) (k : Fin 2816) : (outsAt0 m c t.val t.isLt).2.1 (ix2 r k) = (iblk m c 14 t : Vec Ideal S16x2816 .f32) (ix2 r k) := by
  by_cases h0 : t.val % 64 = 0
  · have K := wA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((hcond0_0 t).mpr h0) r k
    have E := congrArg (fun z => z.2.1 (ix2 r k)) (outsAt0_A m c t h0)
    beta_reduce at E
    dsimp only at E
    rw [E]
    rw [K]
  · have K := wB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (fun h => h0 ((hcond0_0 t).mp h)) r k
    have E := congrArg (fun z => z.2.1 (ix2 r k)) (outsAt0_B m c t h0)
    beta_reduce at E
    dsimp only at E
    rw [E]
    rw [K]
/-- What a point leaves in a narrowed weight's block. -/
theorem o19 (t : Fin cfg0.N) (r : Fin 16) (k : Fin 2816) : (outsAt0 m c t.val t.isLt).2.2.1 (ix2 r k) = (iblk m c 15 t : Vec Ideal S16x2816 .f32) (ix2 r k) := by
  by_cases h0 : t.val % 64 = 0
  · have K := wA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((hcond0_0 t).mpr h0) r k
    have E := congrArg (fun z => z.2.2.1 (ix2 r k)) (outsAt0_A m c t h0)
    beta_reduce at E
    dsimp only at E
    rw [E]
    rw [K]
  · have K := wB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (fun h => h0 ((hcond0_0 t).mp h)) r k
    have E := congrArg (fun z => z.2.2.1 (ix2 r k)) (outsAt0_B m c t h0)
    beta_reduce at E
    dsimp only at E
    rw [E]
    rw [K]
/-- What a point leaves in a narrowed weight's block. -/
theorem o20 (t : Fin cfg0.N) (r : Fin 176) (k : Fin 1024) : (outsAt0 m c t.val t.isLt).2.2.2.1 (ix2 r k) = (iblk m c 16 t : Vec Ideal S176x1024 .f32) (ix2 r k) := by
  by_cases h0 : t.val % 64 = 0
  · have K := wA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ((hcond0_0 t).mpr h0) r k
    have E := congrArg (fun z => z.2.2.2.1 (ix2 r k)) (outsAt0_A m c t h0)
    beta_reduce at E
    dsimp only at E
    rw [E]
    rw [K]
  · have K := wB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (fun h => h0 ((hcond0_0 t).mp h)) r k
    have E := congrArg (fun z => z.2.2.2.1 (ix2 r k)) (outsAt0_B m c t h0)
    beta_reduce at E
    dsimp only at E
    rw [E]
    rw [K]
end Cert.Mix
end
-- ==== Proof.Proof.MixFinA.lean ====
module
public import proofs.«01_k».proof.Proof.Proof.MixOuts
public import proofs.«01_k».proof.Proof.Proof.MixOutW
public import proofs.«01_k».proof.Proof.Gen.KernelIdeal.Value
public import Idealize.ShloMosaic.Lib.Pipeline.ValueKit
public import proofs.«01_k».proof.Proof.Proof.MixNext
@[expose] public section
set_option maxRecDepth 65536
set_option maxHeartbeats 1000000
noncomputable section
namespace Cert.Mix
open Idealize.ShloMosaic Idealize.ShloMosaic.TcCoe Idealize.SL.Sem Cert.KernelIdeal Cert.KernelIdeal.Gen Cert.KernelIdeal.Mix
variable (m : (ℓ : Loc nD τ sig) → Buf (Elt Ideal) ℓ) (c : Dev nD)

/-- The result array as the mathematics. -/
theorem fin17 : (dats m 0 c).arrAt 17 cfg0.N = (fun x : S4x8192x1024.Idx => (kp m c).out (x 0) (x 1).val (x 2) : FVec Ideal S4x8192x1024 .f32) := by
  refine (dats m 0 c).arrAt_eq_of_covers 17 _ (by decide +kernel) fun t _ y => ?_
  rw [after0_17]
  obtain ⟨b, r, k, rfl⟩ : ∃ (b : U) (r : Fin 128) (k : Fin 1024), y = ix3 b r k := ⟨y 0, y 1, y 2, eq_ix3 y⟩
  refine (o17 m c t b r k).trans ?_
  have e0 : ((win0_17.blk t).view.emb (ix3 b r k) 0 : Fin 4) = b := Fin.ext (by blk_simp [idx t])
  have e1 : ((win0_17.blk t).view.emb (ix3 b r k) 1 : Fin 8192).val = 128 * t.val + r.val := by blk_simp [idx t]; omega
  have e2 : ((win0_17.blk t).view.emb (ix3 b r k) 2 : Fin 1024) = k := Fin.ext (by blk_simp [idx t])
  show _ = (kp m c).out ((win0_17.blk t).view.emb (ix3 b r k) 0 : Fin 4) ((win0_17.blk t).view.emb (ix3 b r k) 1 : Fin 8192).val ((win0_17.blk t).view.emb (ix3 b r k) 2 : Fin 1024)
  rw [e0, e1, e2]
end Cert.Mix
end
-- ==== Proof.Proof.MixFinB.lean ====
module
public import proofs.«01_k».proof.Proof.Proof.MixOuts
public import proofs.«01_k».proof.Proof.Proof.MixOutW
public import proofs.«01_k».proof.Proof.Gen.KernelIdeal.Value
public import Idealize.ShloMosaic.Lib.Pipeline.ValueKit
public import proofs.«01_k».proof.Proof.Proof.MixNext
@[expose] public section
set_option maxRecDepth 65536
set_option maxHeartbeats 1000000
noncomputable section
namespace Cert.Mix
open Idealize.ShloMosaic Idealize.ShloMosaic.TcCoe Idealize.SL.Sem Cert.KernelIdeal Cert.KernelIdeal.Gen Cert.KernelIdeal.Mix
variable (m : (ℓ : Loc nD τ sig) → Buf (Elt Ideal) ℓ) (c : Dev nD)

/-- A narrowed weight is the weight. -/
theorem fin18 : (dats m 0 c).arrAt 18 cfg0.N = (V m c main_v8 : FVec Ideal S1024x2816 .f32) := by
  refine (dats m 0 c).arrAt_eq_of_covers 18 _ (by decide +kernel) fun t _ y => ?_
  rw [after0_18]
  obtain ⟨r, k, rfl⟩ : ∃ (r : Fin 16) (k : Fin 2816), y = ix2 r k := ⟨y 0, y 1, eq_ix2 y⟩
  refine (o18 m c t r k).trans ?_
  blk_ext [iblk, idx t]
/-- A narrowed weight is the weight. -/
theorem fin19 : (dats m 0 c).arrAt 19 cfg0.N = (V m c main_v9 : FVec Ideal S1024x2816 .f32) := by
  refine (dats m 0 c).arrAt_eq_of_covers 19 _ (by decide +kernel) fun t _ y => ?_
  rw [after0_19]
  obtain ⟨r, k, rfl⟩ : ∃ (r : Fin 16) (k : Fin 2816), y = ix2 r k := ⟨y 0, y 1, eq_ix2 y⟩
  refine (o19 m c t r k).trans ?_
  blk_ext [iblk, idx t]
end Cert.Mix
end
-- ==== Proof.Proof.MixFinC.lean ====
module
public import proofs.«01_k».proof.Proof.Proof.MixOuts
public import proofs.«01_k».proof.Proof.Proof.MixOutW
public import proofs.«01_k».proof.Proof.Gen.KernelIdeal.Value
public import Idealize.ShloMosaic.Lib.Pipeline.ValueKit
public import proofs.«01_k».proof.Proof.Proof.MixNext
@[expose] public section
set_option maxRecDepth 65536
set_option maxHeartbeats 1000000
noncomputable section
namespace Cert.Mix
open Idealize.ShloMosaic Idealize.ShloMosaic.TcCoe Idealize.SL.Sem Cert.KernelIdeal Cert.KernelIdeal.Gen Cert.KernelIdeal.Mix
variable (m : (ℓ : Loc nD τ sig) → Buf (Elt Ideal) ℓ) (c : Dev nD)

/-- A narrowed weight is the weight. -/
theorem fin20 : (dats m 0 c).arrAt 20 cfg0.N = (V m c main_v10 : FVec Ideal S2816x1024 .f32) := by
  refine (dats m 0 c).arrAt_eq_of_covers 20 _ (by decide +kernel) fun t _ y => ?_
  rw [after0_20]
  obtain ⟨r, k, rfl⟩ : ∃ (r : Fin 176) (k : Fin 1024), y = ix2 r k := ⟨y 0, y 1, eq_ix2 y⟩
  refine (o20 m c t r k).trans ?_
  blk_ext [iblk, idx t]
end Cert.Mix
end
-- ==== Proof.Proof.MixRefRun.lean ====
module
public import proofs.«01_k».proof.Proof.Gen.ReferenceIdeal.Run
public import proofs.«01_k».proof.Proof.Gen.ReferenceIdeal.Step
public import Idealize.ShloMosaic.Lib.Tactic

@[expose] public section
noncomputable section

namespace Cert.ReferenceIdeal.Mix
open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers hold a state, and its counter the trip's number. -/
structure Holds (V : Valuation τ sig (Elt F)) (s : State F) (j : ℕ) : Prop where
  f7 : V (Proc.devRef .tc main_v339_7) = s.main_v339_7
  f8 : V (Proc.devRef .tc main_v339_8) = s.main_v339_8
  f0 : V (Proc.devRef .tc main_v339_0) = s.main_v339_0
  f1 : V (Proc.devRef .tc main_v339_1) = s.main_v339_1
  f2 : V (Proc.devRef .tc main_v339_2) = s.main_v339_2
  f3 : V (Proc.devRef .tc main_v339_3) = s.main_v339_3
  f4 : V (Proc.devRef .tc main_v339_4) = s.main_v339_4
  f5 : V (Proc.devRef .tc main_v339_5) = s.main_v339_5
  n : V (Proc.devRef .tc main_v339_6) = constantI S_ 32 (BitVec.ofNat 32 j)

variable {V : Valuation τ sig (Elt F)} {s : State F} {j : ℕ}

theorem step7 (h : Holds V s j) : step_main_v339_7 V = (step j s).main_v339_7 := by
  unfold step_main_v339_7 res_main_while0b_v504
  simp only [h.n, h.f0, h.f1, h.f2, h.f3, h.f4, h.f5, h.f7]
  sl_kernel_rfl
theorem step8 (h : Holds V s j) : step_main_v339_8 V = (step j s).main_v339_8 := by
  unfold step_main_v339_8 res_main_while0b_v504
  simp only [h.n, h.f0, h.f1, h.f2, h.f3, h.f4, h.f5, h.f7, h.f8]
  sl_kernel_rfl
theorem step6 (h : Holds V s j) : step_main_v339_6 V = constantI S_ 32 (BitVec.ofNat 32 (j + 1)) := by
  unfold step_main_v339_6
  rw [h.n]
  funext i
  show BitVec.ofNat 32 j + 1#32 = BitVec.ofNat 32 (j + 1)
  simp only [BitVec.ofNat_add]

/-- One trip takes a state to the next. -/
theorem Holds.step (h : Holds V s j) : Holds (STEP V) (step j s) (j + 1) where
  f7 := (STEP_main_v339_7 V).trans (step7 h)
  f8 := (STEP_main_v339_8 V).trans (step8 h)
  n := (STEP_main_v339_6 V).trans (step6 h)
  f0 := (STEP_main_v339_0 V).trans h.f0
  f1 := (STEP_main_v339_1 V).trans h.f1
  f2 := (STEP_main_v339_2 V).trans h.f2
  f3 := (STEP_main_v339_3 V).trans h.f3
  f4 := (STEP_main_v339_4 V).trans h.f4
  f5 := (STEP_main_v339_5 V).trans h.f5
/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

section
set_option maxRecDepth 65536
set_option maxHeartbeats 4700000
theorem entry_f7 : entryContents preI m c (Proc.devRef .tc main_v339_7) = (initState m c).main_v339_7 := by
  simp only [entryContents, afterL_cons, afterL_nil]
  after_reads_simp
  sl_kernel_rfl
theorem entry_f8 : entryContents preI m c (Proc.devRef .tc main_v339_8) = (initState m c).main_v339_8 := by
  simp only [entryContents, afterL_cons, afterL_nil]
  after_reads_simp
  sl_kernel_rfl
theorem entry_f0 : entryContents preI m c (Proc.devRef .tc main_v339_0) = (initState m c).main_v339_0 := by
  simp only [entryContents, afterL_cons, afterL_nil]
  after_reads_simp
  sl_kernel_rfl
theorem entry_f3 : entryContents preI m c (Proc.devRef .tc main_v339_3) = (initState m c).main_v339_3 := by
  simp only [entryContents, afterL_cons, afterL_nil]
  after_reads_simp
  sl_kernel_rfl
theorem entry_f4 : entryContents preI m c (Proc.devRef .tc main_v339_4) = (initState m c).main_v339_4 := by
  simp only [entryContents, afterL_cons, afterL_nil]
  after_reads_simp
  sl_kernel_rfl
theorem entry_f5 : entryContents preI m c (Proc.devRef .tc main_v339_5) = (initState m c).main_v339_5 := by
  simp only [entryContents, afterL_cons, afterL_nil]
  after_reads_simp
  sl_kernel_rfl
theorem entry_n : entryContents preI m c (Proc.devRef .tc main_v339_6) = constantI S_ 32 (BitVec.ofNat 32 0) := by
  simp only [entryContents, afterL_cons, afterL_nil]
  after_reads_simp
  sl_kernel_rfl
/-- What the operations before the sweeps leave. -/
def mid (m : (ℓ : Loc nD τ sig) → Buf (Elt F) ℓ) (c : Dev nD) : Valuation τ sig (Elt F) :=
  afterL [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] (launchContents m c)
theorem mid_v176 : mid m c (Proc.devRef .tc main_v176) = Step.A_main_v176 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  simp only [mid, afterL_cons, afterL_nil]
  after_reads_simp
  try simp -implicitDefEqProofs only [StableHlo.TRef.toBuf, StableHlo.TRef.ofBuf, cast_cast, cast_eq]
  sl_kernel_rfl
theorem mid_v162 : mid m c (Proc.devRef .tc main_v162) = Step.A_main_v162 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  simp only [mid, afterL_cons, afterL_nil]
  after_reads_simp
  try simp -implicitDefEqProofs only [StableHlo.TRef.toBuf, StableHlo.TRef.ofBuf, cast_cast, cast_eq]
  sl_kernel_rfl
theorem mid_v159 : mid m c (Proc.devRef .tc main_v159) = Step.A_main_v159 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  simp only [mid, afterL_cons, afterL_nil]
  after_reads_simp
  try simp -implicitDefEqProofs only [StableHlo.TRef.toBuf, StableHlo.TRef.ofBuf, cast_cast, cast_eq]
  sl_kernel_rfl
theorem mid_v156 : mid m c (Proc.devRef .tc main_v156) = Step.A_main_v156 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  simp only [mid, afterL_cons, afterL_nil]
  after_reads_simp
  try simp -implicitDefEqProofs only [StableHlo.TRef.toBuf, StableHlo.TRef.ofBuf, cast_cast, cast_eq]
  sl_kernel_rfl

/-- The sweeps and what they multiply. -/
theorem pre_split : entryContents preI m c = after hostOps0_18 (after hostOps0_17 (after hostOps0_16 (mid m c))) := rfl
theorem entry_f1 : entryContents preI m c (Proc.devRef .tc main_v339_1) = (initState m c).main_v339_1 := by
  rw [pre_split]
  after_reads_simp
  rw [mid_v159, mid_v156, mid_v176]

  try simp -implicitDefEqProofs only [StableHlo.TRef.toBuf, StableHlo.TRef.ofBuf, cast_cast, cast_eq]
  sl_kernel_rfl
theorem entry_f2 : entryContents preI m c (Proc.devRef .tc main_v339_2) = (initState m c).main_v339_2 := by
  rw [pre_split]
  after_reads_simp
  rw [mid_v162, mid_v176]

  try simp -implicitDefEqProofs only [StableHlo.TRef.toBuf, StableHlo.TRef.ofBuf, cast_cast, cast_eq]
  sl_kernel_rfl
end
/-- What precedes the loop leaves the first state. -/
theorem entry : Holds (entryContents preI m c) (initState m c) 0 :=
  ⟨entry_f7 m c, entry_f8 m c, entry_f0 m c, entry_f1 m c, entry_f2 m c, entry_f3 m c, entry_f4 m c, entry_f5 m c, entry_n m c⟩

/-- Before the k-th trip the loop holds the k-th state. -/
theorem holds_iter (k : ℕ) (it : ℕ → State F) (h0 : it 0 = initState m c) (hs : ∀ n, it (n + 1) = Step.step n (it n)) :
    Holds (STEP^[k] (entryContents preI m c)) (it k) k := by
  induction k with
  | zero => exact h0 ▸ entry m c
  | succ k ih => rw [Function.iterate_succ_apply', hs k]; exact ih.step

end Cert.ReferenceIdeal.Mix
end
end
-- ==== Proof.Proof.MixRefOut.lean ====
module
public import proofs.«01_k».proof.Proof.Proof.MixRefRun
public import proofs.«01_k».proof.Proof.Gen.ReferenceIdeal.Run
public import proofs.«01_k».proof.Proof.Gen.ReferenceIdeal.Step
public import Idealize.ShloMosaic.Lib.Tactic

@[expose] public section
noncomputable section

namespace Cert.ReferenceIdeal.Mix
open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable {V0 : Valuation τ sig (Elt F)} {s : State F} {j : ℕ}
set_option maxRecDepth 8192 in
theorem out_main_v490_holds (h : Holds V0 s j) {x_main_arg0 : (⟨S4x8192x1024, .f32⟩ : BufTy).Contents (Elt F)} (h_main_arg0 : V0 (Proc.devRef .tc main_arg0) = x_main_arg0) {x_main_arg1 : (⟨S4x6x1024, .f32⟩ : BufTy).Contents (Elt F)} (h_main_arg1 : V0 (Proc.devRef .tc main_arg1) = x_main_arg1) {x_main_arg2 : (⟨S1x1024, .f32⟩ : BufTy).Contents (Elt F)} (h_main_arg2 : V0 (Proc.devRef .tc main_arg2) = x_main_arg2) {x_main_arg3 : (⟨S1x1024x3592, .f32⟩ : BufTy).Contents (Elt F)} (h_main_arg3 : V0 (Proc.devRef .tc main_arg3) = x_main_arg3) {x_main_arg7 : (⟨S1x128, .f32⟩ : BufTy).Contents (Elt F)} (h_main_arg7 : V0 (Proc.devRef .tc main_arg7) = x_main_arg7) {x_main_arg8 : (⟨S1x3x512, .f32⟩ : BufTy).Contents (Elt F)} (h_main_arg8 : V0 (Proc.devRef .tc main_arg8) = x_main_arg8) {x_main_arg9 : (⟨S1x1024x1024, .f32⟩ : BufTy).Contents (Elt F)} (h_main_arg9 : V0 (Proc.devRef .tc main_arg9) = x_main_arg9) : out_main_v490 V0 = Cert.ReferenceIdeal.Step.R_main_v490 s x_main_arg0 x_main_arg1 x_main_arg2 x_main_arg3 x_main_arg7 x_main_arg8 x_main_arg9 := by
  unfold out_main_v490 Cert.ReferenceIdeal.Step.R_main_v490
  rw [h.f8, h_main_arg0, h_main_arg1, h_main_arg2, h_main_arg3, h_main_arg7, h_main_arg8, h_main_arg9]
  try rfl

set_option maxRecDepth 8192 in
theorem out_main_v492_holds (h : Holds V0 s j) {x_main_arg10 : (⟨S1x1024x2816, .f32⟩ : BufTy).Contents (Elt F)} (h_main_arg10 : V0 (Proc.devRef .tc main_arg10) = x_main_arg10) : out_main_v492 V0 = Cert.ReferenceIdeal.Step.R_main_v492 s x_main_arg10 := by
  unfold out_main_v492 Cert.ReferenceIdeal.Step.R_main_v492
  rw [h_main_arg10]
  try rfl

set_option maxRecDepth 8192 in
theorem out_main_v494_holds (h : Holds V0 s j) {x_main_arg11 : (⟨S1x1024x2816, .f32⟩ : BufTy).Contents (Elt F)} (h_main_arg11 : V0 (Proc.devRef .tc main_arg11) = x_main_arg11) : out_main_v494 V0 = Cert.ReferenceIdeal.Step.R_main_v494 s x_main_arg11 := by
  unfold out_main_v494 Cert.ReferenceIdeal.Step.R_main_v494
  rw [h_main_arg11]
  try rfl

set_option maxRecDepth 8192 in
theorem out_main_v496_holds (h : Holds V0 s j) {x_main_arg12 : (⟨S1x2816x1024, .f32⟩ : BufTy).Contents (Elt F)} (h_main_arg12 : V0 (Proc.devRef .tc main_arg12) = x_main_arg12) : out_main_v496 V0 = Cert.ReferenceIdeal.Step.R_main_v496 s x_main_arg12 := by
  unfold out_main_v496 Cert.ReferenceIdeal.Step.R_main_v496
  rw [h_main_arg12]
  try rfl

/-- The results by the step iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v490) = Cert.ReferenceIdeal.Step.R_main_v490 (it c 128) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9))
      ∧ r.2.mem ((c.tc : Thread nD τ).loc main_v492) = Cert.ReferenceIdeal.Step.R_main_v492 (it c 128) (m ((c.tc : Thread nD τ).loc main_arg10))
      ∧ r.2.mem ((c.tc : Thread nD τ).loc main_v494) = Cert.ReferenceIdeal.Step.R_main_v494 (it c 128) (m ((c.tc : Thread nD τ).loc main_arg11))
      ∧ r.2.mem ((c.tc : Thread nD τ).loc main_v496) = Cert.ReferenceIdeal.Step.R_main_v496 (it c 128) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    have hk := holds_iter m c 128 (it c) (h0 c) (hs c)
    ⟨(h c).1.trans (out_main_v490_holds hk (iter_main_arg0 m c 128) (iter_main_arg1 m c 128) (iter_main_arg2 m c 128) (iter_main_arg3 m c 128) (iter_main_arg7 m c 128) (iter_main_arg8 m c 128) (iter_main_arg9 m c 128)), (h c).2.1.trans (out_main_v492_holds hk (iter_main_arg10 m c 128)), (h c).2.2.1.trans (out_main_v494_holds hk (iter_main_arg11 m c 128)), (h c).2.2.2.1.trans (out_main_v496_holds hk (iter_main_arg12 m c 128)), (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2⟩) (Value.run m ρ)

end Cert.ReferenceIdeal.Mix
end
-- ==== Proof.Proof.MixRefB.lean ====
module
public import proofs.«01_k».proof.Proof.Proof.MixRefA
public import proofs.«01_k».proof.Proof.Proof.MixWin
public import proofs.«01_k».proof.Proof.Gen.ReferenceIdeal.Step
public import Idealize.ShloMosaic.Lib.Pointwise
public import Idealize.ShloMosaic.Lib.Tactic

@[expose] public section
set_option maxRecDepth 16384
noncomputable section
namespace Cert.Mix
open Idealize.ShloMosaic Idealize.SL.Sem Cert.ReferenceIdeal Cert.ReferenceIdeal.Step
open Cert.KernelIdeal.Mix (U hrow eps)

section
variable (a0 : (⟨S4x8192x1024, .f32⟩ : BufTy).Contents (Elt Ideal)) (a1 : (⟨S4x6x1024, .f32⟩ : BufTy).Contents (Elt Ideal)) (a2 : (⟨S1x1024, .f32⟩ : BufTy).Contents (Elt Ideal)) (a3 : (⟨S1x1024x3592, .f32⟩ : BufTy).Contents (Elt Ideal)) (a4 : (⟨S1x4x1536, .f32⟩ : BufTy).Contents (Elt Ideal)) (a5 a6 : (⟨S1x4, .f32⟩ : BufTy).Contents (Elt Ideal))
    (a7 : (⟨S1x128, .f32⟩ : BufTy).Contents (Elt Ideal)) (a8 : (⟨S1x3x512, .f32⟩ : BufTy).Contents (Elt Ideal)) (a9 : (⟨S1x1024x1024, .f32⟩ : BufTy).Contents (Elt Ideal))

theorem e143 (X : (⟨S4x8192x4x128, .f32⟩ : BufTy).Contents (Elt Ideal)) (h : A_main_v58 a0 a1 a2 a3 a4 a5 a6 = X) (b : U) (t : Fin 8192) (hd : U) (d : Fin 128) : A_main_v143 a0 a1 a2 a3 a4 a5 a6 (ix4 b t hd d : S4x8192x4x128.Idx) = X (ix4 b t hd d : S4x8192x4x128.Idx) * Ideal.rsqrt ((∑ k, X (ix4 b t hd k : S4x8192x4x128.Idx) * X (ix4 b t hd k : S4x8192x4x128.Idx)) + eps) := by
  unfold A_main_v143 A_main_v142 A_main_v141 A_main_v140 A_main_v138 A_main_v137 A_main_v136
  rw [h]
  pointwise [K_main_v139, K_main_cst_16, K_main_cst_15]
  rfl
/-- Normalised keys. -/
theorem r143 (b : U) (t : Fin 8192) (hd : U) (d : Fin 128) : A_main_v143 a0 a1 a2 a3 a4 a5 a6 (ix4 b t hd d : S4x8192x4x128.Idx) = (par a0 a1 a2 a3 a4 a5 a6 a7 a8 a9).kn b hd t d := by
  rw [e143 _ _ _ _ _ _ _ _ rfl]
  simp only [r58 a0 a1 a2 a3 a4 a5 a6 a7 a8 a9]; rfl
theorem e135 (X : (⟨S4x8192x4x128, .f32⟩ : BufTy).Contents (Elt Ideal)) (h : A_main_v56 a0 a1 a2 a3 a4 a5 a6 = X) (b : U) (t : Fin 8192) (hd : U) (d : Fin 128) : A_main_v135 a0 a1 a2 a3 a4 a5 a6 (ix4 b t hd d : S4x8192x4x128.Idx) = X (ix4 b t hd d : S4x8192x4x128.Idx) * Ideal.rsqrt ((∑ k, X (ix4 b t hd k : S4x8192x4x128.Idx) * X (ix4 b t hd k : S4x8192x4x128.Idx)) + eps) := by
  unfold A_main_v135 A_main_v134 A_main_v133 A_main_v132 A_main_v130 A_main_v129 A_main_v128
  rw [h]
  pointwise [K_main_v131, K_main_cst_14, K_main_cst_13]
  rfl
/-- Normalised queries. -/
theorem r135 (b : U) (t : Fin 8192) (hd : U) (d : Fin 128) : A_main_v135 a0 a1 a2 a3 a4 a5 a6 (ix4 b t hd d : S4x8192x4x128.Idx) = (par a0 a1 a2 a3 a4 a5 a6 a7 a8 a9).q0 b hd t d * Ideal.rsqrt ((∑ k, (par a0 a1 a2 a3 a4 a5 a6 a7 a8 a9).q0 b hd t k * (par a0 a1 a2 a3 a4 a5 a6 a7 a8 a9).q0 b hd t k) + eps) := by
  rw [e135 _ _ _ _ _ _ _ _ rfl]
  simp only [r56 a0 a1 a2 a3 a4 a5 a6 a7 a8 a9]
theorem e147 (X : (⟨S4x8192x4x128, .f32⟩ : BufTy).Contents (Elt Ideal)) (h : A_main_v135 a0 a1 a2 a3 a4 a5 a6 = X) (b hd : U) (n : Fin 128) (c : Fin 64) (d : Fin 128) : A_main_v147 a0 a1 a2 a3 a4 a5 a6 (ix5 b hd n c d : S4x4x128x64x128.Idx) = X (ix4 b ⟨n * 64 + c, by omega⟩ hd d : S4x8192x4x128.Idx) * Ideal.ofBits FTy.f32 1035273459#32 := by
  unfold A_main_v147 A_main_v145 A_main_v144
  rw [h]
  pointwise [K_main_v146, K_main_cst_17]
/-- Scaled queries by chunk. -/
theorem r147 (b hd : U) (n : Fin 128) (c : Fin 64) (d : Fin 128) : A_main_v147 a0 a1 a2 a3 a4 a5 a6 (ix5 b hd n c d : S4x4x128x64x128.Idx) = (par a0 a1 a2 a3 a4 a5 a6 a7 a8 a9).qn b hd (64 * n + c) d := by
  rw [e147 _ _ _ _ _ _ _ _ rfl, r135 a0 a1 a2 a3 a4 a5 a6 a7 a8 a9, mul_assoc]
  simp only [Nat.mul_comm n.val]
  rfl
theorem r149 (b hd : U) (n : Fin 128) (c : Fin 64) (d : Fin 128) : A_main_v149 a0 a1 a2 a3 a4 a5 a6 (ix5 b hd n c d : S4x4x128x64x128.Idx) = (par a0 a1 a2 a3 a4 a5 a6 a7 a8 a9).kn b hd (64 * n + c) d := by
  have h143 := r143 a0 a1 a2 a3 a4 a5 a6 a7 a8 a9
  unfold A_main_v149 A_main_v148
  generalize A_main_v143 a0 a1 a2 a3 a4 a5 a6 = X143 at h143 ⊢
  pointwise
  simp only [h143, Nat.mul_comm n.val]
theorem r151 (b hd : U) (n : Fin 128) (c : Fin 64) (d : Fin 128) : A_main_v151 a0 a1 a2 a3 a4 a5 a6 (ix5 b hd n c d : S4x4x128x64x128.Idx) = (par a0 a1 a2 a3 a4 a5 a6 a7 a8 a9).v b hd (64 * n + c) d := by
  have h60 := r60 a0 a1 a2 a3 a4 a5 a6 a7 a8 a9
  unfold A_main_v151 A_main_v150
  generalize A_main_v60 a0 a1 a2 a3 a4 a5 a6 = X60 at h60 ⊢
  pointwise
  simp only [h60, Nat.mul_comm n.val]
theorem r153 (b hd : U) (n : Fin 128) (c : Fin 64) : A_main_v153 a0 a1 a2 a3 a4 a5 a6 (ix4 b hd n c : S4x4x128x64.Idx) = (par a0 a1 a2 a3 a4 a5 a6 a7 a8 a9).g b hd (64 * n + c) := by
  have h96 := r96 a0 a1 a2 a3 a4 a5 a6 a7 a8 a9
  unfold A_main_v153 A_main_v152
  generalize A_main_v96 a0 a1 a2 a3 a4 a5 a6 = X96 at h96 ⊢
  pointwise
  simp only [h96, Nat.mul_comm n.val]
theorem r155 (b hd : U) (n : Fin 128) (c : Fin 64) : A_main_v155 a0 a1 a2 a3 a4 a5 a6 (ix4 b hd n c : S4x4x128x64.Idx) = (par a0 a1 a2 a3 a4 a5 a6 a7 a8 a9).bet b hd (64 * n + c) := by
  have h127 := r127 a0 a1 a2 a3 a4 a5 a6 a7 a8 a9
  unfold A_main_v155 A_main_v154
  generalize A_main_v127 a0 a1 a2 a3 a4 a5 a6 = X127 at h127 ⊢
  pointwise
  simp only [h127, Nat.mul_comm n.val]
/-- The log decays cumulated inside a chunk. -/
theorem r156 (b hd : U) (n : Fin 128) (c : Fin 64) : A_main_v156 a0 a1 a2 a3 a4 a5 a6 (ix4 b hd n c : S4x4x128x64.Idx) = (par a0 a1 a2 a3 a4 a5 a6 a7 a8 a9).cum b hd n c := by
  unfold A_main_v156 Par.cum
  rw [cumsum_at _ _ (by pointwise [K_main_call3_call0_v0, K_main_call3_call0_cst])]
  simp only [r153 a0 a1 a2 a3 a4 a5 a6 a7 a8 a9]
theorem e159 (X : (⟨S4x4x128x64x128, .f32⟩ : BufTy).Contents (Elt Ideal)) (Y : (⟨S4x4x128x64, .f32⟩ : BufTy).Contents (Elt Ideal)) (h : A_main_v149 a0 a1 a2 a3 a4 a5 a6 = X) (h' : A_main_v155 a0 a1 a2 a3 a4 a5 a6 = Y) (b hd : U) (n : Fin 128) (c : Fin 64) (d : Fin 128) : A_main_v159 a0 a1 a2 a3 a4 a5 a6 (ix5 b hd n c d : S4x4x128x64x128.Idx) = X (ix5 b hd n c d : S4x4x128x64x128.Idx) * Y (ix4 b hd n c : S4x4x128x64.Idx) := by
  unfold A_main_v159 A_main_v158 A_main_v157
  rw [h, h']
  pointwise
theorem r159 (b hd : U) (n : Fin 128) (c : Fin 64) (d : Fin 128) : A_main_v159 a0 a1 a2 a3 a4 a5 a6 (ix5 b hd n c d : S4x4x128x64x128.Idx) = (par a0 a1 a2 a3 a4 a5 a6 a7 a8 a9).kb b hd (64 * n + c) d := by
  rw [e159 _ _ _ _ _ _ _ _ _ rfl rfl, r149 a0 a1 a2 a3 a4 a5 a6 a7 a8 a9, r155 a0 a1 a2 a3 a4 a5 a6 a7 a8 a9]
  rfl
theorem e162 (X : (⟨S4x4x128x64x128, .f32⟩ : BufTy).Contents (Elt Ideal)) (Y : (⟨S4x4x128x64, .f32⟩ : BufTy).Contents (Elt Ideal)) (h : A_main_v151 a0 a1 a2 a3 a4 a5 a6 = X) (h' : A_main_v155 a0 a1 a2 a3 a4 a5 a6 = Y) (b hd : U) (n : Fin 128) (c : Fin 64) (d : Fin 128) : A_main_v162 a0 a1 a2 a3 a4 a5 a6 (ix5 b hd n c d : S4x4x128x64x128.Idx) = X (ix5 b hd n c d : S4x4x128x64x128.Idx) * Y (ix4 b hd n c : S4x4x128x64.Idx) := by
  unfold A_main_v162 A_main_v161 A_main_v160
  rw [h, h']
  pointwise
theorem r162 (b hd : U) (n : Fin 128) (c : Fin 64) (d : Fin 128) : A_main_v162 a0 a1 a2 a3 a4 a5 a6 (ix5 b hd n c d : S4x4x128x64x128.Idx) = (par a0 a1 a2 a3 a4 a5 a6 a7 a8 a9).v b hd (64 * n + c) d * (par a0 a1 a2 a3 a4 a5 a6 a7 a8 a9).bet b hd (64 * n + c) := by
  rw [e162 _ _ _ _ _ _ _ _ _ rfl rfl, r151 a0 a1 a2 a3 a4 a5 a6 a7 a8 a9, r155 a0 a1 a2 a3 a4 a5 a6 a7 a8 a9]
/-- The mask of the lower triangle. -/
theorem m164 (c m : Fin 64) : K_main_v164 (F := Ideal) (ix2 c m : S64x64.Idx) = if m ≤ c then 1#1 else 0#1 := by
  pointwise [K_main_v164, K_main_v163, K_main_c_18, K_main_call4_v0, K_main_call4_c, K_main_call4_v1, K_main_call4_v2, K_main_call4_v3, K_main_call4_v4, K_main_call4_c_0, K_main_call4_v5]
  revert c m; decide +kernel
/-- The mask of the strict lower triangle. -/
theorem m166 (c m : Fin 64) : K_main_v166 (F := Ideal) (ix2 c m : S64x64.Idx) = if m < c then 1#1 else 0#1 := by
  pointwise [K_main_v166, K_main_v165, K_main_c_19, K_main_call5_v0, K_main_call5_c, K_main_call5_v1, K_main_call5_v2, K_main_call5_v3, K_main_call5_v4, K_main_call5_c_0, K_main_call5_v5]
  revert c m; decide +kernel
theorem sel_if {p : Prop} [Decidable p] {α : Type} (x y : α) : Scalar.select (if p then 1#1 else 0#1) x y = if p then x else y := by
  by_cases h : p
  · rw [if_pos h, if_pos h]; rfl
  · rw [if_neg h, if_neg h]; rfl
/-- The pairwise decay. -/
theorem r173 (b hd : U) (n : Fin 128) (c m : Fin 64) : A_main_v173 a0 a1 a2 a3 a4 a5 a6 (ix5 b hd n c m : S4x4x128x64x64.Idx) = (par a0 a1 a2 a3 a4 a5 a6 a7 a8 a9).dec b hd n c m := by
  have h156 := r156 a0 a1 a2 a3 a4 a5 a6 a7 a8 a9
  unfold A_main_v173 A_main_v172 A_main_v171 A_main_v170 A_main_v169 A_main_v168 A_main_v167
  generalize A_main_v156 a0 a1 a2 a3 a4 a5 a6 = X156 at h156 ⊢
  pointwise [K_main_call6_v1, K_main_call6_v2, K_main_call6_v0, K_main_cst_20]
  rw [m164, sel_if, h156, h156]
  unfold Par.dec
  split_ifs
  · rfl
  · show Ideal.exp (Ideal.ofBits FTy.f32 4286578688#32) = 0
    have e : Ideal.ofBits FTy.f32 4286578688#32 = ⊥ := by simp [Ideal.ofBits, Ideal.ieee]
    rw [e]
    rfl
theorem e176 (W : (⟨S4x4x128x64x64, .f32⟩ : BufTy).Contents (Elt Ideal)) (X Y : (⟨S4x4x128x64x128, .f32⟩ : BufTy).Contents (Elt Ideal)) (h : A_main_v173 a0 a1 a2 a3 a4 a5 a6 = W) (h' : A_main_v159 a0 a1 a2 a3 a4 a5 a6 = X) (h'' : A_main_v149 a0 a1 a2 a3 a4 a5 a6 = Y) (b hd : U) (n : Fin 128) (c m : Fin 64) : A_main_v176 a0 a1 a2 a3 a4 a5 a6 (ix5 b hd n c m : S4x4x128x64x64.Idx)
    = if m < c then (∑ d, X (ix5 b hd n c d : S4x4x128x64x128.Idx) * Y (ix5 b hd n m d : S4x4x128x64x128.Idx)) * W (ix5 b hd n c m : S4x4x128x64x64.Idx) else 0 := by
  unfold A_main_v176 A_main_v175 A_main_v174
  rw [h, h', h'']
  pointwise [K_main_call7_v1, K_main_call7_v2, K_main_call7_v0, K_main_cst_21]
  rw [m166, sel_if]
  congr 1
  show Ideal.ofBits FTy.f32 0#32 = 0
  simp [Ideal.ofBits, Ideal.ieee]
/-- The chunk's interaction matrix. -/
theorem r176 (b hd : U) (n : Fin 128) (c m : Fin 64) : A_main_v176 a0 a1 a2 a3 a4 a5 a6 (ix5 b hd n c m : S4x4x128x64x64.Idx) = (((par a0 a1 a2 a3 a4 a5 a6 a7 a8 a9).L b hd n c m : ℝ) : EReal) := by
  rw [e176 _ _ _ _ _ _ _ _ _ _ rfl rfl rfl, Par.L_coe]
  simp only [r173 a0 a1 a2 a3 a4 a5 a6 a7 a8 a9, r159 a0 a1 a2 a3 a4 a5 a6 a7 a8 a9, r149 a0 a1 a2 a3 a4 a5 a6 a7 a8 a9]
  rfl
theorem r183 (b hd : U) (n : Fin 128) (c m : Fin 64) : K_main_v183 (F := Ideal) (ix5 b hd n c m : S4x4x128x64x64.Idx) = (((1 : Matrix (Fin 64) (Fin 64) ℝ) c m : ℝ) : EReal) := by
  have h : ∀ c m : Fin 64, IntOp.cmpi .eq (IntOp.addi (BitVec.ofNat 32 c.val) 0#32) (BitVec.ofNat 32 m.val) = if c = m then 1#1 else 0#1 := by decide +kernel
  pointwise [K_main_v183, K_main_v182, K_main_v181, K_main_v180, K_main_v179, K_main_v178, K_main_v177, K_main_c_22]
  rw [h, Matrix.one_apply]
  split_ifs
  · show (((1#1 : BitVec 1).toNat : ℝ) : EReal) = _
    simp
  · show (((0#1 : BitVec 1).toNat : ℝ) : EReal) = _
    simp
end
end Cert.Mix
end
end
-- ==== Proof.Proof.MixRefC.lean ====
module
public import proofs.«01_k».proof.Proof.Proof.MixRefB
public import proofs.«01_k».proof.Proof.Proof.MixWin
public import proofs.«01_k».proof.Proof.Gen.ReferenceIdeal.Step
public import Idealize.ShloMosaic.Lib.Pointwise
public import Idealize.ShloMosaic.Lib.Tactic

@[expose] public section
set_option maxRecDepth 16384
noncomputable section
namespace Cert.Mix
open Idealize.ShloMosaic Idealize.SL.Sem Cert.ReferenceIdeal Cert.ReferenceIdeal.Step
open Cert.KernelIdeal.Mix (U hrow eps)

/-- One sweep on every chunk. -/
def SW (L X : FVec Ideal S4x4x128x64x64 .f32) : FVec Ideal S4x4x128x64x64 .f32 :=
  subf (K_main_v183 (F := Ideal)) (Host.dotGeneral dot_S4x4x128x64x64_S4x4x128x64x64_S4x4x128x64x64_4_3_3_4_012_012 none L X)
/-- The array holds a real matrix for every chunk. -/
def Co (X : FVec Ideal S4x4x128x64x64 .f32) (M : U → U → Fin 128 → Matrix (Fin 64) (Fin 64) ℝ) : Prop := ∀ (b hd : U) (n : Fin 128) (c m : Fin 64), X (ix5 b hd n c m : S4x4x128x64x64.Idx) = ((M b hd n c m : ℝ) : EReal)
theorem SW_at (L X : FVec Ideal S4x4x128x64x64 .f32) (b hd : U) (n : Fin 128) (c m : Fin 64) : SW L X (ix5 b hd n c m : S4x4x128x64x64.Idx) = K_main_v183 (F := Ideal) (ix5 b hd n c m : S4x4x128x64x64.Idx) - ∑ k, L (ix5 b hd n c k : S4x4x128x64x64.Idx) * X (ix5 b hd n k m : S4x4x128x64x64.Idx) := by
  unfold SW
  generalize K_main_v183 (F := Ideal) = K
  pointwise
theorem co_SW (L X : FVec Ideal S4x4x128x64x64 .f32) (Lm M : U → U → Fin 128 → Matrix (Fin 64) (Fin 64) ℝ) (hL : Co L Lm) (hX : Co X M) : Co (SW L X) (fun b hd n => sweep (Lm b hd n) (M b hd n)) := by
  intro b hd n c m
  unfold Co at hL hX
  rw [SW_at, r183]
  simp only [hL, hX]
  unfold sweep
  rw [coe_mm, Matrix.sub_apply, EReal.coe_sub, Matrix.mul_apply]
theorem co_iter (L X : FVec Ideal S4x4x128x64x64 .f32) (Lm M : U → U → Fin 128 → Matrix (Fin 64) (Fin 64) ℝ) (hL : Co L Lm) (hX : Co X M) (k : ℕ) : Co ((SW L)^[k] X) (fun b hd n => (sweep (Lm b hd n))^[k] (M b hd n)) := by
  induction k with
  | zero => exact hX
  | succ k ih =>
    rw [Function.iterate_succ_apply']
    intro b hd n c m
    show _ = (((sweep (Lm b hd n))^[k + 1] (M b hd n) c m : ℝ) : EReal)
    rw [co_SW L _ Lm _ hL ih b hd n c m, Function.iterate_succ_apply']
section
variable (a0 : (⟨S4x8192x1024, .f32⟩ : BufTy).Contents (Elt Ideal)) (a1 : (⟨S4x6x1024, .f32⟩ : BufTy).Contents (Elt Ideal)) (a2 : (⟨S1x1024, .f32⟩ : BufTy).Contents (Elt Ideal)) (a3 : (⟨S1x1024x3592, .f32⟩ : BufTy).Contents (Elt Ideal)) (a4 : (⟨S1x4x1536, .f32⟩ : BufTy).Contents (Elt Ideal)) (a5 a6 : (⟨S1x4, .f32⟩ : BufTy).Contents (Elt Ideal))
    (a7 : (⟨S1x128, .f32⟩ : BufTy).Contents (Elt Ideal)) (a8 : (⟨S1x3x512, .f32⟩ : BufTy).Contents (Elt Ideal)) (a9 : (⟨S1x1024x1024, .f32⟩ : BufTy).Contents (Elt Ideal))

/-- The reference's sweeps, as one sweep iterated. -/
theorem r308_iter : A_main_v308 a0 a1 a2 a3 a4 a5 a6 = (SW (A_main_v176 a0 a1 a2 a3 a4 a5 a6))^[62] (A_main_v184 a0 a1 a2 a3 a4 a5 a6) := by
  iterate 62 (rw [Function.iterate_succ_apply']; refine congrArg (SW (A_main_v176 a0 a1 a2 a3 a4 a5 a6)) ?_)
  rfl
theorem e184 (X : (⟨S4x4x128x64x64, .f32⟩ : BufTy).Contents (Elt Ideal)) (h : A_main_v176 a0 a1 a2 a3 a4 a5 a6 = X) (b hd : U) (n : Fin 128) (c m : Fin 64) : A_main_v184 a0 a1 a2 a3 a4 a5 a6 (ix5 b hd n c m : S4x4x128x64x64.Idx) = K_main_v183 (F := Ideal) (ix5 b hd n c m : S4x4x128x64x64.Idx) - X (ix5 b hd n c m : S4x4x128x64x64.Idx) := by
  unfold A_main_v184
  rw [h]
  generalize K_main_v183 (F := Ideal) = K
  pointwise
/-- The sweeps leave the inverse. -/
theorem r308 (b hd : U) (n : Fin 128) (c m : Fin 64) : A_main_v308 a0 a1 a2 a3 a4 a5 a6 (ix5 b hd n c m : S4x4x128x64x64.Idx) = (par a0 a1 a2 a3 a4 a5 a6 a7 a8 a9).T b hd n c m := by
  have hL : Co (A_main_v176 a0 a1 a2 a3 a4 a5 a6) (fun b hd n => (par a0 a1 a2 a3 a4 a5 a6 a7 a8 a9).L b hd n) := fun b hd n c m => r176 a0 a1 a2 a3 a4 a5 a6 a7 a8 a9 b hd n c m
  have h0 : Co (A_main_v184 a0 a1 a2 a3 a4 a5 a6) (fun b hd n => sweep ((par a0 a1 a2 a3 a4 a5 a6 a7 a8 a9).L b hd n) 1) := by
    intro b hd n c m
    show _ = ((sweep ((par a0 a1 a2 a3 a4 a5 a6 a7 a8 a9).L b hd n) 1 c m : ℝ) : EReal)
    rw [e184 _ _ _ _ _ _ _ _ rfl, r183, r176 a0 a1 a2 a3 a4 a5 a6 a7 a8 a9]
    unfold sweep
    rw [mul_one, Matrix.sub_apply, EReal.coe_sub]
  rw [r308_iter, co_iter _ _ _ _ hL h0 62 b hd n c m]
  show (((sweep ((par a0 a1 a2 a3 a4 a5 a6 a7 a8 a9).L b hd n))^[62] (sweep ((par a0 a1 a2 a3 a4 a5 a6 a7 a8 a9).L b hd n) 1) c m : ℝ) : EReal) = _
  unfold Par.T
  rw [inv_eq_sweep _ ((par a0 a1 a2 a3 a4 a5 a6 a7 a8 a9).L_low b hd n), ← Function.iterate_succ_apply]
theorem e309 (T : (⟨S4x4x128x64x64, .f32⟩ : BufTy).Contents (Elt Ideal)) (X : (⟨S4x4x128x64x128, .f32⟩ : BufTy).Contents (Elt Ideal)) (h : A_main_v308 a0 a1 a2 a3 a4 a5 a6 = T) (h' : A_main_v162 a0 a1 a2 a3 a4 a5 a6 = X) (b hd : U) (n : Fin 128) (c : Fin 64) (d : Fin 128) : A_main_v309 a0 a1 a2 a3 a4 a5 a6 (ix5 b hd n c d : S4x4x128x64x128.Idx) = ∑ m, T (ix5 b hd n c m : S4x4x128x64x64.Idx) * X (ix5 b hd n m d : S4x4x128x64x128.Idx) := by
  unfold A_main_v309
  rw [h, h']
  pointwise
/-- The solved values. -/
theorem r309 (b hd : U) (n : Fin 128) (c : Fin 64) (d : Fin 128) : A_main_v309 a0 a1 a2 a3 a4 a5 a6 (ix5 b hd n c d : S4x4x128x64x128.Idx) = (par a0 a1 a2 a3 a4 a5 a6 a7 a8 a9).u b hd n c d := by
  rw [e309 _ _ _ _ _ _ _ _ _ rfl rfl]
  simp only [r308 a0 a1 a2 a3 a4 a5 a6 a7 a8 a9, r162 a0 a1 a2 a3 a4 a5 a6 a7 a8 a9]
  rfl
theorem e313 (X : (⟨S4x4x128x64x128, .f32⟩ : BufTy).Contents (Elt Ideal)) (Y : (⟨S4x4x128x64, .f32⟩ : BufTy).Contents (Elt Ideal)) (h : A_main_v159 a0 a1 a2 a3 a4 a5 a6 = X) (h' : A_main_v156 a0 a1 a2 a3 a4 a5 a6 = Y) (b hd : U) (n : Fin 128) (c : Fin 64) (d : Fin 128) : A_main_v313 a0 a1 a2 a3 a4 a5 a6 (ix5 b hd n c d : S4x4x128x64x128.Idx) = X (ix5 b hd n c d : S4x4x128x64x128.Idx) * Ideal.exp (Y (ix4 b hd n c : S4x4x128x64.Idx)) := by
  unfold A_main_v313 A_main_v312 A_main_v311 A_main_v310
  rw [h, h']
  pointwise
theorem e314 (T : (⟨S4x4x128x64x64, .f32⟩ : BufTy).Contents (Elt Ideal)) (X : (⟨S4x4x128x64x128, .f32⟩ : BufTy).Contents (Elt Ideal)) (h : A_main_v308 a0 a1 a2 a3 a4 a5 a6 = T) (h' : A_main_v313 a0 a1 a2 a3 a4 a5 a6 = X) (b hd : U) (n : Fin 128) (c : Fin 64) (d : Fin 128) : A_main_v314 a0 a1 a2 a3 a4 a5 a6 (ix5 b hd n c d : S4x4x128x64x128.Idx) = ∑ m, T (ix5 b hd n c m : S4x4x128x64x64.Idx) * X (ix5 b hd n m d : S4x4x128x64x128.Idx) := by
  unfold A_main_v314
  rw [h, h']
  pointwise
/-- The solved keys. -/
theorem r314 (b hd : U) (n : Fin 128) (c : Fin 64) (d : Fin 128) : A_main_v314 a0 a1 a2 a3 a4 a5 a6 (ix5 b hd n c d : S4x4x128x64x128.Idx) = (par a0 a1 a2 a3 a4 a5 a6 a7 a8 a9).w b hd n c d := by
  rw [e314 _ _ _ _ _ _ _ _ _ rfl rfl]
  simp only [r308 a0 a1 a2 a3 a4 a5 a6 a7 a8 a9, e313 _ _ _ _ _ _ _ _ _ rfl rfl, r159 a0 a1 a2 a3 a4 a5 a6 a7 a8 a9, r156 a0 a1 a2 a3 a4 a5 a6 a7 a8 a9]
  rfl
theorem e317 (W : (⟨S4x4x128x64x64, .f32⟩ : BufTy).Contents (Elt Ideal)) (X Y : (⟨S4x4x128x64x128, .f32⟩ : BufTy).Contents (Elt Ideal)) (h : A_main_v173 a0 a1 a2 a3 a4 a5 a6 = W) (h' : A_main_v147 a0 a1 a2 a3 a4 a5 a6 = X) (h'' : A_main_v149 a0 a1 a2 a3 a4 a5 a6 = Y) (b hd : U) (n : Fin 128) (c m : Fin 64) : A_main_v317 a0 a1 a2 a3 a4 a5 a6 (ix5 b hd n c m : S4x4x128x64x64.Idx)
    = if m ≤ c then (∑ d, X (ix5 b hd n c d : S4x4x128x64x128.Idx) * Y (ix5 b hd n m d : S4x4x128x64x128.Idx)) * W (ix5 b hd n c m : S4x4x128x64x64.Idx) else 0 := by
  unfold A_main_v317 A_main_v316 A_main_v315
  rw [h, h', h'']
  pointwise [K_main_call8_v1, K_main_call8_v2, K_main_call8_v0, K_main_cst_23]
  rw [m164, sel_if]
  congr 1
  show Ideal.ofBits FTy.f32 0#32 = 0
  simp [Ideal.ofBits, Ideal.ieee]
/-- The attention inside a chunk. -/
theorem r317 (b hd : U) (n : Fin 128) (c m : Fin 64) : A_main_v317 a0 a1 a2 a3 a4 a5 a6 (ix5 b hd n c m : S4x4x128x64x64.Idx) = (par a0 a1 a2 a3 a4 a5 a6 a7 a8 a9).att b hd n c m := by
  rw [e317 _ _ _ _ _ _ _ _ _ _ rfl rfl rfl]
  simp only [r173 a0 a1 a2 a3 a4 a5 a6 a7 a8 a9, r147 a0 a1 a2 a3 a4 a5 a6 a7 a8 a9, r149 a0 a1 a2 a3 a4 a5 a6 a7 a8 a9]
  unfold Par.att
  split_ifs with h
  · rfl
  · unfold Par.dec
    rw [if_neg h, mul_zero]
theorem e319 (Y : (⟨S4x4x128x64, .f32⟩ : BufTy).Contents (Elt Ideal)) (h' : A_main_v156 a0 a1 a2 a3 a4 a5 a6 = Y) (b hd : U) (n : Fin 128) : A_main_v319 a0 a1 a2 a3 a4 a5 a6 (ix3 b hd n : S4x4x128.Idx) = Y (ix4 b hd n 63 : S4x4x128x64.Idx) := by
  unfold A_main_v319 A_main_v318
  rw [h']
  pointwise
theorem e326 (X : (⟨S4x4x128x64x128, .f32⟩ : BufTy).Contents (Elt Ideal)) (Y : (⟨S4x4x128x64, .f32⟩ : BufTy).Contents (Elt Ideal)) (Z : (⟨S4x4x128, .f32⟩ : BufTy).Contents (Elt Ideal)) (h : A_main_v149 a0 a1 a2 a3 a4 a5 a6 = X) (h' : A_main_v156 a0 a1 a2 a3 a4 a5 a6 = Y) (h'' : A_main_v319 a0 a1 a2 a3 a4 a5 a6 = Z) (b hd : U) (n : Fin 128) (c : Fin 64) (d : Fin 128) : A_main_v326 a0 a1 a2 a3 a4 a5 a6 (ix5 b hd n c d : S4x4x128x64x128.Idx) = X (ix5 b hd n c d : S4x4x128x64x128.Idx) * Ideal.exp (Z (ix3 b hd n : S4x4x128.Idx) - Y (ix4 b hd n c : S4x4x128x64.Idx)) := by
  unfold A_main_v326 A_main_v325 A_main_v324 A_main_v323 A_main_v322 A_main_v321 A_main_v320
  rw [h, h', h'']
  pointwise
theorem e330 (X : (⟨S4x4x128x64x128, .f32⟩ : BufTy).Contents (Elt Ideal)) (Y : (⟨S4x4x128x64, .f32⟩ : BufTy).Contents (Elt Ideal)) (h : A_main_v147 a0 a1 a2 a3 a4 a5 a6 = X) (h' : A_main_v156 a0 a1 a2 a3 a4 a5 a6 = Y) (b hd : U) (n : Fin 128) (c : Fin 64) (d : Fin 128) : A_main_v330 a0 a1 a2 a3 a4 a5 a6 (ix5 b hd n c d : S4x4x128x64x128.Idx) = X (ix5 b hd n c d : S4x4x128x64x128.Idx) * Ideal.exp (Y (ix4 b hd n c : S4x4x128x64.Idx)) := by
  unfold A_main_v330 A_main_v329 A_main_v328 A_main_v327
  rw [h, h']
  pointwise
/-! What the loop is given, chunk first. -/
theorem e331 (X : (⟨S4x4x128x64x128, .f32⟩ : BufTy).Contents (Elt Ideal)) (h : A_main_v330 a0 a1 a2 a3 a4 a5 a6 = X) (b hd : U) (n : Fin 128) (c : Fin 64) (d : Fin 128) : A_main_v331 a0 a1 a2 a3 a4 a5 a6 (ix5 n b hd c d : S128x4x4x64x128.Idx) = X (ix5 b hd n c d : S4x4x128x64x128.Idx) := by
  unfold A_main_v331
  rw [h]
  pointwise
theorem r331 (b hd : U) (n : Fin 128) (c : Fin 64) (d : Fin 128) : A_main_v331 a0 a1 a2 a3 a4 a5 a6 (ix5 n b hd c d : S128x4x4x64x128.Idx) = (par a0 a1 a2 a3 a4 a5 a6 a7 a8 a9).qn b hd (64 * n + c) d * Ideal.exp ((par a0 a1 a2 a3 a4 a5 a6 a7 a8 a9).cum b hd n c) := by
  rw [e331 _ _ _ _ _ _ _ _ rfl, e330 _ _ _ _ _ _ _ _ _ rfl rfl, r147 a0 a1 a2 a3 a4 a5 a6 a7 a8 a9, r156 a0 a1 a2 a3 a4 a5 a6 a7 a8 a9]
theorem e332 (X : (⟨S4x4x128x64x128, .f32⟩ : BufTy).Contents (Elt Ideal)) (h : A_main_v314 a0 a1 a2 a3 a4 a5 a6 = X) (b hd : U) (n : Fin 128) (c : Fin 64) (d : Fin 128) : A_main_v332 a0 a1 a2 a3 a4 a5 a6 (ix5 n b hd c d : S128x4x4x64x128.Idx) = X (ix5 b hd n c d : S4x4x128x64x128.Idx) := by
  unfold A_main_v332
  rw [h]
  pointwise
theorem r332 (b hd : U) (n : Fin 128) (c : Fin 64) (d : Fin 128) : A_main_v332 a0 a1 a2 a3 a4 a5 a6 (ix5 n b hd c d : S128x4x4x64x128.Idx) = (par a0 a1 a2 a3 a4 a5 a6 a7 a8 a9).w b hd n c d := by
  rw [e332 _ _ _ _ _ _ _ _ rfl, r314 a0 a1 a2 a3 a4 a5 a6 a7 a8 a9]
theorem e333 (X : (⟨S4x4x128x64x128, .f32⟩ : BufTy).Contents (Elt Ideal)) (h : A_main_v309 a0 a1 a2 a3 a4 a5 a6 = X) (b hd : U) (n : Fin 128) (c : Fin 64) (d : Fin 128) : A_main_v333 a0 a1 a2 a3 a4 a5 a6 (ix5 n b hd c d : S128x4x4x64x128.Idx) = X (ix5 b hd n c d : S4x4x128x64x128.Idx) := by
  unfold A_main_v333
  rw [h]
  pointwise
theorem r333 (b hd : U) (n : Fin 128) (c : Fin 64) (d : Fin 128) : A_main_v333 a0 a1 a2 a3 a4 a5 a6 (ix5 n b hd c d : S128x4x4x64x128.Idx) = (par a0 a1 a2 a3 a4 a5 a6 a7 a8 a9).u b hd n c d := by
  rw [e333 _ _ _ _ _ _ _ _ rfl, r309 a0 a1 a2 a3 a4 a5 a6 a7 a8 a9]
theorem e334 (X : (⟨S4x4x128x64x64, .f32⟩ : BufTy).Contents (Elt Ideal)) (h : A_main_v317 a0 a1 a2 a3 a4 a5 a6 = X) (b hd : U) (n : Fin 128) (c m : Fin 64) : A_main_v334 a0 a1 a2 a3 a4 a5 a6 (ix5 n b hd c m : S128x4x4x64x64.Idx) = X (ix5 b hd n c m : S4x4x128x64x64.Idx) := by
  unfold A_main_v334
  rw [h]
  pointwise
theorem r334 (b hd : U) (n : Fin 128) (c m : Fin 64) : A_main_v334 a0 a1 a2 a3 a4 a5 a6 (ix5 n b hd c m : S128x4x4x64x64.Idx) = (par a0 a1 a2 a3 a4 a5 a6 a7 a8 a9).att b hd n c m := by
  rw [e334 _ _ _ _ _ _ _ _ rfl, r317 a0 a1 a2 a3 a4 a5 a6 a7 a8 a9]
theorem e335 (X : (⟨S4x4x128x64x128, .f32⟩ : BufTy).Contents (Elt Ideal)) (h : A_main_v326 a0 a1 a2 a3 a4 a5 a6 = X) (b hd : U) (n : Fin 128) (c : Fin 64) (d : Fin 128) : A_main_v335 a0 a1 a2 a3 a4 a5 a6 (ix5 n b hd c d : S128x4x4x64x128.Idx) = X (ix5 b hd n c d : S4x4x128x64x128.Idx) := by
  unfold A_main_v335
  rw [h]
  pointwise
theorem r335 (b hd : U) (n : Fin 128) (c : Fin 64) (d : Fin 128) : A_main_v335 a0 a1 a2 a3 a4 a5 a6 (ix5 n b hd c d : S128x4x4x64x128.Idx) = (par a0 a1 a2 a3 a4 a5 a6 a7 a8 a9).kn b hd (64 * n + c) d * Ideal.exp ((par a0 a1 a2 a3 a4 a5 a6 a7 a8 a9).cum b hd n 63 - (par a0 a1 a2 a3 a4 a5 a6 a7 a8 a9).cum b hd n c) := by
  rw [e335 _ _ _ _ _ _ _ _ rfl, e326 _ _ _ _ _ _ _ _ _ _ rfl rfl rfl, r149 a0 a1 a2 a3 a4 a5 a6 a7 a8 a9, e319 _ _ _ _ _ _ _ _ rfl, r156 a0 a1 a2 a3 a4 a5 a6 a7 a8 a9, r156 a0 a1 a2 a3 a4 a5 a6 a7 a8 a9]
theorem e336 (X : (⟨S4x4x128, .f32⟩ : BufTy).Contents (Elt Ideal)) (h : A_main_v319 a0 a1 a2 a3 a4 a5 a6 = X) (b hd : U) (n : Fin 128) : A_main_v336 a0 a1 a2 a3 a4 a5 a6 (ix3 n b hd : S128x4x4.Idx) = X (ix3 b hd n : S4x4x128.Idx) := by
  unfold A_main_v336
  rw [h]
  pointwise
theorem r336 (b hd : U) (n : Fin 128) : A_main_v336 a0 a1 a2 a3 a4 a5 a6 (ix3 n b hd : S128x4x4.Idx) = (par a0 a1 a2 a3 a4 a5 a6 a7 a8 a9).cum b hd n 63 := by
  rw [e336 _ _ _ _ _ _ _ _ rfl, e319 _ _ _ _ _ _ _ _ rfl, r156 a0 a1 a2 a3 a4 a5 a6 a7 a8 a9]
end
end Cert.Mix
end
-- ==== Proof.Proof.MixRefD.lean ====
module
public import proofs.«01_k».proof.Proof.Proof.MixRefC
public import proofs.«01_k».proof.Proof.Proof.MixWin
public import proofs.«01_k».proof.Proof.Gen.ReferenceIdeal.Step
public import Idealize.ShloMosaic.Lib.Pointwise
public import Idealize.ShloMosaic.Lib.Tactic
public import Idealize.ShloMosaic.Lib.DynamicIndex

@[expose] public section
set_option maxRecDepth 16384
noncomputable section
namespace Cert.Mix
open Idealize.ShloMosaic Idealize.SL.Sem Cert.ReferenceIdeal Cert.ReferenceIdeal.Step
open Cert.ReferenceIdeal.Gen
open Cert.KernelIdeal.Mix (U hrow eps)

/-! One trip of the loop, read at an index. -/
theorem st5 (j : ℕ) (hj : j < 128) (x : Shape.Idx S_) : (fun k : Fin 5 => (((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal))) k x).toInt) = fun a => ((![j, 0, 0, 0, 0] : Fin 5 → ℕ) a : ℤ) := by
  funext a
  fin_cases a
  · exact toInt_ofNat_of_lt (show j < 2 ^ 31 by omega)
  all_goals rfl
theorem st3 (j : ℕ) (hj : j < 128) (x : Shape.Idx S_) : (fun k : Fin 3 => (((![(constantI S_ 32 (BitVec.ofNat 32 j) : (⟨S_, .i32⟩ : BufTy).Contents (Elt Ideal)), constantI S_ 32 0#32, constantI S_ 32 0#32] : Fin 3 → (⟨S_, .i32⟩ : BufTy).Contents (Elt Ideal))) k x).toInt) = fun a => ((![j, 0, 0] : Fin 3 → ℕ) a : ℤ) := by
  funext a
  fin_cases a
  · exact toInt_ofNat_of_lt (show j < 2 ^ 31 by omega)
  all_goals rfl
/-- A chunk of a stack. -/
theorem dsl (X : (⟨S128x4x4x64x128, .f32⟩ : BufTy).Contents (Elt Ideal)) (j : ℕ) (hj : j < 128) (st : Fin 5 → ℤ) (hs : st = fun a => ((![j, 0, 0, 0, 0] : Fin 5 → ℕ) a : ℤ)) (b hd : U) (c : Fin 64) (d : Fin 128) :
    shapeCast S4x4x64x128 (Host.dynamicSlice S1x4x4x64x128 X st sliceFits_S128x4x4x64x128_S1x4x4x64x128) shapeCasts_S1x4x4x64x128_S4x4x64x128 (ix4 b hd c d : S4x4x64x128.Idx) = X (ix5 ⟨j, hj⟩ b hd c d : S128x4x4x64x128.Idx) := by
  have hk : S128x4x4x64x128.Slices ![j, 0, 0, 0, 0] S1x4x4x64x128 := ⟨rfl, fun a => by fin_cases a <;> simp; omega⟩
  rw [Host.dynamicSlice_eq_extractStridedSlice _ X st ![j, 0, 0, 0, 0] _ hk (fun a => congrFun hs a)]
  pointwise
/-- A chunk of a stack of square arrays. -/
theorem dslm (X : (⟨S128x4x4x64x64, .f32⟩ : BufTy).Contents (Elt Ideal)) (j : ℕ) (hj : j < 128) (st : Fin 5 → ℤ) (hs : st = fun a => ((![j, 0, 0, 0, 0] : Fin 5 → ℕ) a : ℤ)) (b hd : U) (c m : Fin 64) :
    shapeCast S4x4x64x64 (Host.dynamicSlice S1x4x4x64x64 X st sliceFits_S128x4x4x64x64_S1x4x4x64x64) shapeCasts_S1x4x4x64x64_S4x4x64x64 (ix4 b hd c m : S4x4x64x64.Idx) = X (ix5 ⟨j, hj⟩ b hd c m : S128x4x4x64x64.Idx) := by
  have hk : S128x4x4x64x64.Slices ![j, 0, 0, 0, 0] S1x4x4x64x64 := ⟨rfl, fun a => by fin_cases a <;> simp; omega⟩
  rw [Host.dynamicSlice_eq_extractStridedSlice _ X st ![j, 0, 0, 0, 0] _ hk (fun a => congrFun hs a)]
  pointwise
/-- A chunk of a stack of scalars. -/
theorem dsls (X : (⟨S128x4x4, .f32⟩ : BufTy).Contents (Elt Ideal)) (j : ℕ) (hj : j < 128) (st : Fin 3 → ℤ) (hs : st = fun a => ((![j, 0, 0] : Fin 3 → ℕ) a : ℤ)) (b hd : U) :
    shapeCast S4x4 (Host.dynamicSlice S1x4x4 X st sliceFits_S128x4x4_S1x4x4) shapeCasts_S1x4x4_S4x4 (ix2 b hd : S4x4.Idx) = X (ix3 ⟨j, hj⟩ b hd : S128x4x4.Idx) := by
  have hk : S128x4x4.Slices ![j, 0, 0] S1x4x4 := ⟨rfl, fun a => by fin_cases a <;> simp; omega⟩
  rw [Host.dynamicSlice_eq_extractStridedSlice _ X st ![j, 0, 0] _ hk (fun a => congrFun hs a)]
  pointwise
/-- A stack with one chunk replaced. -/
theorem dus (X : (⟨S128x4x4x64x128, .f32⟩ : BufTy).Contents (Elt Ideal)) (Y : (⟨S1x4x4x64x128, .f32⟩ : BufTy).Contents (Elt Ideal)) (j : ℕ) (hj : j < 128) (st : Fin 5 → ℤ) (hs : st = fun a => ((![j, 0, 0, 0, 0] : Fin 5 → ℕ) a : ℤ)) (n : Fin 128) (b hd : U) (c : Fin 64) (d : Fin 128) :
    Host.dynamicUpdateSlice X Y st updateFits_S128x4x4x64x128_S1x4x4x64x128 (ix5 n b hd c d : S128x4x4x64x128.Idx)
      = if n.val = j then Y (ix5 0 b hd c d : S1x4x4x64x128.Idx) else X (ix5 n b hd c d : S128x4x4x64x128.Idx) := by
  have hc : ∀ a : Fin 5, Host.clampedStart S128x4x4x64x128 S1x4x4x64x128 rfl st a = (![j, 0, 0, 0, 0] : Fin 5 → ℕ) a := by
    intro a
    refine Host.clampedStart_of_le (s := S128x4x4x64x128) (t := S1x4x4x64x128) rfl st a _ (congrFun hs a) ?_
    fin_cases a
    · exact (show j + 1 ≤ 128 by omega)
    all_goals exact le_of_eq (Nat.zero_add _)
  rw [Host.dynamicUpdateSlice_apply]
  by_cases hn : n.val = j
  · rw [if_pos hn, dif_pos]
    · congr 1
      funext a
      apply Fin.ext
      fin_cases a <;> simp [hc, hn, Shape.Idx.norm, ix5]
    · intro a
      rw [hc]
      fin_cases a <;> simp [ix5, hn]
  · rw [if_neg hn, dif_neg]
    intro h
    have h0 := h (0 : Fin 5)
    rw [hc] at h0
    apply hn
    have h1 : j ≤ n.val := h0.1
    have h2 : n.val < j + 1 := h0.2
    omega
section
variable (j : ℕ) (hj : j < 128) (s : State Ideal)
include hj
theorem b5_at (b hd : U) (c : Fin 64) (d : Fin 128) : b5 j s (ix4 b hd c d : S4x4x64x128.Idx) = s.main_v339_0 (ix5 ⟨j, hj⟩ b hd c d : S128x4x4x64x128.Idx) :=
  dsl _ j hj _ (st5 j hj _) b hd c d
theorem b11_at (b hd : U) (c : Fin 64) (d : Fin 128) : b11 j s (ix4 b hd c d : S4x4x64x128.Idx) = s.main_v339_1 (ix5 ⟨j, hj⟩ b hd c d : S128x4x4x64x128.Idx) :=
  dsl _ j hj _ (st5 j hj _) b hd c d
theorem b17_at (b hd : U) (c : Fin 64) (d : Fin 128) : b17 j s (ix4 b hd c d : S4x4x64x128.Idx) = s.main_v339_2 (ix5 ⟨j, hj⟩ b hd c d : S128x4x4x64x128.Idx) :=
  dsl _ j hj _ (st5 j hj _) b hd c d
theorem b29_at (b hd : U) (c : Fin 64) (d : Fin 128) : b29 j s (ix4 b hd c d : S4x4x64x128.Idx) = s.main_v339_4 (ix5 ⟨j, hj⟩ b hd c d : S128x4x4x64x128.Idx) :=
  dsl _ j hj _ (st5 j hj _) b hd c d
theorem b23_at (b hd : U) (c m : Fin 64) : b23 j s (ix4 b hd c m : S4x4x64x64.Idx) = s.main_v339_3 (ix5 ⟨j, hj⟩ b hd c m : S128x4x4x64x64.Idx) :=
  dslm _ j hj _ (st5 j hj _) b hd c m
theorem b33_at (b hd : U) : b33 j s (ix2 b hd : S4x4.Idx) = s.main_v339_5 (ix3 ⟨j, hj⟩ b hd : S128x4x4.Idx) :=
  dsls _ j hj _ (st3 j hj _) b hd
theorem b50_at (n : Fin 128) (b hd : U) (c : Fin 64) (d : Fin 128) : b50 j s (ix5 n b hd c d : S128x4x4x64x128.Idx)
    = if n.val = j then b45 j s (ix5 0 b hd c d : S1x4x4x64x128.Idx) else s.main_v339_8 (ix5 n b hd c d : S128x4x4x64x128.Idx) :=
  dus _ _ j hj _ (st5 j hj _) n b hd c d
omit hj
theorem e35 (W V : (⟨S4x4x64x128, .f32⟩ : BufTy).Contents (Elt Ideal)) (X : (⟨S4x4x128x128, .f32⟩ : BufTy).Contents (Elt Ideal)) (h : b11 j s = W) (h' : b17 j s = V) (h'' : s.main_v339_7 = X) (b hd : U) (c : Fin 64) (e : Fin 128) :
    b35 j s (ix4 b hd c e : S4x4x64x128.Idx) = V (ix4 b hd c e : S4x4x64x128.Idx) - ∑ k, W (ix4 b hd c k : S4x4x64x128.Idx) * X (ix4 b hd k e : S4x4x128x128.Idx) := by
  unfold b35 b34
  rw [h, h', h'']
  pointwise
theorem e38 (Q V : (⟨S4x4x64x128, .f32⟩ : BufTy).Contents (Elt Ideal)) (A : (⟨S4x4x64x64, .f32⟩ : BufTy).Contents (Elt Ideal)) (X : (⟨S4x4x128x128, .f32⟩ : BufTy).Contents (Elt Ideal)) (h : b5 j s = Q) (h' : b35 j s = V) (ha : b23 j s = A) (h'' : s.main_v339_7 = X) (b hd : U) (c : Fin 64) (e : Fin 128) :
    b38 j s (ix4 b hd c e : S4x4x64x128.Idx) = (∑ k, Q (ix4 b hd c k : S4x4x64x128.Idx) * X (ix4 b hd k e : S4x4x128x128.Idx)) + ∑ m, A (ix4 b hd c m : S4x4x64x64.Idx) * V (ix4 b hd m e : S4x4x64x128.Idx) := by
  unfold b38 b36 b37
  rw [h, h', ha, h'']
  pointwise
theorem e44 (G : (⟨S4x4, .f32⟩ : BufTy).Contents (Elt Ideal)) (K V : (⟨S4x4x64x128, .f32⟩ : BufTy).Contents (Elt Ideal)) (X : (⟨S4x4x128x128, .f32⟩ : BufTy).Contents (Elt Ideal)) (h : b33 j s = G) (hk : b29 j s = K) (h' : b35 j s = V) (h'' : s.main_v339_7 = X) (b hd : U) (d e : Fin 128) :
    b44 j s (ix4 b hd d e : S4x4x128x128.Idx) = X (ix4 b hd d e : S4x4x128x128.Idx) * Ideal.exp (G (ix2 b hd : S4x4.Idx)) + ∑ c, K (ix4 b hd c d : S4x4x64x128.Idx) * V (ix4 b hd c e : S4x4x64x128.Idx) := by
  unfold b44 b43 b42 b41 b40 b39
  rw [h, hk, h', h'']
  pointwise
theorem e45 (V : (⟨S4x4x64x128, .f32⟩ : BufTy).Contents (Elt Ideal)) (h : b38 j s = V) (b hd : U) (c : Fin 64) (d : Fin 128) : b45 j s (ix5 0 b hd c d : S1x4x4x64x128.Idx) = V (ix4 b hd c d : S4x4x64x128.Idx) := by
  unfold b45
  rw [h]
  pointwise
end
/-- The loop's state before chunk j: what it is given, the states' recurrence, and the outputs of the chunks before. -/
structure Inv (p : Par) (j : ℕ) (s : State Ideal) : Prop where
  f0 : ∀ (n : Fin 128) (b hd : U) (c : Fin 64) (d : Fin 128), s.main_v339_0 (ix5 n b hd c d : S128x4x4x64x128.Idx) = p.qn b hd (64 * n + c) d * Ideal.exp (p.cum b hd n c)
  f1 : ∀ (n : Fin 128) (b hd : U) (c : Fin 64) (d : Fin 128), s.main_v339_1 (ix5 n b hd c d : S128x4x4x64x128.Idx) = p.w b hd n c d
  f2 : ∀ (n : Fin 128) (b hd : U) (c : Fin 64) (d : Fin 128), s.main_v339_2 (ix5 n b hd c d : S128x4x4x64x128.Idx) = p.u b hd n c d
  f3 : ∀ (n : Fin 128) (b hd : U) (c m : Fin 64), s.main_v339_3 (ix5 n b hd c m : S128x4x4x64x64.Idx) = p.att b hd n c m
  f4 : ∀ (n : Fin 128) (b hd : U) (c : Fin 64) (d : Fin 128), s.main_v339_4 (ix5 n b hd c d : S128x4x4x64x128.Idx) = p.kn b hd (64 * n + c) d * Ideal.exp (p.cum b hd n 63 - p.cum b hd n c)
  f5 : ∀ (n : Fin 128) (b hd : U), s.main_v339_5 (ix3 n b hd : S128x4x4.Idx) = p.cum b hd n 63
  f7 : ∀ (b hd : U) (d e : Fin 128), s.main_v339_7 (ix4 b hd d e : S4x4x128x128.Idx) = p.S b hd j d e
  f8 : ∀ (n : Fin 128), n.val < j → ∀ (b hd : U) (c : Fin 64) (e : Fin 128), s.main_v339_8 (ix5 n b hd c e : S128x4x4x64x128.Idx) = p.oc b hd n (p.S b hd n) c e
theorem Inv.vn {p : Par} {j : ℕ} {s : State Ideal} (h : Inv p j s) (hj : j < 128) (b hd : U) (c : Fin 64) (e : Fin 128) : b35 j s (ix4 b hd c e : S4x4x64x128.Idx) = p.vn b hd j (p.S b hd j) c e := by
  rw [e35 j s _ _ _ rfl rfl rfl]
  simp only [b11_at j hj, b17_at j hj, h.f1, h.f2, h.f7]
  rfl
theorem Inv.oc {p : Par} {j : ℕ} {s : State Ideal} (h : Inv p j s) (hj : j < 128) (b hd : U) (c : Fin 64) (e : Fin 128) : b38 j s (ix4 b hd c e : S4x4x64x128.Idx) = p.oc b hd j (p.S b hd j) c e := by
  rw [e38 j s _ _ _ _ rfl rfl rfl rfl]
  simp only [b5_at j hj, b23_at j hj, h.f0, h.f3, h.f7, h.vn hj]
  rfl
theorem Inv.st {p : Par} {j : ℕ} {s : State Ideal} (h : Inv p j s) (hj : j < 128) (b hd : U) (d e : Fin 128) : b44 j s (ix4 b hd d e : S4x4x128x128.Idx) = p.S b hd (j + 1) d e := by
  rw [e44 j s _ _ _ _ rfl rfl rfl rfl]
  simp only [b33_at j hj, b29_at j hj, h.f4, h.f5, h.f7, h.vn hj]
  rfl
/-- A trip keeps the description. -/
theorem Inv.next {p : Par} {j : ℕ} {s : State Ideal} (h : Inv p j s) (hj : j < 128) : Inv p (j + 1) (step j s) where
  f0 := h.f0
  f1 := h.f1
  f2 := h.f2
  f3 := h.f3
  f4 := h.f4
  f5 := h.f5
  f7 := h.st hj
  f8 n hn b hd c e := by
    rw [step_main_v339_8, b50_at j hj]
    by_cases e0 : n.val = j
    · rw [if_pos e0, e45 j s _ rfl, h.oc hj, e0]
    · rw [if_neg e0]
      exact h.f8 n (by omega) b hd c e
/-- The states in turn. -/
def iter (s : State Ideal) : ℕ → State Ideal
  | 0 => s
  | n + 1 => step n (iter s n)
theorem Inv.all {p : Par} {s : State Ideal} (h : Inv p 0 s) : ∀ n, n ≤ 128 → Inv p n (iter s n)
  | 0, _ => h
  | n + 1, hn => (Inv.all h n (by omega)).next (by omega)
section
variable (a0 : (⟨S4x8192x1024, .f32⟩ : BufTy).Contents (Elt Ideal)) (a1 : (⟨S4x6x1024, .f32⟩ : BufTy).Contents (Elt Ideal)) (a2 : (⟨S1x1024, .f32⟩ : BufTy).Contents (Elt Ideal)) (a3 : (⟨S1x1024x3592, .f32⟩ : BufTy).Contents (Elt Ideal)) (a4 : (⟨S1x4x1536, .f32⟩ : BufTy).Contents (Elt Ideal)) (a5 a6 : (⟨S1x4, .f32⟩ : BufTy).Contents (Elt Ideal))
    (a7 : (⟨S1x128, .f32⟩ : BufTy).Contents (Elt Ideal)) (a8 : (⟨S1x3x512, .f32⟩ : BufTy).Contents (Elt Ideal)) (a9 : (⟨S1x1024x1024, .f32⟩ : BufTy).Contents (Elt Ideal))

theorem k337 (b hd : U) (d e : Fin 128) : K_main_v337 (F := Ideal) (ix4 b hd d e : S4x4x128x128.Idx) = 0 := by
  pointwise [K_main_v337, K_main_cst_24]
/-- The loop starts as described. -/
theorem inv0 : Inv (par a0 a1 a2 a3 a4 a5 a6 a7 a8 a9) 0 (init a0 a1 a2 a3 a4 a5 a6) where
  f0 n b hd c d := r331 a0 a1 a2 a3 a4 a5 a6 a7 a8 a9 b hd n c d
  f1 n b hd c d := r332 a0 a1 a2 a3 a4 a5 a6 a7 a8 a9 b hd n c d
  f2 n b hd c d := r333 a0 a1 a2 a3 a4 a5 a6 a7 a8 a9 b hd n c d
  f3 n b hd c m := r334 a0 a1 a2 a3 a4 a5 a6 a7 a8 a9 b hd n c m
  f4 n b hd c d := r335 a0 a1 a2 a3 a4 a5 a6 a7 a8 a9 b hd n c d
  f5 n b hd := r336 a0 a1 a2 a3 a4 a5 a6 a7 a8 a9 b hd n
  f7 b hd d e := k337 b hd d e
  f8 n hn := absurd hn (Nat.not_lt_zero _)
/-- What the loop leaves. -/
theorem r_loop (n : Fin 128) (b hd : U) (c : Fin 64) (e : Fin 128) : (iter (init a0 a1 a2 a3 a4 a5 a6) 128).main_v339_8 (ix5 n b hd c e : S128x4x4x64x128.Idx) = (par a0 a1 a2 a3 a4 a5 a6 a7 a8 a9).oc b hd n ((par a0 a1 a2 a3 a4 a5 a6 a7 a8 a9).S b hd n) c e :=
  ((inv0 a0 a1 a2 a3 a4 a5 a6 a7 a8 a9).all 128 le_rfl).f8 n n.isLt b hd c e
end
end Cert.Mix
end
-- ==== Proof.Proof.MixRefE.lean ====
module
public import proofs.«01_k».proof.Proof.Proof.MixRefD
public import proofs.«01_k».proof.Proof.Proof.MixWin
public import proofs.«01_k».proof.Proof.Gen.ReferenceIdeal.Step
public import Idealize.ShloMosaic.Lib.Pointwise
public import Idealize.ShloMosaic.Lib.Tactic
public import Idealize.ShloMosaic.Lib.DynamicIndex

@[expose] public section
set_option maxRecDepth 16384
noncomputable section
namespace Cert.Mix
open Idealize.ShloMosaic Idealize.SL.Sem Cert.ReferenceIdeal Cert.ReferenceIdeal.Step
open Cert.ReferenceIdeal.Gen
open Cert.KernelIdeal.Mix (U hrow eps)

/-! The stages after the loop. -/
def Dc1536 (X : FVec Ideal S4x8192x1024 .f32) (a3 : FVec Ideal S1x1024x3592 .f32) : FVec Ideal S4x8192x512 .f32 :=
  Host.dotGeneral dot_S4x8192x1024_S1024x512_S4x8192x512_2_0_01_1_n_n none (X) (shapeCast _ (extractStridedSlice S1x1024x512 ![0, 0, 1536] (a3) slices_S1x1024x3592_S1x1024x512_0_0_1536) shapeCasts_S1x1024x512_S1024x512)
def Dc2056 (X : FVec Ideal S4x8192x1024 .f32) (a3 : FVec Ideal S1x1024x3592 .f32) : FVec Ideal S4x8192x512 .f32 :=
  Host.dotGeneral dot_S4x8192x1024_S1024x512_S4x8192x512_2_0_01_1_n_n none (X) (shapeCast _ (extractStridedSlice S1x1024x512 ![0, 0, 2056] (a3) slices_S1x1024x3592_S1x1024x512_0_0_2056) shapeCasts_S1x1024x512_S1024x512)
def Dc2568 (X : FVec Ideal S4x8192x1024 .f32) (a3 : FVec Ideal S1x1024x3592 .f32) : FVec Ideal S4x8192x512 .f32 :=
  Host.dotGeneral dot_S4x8192x1024_S1024x512_S4x8192x512_2_0_01_1_n_n none (X) (shapeCast _ (extractStridedSlice S1x1024x512 ![0, 0, 2568] (a3) slices_S1x1024x3592_S1x1024x512_0_0_2568) shapeCasts_S1x1024x512_S1024x512)
def Dc3080 (X : FVec Ideal S4x8192x1024 .f32) (a3 : FVec Ideal S1x1024x3592 .f32) : FVec Ideal S4x8192x512 .f32 :=
  Host.dotGeneral dot_S4x8192x1024_S1024x512_S4x8192x512_2_0_01_1_n_n none (X) (shapeCast _ (extractStridedSlice S1x1024x512 ![0, 0, 3080] (a3) slices_S1x1024x3592_S1x1024x512_0_0_3080) shapeCasts_S1x1024x512_S1024x512)
def Og (S : FVec Ideal S128x4x4x64x128 .f32) : FVec Ideal S4x8192x4x128 .f32 :=
  shapeCast _ (transpose S4x128x64x4x128 [1, 0, 3, 2, 4] (S) transposes_S128x4x4x64x128_S4x128x64x4x128_1_0_3_2_4) shapeCasts_S4x128x64x4x128_S4x8192x4x128
def Zr (D1536 : FVec Ideal S4x8192x512 .f32) : FVec Ideal S4x8192x4x128 .f32 :=
  shapeCast _ (D1536) shapeCasts_S4x8192x512_S4x8192x4x128
def Yh (O Z : FVec Ideal S4x8192x4x128 .f32) (a7 : FVec Ideal S1x128 .f32) : FVec Ideal S4x8192x4x128 .f32 :=
  mulf (mulf (mulf (O) (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf (O) (O)) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 (shapeCast _ (a7) shapeCasts_S1x128_S128)))) (mulf (Z) (Host.divf (broadcastInDim S4x8192x4x128 ![] bcast_S_S4x8192x4x128 (constant S_ .f32 0x3F800000#32)) (addf (broadcastInDim S4x8192x4x128 ![] bcast_S_S4x8192x4x128 (constant S_ .f32 0x3F800000#32)) (Host.exp (Host.negf (Z))))))
def Yr (YH : FVec Ideal S4x8192x4x128 .f32) : FVec Ideal S4x8192x512 .f32 :=
  shapeCast _ (YH) shapeCasts_S4x8192x4x128_S4x8192x512
def Bm (D2568 D3080 : FVec Ideal S4x8192x512 .f32) : FVec Ideal S4x8192x512 .f32 :=
  mulf D2568 D3080
def Ys (G B : FVec Ideal S4x8192x512 .f32) (a8 : FVec Ideal S1x3x512 .f32) : FVec Ideal S4x8192x512 .f32 :=
  mulf (G) (addf (addf (mulf (extractStridedSlice S4x8192x512 ![0, 0, 0] (pad S4x8194x512 ![0, 2, 0] ![0, 0, 0] ![0, 0, 0] (B) (sitofp .f32 (constantI S_ 32 0#32)) pads_S4x8192x512_S4x8194x512_000_200_000 h_S_) slices_S4x8194x512_S4x8192x512_0_0_0) (broadcastInDim S4x8192x512 ![0, 1, 2] bcast_S1x1x512_S4x8192x512_0_1_2 (broadcastInDim S1x1x512 ![2] bcast_S512_S1x1x512_2 (shapeCast _ (extractStridedSlice S1x512 ![0, 0] (shapeCast _ (a8) shapeCasts_S1x3x512_S3x512) slices_S3x512_S1x512_0_0) shapeCasts_S1x512_S512)))) (mulf (extractStridedSlice S4x8192x512 ![0, 1, 0] (pad S4x8194x512 ![0, 2, 0] ![0, 0, 0] ![0, 0, 0] (B) (sitofp .f32 (constantI S_ 32 0#32)) pads_S4x8192x512_S4x8194x512_000_200_000 h_S_) slices_S4x8194x512_S4x8192x512_0_1_0) (broadcastInDim S4x8192x512 ![0, 1, 2] bcast_S1x1x512_S4x8192x512_0_1_2 (broadcastInDim S1x1x512 ![2] bcast_S512_S1x1x512_2 (shapeCast _ (extractStridedSlice S1x512 ![1, 0] (shapeCast _ (a8) shapeCasts_S1x3x512_S3x512) slices_S3x512_S1x512_1_0) shapeCasts_S1x512_S512))))) (mulf (extractStridedSlice S4x8192x512 ![0, 2, 0] (pad S4x8194x512 ![0, 2, 0] ![0, 0, 0] ![0, 0, 0] (B) (sitofp .f32 (constantI S_ 32 0#32)) pads_S4x8192x512_S4x8194x512_000_200_000 h_S_) slices_S4x8194x512_S4x8192x512_0_2_0) (broadcastInDim S4x8192x512 ![0, 1, 2] bcast_S1x1x512_S4x8192x512_0_1_2 (broadcastInDim S1x1x512 ![2] bcast_S512_S1x1x512_2 (shapeCast _ (extractStridedSlice S1x512 ![2, 0] (shapeCast _ (a8) shapeCasts_S1x3x512_S3x512) slices_S3x512_S1x512_2_0) shapeCasts_S1x512_S512)))))
def Fo (a0 : FVec Ideal S4x8192x1024 .f32) (a1 : FVec Ideal S4x6x1024 .f32) (YR YS : FVec Ideal S4x8192x512 .f32) (a9 : FVec Ideal S1x1024x1024 .f32) : FVec Ideal S4x8192x1024 .f32 :=
  addf (a0) (mulf (broadcastInDim S4x8192x1024 ![0, 1, 2] bcast_S4x1x1024_S4x8192x1024_0_1_2 (extractStridedSlice S4x1x1024 ![0, 2, 0] (a1) slices_S4x6x1024_S4x1x1024_0_2_0)) (Host.dotGeneral dot_S4x8192x1024_S1024x1024_S4x8192x1024_2_0_01_1_n_n none (concatenate S4x8192x1024 2 [⟨S4x8192x512, (YR)⟩, ⟨S4x8192x512, (YS)⟩] concatenates_S4x8192x512_S4x8192x512_S4x8192x1024_d2) (shapeCast _ (a9) shapeCasts_S1x1024x1024_S1024x1024)))
theorem d1536 (X : FVec Ideal S4x8192x1024 .f32) (a3 : FVec Ideal S1x1024x3592 .f32) (b : U) (t : Fin 8192) (c : Fin 512) : Dc1536 X a3 (ix3 b t c : S4x8192x512.Idx) = ∑ k, X (ix3 b t k : S4x8192x1024.Idx) * a3 (ix3 0 k ⟨1536 + c, by omega⟩ : S1x1024x3592.Idx) := by
  unfold Dc1536
  pointwise
theorem d2056 (X : FVec Ideal S4x8192x1024 .f32) (a3 : FVec Ideal S1x1024x3592 .f32) (b : U) (t : Fin 8192) (c : Fin 512) : Dc2056 X a3 (ix3 b t c : S4x8192x512.Idx) = ∑ k, X (ix3 b t k : S4x8192x1024.Idx) * a3 (ix3 0 k ⟨2056 + c, by omega⟩ : S1x1024x3592.Idx) := by
  unfold Dc2056
  pointwise
theorem d2568 (X : FVec Ideal S4x8192x1024 .f32) (a3 : FVec Ideal S1x1024x3592 .f32) (b : U) (t : Fin 8192) (c : Fin 512) : Dc2568 X a3 (ix3 b t c : S4x8192x512.Idx) = ∑ k, X (ix3 b t k : S4x8192x1024.Idx) * a3 (ix3 0 k ⟨2568 + c, by omega⟩ : S1x1024x3592.Idx) := by
  unfold Dc2568
  pointwise
theorem d3080 (X : FVec Ideal S4x8192x1024 .f32) (a3 : FVec Ideal S1x1024x3592 .f32) (b : U) (t : Fin 8192) (c : Fin 512) : Dc3080 X a3 (ix3 b t c : S4x8192x512.Idx) = ∑ k, X (ix3 b t k : S4x8192x1024.Idx) * a3 (ix3 0 k ⟨3080 + c, by omega⟩ : S1x1024x3592.Idx) := by
  unfold Dc3080
  pointwise
theorem og (S : FVec Ideal S128x4x4x64x128 .f32) (b : U) (t : Fin 8192) (hd : U) (e : Fin 128) : Og S (ix4 b t hd e : S4x8192x4x128.Idx) = S (ix5 ⟨t.val / 64, by omega⟩ b hd ⟨t.val % 64, by omega⟩ e : S128x4x4x64x128.Idx) := by
  unfold Og
  pointwise
theorem zr (D : FVec Ideal S4x8192x512 .f32) (b : U) (t : Fin 8192) (hd : U) (e : Fin 128) : Zr D (ix4 b t hd e : S4x8192x4x128.Idx) = D (ix3 b t ⟨128 * hd.val + e.val, by omega⟩ : S4x8192x512.Idx) := by
  unfold Zr
  pointwise
  congr 2
  exact Fin.ext (by show hd.val * 128 + e.val = 128 * hd.val + e.val; omega)
theorem yh_at (O Z : FVec Ideal S4x8192x4x128 .f32) (a7 : FVec Ideal S1x128 .f32) (b : U) (t : Fin 8192) (hd : U) (e : Fin 128) : Yh O Z a7 (ix4 b t hd e : S4x8192x4x128.Idx)
    = O (ix4 b t hd e : S4x8192x4x128.Idx) * Ideal.rsqrt (Ideal.div (∑ k, O (ix4 b t hd k : S4x8192x4x128.Idx) * O (ix4 b t hd k : S4x8192x4x128.Idx)) (Ideal.ofBits FTy.f32 1124073472#32) + eps) * a7 (ix2 0 e : S1x128.Idx) * (Z (ix4 b t hd e : S4x8192x4x128.Idx) * Ideal.logistic (Z (ix4 b t hd e : S4x8192x4x128.Idx))) := by
  unfold Yh
  pointwise
  rfl
theorem yr (Y : FVec Ideal S4x8192x4x128 .f32) (b : U) (t : Fin 8192) (c : Fin 512) : Yr Y (ix3 b t c : S4x8192x512.Idx) = Y (ix4 b t ⟨c.val / 128, by omega⟩ ⟨c.val % 128, by omega⟩ : S4x8192x4x128.Idx) := by
  unfold Yr
  pointwise
/-- An array of rows under eight rows of zeros. -/
def Bz (B : FVec Ideal S4x8192x512 .f32) (b : U) (c : Fin 512) (n : ℕ) : EReal := if h : 8 ≤ n ∧ n - 8 < 8192 then B (ix3 b ⟨n - 8, h.2⟩ c : S4x8192x512.Idx) else 0
theorem ys_at (G B : FVec Ideal S4x8192x512 .f32) (a8 : FVec Ideal S1x3x512 .f32) (b : U) (t : Fin 8192) (c : Fin 512) : Ys G B a8 (ix3 b t c : S4x8192x512.Idx)
    = G (ix3 b t c : S4x8192x512.Idx) * ((Bz B b c (t + 8) * a8 (ix3 0 2 c : S1x3x512.Idx) + Bz B b c (t + 7) * a8 (ix3 0 1 c : S1x3x512.Idx)) + Bz B b c (t + 6) * a8 (ix3 0 0 c : S1x3x512.Idx)) := by
  unfold Ys
  pointwise
  have hz : (FloatOps.sitofp (F := Ideal) FTy.f32 (0#32 : BitVec 32) : EReal) = 0 := by
    show (((0#32 : BitVec 32).toInt : ℝ) : EReal) = 0
    simp
  have e0 : Bz B b c (t.val + 6) = if h : 2 ≤ t.val ∧ t.val - 2 < 8192 then B (ix3 b ⟨t.val - 2, h.2⟩ c : S4x8192x512.Idx) else FloatOps.sitofp (F := Ideal) FTy.f32 (0#32 : BitVec 32) := by
    rw [hz]
    unfold Bz
    by_cases h : 2 ≤ t.val
    · rw [dif_pos ⟨by omega, by omega⟩, dif_pos ⟨h, by omega⟩]
      congr 2
    · rw [dif_neg fun hh => h (by omega), dif_neg fun hh => h hh.1]
  have e1 : Bz B b c (t.val + 7) = if h : 2 ≤ 1 + t.val ∧ 1 + t.val - 2 < 8192 then B (ix3 b ⟨1 + t.val - 2, h.2⟩ c : S4x8192x512.Idx) else FloatOps.sitofp (F := Ideal) FTy.f32 (0#32 : BitVec 32) := by
    rw [hz]
    unfold Bz
    by_cases h : 2 ≤ 1 + t.val
    · rw [dif_pos ⟨by omega, by omega⟩, dif_pos ⟨h, by omega⟩]
      congr 2
      exact Fin.ext (by show t.val + 7 - 8 = 1 + t.val - 2; omega)
    · rw [dif_neg fun hh => h (by omega), dif_neg fun hh => h hh.1]
  have e2 : Bz B b c (t.val + 8) = B (ix3 b t c : S4x8192x512.Idx) := by
    unfold Bz
    rw [dif_pos ⟨by omega, by omega⟩]
    congr 2
  rw [e0, e1, e2]
  congr 1
  rw [add_comm _ (B _ * _), add_comm (_ * a8 (ix3 0 0 c)), ← add_assoc]
theorem fo (a0 : FVec Ideal S4x8192x1024 .f32) (a1 : FVec Ideal S4x6x1024 .f32) (R S : FVec Ideal S4x8192x512 .f32) (a9 : FVec Ideal S1x1024x1024 .f32) (b : U) (t : Fin 8192) (k : Fin 1024) : Fo a0 a1 R S a9 (ix3 b t k : S4x8192x1024.Idx)
    = a0 (ix3 b t k : S4x8192x1024.Idx) + a1 (ix3 b 2 k : S4x6x1024.Idx) * ∑ j : Fin 1024, (if hj : j.val < 512 then R (ix3 b t ⟨j.val, hj⟩ : S4x8192x512.Idx) else S (ix3 b t ⟨j.val - 512, by omega⟩ : S4x8192x512.Idx)) * a9 (ix3 0 j k : S1x1024x1024.Idx) := by
  unfold Fo
  pointwise
section
variable (a0 : (⟨S4x8192x1024, .f32⟩ : BufTy).Contents (Elt Ideal)) (a1 : (⟨S4x6x1024, .f32⟩ : BufTy).Contents (Elt Ideal)) (a2 : (⟨S1x1024, .f32⟩ : BufTy).Contents (Elt Ideal)) (a3 : (⟨S1x1024x3592, .f32⟩ : BufTy).Contents (Elt Ideal)) (a4 : (⟨S1x4x1536, .f32⟩ : BufTy).Contents (Elt Ideal)) (a5 a6 : (⟨S1x4, .f32⟩ : BufTy).Contents (Elt Ideal))
    (a7 : (⟨S1x128, .f32⟩ : BufTy).Contents (Elt Ideal)) (a8 : (⟨S1x3x512, .f32⟩ : BufTy).Contents (Elt Ideal)) (a9 : (⟨S1x1024x1024, .f32⟩ : BufTy).Contents (Elt Ideal))

theorem R_eq (s : State Ideal) : R_main_v490 s a0 a1 a2 a3 a7 a8 a9
    = Fo a0 a1 (Yr (Yh (Og s.main_v339_8) (Zr (Dc1536 (A_main_v21 a0 a1 a2 a3 a4 a5 a6) a3)) a7)) (Ys (Dc2056 (A_main_v21 a0 a1 a2 a3 a4 a5 a6) a3) (Bm (Dc2568 (A_main_v21 a0 a1 a2 a3 a4 a5 a6) a3) (Dc3080 (A_main_v21 a0 a1 a2 a3 a4 a5 a6) a3)) a8) a9 := by
  sl_kernel_rfl
theorem p1536 (b : U) (t : Fin 8192) (c : Fin 512) : Dc1536 (A_main_v21 a0 a1 a2 a3 a4 a5 a6) a3 (ix3 b t c : S4x8192x512.Idx) = (par a0 a1 a2 a3 a4 a5 a6 a7 a8 a9).P b (1536 + c) t := by
  rw [d1536]
  unfold Par.P
  exact Finset.sum_congr rfl fun k _ => by rw [r21 a0 a1 a2 a3 a4 a5 a6 a7 a8 a9, win_at a0 a1 a2 a3 a4 a5 a6 a7 a8 a9 _ _ (by omega)]
theorem p2056 (b : U) (t : Fin 8192) (c : Fin 512) : Dc2056 (A_main_v21 a0 a1 a2 a3 a4 a5 a6) a3 (ix3 b t c : S4x8192x512.Idx) = (par a0 a1 a2 a3 a4 a5 a6 a7 a8 a9).P b (2056 + c) t := by
  rw [d2056]
  unfold Par.P
  exact Finset.sum_congr rfl fun k _ => by rw [r21 a0 a1 a2 a3 a4 a5 a6 a7 a8 a9, win_at a0 a1 a2 a3 a4 a5 a6 a7 a8 a9 _ _ (by omega)]
theorem p2568 (b : U) (t : Fin 8192) (c : Fin 512) : Dc2568 (A_main_v21 a0 a1 a2 a3 a4 a5 a6) a3 (ix3 b t c : S4x8192x512.Idx) = (par a0 a1 a2 a3 a4 a5 a6 a7 a8 a9).P b (2568 + c) t := by
  rw [d2568]
  unfold Par.P
  exact Finset.sum_congr rfl fun k _ => by rw [r21 a0 a1 a2 a3 a4 a5 a6 a7 a8 a9, win_at a0 a1 a2 a3 a4 a5 a6 a7 a8 a9 _ _ (by omega)]
theorem p3080 (b : U) (t : Fin 8192) (c : Fin 512) : Dc3080 (A_main_v21 a0 a1 a2 a3 a4 a5 a6) a3 (ix3 b t c : S4x8192x512.Idx) = (par a0 a1 a2 a3 a4 a5 a6 a7 a8 a9).P b (3080 + c) t := by
  rw [d3080]
  unfold Par.P
  exact Finset.sum_congr rfl fun k _ => by rw [r21 a0 a1 a2 a3 a4 a5 a6 a7 a8 a9, win_at a0 a1 a2 a3 a4 a5 a6 a7 a8 a9 _ _ (by omega)]
theorem o_at (b : U) (t : Fin 8192) (hd : U) (e : Fin 128) : Og (iter (init a0 a1 a2 a3 a4 a5 a6) 128).main_v339_8 (ix4 b t hd e : S4x8192x4x128.Idx) = (par a0 a1 a2 a3 a4 a5 a6 a7 a8 a9).o b hd t e := by
  rw [og, r_loop a0 a1 a2 a3 a4 a5 a6 a7 a8 a9]
  rfl
theorem z_at (b : U) (t : Fin 8192) (hd : U) (e : Fin 128) : Zr (Dc1536 (A_main_v21 a0 a1 a2 a3 a4 a5 a6) a3) (ix4 b t hd e : S4x8192x4x128.Idx) = (par a0 a1 a2 a3 a4 a5 a6 a7 a8 a9).z b hd t e := by
  rw [zr, p1536 a0 a1 a2 a3 a4 a5 a6 a7 a8 a9]
  rfl
theorem yh_par (b : U) (t : Fin 8192) (hd : U) (e : Fin 128) : Yh (Og (iter (init a0 a1 a2 a3 a4 a5 a6) 128).main_v339_8) (Zr (Dc1536 (A_main_v21 a0 a1 a2 a3 a4 a5 a6) a3)) a7 (ix4 b t hd e : S4x8192x4x128.Idx) = (par a0 a1 a2 a3 a4 a5 a6 a7 a8 a9).yh b hd t e := by
  rw [yh_at]
  simp only [o_at a0 a1 a2 a3 a4 a5 a6 a7 a8 a9, z_at a0 a1 a2 a3 a4 a5 a6 a7 a8 a9]
  rfl
theorem bz_par (b : U) (c : Fin 512) (n : ℕ) (hn : n < 8200) : Bz (Bm (Dc2568 (A_main_v21 a0 a1 a2 a3 a4 a5 a6) a3) (Dc3080 (A_main_v21 a0 a1 a2 a3 a4 a5 a6) a3)) b c n = (par a0 a1 a2 a3 a4 a5 a6 a7 a8 a9).sz b c n := by
  unfold Bz Par.sz
  by_cases h : n < 8
  · rw [if_pos h, dif_neg fun hh => by omega]
  · rw [if_neg h, dif_pos ⟨by omega, by omega⟩]
    show Dc2568 (A_main_v21 a0 a1 a2 a3 a4 a5 a6) a3 _ * Dc3080 (A_main_v21 a0 a1 a2 a3 a4 a5 a6) a3 _ = _
    rw [p2568 a0 a1 a2 a3 a4 a5 a6 a7 a8 a9, p3080 a0 a1 a2 a3 a4 a5 a6 a7 a8 a9]
theorem ys_par (b : U) (t : Fin 8192) (c : Fin 512) : Ys (Dc2056 (A_main_v21 a0 a1 a2 a3 a4 a5 a6) a3) (Bm (Dc2568 (A_main_v21 a0 a1 a2 a3 a4 a5 a6) a3) (Dc3080 (A_main_v21 a0 a1 a2 a3 a4 a5 a6) a3)) a8 (ix3 b t c : S4x8192x512.Idx) = (par a0 a1 a2 a3 a4 a5 a6 a7 a8 a9).ys b t c := by
  rw [ys_at, p2056 a0 a1 a2 a3 a4 a5 a6 a7 a8 a9, bz_par a0 a1 a2 a3 a4 a5 a6 a7 a8 a9 _ _ _ (by omega), bz_par a0 a1 a2 a3 a4 a5 a6 a7 a8 a9 _ _ _ (by omega), bz_par a0 a1 a2 a3 a4 a5 a6 a7 a8 a9 _ _ _ (by omega)]
  rfl
/-- The reference's last array, at an index. -/
theorem r490 (b : U) (t : Fin 8192) (k : Fin 1024) : R_main_v490 (iter (init a0 a1 a2 a3 a4 a5 a6) 128) a0 a1 a2 a3 a7 a8 a9 (ix3 b t k : S4x8192x1024.Idx) = (par a0 a1 a2 a3 a4 a5 a6 a7 a8 a9).out b t k := by
  rw [R_eq a0 a1 a2 a3 a4 a5 a6 a7 a8 a9, fo]
  have hx : (par a0 a1 a2 a3 a4 a5 a6 a7 a8 a9).x b t k = a0 (ix3 b t k : S4x8192x1024.Idx) := dif_pos t.isLt
  have hm : (par a0 a1 a2 a3 a4 a5 a6 a7 a8 a9).md b 2 k = a1 (ix3 b 2 k : S4x6x1024.Idx) := rfl
  have hw : ∀ j, (par a0 a1 a2 a3 a4 a5 a6 a7 a8 a9).wout j k = a9 (ix3 0 j k : S1x1024x1024.Idx) := fun _ => rfl
  unfold Par.out
  rw [hx, hm]
  refine congrArg (a0 (ix3 b t k : S4x8192x1024.Idx) + ·) (congrArg (a1 (ix3 b 2 k : S4x6x1024.Idx) * ·) (Finset.sum_congr rfl fun j _ => ?_))
  rw [hw]
  refine congrArg (· * a9 (ix3 0 j k : S1x1024x1024.Idx)) ?_
  unfold Par.y
  by_cases hj : j.val < 512
  · rw [dif_pos hj, dif_pos hj, yr, yh_par a0 a1 a2 a3 a4 a5 a6 a7 a8 a9]
  · rw [dif_neg hj, dif_neg hj, ys_par a0 a1 a2 a3 a4 a5 a6 a7 a8 a9]
end
end Cert.Mix
end
-- ==== Proof.Proof.MixClaims.lean ====
module
public import proofs.«01_k».proof.Proof.Proof.MixFinA
public import proofs.«01_k».proof.Proof.Proof.MixFinB
public import proofs.«01_k».proof.Proof.Proof.MixFinC
public import proofs.«01_k».proof.Proof.Proof.MixRefOut
public import proofs.«01_k».proof.Proof.Proof.MixRefE
public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent
@[expose] public section
noncomputable section
open Idealize.ShloMosaic Idealize.SL.Sem
namespace Cert.Proof.MixClaims

/-- The mixer's frame. -/
theorem frame_k : Cert.quiescent_Kernel := fun m ρ _ => Cert.Kernel.Gen.frame m ρ
/-- The idealized mixer's frame. -/
theorem frame_ki : Cert.quiescent_KernelIdeal := fun m ρ _ => Cert.KernelIdeal.Gen.frame m ρ
/-- The reference's frame: its run leaves the arguments, and it declares no semaphore. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)
/-- The one constant the ideal pass names: the mask stands for minus infinity. -/
theorem preserves : Cert.preserves_Kernel_KernelIdeal :=
  IdealRules.named_const.statement Cert.KernelIdeal.κ "mask" .f32 0xF149F2CA#32 ⊥ rfl

set_option maxHeartbeats 1000000 in
set_option maxRecDepth 16384 in
/-- The idealized mixer and the idealized reference leave the same results at the same arguments. -/
theorem algebraic : Cert.algebraic_KernelIdeal_ReferenceIdeal := by
  intro m ρ m' ρ' _ hagree
  refine ⟨fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N, fun c => (Cert.KernelIdeal.Gen.dats m 0 c).arrAt 20 Cert.KernelIdeal.cfg0.N, Cert.KernelIdeal.Value.run_blocks m ρ, ?_⟩
  refine (θ_run Cert.ReferenceIdeal.defs _ _).mono (fun _ h c => ⟨(h c).1.trans ?_, (h c).2.1.trans ?_, (h c).2.2.1.trans ?_, (h c).2.2.2.1.trans ?_, (h c).2.2.2.2⟩)
    (Cert.ReferenceIdeal.Mix.run_iter m' ρ' (fun c => Cert.Mix.iter (Cert.ReferenceIdeal.Mix.initState m' c)) (fun _ => rfl) (fun _ _ => rfl))
  · obtain ⟨h0, h1, h2, h3, h4, h5, h6, h7, h8, h9, -⟩ := hagree c
    refine Eq.trans ?_ (Cert.Mix.fin17 m c).symm
    unfold Cert.ReferenceIdeal.Mix.initState
    rw [h0, h1, h2, h3, h4, h5, h6, h7, h8, h9]
    funext x
    obtain ⟨b, t, k, rfl⟩ : ∃ (b : Fin 4) (t : Fin 8192) (k : Fin 1024), x = ix3 b t k := ⟨x 0, x 1, x 2, eq_ix3 x⟩
    exact Cert.Mix.r490 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) b t k
  · refine Eq.trans ?_ ((Cert.Mix.fin18 m c).trans (Cert.Mix.V8 m c)).symm
    rw [(hagree c).2.2.2.2.2.2.2.2.2.2.1]
    rfl
  · refine Eq.trans ?_ ((Cert.Mix.fin19 m c).trans (Cert.Mix.V9 m c)).symm
    rw [(hagree c).2.2.2.2.2.2.2.2.2.2.2.1]
    rfl
  · refine Eq.trans ?_ ((Cert.Mix.fin20 m c).trans (Cert.Mix.V10 m c)).symm
    rw [(hagree c).2.2.2.2.2.2.2.2.2.2.2.2]
    rfl

end Cert.Proof.MixClaims
end
end
-- ==== Proof.Proof.AdaClaims.lean ====
module
public import proofs.«01_k».proof.Defs
public import proofs.«01_k».proof.Proof.Gen.Ada.Frame
public import proofs.«01_k».proof.Proof.Gen.AdaIdeal.Value
public import proofs.«01_k».proof.Proof.Gen.AdaReferenceIdeal.Run
public import Idealize.ShloMosaic.Lib.Pipeline.ValueKit
public import Idealize.ShloMosaic.Lib.Claim
public import Idealize.ShloMosaic.Lib.Pointwise
public import Idealize.ShloMosaic.Lib.Tactic
public import Idealize.ShloMosaic.Lib.Quiescent
@[expose] public section
set_option maxRecDepth 16384
noncomputable section
open Idealize.ShloMosaic Idealize.ShloMosaic.TcCoe Idealize.SL.Sem
open Idealize.ShloMosaic.Pipeline (Dat)
namespace Cert.AdaIdeal.Ada
open Cert.AdaIdeal Cert.AdaIdeal.Gen
variable (m : (ℓ : Loc nD τ sig) → Buf (Elt Ideal) ℓ)

/-- One entry of the modulation: a row of c through the gate, against one column, with its offset. -/
def entry (c : Fin 1024 → EReal) (w : Fin 1024 → EReal) (b : EReal) : EReal := (∑ k, c k * Ideal.logistic (c k) * w k) + b

/-- The whole modulation of the arguments. -/
def G (C : FVec Ideal S8x1024 .f32) (W : FVec Ideal S1x1024x6144 .f32) (B : FVec Ideal S1x6144 .f32) : FVec Ideal S8x6144 .f32 := fun i =>
  entry (fun k => C (ix2 (i 0) k)) (fun k => W (ix3 0 k (i 1))) (B (ix2 0 (i 1)))

/-- The body's value at an index. -/
theorem pay_at (x0 : Vec Ideal S8x1024 .f32) (x1 : Vec Ideal S1024x3072 .f32) (x2 : Vec Ideal S1x3072 .f32) (r : Fin 8) (k : Fin 3072) :
    k0_pay1 x0 x1 x2 (ix2 r k) = entry (fun j => x0 (ix2 r j)) (fun j => x1 (ix2 j k)) (x2 (ix2 0 k)) := by
  pointwise [k0_pay1, entry]

/-- A whole load reads the block. -/
theorem ld_whole {s : Shape} (x : Vec Ideal s .f32) (off : Fin s.rank → ℕ) (h : ∀ a, off a + s.size a ≤ s.size a) (h0 : ∀ a, off a = 0) :
    View.ld x (Rect.unit (s := s) off s.size h) = x := by
  funext j
  refine congrArg x (funext fun a => Fin.ext ?_)
  show off a + 1 * (j a).val = (j a).val
  rw [h0 a]; omega

/-- What the body leaves in the result's block is its value. -/
theorem out_at (x0 : Vec Ideal S8x1024 .f32) (x1 : Vec Ideal S1024x3072 .f32) (x2 : Vec Ideal S1x3072 .f32) (j : S8x3072.Idx) :
    out0_3 x0 x1 x2 j = k0_pay1 x0 x1 x2 j := by
  unfold out0_3
  rw [ld_whole x0 _ _ (by intro a; fin_cases a <;> rfl), ld_whole x1 _ _ (by intro a; fin_cases a <;> rfl), ld_whole x2 _ _ (by intro a; fin_cases a <;> rfl)]
  have h := View.canon_cons_emb (Val := Elt Ideal) (e := .f32) r0_3 (k0_pay1 x0 x1 x2) [] j
  have e1 : r0_3.emb j = j := by
    funext a
    exact Fin.ext (show (![0, 0] : Fin 2 → ℕ) a + 1 * (j a).val = (j a).val by fin_cases a <;> simp)
  rw [e1] at h
  exact h

/-- Every window's block index at every point. -/
theorem idx : ∀ t : Fin cfg0.N, win0_0.index t = ![0, 0] ∧ win0_1.index t = ![0, (grid0.coords t 0).val] ∧ win0_2.index t = ![0, (grid0.coords t 0).val] ∧ win0_3.index t = ![0, (grid0.coords t 0).val] :=
  (by decide +kernel : ∀ t : Fin grid0.N, _)

/-- One point's block against the whole result, at an index given by its coordinates. -/
theorem core (c : Dev nD) (t : Fin cfg0.N) (r : Fin 8) (k : Fin 3072) (i : S8x6144.Idx)
    (h0 : (i 0 : ℕ) = r) (h1 : (i 1 : ℕ) = (grid0.coords t 0).val * 3072 + k) :
    k0_pay1 (iblk m c 0 t) (iblk m c 1 t) (iblk m c 2 t) (ix2 r k)
    = G (m ((c : Thread nD τ).loc main_arg0)) (m ((c : Thread nD τ).loc main_arg1)) (m ((c : Thread nD τ).loc main_arg2)) i := by
  rw [pay_at]
  unfold G
  have e : i 0 = r := Fin.ext h0
  rw [e]
  congr 1
  · funext j; blk_point [iblk, V, idx t]
  · funext j; blk_point [iblk, V, idx t]
  · blk_point [iblk, V, idx t]

/-- The result array after the run is the whole modulation. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  rw [after0_3]
  blk_simp
  obtain ⟨r, k, rfl⟩ : ∃ (r : Fin 8) (k : Fin 3072), y = (ix2 r k : S8x3072.Idx) := ⟨y 0, y 1, eq_ix2 y⟩
  rw [out_at]
  refine core m c t r k _ ?_ ?_ <;> (blk_simp [idx t] <;> simp_all <;> omega)
end Cert.AdaIdeal.Ada

namespace Cert.AdaReferenceIdeal.Ref
open Cert.AdaReferenceIdeal Cert.AdaReferenceIdeal.Gen
open Cert.AdaIdeal.Ada in
/-- The reference's result is the whole modulation. -/
theorem ref_at (C : FVec Ideal S8x1024 .f32) (W : FVec Ideal S1x1024x6144 .f32) (B : FVec Ideal S1x6144 .f32) :
    addf (Host.dotGeneral dot_S8x1024_S1024x6144_S8x6144_1_0_0_1_n_n none (mulf C (Host.divf (broadcastInDim S8x1024 ![] bcast_S_S8x1024 (constant S_ .f32 0x3F800000#32)) (addf (broadcastInDim S8x1024 ![] bcast_S_S8x1024 (constant S_ .f32 0x3F800000#32)) (Host.exp (Host.negf C))))) (shapeCast _ W shapeCasts_S1x1024x6144_S1024x6144)) (broadcastInDim S8x6144 ![0, 1] bcast_S1x6144_S8x6144_0_1 (broadcastInDim S1x6144 ![1] bcast_S6144_S1x6144_1 (shapeCast _ B shapeCasts_S1x6144_S6144)))
    = G C W B := by
  funext i
  obtain ⟨r, k, rfl⟩ : ∃ (r : Fin 8) (k : Fin 6144), i = ix2 r k := ⟨i 0, i 1, eq_ix2 i⟩
  pointwise [G, entry]
  rfl
end Cert.AdaReferenceIdeal.Ref

namespace Cert.Proof.AdaClaims

/-- The kernel's frame. -/
theorem frame_k : Cert.quiescent_Ada := fun m ρ _ => Cert.Ada.Gen.frame m ρ
/-- The idealized kernel's frame. -/
theorem frame_ki : Cert.quiescent_AdaIdeal := fun m ρ _ => Cert.AdaIdeal.Gen.frame m ρ
/-- The reference's frame: its run leaves the arguments, and it declares no semaphore. -/
theorem frame_ri : Cert.quiescent_AdaReferenceIdeal := fun m ρ _ =>
  (θ_run Cert.AdaReferenceIdeal.defs _ _).mono (fun r h => ⟨fun c => (h c).2,
      Idealize.ShloMosaic.sem_eq_zero_of_no_sems (by decide) r.2⟩)
    (Cert.AdaReferenceIdeal.Value.run (F := Ideal) m ρ)
/-- The ideal pass rewrote nothing. -/
theorem preserves : Cert.preserves_Ada_AdaIdeal := trivial
/-- Over the extended reals the kernel's result is the reference's. -/
theorem algebraic : Cert.algebraic_AdaIdeal_AdaReferenceIdeal := by
  intro m ρ m' ρ' _ hagree
  refine ⟨fun c => (Cert.AdaIdeal.Gen.dats m 0 c).arrAt 3 Cert.AdaIdeal.cfg0.N, Cert.AdaIdeal.Value.run_blocks (F := Ideal) m ρ, ?_⟩
  refine (θ_run Cert.AdaReferenceIdeal.defs _ _).mono (fun _ h c => ⟨(h c).1.trans ?_, (h c).2⟩)
    (Cert.AdaReferenceIdeal.Value.run (F := Ideal) m' ρ')
  obtain ⟨h0, h1, h2⟩ := hagree c
  rw [Cert.AdaReferenceIdeal.Ref.ref_at, h0, h1, h2]
  exact (Cert.AdaIdeal.Ada.final m c).symm

end Cert.Proof.AdaClaims
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnIdeal.Value
public import proofs.«01_k».proof.Proof.Gen.FfnReferenceIdeal.Run
public import proofs.«01_k».proof.Proof.Proof.FfnClaims
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Proof.MixClaims
public import proofs.«01_k».proof.Proof.Proof.AdaClaims
public import Idealize.ShloMosaic.Adequacy
public import Idealize.ShloMosaic.Init

@[expose] public section

noncomputable section

namespace Cert.Proof

open Idealize.ShloMosaic Idealize.SL.Sem Cert.Ffn

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts, Cert.Ada.Gen.facts, Cert.AdaIdeal.Gen.facts, Cert.AdaReferenceIdeal.Gen.facts,
  MixClaims.frame_k, MixClaims.frame_ki, MixClaims.frame_ri, FfnClaims.frame_k, FfnClaims.frame_ki, FfnClaims.frame_ri,
  AdaClaims.frame_k, AdaClaims.frame_ki, AdaClaims.frame_ri,
  MixClaims.preserves, MixClaims.algebraic, FfnClaims.preserves, FfnClaims.algebraic, AdaClaims.preserves, AdaClaims.algebraic⟩

end Cert.Proof

end
